-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvRefIdeal (m : (ℓ : Loc Cert.UvRefIdeal.nD Cert.UvRefIdeal.τ Cert.UvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1)
      ∧ r.2.mem ((c.tc : Thread Cert.Uv.nD Cert.Uv.τ).loc Cert.Uv.main_arg2) = m ((c.tc : Thread Cert.Uv.nD Cert.Uv.τ).loc Cert.Uv.main_arg2))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1)
      ∧ r.2.mem ((c.tc : Thread Cert.UvIdeal.nD Cert.UvIdeal.τ).loc Cert.UvIdeal.main_arg2) = m ((c.tc : Thread Cert.UvIdeal.nD Cert.UvIdeal.τ).loc Cert.UvIdeal.main_arg2))
      ∧ r.2.sem = fun _ => 0)

def quiescent_UvRefIdeal [hUvRefIdeal : Cert.UvRefIdeal.Facts] : Prop :=
  ∀ (m : (ℓ : Loc Cert.UvRefIdeal.nD Cert.UvRefIdeal.τ Cert.UvRefIdeal.sig) → Buf (Elt Ideal) ℓ) (g : Dev Cert.UvRefIdeal.nD → PrngReg), Pre_UvRefIdeal m →
    θ_run (Cert.UvRefIdeal.defs (F := Ideal)) (onTc (τ := Cert.UvRefIdeal.τ) (Cert.UvRefIdeal.main (F := Ideal))) ⟨m, fun _ => 0, g⟩ (fun r => (∀ c : Dev Cert.UvRefIdeal.nD,
      r.2.mem ((c.tc : Thread Cert.UvRefIdeal.nD Cert.UvRefIdeal.τ).loc Cert.UvRefIdeal.main_arg0) = m ((c.tc : Thread Cert.UvRefIdeal.nD Cert.UvRefIdeal.τ).loc Cert.UvRefIdeal.main_arg0)
      ∧ r.2.mem ((c.tc : Thread Cert.UvRefIdeal.nD Cert.UvRefIdeal.τ).loc Cert.UvRefIdeal.main_arg1) = m ((c.tc : Thread Cert.UvRefIdeal.nD Cert.UvRefIdeal.τ).loc Cert.UvRefIdeal.main_arg1)
      ∧ r.2.mem ((c.tc : Thread Cert.UvRefIdeal.nD Cert.UvRefIdeal.τ).loc Cert.UvRefIdeal.main_arg2) = m ((c.tc : Thread Cert.UvRefIdeal.nD Cert.UvRefIdeal.τ).loc Cert.UvRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v77) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v3_0)) (v1 : (c : Dev Cert.GatesIdeal.nD) → Buf (Elt Ideal) ((c.tc : Thread Cert.GatesIdeal.nD Cert.GatesIdeal.τ).loc Cert.GatesIdeal.main_v3_1)) (v2 : (c : Dev Cert.GatesIdeal.nD) → Buf (Elt Ideal) ((c.tc : Thread Cert.GatesIdeal.nD Cert.GatesIdeal.τ).loc Cert.GatesIdeal.main_v3_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3_0) = v0 c
          ∧ r.2.mem ((c.tc : Thread Cert.GatesIdeal.nD Cert.GatesIdeal.τ).loc Cert.GatesIdeal.main_v3_1) = v1 c
          ∧ r.2.mem ((c.tc : Thread Cert.GatesIdeal.nD Cert.GatesIdeal.τ).loc Cert.GatesIdeal.main_v3_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v4) = v0 c
          ∧ r.2.mem ((c.tc : Thread Cert.GatesRefIdeal.nD Cert.GatesRefIdeal.τ).loc Cert.GatesRefIdeal.main_v6) = v1 c
          ∧ r.2.mem ((c.tc : Thread Cert.GatesRefIdeal.nD Cert.GatesRefIdeal.τ).loc Cert.GatesRefIdeal.main_v8) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_Uv_UvIdeal : Prop :=
  True

def algebraic_UvIdeal_UvRefIdeal [hUvIdeal : Cert.UvIdeal.Facts] [hUvRefIdeal : Cert.UvRefIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvRefIdeal.nD Cert.UvRefIdeal.τ Cert.UvRefIdeal.sig) → Buf (Elt Ideal) ℓ) (g' : Dev Cert.UvRefIdeal.nD → PrngReg), Pre_UvIdeal m →
    (∀ c : Dev Cert.UvIdeal.nD,
      m' ((c.tc : Thread Cert.UvRefIdeal.nD Cert.UvRefIdeal.τ).loc Cert.UvRefIdeal.main_arg0) = m ((c.tc : Thread Cert.UvIdeal.nD Cert.UvIdeal.τ).loc Cert.UvIdeal.main_arg0)
      ∧ m' ((c.tc : Thread Cert.UvRefIdeal.nD Cert.UvRefIdeal.τ).loc Cert.UvRefIdeal.main_arg1) = m ((c.tc : Thread Cert.UvIdeal.nD Cert.UvIdeal.τ).loc Cert.UvIdeal.main_arg1)
      ∧ m' ((c.tc : Thread Cert.UvRefIdeal.nD Cert.UvRefIdeal.τ).loc Cert.UvRefIdeal.main_arg2) = m ((c.tc : Thread Cert.UvIdeal.nD Cert.UvIdeal.τ).loc Cert.UvIdeal.main_arg2)) →
    ∃ (v0 : (c : Dev Cert.UvIdeal.nD) → Buf (Elt Ideal) ((c.tc : Thread Cert.UvIdeal.nD Cert.UvIdeal.τ).loc Cert.UvIdeal.main_v2_0)) (v1 : (c : Dev Cert.UvIdeal.nD) → Buf (Elt Ideal) ((c.tc : Thread Cert.UvIdeal.nD Cert.UvIdeal.τ).loc Cert.UvIdeal.main_v2_1)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v2_0) = v0 c
          ∧ r.2.mem ((c.tc : Thread Cert.UvIdeal.nD Cert.UvIdeal.τ).loc Cert.UvIdeal.main_v2_1) = v1 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1)
          ∧ r.2.mem ((c.tc : Thread Cert.UvIdeal.nD Cert.UvIdeal.τ).loc Cert.UvIdeal.main_arg2) = m ((c.tc : Thread Cert.UvIdeal.nD Cert.UvIdeal.τ).loc Cert.UvIdeal.main_arg2))
      ∧ θ_run (Cert.UvRefIdeal.defs (F := Ideal)) (onTc (τ := Cert.UvRefIdeal.τ) (Cert.UvRefIdeal.main (F := Ideal))) ⟨m', fun _ => 0, g'⟩ (fun r => ∀ c : Dev Cert.UvRefIdeal.nD,
          r.2.mem ((c.tc : Thread Cert.UvRefIdeal.nD Cert.UvRefIdeal.τ).loc Cert.UvRefIdeal.main_v11) = v0 c
          ∧ r.2.mem ((c.tc : Thread Cert.UvRefIdeal.nD Cert.UvRefIdeal.τ).loc Cert.UvRefIdeal.main_v13) = v1 c
          ∧ r.2.mem ((c.tc : Thread Cert.UvRefIdeal.nD Cert.UvRefIdeal.τ).loc Cert.UvRefIdeal.main_arg0) = m' ((c.tc : Thread Cert.UvRefIdeal.nD Cert.UvRefIdeal.τ).loc Cert.UvRefIdeal.main_arg0)
          ∧ r.2.mem ((c.tc : Thread Cert.UvRefIdeal.nD Cert.UvRefIdeal.τ).loc Cert.UvRefIdeal.main_arg1) = m' ((c.tc : Thread Cert.UvRefIdeal.nD Cert.UvRefIdeal.τ).loc Cert.UvRefIdeal.main_arg1)
          ∧ r.2.mem ((c.tc : Thread Cert.UvRefIdeal.nD Cert.UvRefIdeal.τ).loc Cert.UvRefIdeal.main_arg2) = m' ((c.tc : Thread Cert.UvRefIdeal.nD Cert.UvRefIdeal.τ).loc Cert.UvRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v76) = v0 c
          ∧ r.2.mem ((c.tc : Thread Cert.MixRefIdeal.nD Cert.MixRefIdeal.τ).loc Cert.MixRefIdeal.main_v78) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Qkv_QkvIdeal : Prop :=
  IdealRules.bf16_pair.Statement Cert.QkvIdeal.S128x128 Cert.QkvIdeal.S64x128

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v12_0)) (v1 : (c : Dev Cert.QkvIdeal.nD) → Buf (Elt Ideal) ((c.tc : Thread Cert.QkvIdeal.nD Cert.QkvIdeal.τ).loc Cert.QkvIdeal.main_v12_1)) (v2 : (c : Dev Cert.QkvIdeal.nD) → Buf (Elt Ideal) ((c.tc : Thread Cert.QkvIdeal.nD Cert.QkvIdeal.τ).loc Cert.QkvIdeal.main_v12_2)) (v3 : (c : Dev Cert.QkvIdeal.nD) → Buf (Elt Ideal) ((c.tc : Thread Cert.QkvIdeal.nD Cert.QkvIdeal.τ).loc Cert.QkvIdeal.main_v12_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v12_0) = v0 c
          ∧ r.2.mem ((c.tc : Thread Cert.QkvIdeal.nD Cert.QkvIdeal.τ).loc Cert.QkvIdeal.main_v12_1) = v1 c
          ∧ r.2.mem ((c.tc : Thread Cert.QkvIdeal.nD Cert.QkvIdeal.τ).loc Cert.QkvIdeal.main_v12_2) = v2 c
          ∧ r.2.mem ((c.tc : Thread Cert.QkvIdeal.nD Cert.QkvIdeal.τ).loc Cert.QkvIdeal.main_v12_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v41) = v0 c
          ∧ r.2.mem ((c.tc : Thread Cert.QkvRefIdeal.nD Cert.QkvRefIdeal.τ).loc Cert.QkvRefIdeal.main_v43) = v1 c
          ∧ r.2.mem ((c.tc : Thread Cert.QkvRefIdeal.nD Cert.QkvRefIdeal.τ).loc Cert.QkvRefIdeal.main_v45) = v2 c
          ∧ r.2.mem ((c.tc : Thread Cert.QkvRefIdeal.nD Cert.QkvRefIdeal.τ).loc Cert.QkvRefIdeal.main_v47) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v5)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v18_0)) (v1 : (c : Dev Cert.PrenormIdeal.nD) → Buf (Elt Ideal) ((c.tc : Thread Cert.PrenormIdeal.nD Cert.PrenormIdeal.τ).loc Cert.PrenormIdeal.main_v18_1)) (v2 : (c : Dev Cert.PrenormIdeal.nD) → Buf (Elt Ideal) ((c.tc : Thread Cert.PrenormIdeal.nD Cert.PrenormIdeal.τ).loc Cert.PrenormIdeal.main_v18_2)) (v3 : (c : Dev Cert.PrenormIdeal.nD) → Buf (Elt Ideal) ((c.tc : Thread Cert.PrenormIdeal.nD Cert.PrenormIdeal.τ).loc Cert.PrenormIdeal.main_v18_3)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v18_0) = v0 c
          ∧ r.2.mem ((c.tc : Thread Cert.PrenormIdeal.nD Cert.PrenormIdeal.τ).loc Cert.PrenormIdeal.main_v18_1) = v1 c
          ∧ r.2.mem ((c.tc : Thread Cert.PrenormIdeal.nD Cert.PrenormIdeal.τ).loc Cert.PrenormIdeal.main_v18_2) = v2 c
          ∧ r.2.mem ((c.tc : Thread Cert.PrenormIdeal.nD Cert.PrenormIdeal.τ).loc Cert.PrenormIdeal.main_v18_3) = v3 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v50) = v0 c
          ∧ r.2.mem ((c.tc : Thread Cert.PrenormRefIdeal.nD Cert.PrenormRefIdeal.τ).loc Cert.PrenormRefIdeal.main_v52) = v1 c
          ∧ r.2.mem ((c.tc : Thread Cert.PrenormRefIdeal.nD Cert.PrenormRefIdeal.τ).loc Cert.PrenormRefIdeal.main_v55) = v2 c
          ∧ r.2.mem ((c.tc : Thread Cert.PrenormRefIdeal.nD Cert.PrenormRefIdeal.τ).loc Cert.PrenormRefIdeal.main_v58) = v3 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v8)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v8) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v45) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hGates : Cert.Gates.Facts) (hGatesIdeal : Cert.GatesIdeal.Facts) (hGatesRefIdeal : Cert.GatesRefIdeal.Facts) (hUv : Cert.Uv.Facts) (hUvIdeal : Cert.UvIdeal.Facts) (hUvRefIdeal : Cert.UvRefIdeal.Facts) (hMix : Cert.Mix.Facts) (hMixIdeal : Cert.MixIdeal.Facts) (hMixRefIdeal : Cert.MixRefIdeal.Facts) (hQkv : Cert.Qkv.Facts) (hQkvIdeal : Cert.QkvIdeal.Facts) (hQkvRefIdeal : Cert.QkvRefIdeal.Facts) (hAda : Cert.Ada.Facts) (hAdaIdeal : Cert.AdaIdeal.Facts) (hAdaRefIdeal : Cert.AdaRefIdeal.Facts) (hPrenorm : Cert.Prenorm.Facts) (hPrenormIdeal : Cert.PrenormIdeal.Facts) (hPrenormRefIdeal : Cert.PrenormRefIdeal.Facts) (hSgu : Cert.Sgu.Facts) (hSguIdeal : Cert.SguIdeal.Facts) (hSguRefIdeal : Cert.SguRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Gates (hGates := hGates)
    ∧ quiescent_GatesIdeal (hGatesIdeal := hGatesIdeal)
    ∧ quiescent_GatesRefIdeal (hGatesRefIdeal := hGatesRefIdeal)
    ∧ quiescent_Uv (hUv := hUv)
    ∧ quiescent_UvIdeal (hUvIdeal := hUvIdeal)
    ∧ quiescent_UvRefIdeal (hUvRefIdeal := hUvRefIdeal)
    ∧ quiescent_Mix (hMix := hMix)
    ∧ quiescent_MixIdeal (hMixIdeal := hMixIdeal)
    ∧ quiescent_MixRefIdeal (hMixRefIdeal := hMixRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Ada (hAda := hAda)
    ∧ quiescent_AdaIdeal (hAdaIdeal := hAdaIdeal)
    ∧ quiescent_AdaRefIdeal (hAdaRefIdeal := hAdaRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Sgu (hSgu := hSgu)
    ∧ quiescent_SguIdeal (hSguIdeal := hSguIdeal)
    ∧ quiescent_SguRefIdeal (hSguRefIdeal := hSguRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Gates_GatesIdeal
    ∧ algebraic_GatesIdeal_GatesRefIdeal (hGatesIdeal := hGatesIdeal) (hGatesRefIdeal := hGatesRefIdeal)
    ∧ preserves_Uv_UvIdeal
    ∧ algebraic_UvIdeal_UvRefIdeal (hUvIdeal := hUvIdeal) (hUvRefIdeal := hUvRefIdeal)
    ∧ preserves_Mix_MixIdeal
    ∧ algebraic_MixIdeal_MixRefIdeal (hMixIdeal := hMixIdeal) (hMixRefIdeal := hMixRefIdeal)
    ∧ preserves_Qkv_QkvIdeal
    ∧ algebraic_QkvIdeal_QkvRefIdeal (hQkvIdeal := hQkvIdeal) (hQkvRefIdeal := hQkvRefIdeal)
    ∧ preserves_Ada_AdaIdeal
    ∧ algebraic_AdaIdeal_AdaRefIdeal (hAdaIdeal := hAdaIdeal) (hAdaRefIdeal := hAdaRefIdeal)
    ∧ preserves_Prenorm_PrenormIdeal
    ∧ algebraic_PrenormIdeal_PrenormRefIdeal (hPrenormIdeal := hPrenormIdeal) (hPrenormRefIdeal := hPrenormRefIdeal)
    ∧ preserves_Sgu_SguIdeal
    ∧ algebraic_SguIdeal_SguRefIdeal (hSguIdeal := hSguIdeal) (hSguRefIdeal := hSguRefIdeal)
-- ==== Pre_finite_scores.lean ====
abbrev S16384x3072 : Shape := ⟨2, ![16384, 3072]⟩
abbrev S1x16 : Shape := ⟨2, ![1, 16]⟩
abbrev S16384x2560 : Shape := ⟨2, ![16384, 2560]⟩
abbrev S_ : Shape := ⟨0, ![]⟩

class Facts : Prop where
  slices_S16384x3072_S16384x2560_0_0 : S16384x3072.Slices ![0, 0] S16384x2560
  bitsLt_bf16_f32 : FTy.bits .bf16 < FTy.bits .f32
  bcast_S_S16384x2560 : S_.BroadcastsInDim S16384x2560 (![] : Fin 0 → Fin S16384x2560.rank)
  bcast_S_S1x16 : S_.BroadcastsInDim S1x16 (![] : Fin 0 → Fin S1x16.rank)

variable [Facts]

def fn {F : FTy → Type} [FloatOps F] (main_arg0 : FVec F S16384x3072 .bf16) (main_arg1 : FVec F S1x16 .f32) : IVec S16384x2560 1 × IVec S1x16 1 :=
  let main_v0 : FVec F S16384x2560 .bf16 := (extractStridedSlice S16384x2560 ![0, 0] · slices_S16384x3072_S16384x2560_0_0) main_arg0
  let main_v1 : FVec F S16384x2560 .f32 := (extf .f32 · bitsLt_bf16_f32) main_v0
  let main_v2 : FVec F S16384x2560 .f32 := Host.absf main_v1
  let main_cst : FVec F S_ .f32 := constant S_ .f32 0x7F800000#32
  let main_v3 : FVec F S16384x2560 .f32 := broadcastInDim S16384x2560 ![] bcast_S_S16384x2560 main_cst
  let main_v4 : IVec S16384x2560 1 := cmpf .olt main_v2 main_v3
  let main_v5 : FVec F S1x16 .f32 := Host.absf main_arg1
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  (main_v4, main_v7)
-- ==== Attn.lean ====
abbrev S16384x3072 : Shape := ⟨2, ![16384, 3072]⟩
abbrev S1x16 : Shape := ⟨2, ![1, 16]⟩
abbrev S16 : Shape := ⟨1, ![16]⟩
abbrev S16384x2048 : Shape := ⟨2, ![16384, 2048]⟩
abbrev S1024x512 : Shape := ⟨2, ![1024, 512]⟩
abbrev S1024x128 : Shape := ⟨2, ![1024, 128]⟩
abbrev S128x128 : Shape := ⟨2, ![128, 128]⟩
abbrev S128x256 : Shape := ⟨2, ![128, 256]⟩
abbrev S256x128 : Shape := ⟨2, ![256, 128]⟩
abbrev S512x128 : Shape := ⟨2, ![512, 128]⟩
abbrev S256x256 : Shape := ⟨2, ![256, 256]⟩
abbrev S512x256 : Shape := ⟨2, ![512, 256]⟩
abbrev S1 : Shape := ⟨1, ![1]⟩
abbrev S128 : Shape := ⟨1, ![128]⟩
abbrev S128x1 : Shape := ⟨2, ![128, 1]⟩

abbrev nBuf : Space → Nat
  | .hbm => 4
  | .vmem => 12
  | .smem => 1
  | _ => 0

abbrev bufTy : (tb : Table) → Fin (tcTables nBuf tb) → BufTy
  | .hbm, ⟨0, _⟩ => ⟨S16384x3072, .bf16⟩
  | .hbm, ⟨1, _⟩ => ⟨S1x16, .f32⟩
  | .hbm, ⟨2, _⟩ => ⟨S16, .f32⟩
  | .hbm, ⟨3, _⟩ => ⟨S16384x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S1024x512, .bf16⟩
  | .local _ .vmem, ⟨11, _⟩ => ⟨S1024x512, .bf16⟩
  | .local _ .smem, ⟨0, _⟩ => ⟨S16, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_off1 (i : grid0.Coords) (c0_i32_25 : BitVec 32) : Fin 1 → Nat :=
  let arg1 : BitVec 32 := BitVec.ofNat 32 (i 1).val
  let c4_i32_24 : BitVec 32 := 4#32
  let v51 : BitVec 32 := Scalar.muli arg1 c4_i32_24
  let v52 : BitVec 32 := Scalar.addi v51 c0_i32_25
  let v53 : Index := Scalar.indexCast v52
  ![v53.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S16384x3072 : Shape := ⟨2, ![16384, 3072]⟩
abbrev S1x16 : Shape := ⟨2, ![1, 16]⟩
abbrev S16384x2048 : Shape := ⟨2, ![16384, 2048]⟩
abbrev S16384x512 : Shape := ⟨2, ![16384, 512]⟩
abbrev S128x128x4x4x128 : Shape := ⟨5, ![128, 128, 4, 4, 128]⟩
abbrev S128 : Shape := ⟨1, ![128]⟩
abbrev S_ : Shape := ⟨0, ![]⟩
abbrev S128x1x1x1 : Shape := ⟨4, ![128, 1, 1, 1]⟩
abbrev S128x128x4x128 : Shape := ⟨4, ![128, 128, 4, 128]⟩
abbrev S1x128x4x128 : Shape := ⟨4, ![1, 128, 4, 128]⟩
abbrev S127x128x4x128 : Shape := ⟨4, ![127, 128, 4, 128]⟩
abbrev S128x256x4x128 : Shape := ⟨4, ![128, 256, 4, 128]⟩
abbrev S128x4x256x128x4 : Shape := ⟨5, ![128, 4, 256, 128, 4]⟩
abbrev S128x4x4x128x256 : Shape := ⟨5, ![128, 4, 4, 128, 256]⟩
abbrev S128x1x1 : Shape := ⟨3, ![128, 1, 1]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S16 : Shape := ⟨1, ![16]⟩
abbrev S1x4x4x1x1 : Shape := ⟨5, ![1, 4, 4, 1, 1]⟩
abbrev S128x4x4x128 : Shape := ⟨4, ![128, 4, 4, 128]⟩
abbrev S128x4x4x128x1 : Shape := ⟨5, ![128, 4, 4, 128, 1]⟩
abbrev S128x4x128x4x128 : Shape := ⟨5, ![128, 4, 128, 4, 128]⟩

abbrev nBuf : Space → Nat
  | .hbm => 144
  | .vmem => 0
  | .smem => 0
  | _ => 0

abbrev hbmTy0_0 (i : Nat) : BufTy := match i % 128 with
  | 0 => ⟨S16384x3072, .bf16⟩
  | 1 => ⟨S1x16, .f32⟩
  | 2 => ⟨S16384x3072, .f32⟩
  | 3 => ⟨S16384x2048, .f32⟩
  | 4 => ⟨S16384x512, .f32⟩
  | 5 => ⟨S16384x512, .f32⟩
  | 6 => ⟨S128x128x4x4x128, .f32⟩
  | 7 => ⟨S128, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i1⟩
  | 19 => ⟨S_, .i32⟩
  | 20 => ⟨S128, .i32⟩
  | 21 => ⟨S128, .i1⟩
  | 22 => ⟨S_, .i32⟩
  | 23 => ⟨S_, .i1⟩
  | 24 => ⟨S128, .i1⟩
  | 25 => ⟨S128, .i1⟩
  | 26 => ⟨S128, .i1⟩
  | 27 => ⟨S128, .i32⟩
  | 28 => ⟨S128, .i32⟩
  | 29 => ⟨S128, .i32⟩
  | 30 => ⟨S_, .i32⟩
  | 31 => ⟨S128, .i32⟩
  | 32 => ⟨S128, .i1⟩
  | 33 => ⟨S128x1x1x1, .i1⟩
  | 34 => ⟨S128x128x4x128, .f32⟩
  | 35 => ⟨S1x128x4x128, .f32⟩
  | 36 => ⟨S127x128x4x128, .f32⟩
  | 37 => ⟨S128x128x4x128, .f32⟩
  | 38 => ⟨S_, .f32⟩
  | 39 => ⟨S_, .f32⟩
  | 40 => ⟨S128x128x4x128, .i1⟩
  | 41 => ⟨S128x128x4x128, .f32⟩
  | 42 => ⟨S128x128x4x128, .f32⟩
  | 43 => ⟨S128x256x4x128, .f32⟩
  | 44 => ⟨S128x128x4x128, .f32⟩
  | 45 => ⟨S1x128x4x128, .f32⟩
  | 46 => ⟨S127x128x4x128, .f32⟩
  | 47 => ⟨S128x128x4x128, .f32⟩
  | 48 => ⟨S_, .f32⟩
  | 49 => ⟨S_, .f32⟩
  | 50 => ⟨S128x128x4x128, .i1⟩
  | 51 => ⟨S128x128x4x128, .f32⟩
  | 52 => ⟨S128x128x4x128, .f32⟩
  | 53 => ⟨S128x256x4x128, .f32⟩
  | 54 => ⟨S128x4x256x128x4, .f32⟩
  | 55 => ⟨S128x4x4x128x256, .f32⟩
  | 56 => ⟨S_, .f32⟩
  | 57 => ⟨S128x4x4x128x256, .f32⟩
  | 58 => ⟨S128x4x4x128x256, .f32⟩
  | 59 => ⟨S128, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S128, .i32⟩
  | 73 => ⟨S128, .i1⟩
  | 74 => ⟨S_, .i32⟩
  | 75 => ⟨S_, .i1⟩
  | 76 => ⟨S128, .i1⟩
  | 77 => ⟨S128, .i1⟩
  | 78 => ⟨S128, .i1⟩
  | 79 => ⟨S128, .i32⟩
  | 80 => ⟨S128, .i32⟩
  | 81 => ⟨S128, .i32⟩
  | 82 => ⟨S128x1x1, .i32⟩
  | 83 => ⟨S128, .i32⟩
  | 84 => ⟨S1x128x1, .i32⟩
  | 85 => ⟨S256, .i32⟩
  | 86 => ⟨S1x1x256, .i32⟩
  | 87 => ⟨S_, .i32⟩
  | 88 => ⟨S1x128x1, .i32⟩
  | 89 => ⟨S1x128x1, .i32⟩
  | 90 => ⟨S1x128x256, .i32⟩
  | 91 => ⟨S1x128x256, .i32⟩
  | 92 => ⟨S1x128x256, .i32⟩
  | 93 => ⟨S_, .i32⟩
  | 94 => ⟨S128x1x1, .i32⟩
  | 95 => ⟨S128x1x1, .i32⟩
  | 96 => ⟨S_, .i32⟩
  | 97 => ⟨S128x1x1, .i32⟩
  | 98 => ⟨S128x1x1, .i32⟩
  | 99 => ⟨S128x1x256, .i32⟩
  | 100 => ⟨S128x1x256, .i32⟩
  | 101 => ⟨S128x1x256, .i32⟩
  | 102 => ⟨S_, .i32⟩
  | 103 => ⟨S1x128x256, .i32⟩
  | 104 => ⟨S1x128x256, .i1⟩
  | 105 => ⟨S_, .i32⟩
  | 106 => ⟨S1x128x256, .i32⟩
  | 107 => ⟨S1x128x256, .i1⟩
  | 108 => ⟨S1x128x256, .i1⟩
  | 109 => ⟨S_, .i32⟩
  | 110 => ⟨S128x1x256, .i32⟩
  | 111 => ⟨S128x1x256, .i1⟩
  | 112 => ⟨S128x128x256, .i1⟩
  | 113 => ⟨S128x128x256, .i1⟩
  | 114 => ⟨S128x128x256, .i1⟩
  | 115 => ⟨S128x1x1x128x256, .i1⟩
  | 116 => ⟨S_, .f32⟩
  | 117 => ⟨S_, .f32⟩
  | 118 => ⟨S128x4x4x128x256, .i1⟩
  | 119 => ⟨S128x4x4x128x256, .f32⟩
  | 120 => ⟨S128x4x4x128x256, .f32⟩
  | 121 => ⟨S16, .f32⟩
  | 122 => ⟨S1x4x4x1x1, .f32⟩
  | 123 => ⟨S_, .f32⟩
  | 124 => ⟨S128x4x4x128, .f32⟩
  | 125 => ⟨S128x4x4x128x1, .f32⟩
  | 126 => ⟨S128x4x4x128x1, .f32⟩
  | 127 => ⟨S128x4x4x128x1, .f32⟩
  | _ => ⟨S16384x3072, .bf16⟩

abbrev hbmTy0_1 (i : Nat) : BufTy := match i % 128 with
  | 0 => ⟨S128x4x4x128x256, .f32⟩
  | 1 => ⟨S128x4x4x128x256, .f32⟩
  | 2 => ⟨S128x4x4x128x256, .f32⟩
  | 3 => ⟨S_, .f32⟩
  | 4 => ⟨S128x4x4x128, .f32⟩
  | 5 => ⟨S128x4x4x128x1, .f32⟩
  | 6 => ⟨S128x4x4x128x1, .f32⟩
  | 7 => ⟨S128x4x4x128x1, .f32⟩
  | 8 => ⟨S128x4x4x128x1, .f32⟩
  | 9 => ⟨S128x4x4x128x1, .f32⟩
  | 10 => ⟨S128x4x4x128x256, .f32⟩
  | 11 => ⟨S128x4x4x128x256, .f32⟩
  | 12 => ⟨S128x4x128x4x128, .f32⟩
  | 13 => ⟨S128x128x4x4x128, .f32⟩
  | 14 => ⟨S16384x2048, .f32⟩
  | 15 => ⟨S16384x2048, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_2 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_3 : Ref sig .tc := ⟨.hbm, 60, rfl⟩
abbrev main_call3_v0 : Ref sig .tc := ⟨.hbm, 61, rfl⟩
abbrev main_call3_c : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_c_1 : Ref sig .tc := ⟨.hbm, 68, rfl⟩
abbrev main_call3_v5 : Ref sig .tc := ⟨.hbm, 69, rfl⟩
abbrev main_call3_v6 : Ref sig .tc := ⟨.hbm, 70, rfl⟩
abbrev main_call3_c_2 : Ref sig .tc := ⟨.hbm, 71, rfl⟩
abbrev main_call3_v7 : Ref sig .tc := ⟨.hbm, 72, rfl⟩
abbrev main_call3_v8 : Ref sig .tc := ⟨.hbm, 73, rfl⟩
abbrev main_call3_c_3 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_c_4 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_c_5 : Ref sig .tc := ⟨.hbm, 93, rfl⟩
abbrev main_v38 : Ref sig .tc := ⟨.hbm, 94, rfl⟩
abbrev main_v39 : Ref sig .tc := ⟨.hbm, 95, rfl⟩
abbrev main_c_6 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_c_7 : Ref sig .tc := ⟨.hbm, 102, rfl⟩
abbrev main_v45 : Ref sig .tc := ⟨.hbm, 103, rfl⟩
abbrev main_v46 : Ref sig .tc := ⟨.hbm, 104, rfl⟩
abbrev main_c_8 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_c_9 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_10 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_11 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_12 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩

abbrev nD : Nat := 1
abbrev τ : Topo := Topo.v7x

variable {F : FTy → Type} [FloatOps F]
-- ==== Ffn.lean ====
abbrev S16384x4096 : Shape := ⟨2, ![16384, 4096]⟩
abbrev S4096x11008 : Shape := ⟨2, ![4096, 11008]⟩
abbrev S11008x4096 : Shape := ⟨2, ![11008, 4096]⟩
abbrev S1x4096 : Shape := ⟨2, ![1, 4096]⟩
abbrev S4x24576 : Shape := ⟨2, ![4, 24576]⟩
abbrev S24x1x4096 : Shape := ⟨3, ![24, 1, 4096]⟩
abbrev S4096 : Shape := ⟨1, ![4096]⟩
abbrev S1024x4096 : Shape := ⟨2, ![1024, 4096]⟩
abbrev S4096x256 : Shape := ⟨2, ![4096, 256]⟩
abbrev S256x4096 : Shape := ⟨2, ![256, 4096]⟩
abbrev S32x4096 : Shape := ⟨2, ![32, 4096]⟩
abbrev S1x1x4096 : Shape := ⟨3, ![1, 1, 4096]⟩
abbrev S1024x256 : Shape := ⟨2, ![1024, 256]⟩
abbrev S32 : Shape := ⟨1, ![32]⟩
abbrev S32x1 : Shape := ⟨2, ![32, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .bf16⟩
  | .hbm, ⟨2, _⟩ => ⟨S4096x11008, .bf16⟩
  | .hbm, ⟨3, _⟩ => ⟨S11008x4096, .bf16⟩
  | .hbm, ⟨4, _⟩ => ⟨S16384x4096, .f32⟩
  | .hbm, ⟨5, _⟩ => ⟨S1x4096, .f32⟩
  | .hbm, ⟨6, _⟩ => ⟨S4x24576, .f32⟩
  | .hbm, ⟨7, _⟩ => ⟨S24x1x4096, .f32⟩
  | .hbm, ⟨8, _⟩ => ⟨S4096, .f32⟩
  | .hbm, ⟨9, _⟩ => ⟨S1x4096, .f32⟩
  | .hbm, ⟨10, _⟩ => ⟨S16384x4096, .f32⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S256x4096, .bf16⟩
  | .local _ .vmem, ⟨6, _⟩ => ⟨S256x4096, .bf16⟩
  | .local _ .vmem, ⟨7, _⟩ => ⟨S32x4096, .f32⟩
  | .local _ .vmem, ⟨8, _⟩ => ⟨S32x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S32x4096, .f32⟩
  | .local _ .vmem, ⟨13, _⟩ => ⟨S32x4096, .f32⟩
  | .local _ .vmem, ⟨14, _⟩ => ⟨S1024x4096, .f32⟩
  | .local _ .vmem, ⟨15, _⟩ => ⟨S1024x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![17, 43], ![false, false]⟩

def k0_cond4 (i : grid0.Coords) : BitVec 1 :=
  let arg0 : BitVec 32 := BitVec.ofNat 32 (i 0).val
  let c0_i32_12 : BitVec 32 := 0#32
  let v28 : BitVec 1 := Scalar.cmpi .sgt arg0 c0_i32_12
  let c16_i32_13 : BitVec 32 := 16#32
  let v29 : BitVec 1 := Scalar.cmpi .slt arg0 c16_i32_13
  let v30 : BitVec 1 := Scalar.andi v28 v29
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let true_11 : BitVec 1 := 1#1
  let v27 : BitVec 1 := Scalar.xori v10 true_11
  let v31 : BitVec 1 := Scalar.andi v30 v27
  let v32 : BitVec 32 := Scalar.extui v31
  let c0_i32_14 : BitVec 32 := 0#32
  let v33 : BitVec 1 := Scalar.cmpi .ne v32 c0_i32_14
  v33

def k0_mult1 (i : grid0.Coords) : BitVec 32 :=
  let arg1 : BitVec 32 := BitVec.ofNat 32 (i 1).val
  let c31_i32 : BitVec 32 := 31#32
  let v43 : BitVec 32 := Scalar.minsi arg1 c31_i32
  let c32_i32 : BitVec 32 := 32#32
  let v44 : BitVec 32 := Scalar.muli v43 c32_i32
  v44
def k0_off1 (i : grid0.Coords) : Fin 2 → Nat :=
  let arg1 : BitVec 32 := BitVec.ofNat 32 (i 1).val
  let c31_i32 : BitVec 32 := 31#32
  let v43 : BitVec 32 := Scalar.minsi arg1 c31_i32
  let c32_i32 : BitVec 32 := 32#32
  let v44 : BitVec 32 := Scalar.muli v43 c32_i32
  let v45 : BitVec 32 := v44
  let v46 : Index := Scalar.indexCast v45
  let c0 : Index := 0#32
  ![v46.toNat, 0]
def k0_cond5 (i : grid0.Coords) : BitVec 1 :=
  let arg0 : BitVec 32 := BitVec.ofNat 32 (i 0).val
  let c0_i32_15 : BitVec 32 := 0#32
  let v34 : BitVec 1 := Scalar.cmpi .sgt arg0 c0_i32_15
  let c16_i32_16 : BitVec 32 := 16#32
  let v35 : BitVec 1 := Scalar.cmpi .slt arg0 c16_i32_16
  let v36 : BitVec 1 := Scalar.andi v34 v35
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let v37 : BitVec 1 := Scalar.andi v36 v10
  let v38 : BitVec 32 := Scalar.extui v37
  let c0_i32_17 : BitVec 32 := 0#32
  let v39 : BitVec 1 := Scalar.cmpi .ne v38 c0_i32_17
  v39

def k0_mult2 (i : grid0.Coords) : BitVec 32 :=
  let arg1 : BitVec 32 := BitVec.ofNat 32 (i 1).val
  let c31_i32 : BitVec 32 := 31#32
  let v43 : BitVec 32 := Scalar.minsi arg1 c31_i32
  let c32_i32 : BitVec 32 := 32#32
  let v44 : BitVec 32 := Scalar.muli v43 c32_i32
  v44
def k0_off2 (i : grid0.Coords) : Fin 2 → Nat :=
  let arg1 : BitVec 32 := BitVec.ofNat 32 (i 1).val
  let c31_i32 : BitVec 32 := 31#32
  let v43 : BitVec 32 := Scalar.minsi arg1 c31_i32
  let c32_i32 : BitVec 32 := 32#32
  let v44 : BitVec 32 := Scalar.muli v43 c32_i32
  let v45 : BitVec 32 := v44
  let v46 : Index := Scalar.indexCast v45
  let c0 : Index := 0#32
  ![v46.toNat, 0]
def k0_cond6 (i : grid0.Coords) : BitVec 1 :=
  let arg0 : BitVec 32 := BitVec.ofNat 32 (i 0).val
  let c16_i32_18 : BitVec 32 := 16#32
  let v40 : BitVec 1 := Scalar.cmpi .eq arg0 c16_i32_18
  let v41 : BitVec 32 := Scalar.extui v40
  let c0_i32_19 : BitVec 32 := 0#32
  let v42 : BitVec 1 := Scalar.cmpi .ne v41 c0_i32_19
  v42

def k0_mult3 (i : grid0.Coords) : BitVec 32 :=
  let arg1 : BitVec 32 := BitVec.ofNat 32 (i 1).val
  let c31_i32 : BitVec 32 := 31#32
  let v43 : BitVec 32 := Scalar.minsi arg1 c31_i32
  let c32_i32 : BitVec 32 := 32#32
  let v44 : BitVec 32 := Scalar.muli v43 c32_i32
  v44
def k0_off3 (i : grid0.Coords) : Fin 2 → Nat :=
  let arg1 : BitVec 32 := BitVec.ofNat 32 (i 1).val
  let c31_i32 : BitVec 32 := 31#32
  let v43 : BitVec 32 := Scalar.minsi arg1 c31_i32
  let c32_i32 : BitVec 32 := 32#32
  let v44 : BitVec 32 := Scalar.muli v43 c32_i32
  let v45 : BitVec 32 := v44
  let v46 : Index := Scalar.indexCast v45
  let c0 : Index := 0#32
  ![v46.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c42_i32 : BitVec 32 := 42#32
  let v1 : BitVec 32 := Scalar.select v0 c42_i32 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c42_i32 : BitVec 32 := 42#32
  let v1 : BitVec 32 := Scalar.select v0 c42_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c42_i32 : BitVec 32 := 42#32
  let v1 : BitVec 32 := Scalar.select v0 c42_i32 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c32_i32 : BitVec 32 := 32#32
  let v2 : BitVec 32 := Scalar.muli v1 c32_i32
  let c31_i32 : BitVec 32 := 31#32
  let v3 : BitVec 32 := Scalar.minsi arg1 c31_i32
  let v4 : BitVec 32 := Scalar.addi v2 v3
  let c0_i32_0 : BitVec 32 := 0#32
  let v5 : BitVec 32 := Scalar.select v0 c0_i32_0 v4
  let c0_i32_1 : BitVec 32 := 0#32
  let c0_i32_2 : BitVec 32 := 0#32
  ![v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c6_i32 : BitVec 32 := 6#32
  let v19 : BitVec 32 := Scalar.muli v18 c6_i32
  let c5_i32 : BitVec 32 := 5#32
  let v20 : BitVec 32 := Scalar.addi v19 c5_i32
  let c0_i32_6 : BitVec 32 := 0#32
  let c0_i32_7 : BitVec 32 := 0#32
  let c0_i32_8 : BitVec 32 := 0#32
  ![v20.toNat, c0_i32_6.toNat, c0_i32_7.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c32_i32 : BitVec 32 := 32#32
  let v2 : BitVec 32 := Scalar.muli v1 c32_i32
  let c31_i32 : BitVec 32 := 31#32
  let v3 : BitVec 32 := Scalar.minsi arg1 c31_i32
  let v4 : BitVec 32 := Scalar.addi v2 v3
  let c0_i32_0 : BitVec 32 := 0#32
  let v5 : BitVec 32 := Scalar.select v0 c0_i32_0 v4
  let c0_i32_1 : BitVec 32 := 0#32
  let c0_i32_2 : BitVec 32 := 0#32
  ![v5.toNat, c0_i32_1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S16384x4096 : Shape := ⟨2, ![16384, 4096]⟩
abbrev S4096x11008 : Shape := ⟨2, ![4096, 11008]⟩
abbrev S11008x4096 : Shape := ⟨2, ![11008, 4096]⟩
abbrev S1x4096 : Shape := ⟨2, ![1, 4096]⟩
abbrev S4x24576 : Shape := ⟨2, ![4, 24576]⟩
abbrev S4x4096x4096 : Shape := ⟨3, ![4, 4096, 4096]⟩
abbrev S4x4096 : Shape := ⟨2, ![4, 4096]⟩
abbrev S4x4096x11008 : Shape := ⟨3, ![4, 4096, 11008]⟩
abbrev S_ : Shape := ⟨0, ![]⟩
abbrev S4x4096x1 : Shape := ⟨3, ![4, 4096, 1]⟩
abbrev S4096 : Shape := ⟨1, ![4096]⟩
abbrev S1x1x4096 : Shape := ⟨3, ![1, 1, 4096]⟩
abbrev S4x1x4096 : Shape := ⟨3, ![4, 1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .bf16⟩
  | .hbm, ⟨2, _⟩ => ⟨S4096x11008, .bf16⟩
  | .hbm, ⟨3, _⟩ => ⟨S11008x4096, .bf16⟩
  | .hbm, ⟨4, _⟩ => ⟨S16384x4096, .f32⟩
  | .hbm, ⟨5, _⟩ => ⟨S1x4096, .f32⟩
  | .hbm, ⟨6, _⟩ => ⟨S4x24576, .f32⟩
  | .hbm, ⟨7, _⟩ => ⟨S16384x4096, .f32⟩
  | .hbm, ⟨8, _⟩ => ⟨S4x4096x4096, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x4096, .f32⟩
  | .hbm, ⟨14, _⟩ => ⟨S4x4096, .f32⟩
  | .hbm, ⟨15, _⟩ => ⟨S4096x11008, .f32⟩
  | .hbm, ⟨16, _⟩ => ⟨S4x4096x11008, .f32⟩
  | .hbm, ⟨17, _⟩ => ⟨S4096x11008, .f32⟩
  | .hbm, ⟨18, _⟩ => ⟨S4x4096x11008, .f32⟩
  | .hbm, ⟨19, _⟩ => ⟨S4x4096x11008, .f32⟩
  | .hbm, ⟨20, _⟩ => ⟨S4x4096x11008, .f32⟩
  | .hbm, ⟨21, _⟩ => ⟨S_, .f32⟩
  | .hbm, ⟨22, _⟩ => ⟨S4x4096x11008, .f32⟩
  | .hbm, ⟨23, _⟩ => ⟨S4x4096x11008, .f32⟩
  | .hbm, ⟨24, _⟩ => ⟨S_, .f32⟩
  | .hbm, ⟨25, _⟩ => ⟨S4x4096x11008, .f32⟩
  | .hbm, ⟨26, _⟩ => ⟨S4x4096x11008, .f32⟩
  | .hbm, ⟨27, _⟩ => ⟨S4x4096x11008, .f32⟩
  | .hbm, ⟨28, _⟩ => ⟨S4x4096x11008, .f32⟩
  | .hbm, ⟨29, _⟩ => ⟨S11008x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4096, .f32⟩
  | .hbm, ⟨45, _⟩ => ⟨S1x1x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x1x4096, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Gates.lean ====
abbrev S16384x4096 : Shape := ⟨2, ![16384, 4096]⟩
abbrev S1x4096x15360 : Shape := ⟨3, ![1, 4096, 15360]⟩
abbrev S1x4096x11008 : Shape := ⟨3, ![1, 4096, 11008]⟩
abbrev S4096x15360 : Shape := ⟨2, ![4096, 15360]⟩
abbrev S4096x11008 : Shape := ⟨2, ![4096, 11008]⟩
abbrev S16384x8192 : Shape := ⟨2, ![16384, 8192]⟩
abbrev S1024x4096 : Shape := ⟨2, ![1024, 4096]⟩
abbrev S4096x512 : Shape := ⟨2, ![4096, 512]⟩
abbrev S16x11008 : Shape := ⟨2, ![16, 11008]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S1x4096x15360, .f32⟩
  | .hbm, ⟨2, _⟩ => ⟨S1x4096x11008, .f32⟩
  | .hbm, ⟨3, _⟩ => ⟨S1x4096x11008, .f32⟩
  | .hbm, ⟨4, _⟩ => ⟨S4096x15360, .f32⟩
  | .hbm, ⟨5, _⟩ => ⟨S4096x11008, .f32⟩
  | .hbm, ⟨6, _⟩ => ⟨S4096x11008, .f32⟩
  | .hbm, ⟨7, _⟩ => ⟨S16384x8192, .bf16⟩
  | .hbm, ⟨8, _⟩ => ⟨S4096x11008, .bf16⟩
  | .hbm, ⟨9, _⟩ => ⟨S4096x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S16x11008, .f32⟩
  | .local _ .vmem, ⟨5, _⟩ => ⟨S16x11008, .f32⟩
  | .local _ .vmem, ⟨6, _⟩ => ⟨S16x11008, .f32⟩
  | .local _ .vmem, ⟨7, _⟩ => ⟨S16x11008, .f32⟩
  | .local _ .vmem, ⟨8, _⟩ => ⟨S1024x512, .bf16⟩
  | .local _ .vmem, ⟨9, _⟩ => ⟨S1024x512, .bf16⟩
  | .local _ .vmem, ⟨10, _⟩ => ⟨S16x11008, .bf16⟩
  | .local _ .vmem, ⟨11, _⟩ => ⟨S16x11008, .bf16⟩
  | .local _ .vmem, ⟨12, _⟩ => ⟨S16x11008, .bf16⟩
  | .local _ .vmem, ⟨13, _⟩ => ⟨S16x11008, .bf16⟩
  | .local _ .vmem, ⟨14, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x11008 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x11008 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GatesRefIdeal.lean ====
abbrev S16384x4096 : Shape := ⟨2, ![16384, 4096]⟩
abbrev S1x4096x15360 : Shape := ⟨3, ![1, 4096, 15360]⟩
abbrev S1x4096x11008 : Shape := ⟨3, ![1, 4096, 11008]⟩
abbrev S4096x15360 : Shape := ⟨2, ![4096, 15360]⟩
abbrev S16384x15360 : Shape := ⟨2, ![16384, 15360]⟩
abbrev S16384x8192 : Shape := ⟨2, ![16384, 8192]⟩
abbrev S4096x11008 : Shape := ⟨2, ![4096, 11008]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x15360, .f32⟩
  | .hbm, ⟨2, _⟩ => ⟨S1x4096x11008, .f32⟩
  | .hbm, ⟨3, _⟩ => ⟨S1x4096x11008, .f32⟩
  | .hbm, ⟨4, _⟩ => ⟨S16384x4096, .f32⟩
  | .hbm, ⟨5, _⟩ => ⟨S4096x15360, .f32⟩
  | .hbm, ⟨6, _⟩ => ⟨S16384x15360, .f32⟩
  | .hbm, ⟨7, _⟩ => ⟨S16384x8192, .f32⟩
  | .hbm, ⟨8, _⟩ => ⟨S16384x8192, .bf16⟩
  | .hbm, ⟨9, _⟩ => ⟨S4096x11008, .f32⟩
  | .hbm, ⟨10, _⟩ => ⟨S4096x11008, .bf16⟩
  | .hbm, ⟨11, _⟩ => ⟨S4096x11008, .f32⟩
  | .hbm, ⟨12, _⟩ => ⟨S4096x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Uv.lean ====
abbrev S16384x4096 : Shape := ⟨2, ![16384, 4096]⟩
abbrev S1x4096x15360 : Shape := ⟨3, ![1, 4096, 15360]⟩
abbrev S1x11008x4096 : Shape := ⟨3, ![1, 11008, 4096]⟩
abbrev S4096x15360 : Shape := ⟨2, ![4096, 15360]⟩
abbrev S11008x4096 : Shape := ⟨2, ![11008, 4096]⟩
abbrev S1024x4096 : Shape := ⟨2, ![1024, 4096]⟩
abbrev S4096x512 : Shape := ⟨2, ![4096, 512]⟩
abbrev S128x4096 : Shape := ⟨2, ![128, 4096]⟩
abbrev S1024x512 : Shape := ⟨2, ![1024, 512]⟩

abbrev nBuf : Space → Nat
  | .hbm => 7
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S1x4096x15360, .f32⟩
  | .hbm, ⟨2, _⟩ => ⟨S1x11008x4096, .f32⟩
  | .hbm, ⟨3, _⟩ => ⟨S4096x15360, .f32⟩
  | .hbm, ⟨4, _⟩ => ⟨S11008x4096, .f32⟩
  | .hbm, ⟨5, _⟩ => ⟨S16384x4096, .bf16⟩
  | .hbm, ⟨6, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S128x4096, .f32⟩
  | .local _ .vmem, ⟨5, _⟩ => ⟨S128x4096, .f32⟩
  | .local _ .vmem, ⟨6, _⟩ => ⟨S1024x512, .bf16⟩
  | .local _ .vmem, ⟨7, _⟩ => ⟨S1024x512, .bf16⟩
  | .local _ .vmem, ⟨8, _⟩ => ⟨S128x4096, .bf16⟩
  | .local _ .vmem, ⟨9, _⟩ => ⟨S128x4096, .bf16⟩
  | .local _ .vmem, ⟨10, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UvRefIdeal.lean ====
abbrev S16384x4096 : Shape := ⟨2, ![16384, 4096]⟩
abbrev S1x4096x15360 : Shape := ⟨3, ![1, 4096, 15360]⟩
abbrev S1x11008x4096 : Shape := ⟨3, ![1, 11008, 4096]⟩
abbrev S4096x15360 : Shape := ⟨2, ![4096, 15360]⟩
abbrev S16384x15360 : Shape := ⟨2, ![16384, 15360]⟩
abbrev S_ : Shape := ⟨0, ![]⟩
abbrev S11008x4096 : Shape := ⟨2, ![11008, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x15360, .f32⟩
  | .hbm, ⟨2, _⟩ => ⟨S1x11008x4096, .f32⟩
  | .hbm, ⟨3, _⟩ => ⟨S16384x4096, .f32⟩
  | .hbm, ⟨4, _⟩ => ⟨S4096x15360, .f32⟩
  | .hbm, ⟨5, _⟩ => ⟨S16384x15360, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | .hbm, ⟨17, _⟩ => ⟨S11008x4096, .f32⟩
  | .hbm, ⟨18, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mix.lean ====
abbrev S16384x2048 : Shape := ⟨2, ![16384, 2048]⟩
abbrev S16384x8192 : Shape := ⟨2, ![16384, 8192]⟩
abbrev S2048x4096 : Shape := ⟨2, ![2048, 4096]⟩
abbrev S4096x4096 : Shape := ⟨2, ![4096, 4096]⟩
abbrev S16384x4096 : Shape := ⟨2, ![16384, 4096]⟩
abbrev S1x4096 : Shape := ⟨2, ![1, 4096]⟩
abbrev S4x24576 : Shape := ⟨2, ![4, 24576]⟩
abbrev S24x1x4096 : Shape := ⟨3, ![24, 1, 4096]⟩
abbrev S4096 : Shape := ⟨1, ![4096]⟩
abbrev S512x2048 : Shape := ⟨2, ![512, 2048]⟩
abbrev S512x512 : Shape := ⟨2, ![512, 512]⟩
abbrev S2048x512 : Shape := ⟨2, ![2048, 512]⟩
abbrev S512x4096 : Shape := ⟨2, ![512, 4096]⟩
abbrev S64x4096 : Shape := ⟨2, ![64, 4096]⟩
abbrev S1x1x4096 : Shape := ⟨3, ![1, 1, 4096]⟩
abbrev S64 : Shape := ⟨1, ![64]⟩
abbrev S64x1 : Shape := ⟨2, ![64, 1]⟩

abbrev nBuf : Space → Nat
  | .hbm => 17
  | .vmem => 30
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S2048x4096, .bf16⟩
  | .hbm, ⟨4, _⟩ => ⟨S2048x4096, .bf16⟩
  | .hbm, ⟨5, _⟩ => ⟨S4096x4096, .bf16⟩
  | .hbm, ⟨6, _⟩ => ⟨S16384x4096, .f32⟩
  | .hbm, ⟨7, _⟩ => ⟨S1x4096, .f32⟩
  | .hbm, ⟨8, _⟩ => ⟨S1x4096, .f32⟩
  | .hbm, ⟨9, _⟩ => ⟨S4x24576, .f32⟩
  | .hbm, ⟨10, _⟩ => ⟨S24x1x4096, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S1x4096, .f32⟩
  | .hbm, ⟨15, _⟩ => ⟨S16384x4096, .f32⟩
  | .hbm, ⟨16, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x4096, .bf16⟩
  | .local _ .vmem, ⟨13, _⟩ => ⟨S512x4096, .bf16⟩
  | .local _ .vmem, ⟨14, _⟩ => ⟨S64x4096, .f32⟩
  | .local _ .vmem, ⟨15, _⟩ => ⟨S64x4096, .f32⟩
  | .local _ .vmem, ⟨16, _⟩ => ⟨S1x4096, .f32⟩
  | .local _ .vmem, ⟨17, _⟩ => ⟨S1x1x4096, .f32⟩
  | .local _ .vmem, ⟨18, _⟩ => ⟨S1x1x4096, .f32⟩
  | .local _ .vmem, ⟨19, _⟩ => ⟨S1x4096, .f32⟩
  | .local _ .vmem, ⟨20, _⟩ => ⟨S1x1x4096, .f32⟩
  | .local _ .vmem, ⟨21, _⟩ => ⟨S1x1x4096, .f32⟩
  | .local _ .vmem, ⟨22, _⟩ => ⟨S1x1x4096, .f32⟩
  | .local _ .vmem, ⟨23, _⟩ => ⟨S1x1x4096, .f32⟩
  | .local _ .vmem, ⟨24, _⟩ => ⟨S64x4096, .f32⟩
  | .local _ .vmem, ⟨25, _⟩ => ⟨S64x4096, .f32⟩
  | .local _ .vmem, ⟨26, _⟩ => ⟨S64x4096, .bf16⟩
  | .local _ .vmem, ⟨27, _⟩ => ⟨S64x4096, .bf16⟩
  | .local _ .vmem, ⟨28, _⟩ => ⟨S512x4096, .f32⟩
  | .local _ .vmem, ⟨29, _⟩ => ⟨S512x4096, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![33, 8], ![false, false]⟩

def k0_cond4 (i : grid0.Coords) : BitVec 1 :=
  let arg0 : BitVec 32 := BitVec.ofNat 32 (i 0).val
  let c0_i32_12 : BitVec 32 := 0#32
  let v28 : BitVec 1 := Scalar.cmpi .sgt arg0 c0_i32_12
  let c32_i32_13 : BitVec 32 := 32#32
  let v29 : BitVec 1 := Scalar.cmpi .slt arg0 c32_i32_13
  let v30 : BitVec 1 := Scalar.andi v28 v29
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let true_11 : BitVec 1 := 1#1
  let v27 : BitVec 1 := Scalar.xori v10 true_11
  let v31 : BitVec 1 := Scalar.andi v30 v27
  let v32 : BitVec 32 := Scalar.extui v31
  let c0_i32_14 : BitVec 32 := 0#32
  let v33 : BitVec 1 := Scalar.cmpi .ne v32 c0_i32_14
  v33

def k0_mult1 (i : grid0.Coords) : BitVec 32 :=
  let arg1 : BitVec 32 := BitVec.ofNat 32 (i 1).val
  let c64_i32 : BitVec 32 := 64#32
  let v43 : BitVec 32 := Scalar.muli arg1 c64_i32
  v43
def k0_off1 (i : grid0.Coords) : Fin 2 → Nat :=
  let arg1 : BitVec 32 := BitVec.ofNat 32 (i 1).val
  let c64_i32 : BitVec 32 := 64#32
  let v43 : BitVec 32 := Scalar.muli arg1 c64_i32
  let v44 : BitVec 32 := v43
  let v45 : Index := Scalar.indexCast v44
  let c0 : Index := 0#32
  ![v45.toNat, 0]
def k0_cond5 (i : grid0.Coords) : BitVec 1 :=
  let arg0 : BitVec 32 := BitVec.ofNat 32 (i 0).val
  let c0_i32_15 : BitVec 32 := 0#32
  let v34 : BitVec 1 := Scalar.cmpi .sgt arg0 c0_i32_15
  let c32_i32_16 : BitVec 32 := 32#32
  let v35 : BitVec 1 := Scalar.cmpi .slt arg0 c32_i32_16
  let v36 : BitVec 1 := Scalar.andi v34 v35
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let v37 : BitVec 1 := Scalar.andi v36 v10
  let v38 : BitVec 32 := Scalar.extui v37
  let c0_i32_17 : BitVec 32 := 0#32
  let v39 : BitVec 1 := Scalar.cmpi .ne v38 c0_i32_17
  v39

def k0_mult2 (i : grid0.Coords) : BitVec 32 :=
  let arg1 : BitVec 32 := BitVec.ofNat 32 (i 1).val
  let c64_i32 : BitVec 32 := 64#32
  let v43 : BitVec 32 := Scalar.muli arg1 c64_i32
  v43
def k0_off2 (i : grid0.Coords) : Fin 2 → Nat :=
  let arg1 : BitVec 32 := BitVec.ofNat 32 (i 1).val
  let c64_i32 : BitVec 32 := 64#32
  let v43 : BitVec 32 := Scalar.muli arg1 c64_i32
  let v44 : BitVec 32 := v43
  let v45 : Index := Scalar.indexCast v44
  let c0 : Index := 0#32
  ![v45.toNat, 0]
def k0_cond6 (i : grid0.Coords) : BitVec 1 :=
  let arg0 : BitVec 32 := BitVec.ofNat 32 (i 0).val
  let c32_i32_18 : BitVec 32 := 32#32
  let v40 : BitVec 1 := Scalar.cmpi .eq arg0 c32_i32_18
  let v41 : BitVec 32 := Scalar.extui v40
  let c0_i32_19 : BitVec 32 := 0#32
  let v42 : BitVec 1 := Scalar.cmpi .ne v41 c0_i32_19
  v42

def k0_mult3 (i : grid0.Coords) : BitVec 32 :=
  let arg1 : BitVec 32 := BitVec.ofNat 32 (i 1).val
  let c64_i32 : BitVec 32 := 64#32
  let v43 : BitVec 32 := Scalar.muli arg1 c64_i32
  v43
def k0_off3 (i : grid0.Coords) : Fin 2 → Nat :=
  let arg1 : BitVec 32 := BitVec.ofNat 32 (i 1).val
  let c64_i32 : BitVec 32 := 64#32
  let v43 : BitVec 32 := Scalar.muli arg1 c64_i32
  let v44 : BitVec 32 := v43
  let v45 : Index := Scalar.indexCast v44
  let c0 : Index := 0#32
  ![v45.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .eq arg0 c32_i32
  let c7_i32 : BitVec 32 := 7#32
  let v2 : BitVec 32 := Scalar.select v1 c7_i32 arg1
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .eq arg0 c32_i32
  let c7_i32 : BitVec 32 := 7#32
  let v2 : BitVec 32 := Scalar.select v1 c7_i32 arg1
  let c8_i32 : BitVec 32 := 8#32
  let v3 : BitVec 32 := Scalar.addi v2 c8_i32
  let c0_i32 : BitVec 32 := 0#32
  ![v0.toNat, v3.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c7_i32 : BitVec 32 := 7#32
  let v1 : BitVec 32 := Scalar.select v0 c7_i32 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c7_i32 : BitVec 32 := 7#32
  let v1 : BitVec 32 := Scalar.select v0 c7_i32 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c7_i32 : BitVec 32 := 7#32
  let v1 : BitVec 32 := Scalar.select v0 c7_i32 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c6_i32 : BitVec 32 := 6#32
  let v19 : BitVec 32 := Scalar.muli v18 c6_i32
  let c2_i32 : BitVec 32 := 2#32
  let v20 : BitVec 32 := Scalar.addi v19 c2_i32
  let c0_i32_6 : BitVec 32 := 0#32
  let c0_i32_7 : BitVec 32 := 0#32
  let c0_i32_8 : BitVec 32 := 0#32
  ![v20.toNat, c0_i32_6.toNat, c0_i32_7.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c6_i32 : BitVec 32 := 6#32
  let v19 : BitVec 32 := Scalar.muli v18 c6_i32
  let c3_i32 : BitVec 32 := 3#32
  let v20 : BitVec 32 := Scalar.addi v19 c3_i32
  let c0_i32_6 : BitVec 32 := 0#32
  let c0_i32_7 : BitVec 32 := 0#32
  let c0_i32_8 : BitVec 32 := 0#32
  ![v20.toNat, c0_i32_6.toNat, c0_i32_7.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c6_i32 : BitVec 32 := 6#32
  let v19 : BitVec 32 := Scalar.muli v18 c6_i32
  let c4_i32 : BitVec 32 := 4#32
  let v20 : BitVec 32 := Scalar.addi v19 c4_i32
  let c0_i32_6 : BitVec 32 := 0#32
  let c0_i32_7 : BitVec 32 := 0#32
  let c0_i32_8 : BitVec 32 := 0#32
  ![v20.toNat, c0_i32_6.toNat, c0_i32_7.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S64x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixRefIdeal.lean ====
abbrev S16384x2048 : Shape := ⟨2, ![16384, 2048]⟩
abbrev S16384x8192 : Shape := ⟨2, ![16384, 8192]⟩
abbrev S2048x4096 : Shape := ⟨2, ![2048, 4096]⟩
abbrev S4096x4096 : Shape := ⟨2, ![4096, 4096]⟩
abbrev S16384x4096 : Shape := ⟨2, ![16384, 4096]⟩
abbrev S1x4096 : Shape := ⟨2, ![1, 4096]⟩
abbrev S4x24576 : Shape := ⟨2, ![4, 24576]⟩
abbrev S4x4096 : Shape := ⟨2, ![4, 4096]⟩
abbrev S4x4096x8192 : Shape := ⟨3, ![4, 4096, 8192]⟩
abbrev S4x4096x4096 : Shape := ⟨3, ![4, 4096, 4096]⟩
abbrev S4x4096x2048 : Shape := ⟨3, ![4, 4096, 2048]⟩
abbrev S_ : Shape := ⟨0, ![]⟩
abbrev S4x4096x1 : Shape := ⟨3, ![4, 4096, 1]⟩
abbrev S4096 : Shape := ⟨1, ![4096]⟩
abbrev S1x1x4096 : Shape := ⟨3, ![1, 1, 4096]⟩
abbrev S4x1x4096 : Shape := ⟨3, ![4, 1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S2048x4096, .bf16⟩
  | .hbm, ⟨4, _⟩ => ⟨S2048x4096, .bf16⟩
  | .hbm, ⟨5, _⟩ => ⟨S4096x4096, .bf16⟩
  | .hbm, ⟨6, _⟩ => ⟨S16384x4096, .f32⟩
  | .hbm, ⟨7, _⟩ => ⟨S1x4096, .f32⟩
  | .hbm, ⟨8, _⟩ => ⟨S1x4096, .f32⟩
  | .hbm, ⟨9, _⟩ => ⟨S4x24576, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x4096, .f32⟩
  | .hbm, ⟨14, _⟩ => ⟨S4x4096, .f32⟩
  | .hbm, ⟨15, _⟩ => ⟨S4x4096, .f32⟩
  | .hbm, ⟨16, _⟩ => ⟨S16384x8192, .f32⟩
  | .hbm, ⟨17, _⟩ => ⟨S4x4096x8192, .f32⟩
  | .hbm, ⟨18, _⟩ => ⟨S4x4096x4096, .f32⟩
  | .hbm, ⟨19, _⟩ => ⟨S4x4096x4096, .f32⟩
  | .hbm, ⟨20, _⟩ => ⟨S16384x2048, .f32⟩
  | .hbm, ⟨21, _⟩ => ⟨S4x4096x2048, .f32⟩
  | .hbm, ⟨22, _⟩ => ⟨S2048x4096, .f32⟩
  | .hbm, ⟨23, _⟩ => ⟨S4x4096x4096, .f32⟩
  | .hbm, ⟨24, _⟩ => ⟨S16384x2048, .f32⟩
  | .hbm, ⟨25, _⟩ => ⟨S4x4096x2048, .f32⟩
  | .hbm, ⟨26, _⟩ => ⟨S2048x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x4096, .f32⟩
  | .hbm, ⟨61, _⟩ => ⟨S4x4096x4096, .f32⟩
  | .hbm, ⟨62, _⟩ => ⟨S4096, .f32⟩
  | .hbm, ⟨63, _⟩ => ⟨S1x1x4096, .f32⟩
  | .hbm, ⟨64, _⟩ => ⟨S4x4096x4096, .f32⟩
  | .hbm, ⟨65, _⟩ => ⟨S4x4096x4096, .f32⟩
  | .hbm, ⟨66, _⟩ => ⟨S4x4096x4096, .f32⟩
  | .hbm, ⟨67, _⟩ => ⟨S4x1x4096, .f32⟩
  | .hbm, ⟨68, _⟩ => ⟨S4x4096x4096, .f32⟩
  | .hbm, ⟨69, _⟩ => ⟨S4x4096x4096, .f32⟩
  | .hbm, ⟨70, _⟩ => ⟨S4x4096x4096, .f32⟩
  | .hbm, ⟨71, _⟩ => ⟨S4x4096x4096, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x4096, .f32⟩
  | .hbm, ⟨83, _⟩ => ⟨S4x4096x4096, .f32⟩
  | .hbm, ⟨84, _⟩ => ⟨S4096, .f32⟩
  | .hbm, ⟨85, _⟩ => ⟨S1x1x4096, .f32⟩
  | .hbm, ⟨86, _⟩ => ⟨S4x4096x4096, .f32⟩
  | .hbm, ⟨87, _⟩ => ⟨S4x4096x4096, .f32⟩
  | .hbm, ⟨88, _⟩ => ⟨S4x1x4096, .f32⟩
  | .hbm, ⟨89, _⟩ => ⟨S_, .f32⟩
  | .hbm, ⟨90, _⟩ => ⟨S4x1x4096, .f32⟩
  | .hbm, ⟨91, _⟩ => ⟨S4x1x4096, .f32⟩
  | .hbm, ⟨92, _⟩ => ⟨S4x4096x4096, .f32⟩
  | .hbm, ⟨93, _⟩ => ⟨S4x4096x4096, .f32⟩
  | .hbm, ⟨94, _⟩ => ⟨S4x1x4096, .f32⟩
  | .hbm, ⟨95, _⟩ => ⟨S4x4096x4096, .f32⟩
  | .hbm, ⟨96, _⟩ => ⟨S4x4096x4096, .f32⟩
  | .hbm, ⟨97, _⟩ => ⟨S16384x4096, .f32⟩
  | .hbm, ⟨98, _⟩ => ⟨S4x4096x4096, .bf16⟩
  | .hbm, ⟨99, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== Qkv.lean ====
abbrev S16384x4096 : Shape := ⟨2, ![16384, 4096]⟩
abbrev S1x4096x15360 : Shape := ⟨3, ![1, 4096, 15360]⟩
abbrev S16384x16 : Shape := ⟨2, ![16384, 16]⟩
abbrev S1x2048x4096 : Shape := ⟨3, ![1, 2048, 4096]⟩
abbrev S1x4096x4096 : Shape := ⟨3, ![1, 4096, 4096]⟩
abbrev S4096x15360 : Shape := ⟨2, ![4096, 15360]⟩
abbrev S_ : Shape := ⟨0, ![]⟩
abbrev S16384x96 : Shape := ⟨2, ![16384, 96]⟩
abbrev S16384x128 : Shape := ⟨2, ![16384, 128]⟩
abbrev S16384x112 : Shape := ⟨2, ![16384, 112]⟩
abbrev S2048x4096 : Shape := ⟨2, ![2048, 4096]⟩
abbrev S4096x4096 : Shape := ⟨2, ![4096, 4096]⟩
abbrev S16384x3072 : Shape := ⟨2, ![16384, 3072]⟩
abbrev S1024x4096 : Shape := ⟨2, ![1024, 4096]⟩
abbrev S4096x512 : Shape := ⟨2, ![4096, 512]⟩
abbrev S1024x128 : Shape := ⟨2, ![1024, 128]⟩
abbrev S32x4096 : Shape := ⟨2, ![32, 4096]⟩
abbrev S64x4096 : Shape := ⟨2, ![64, 4096]⟩
abbrev S1024x512 : Shape := ⟨2, ![1024, 512]⟩
abbrev S128x128 : Shape := ⟨2, ![128, 128]⟩
abbrev S64x128 : Shape := ⟨2, ![64, 128]⟩

abbrev nBuf : Space → Nat
  | .hbm => 27
  | .vmem => 26
  | .smem => 0
  | _ => 0

abbrev bufTy : (tb : Table) → Fin (tcTables nBuf tb) → BufTy
  | .hbm, ⟨0, _⟩ => ⟨S16384x4096, .bf16⟩
  | .hbm, ⟨1, _⟩ => ⟨S1x4096x15360, .f32⟩
  | .hbm, ⟨2, _⟩ => ⟨S16384x16, .f32⟩
  | .hbm, ⟨3, _⟩ => ⟨S16384x16, .f32⟩
  | .hbm, ⟨4, _⟩ => ⟨S1x2048x4096, .f32⟩
  | .hbm, ⟨5, _⟩ => ⟨S1x2048x4096, .f32⟩
  | .hbm, ⟨6, _⟩ => ⟨S1x4096x4096, .f32⟩
  | .hbm, ⟨7, _⟩ => ⟨S4096x15360, .f32⟩
  | .hbm, ⟨8, _⟩ => ⟨S_, .f32⟩
  | .hbm, ⟨9, _⟩ => ⟨S16384x96, .f32⟩
  | .hbm, ⟨10, _⟩ => ⟨S16384x128, .f32⟩
  | .hbm, ⟨11, _⟩ => ⟨S16384x16, .f32⟩
  | .hbm, ⟨12, _⟩ => ⟨S_, .f32⟩
  | .hbm, ⟨13, _⟩ => ⟨S16384x112, .f32⟩
  | .hbm, ⟨14, _⟩ => ⟨S16384x128, .f32⟩
  | .hbm, ⟨15, _⟩ => ⟨S_, .f32⟩
  | .hbm, ⟨16, _⟩ => ⟨S16384x16, .f32⟩
  | .hbm, ⟨17, _⟩ => ⟨S_, .f32⟩
  | .hbm, ⟨18, _⟩ => ⟨S16384x96, .f32⟩
  | .hbm, ⟨19, _⟩ => ⟨S16384x128, .f32⟩
  | .hbm, ⟨20, _⟩ => ⟨S2048x4096, .f32⟩
  | .hbm, ⟨21, _⟩ => ⟨S2048x4096, .f32⟩
  | .hbm, ⟨22, _⟩ => ⟨S4096x4096, .f32⟩
  | .hbm, ⟨23, _⟩ => ⟨S16384x3072, .bf16⟩
  | .hbm, ⟨24, _⟩ => ⟨S2048x4096, .bf16⟩
  | .hbm, ⟨25, _⟩ => ⟨S2048x4096, .bf16⟩
  | .hbm, ⟨26, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S64x4096, .f32⟩
  | .local _ .vmem, ⟨15, _⟩ => ⟨S64x4096, .f32⟩
  | .local _ .vmem, ⟨16, _⟩ => ⟨S1024x512, .bf16⟩
  | .local _ .vmem, ⟨17, _⟩ => ⟨S1024x512, .bf16⟩
  | .local _ .vmem, ⟨18, _⟩ => ⟨S32x4096, .bf16⟩
  | .local _ .vmem, ⟨19, _⟩ => ⟨S32x4096, .bf16⟩
  | .local _ .vmem, ⟨20, _⟩ => ⟨S32x4096, .bf16⟩
  | .local _ .vmem, ⟨21, _⟩ => ⟨S32x4096, .bf16⟩
  | .local _ .vmem, ⟨22, _⟩ => ⟨S64x4096, .bf16⟩
  | .local _ .vmem, ⟨23, _⟩ => ⟨S64x4096, .bf16⟩
  | .local _ .vmem, ⟨24, _⟩ => ⟨S4096x512, .bf16⟩
  | .local _ .vmem, ⟨25, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [BitOps F]

abbrev grid0 : Pipeline.Grid := ⟨2, ![6, 16], ![false, false]⟩

def k0_cond2 (i : grid0.Coords) : BitVec 1 :=
  let arg0 : BitVec 32 := BitVec.ofNat 32 (i 0).val
  let c5_i32 : BitVec 32 := 5#32
  let v21 : BitVec 1 := Scalar.cmpi .sge arg0 c5_i32
  let v_true : BitVec 1 := 1#1
  let v22 : BitVec 1 := Scalar.xori v21 v_true
  let v23 : BitVec 32 := Scalar.extui v22
  let c0_i32_18 : BitVec 32 := 0#32
  let v24 : BitVec 1 := Scalar.cmpi .ne v23 c0_i32_18
  v24

def k0_cond3 (i : grid0.Coords) : BitVec 1 :=
  let arg0 : BitVec 32 := BitVec.ofNat 32 (i 0).val
  let c5_i32 : BitVec 32 := 5#32
  let v21 : BitVec 1 := Scalar.cmpi .sge arg0 c5_i32
  let v25 : BitVec 32 := Scalar.extui v21
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvIdeal.lean ====
variable {F : FTy → Type} [FloatOps F]
-- ==== QkvRefIdeal.lean ====
abbrev S16384x4096 : Shape := ⟨2, ![16384, 4096]⟩
abbrev S1x4096x15360 : Shape := ⟨3, ![1, 4096, 15360]⟩
abbrev S16384x16 : Shape := ⟨2, ![16384, 16]⟩
abbrev S1x2048x4096 : Shape := ⟨3, ![1, 2048, 4096]⟩
abbrev S1x4096x4096 : Shape := ⟨3, ![1, 4096, 4096]⟩
abbrev S4096x15360 : Shape := ⟨2, ![4096, 15360]⟩
abbrev S16384x15360 : Shape := ⟨2, ![16384, 15360]⟩
abbrev S16384x1x16 : Shape := ⟨3, ![16384, 1, 16]⟩
abbrev S16384x2048 : Shape := ⟨2, ![16384, 2048]⟩
abbrev S16384x16x128 : Shape := ⟨3, ![16384, 16, 128]⟩
abbrev S16384x16x16 : Shape := ⟨3, ![16384, 16, 16]⟩
abbrev S16384x16x96 : Shape := ⟨3, ![16384, 16, 96]⟩
abbrev S16384x512 : Shape := ⟨2, ![16384, 512]⟩
abbrev S16384x4x128 : Shape := ⟨3, ![16384, 4, 128]⟩
abbrev S16384x4x16 : Shape := ⟨3, ![16384, 4, 16]⟩
abbrev S16384x4x96 : Shape := ⟨3, ![16384, 4, 96]⟩
abbrev S16384x3072 : Shape := ⟨2, ![16384, 3072]⟩
abbrev S2048x4096 : Shape := ⟨2, ![2048, 4096]⟩
abbrev S4096x4096 : Shape := ⟨2, ![4096, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x15360, .f32⟩
  | .hbm, ⟨2, _⟩ => ⟨S16384x16, .f32⟩
  | .hbm, ⟨3, _⟩ => ⟨S16384x16, .f32⟩
  | .hbm, ⟨4, _⟩ => ⟨S1x2048x4096, .f32⟩
  | .hbm, ⟨5, _⟩ => ⟨S1x2048x4096, .f32⟩
  | .hbm, ⟨6, _⟩ => ⟨S1x4096x4096, .f32⟩
  | .hbm, ⟨7, _⟩ => ⟨S16384x4096, .f32⟩
  | .hbm, ⟨8, _⟩ => ⟨S4096x15360, .f32⟩
  | .hbm, ⟨9, _⟩ => ⟨S16384x15360, .f32⟩
  | .hbm, ⟨10, _⟩ => ⟨S16384x1x16, .f32⟩
  | .hbm, ⟨11, _⟩ => ⟨S16384x1x16, .f32⟩
  | .hbm, ⟨12, _⟩ => ⟨S16384x2048, .f32⟩
  | .hbm, ⟨13, _⟩ => ⟨S16384x16x128, .f32⟩
  | .hbm, ⟨14, _⟩ => ⟨S16384x16x16, .f32⟩
  | .hbm, ⟨15, _⟩ => ⟨S16384x16x16, .f32⟩
  | .hbm, ⟨16, _⟩ => ⟨S16384x16x96, .f32⟩
  | .hbm, ⟨17, _⟩ => ⟨S16384x16x16, .f32⟩
  | .hbm, ⟨18, _⟩ => ⟨S16384x16x16, .f32⟩
  | .hbm, ⟨19, _⟩ => ⟨S16384x16x16, .f32⟩
  | .hbm, ⟨20, _⟩ => ⟨S16384x16x16, .f32⟩
  | .hbm, ⟨21, _⟩ => ⟨S16384x16x16, .f32⟩
  | .hbm, ⟨22, _⟩ => ⟨S16384x16x16, .f32⟩
  | .hbm, ⟨23, _⟩ => ⟨S16384x16x16, .f32⟩
  | .hbm, ⟨24, _⟩ => ⟨S16384x16x16, .f32⟩
  | .hbm, ⟨25, _⟩ => ⟨S16384x16x16, .f32⟩
  | .hbm, ⟨26, _⟩ => ⟨S16384x16x16, .f32⟩
  | .hbm, ⟨27, _⟩ => ⟨S16384x16x128, .f32⟩
  | .hbm, ⟨28, _⟩ => ⟨S16384x2048, .f32⟩
  | .hbm, ⟨29, _⟩ => ⟨S16384x512, .f32⟩
  | .hbm, ⟨30, _⟩ => ⟨S16384x4x128, .f32⟩
  | .hbm, ⟨31, _⟩ => ⟨S16384x4x16, .f32⟩
  | .hbm, ⟨32, _⟩ => ⟨S16384x4x16, .f32⟩
  | .hbm, ⟨33, _⟩ => ⟨S16384x4x96, .f32⟩
  | .hbm, ⟨34, _⟩ => ⟨S16384x4x16, .f32⟩
  | .hbm, ⟨35, _⟩ => ⟨S16384x4x16, .f32⟩
  | .hbm, ⟨36, _⟩ => ⟨S16384x4x16, .f32⟩
  | .hbm, ⟨37, _⟩ => ⟨S16384x4x16, .f32⟩
  | .hbm, ⟨38, _⟩ => ⟨S16384x4x16, .f32⟩
  | .hbm, ⟨39, _⟩ => ⟨S16384x4x16, .f32⟩
  | .hbm, ⟨40, _⟩ => ⟨S16384x4x16, .f32⟩
  | .hbm, ⟨41, _⟩ => ⟨S16384x4x16, .f32⟩
  | .hbm, ⟨42, _⟩ => ⟨S16384x4x16, .f32⟩
  | .hbm, ⟨43, _⟩ => ⟨S16384x4x16, .f32⟩
  | .hbm, ⟨44, _⟩ => ⟨S16384x4x128, .f32⟩
  | .hbm, ⟨45, _⟩ => ⟨S16384x512, .f32⟩
  | .hbm, ⟨46, _⟩ => ⟨S16384x512, .f32⟩
  | .hbm, ⟨47, _⟩ => ⟨S16384x3072, .f32⟩
  | .hbm, ⟨48, _⟩ => ⟨S16384x3072, .bf16⟩
  | .hbm, ⟨49, _⟩ => ⟨S2048x4096, .f32⟩
  | .hbm, ⟨50, _⟩ => ⟨S2048x4096, .bf16⟩
  | .hbm, ⟨51, _⟩ => ⟨S2048x4096, .f32⟩
  | .hbm, ⟨52, _⟩ => ⟨S2048x4096, .bf16⟩
  | .hbm, ⟨53, _⟩ => ⟨S4096x4096, .f32⟩
  | .hbm, ⟨54, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩

abbrev nD : Nat := 1
abbrev τ : Topo := Topo.v7x

variable {F : FTy → Type} [FloatOps F]
-- ==== Ada.lean ====
abbrev S4x4096 : Shape := ⟨2, ![4, 4096]⟩
abbrev S1x4096x24576 : Shape := ⟨3, ![1, 4096, 24576]⟩
abbrev S1x24576 : Shape := ⟨2, ![1, 24576]⟩
abbrev S_ : Shape := ⟨0, ![]⟩
abbrev S8x4096 : Shape := ⟨2, ![8, 4096]⟩
abbrev S4096x24576 : Shape := ⟨2, ![4096, 24576]⟩
abbrev S24576 : Shape := ⟨1, ![24576]⟩
abbrev S8x24576 : Shape := ⟨2, ![8, 24576]⟩
abbrev S4096x1024 : Shape := ⟨2, ![4096, 1024]⟩
abbrev S1x1024 : Shape := ⟨2, ![1, 1024]⟩
abbrev S8x1024 : Shape := ⟨2, ![8, 1024]⟩
abbrev S4x24576 : Shape := ⟨2, ![4, 24576]⟩

abbrev nBuf : Space → Nat
  | .hbm => 11
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S1x4096x24576, .f32⟩
  | .hbm, ⟨2, _⟩ => ⟨S1x24576, .f32⟩
  | .hbm, ⟨3, _⟩ => ⟨S_, .i32⟩
  | .hbm, ⟨4, _⟩ => ⟨S_, .f32⟩
  | .hbm, ⟨5, _⟩ => ⟨S8x4096, .f32⟩
  | .hbm, ⟨6, _⟩ => ⟨S4096x24576, .f32⟩
  | .hbm, ⟨7, _⟩ => ⟨S24576, .f32⟩
  | .hbm, ⟨8, _⟩ => ⟨S1x24576, .f32⟩
  | .hbm, ⟨9, _⟩ => ⟨S8x24576, .f32⟩
  | .hbm, ⟨10, _⟩ => ⟨S4x24576, .f32⟩
  | .local _ .vmem, ⟨0, _⟩ => ⟨S8x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S4x4096 : Shape := ⟨2, ![4, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S4x24576 : Shape := ⟨2, ![4, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S1x4096x24576, .f32⟩
  | .hbm, ⟨2, _⟩ => ⟨S1x24576, .f32⟩
  | .hbm, ⟨3, _⟩ => ⟨S4x4096, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4096x24576, .f32⟩
  | .hbm, ⟨13, _⟩ => ⟨S4x24576, .f32⟩
  | .hbm, ⟨14, _⟩ => ⟨S24576, .f32⟩
  | .hbm, ⟨15, _⟩ => ⟨S1x24576, .f32⟩
  | .hbm, ⟨16, _⟩ => ⟨S4x24576, .f32⟩
  | .hbm, ⟨17, _⟩ => ⟨S4x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Prenorm.lean ====
abbrev S16384x4096 : Shape := ⟨2, ![16384, 4096]⟩
abbrev S1x4096 : Shape := ⟨2, ![1, 4096]⟩
abbrev S4x24576 : Shape := ⟨2, ![4, 24576]⟩
abbrev S4x4096 : Shape := ⟨2, ![4, 4096]⟩
abbrev S4096 : Shape := ⟨1, ![4096]⟩
abbrev S24x1x4096 : Shape := ⟨3, ![24, 1, 4096]⟩
abbrev S16 : Shape := ⟨1, ![16]⟩
abbrev S_ : Shape := ⟨0, ![]⟩
abbrev S96 : Shape := ⟨1, ![96]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S512x4096 : Shape := ⟨2, ![512, 4096]⟩
abbrev S1x1x4096 : Shape := ⟨3, ![1, 1, 4096]⟩
abbrev S512x1 : Shape := ⟨2, ![512, 1]⟩
abbrev S512x128 : Shape := ⟨2, ![512, 128]⟩
abbrev S8x4096 : Shape := ⟨2, ![8, 4096]⟩
abbrev S8 : Shape := ⟨1, ![8]⟩
abbrev S8x1 : Shape := ⟨2, ![8, 1]⟩
abbrev S64x128 : Shape := ⟨2, ![64, 128]⟩
abbrev S64x1 : Shape := ⟨2, ![64, 1]⟩

abbrev nBuf : Space → Nat
  | .hbm => 31
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4x24576, .f32⟩
  | .hbm, ⟨3, _⟩ => ⟨S4x4096, .i32⟩
  | .hbm, ⟨4, _⟩ => ⟨S4096, .f32⟩
  | .hbm, ⟨5, _⟩ => ⟨S24x1x4096, .f32⟩
  | .hbm, ⟨6, _⟩ => ⟨S1x4096, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S96, .f32⟩
  | .hbm, ⟨23, _⟩ => ⟨S128, .f32⟩
  | .hbm, ⟨24, _⟩ => ⟨S16384x1, .i32⟩
  | .hbm, ⟨25, _⟩ => ⟨S16384x1, .f32⟩
  | .hbm, ⟨26, _⟩ => ⟨S1x128, .f32⟩
  | .hbm, ⟨27, _⟩ => ⟨S16384x4096, .bf16⟩
  | .hbm, ⟨28, _⟩ => ⟨S16384x128, .f32⟩
  | .hbm, ⟨29, _⟩ => ⟨S16384x128, .f32⟩
  | .hbm, ⟨30, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x1, .f32⟩
  | .local _ .vmem, ⟨8, _⟩ => ⟨S512x1, .f32⟩
  | .local _ .vmem, ⟨9, _⟩ => ⟨S1x128, .f32⟩
  | .local _ .vmem, ⟨10, _⟩ => ⟨S512x4096, .bf16⟩
  | .local _ .vmem, ⟨11, _⟩ => ⟨S512x4096, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrenormRefIdeal.lean ====
abbrev S16384x4096 : Shape := ⟨2, ![16384, 4096]⟩
abbrev S1x4096 : Shape := ⟨2, ![1, 4096]⟩
abbrev S4x24576 : Shape := ⟨2, ![4, 24576]⟩
abbrev S4x4096 : Shape := ⟨2, ![4, 4096]⟩
abbrev S4x4096x4096 : Shape := ⟨3, ![4, 4096, 4096]⟩
abbrev S_ : Shape := ⟨0, ![]⟩
abbrev S4x4096x1 : Shape := ⟨3, ![4, 4096, 1]⟩
abbrev S4096 : Shape := ⟨1, ![4096]⟩
abbrev S1x1x4096 : Shape := ⟨3, ![1, 1, 4096]⟩
abbrev S4x1x4096 : Shape := ⟨3, ![4, 1, 4096]⟩
abbrev S16 : Shape := ⟨1, ![16]⟩
abbrev S1x1x16 : Shape := ⟨3, ![1, 1, 16]⟩
abbrev S4x4096x16 : Shape := ⟨3, ![4, 4096, 16]⟩
abbrev S16384x16 : Shape := ⟨2, ![16384, 16]⟩
abbrev S16384x96 : Shape := ⟨2, ![16384, 96]⟩
abbrev S16384x128 : Shape := ⟨2, ![16384, 128]⟩
abbrev S16384x112 : Shape := ⟨2, ![16384, 112]⟩

abbrev nBuf : Space → Nat
  | .hbm => 75
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4x24576, .f32⟩
  | .hbm, ⟨3, _⟩ => ⟨S4x4096, .i32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4096, .f32⟩
  | .hbm, ⟨25, _⟩ => ⟨S1x1x4096, .f32⟩
  | .hbm, ⟨26, _⟩ => ⟨S4x4096x4096, .f32⟩
  | .hbm, ⟨27, _⟩ => ⟨S4x4096x4096, .f32⟩
  | .hbm, ⟨28, _⟩ => ⟨S4x1x4096, .f32⟩
  | .hbm, ⟨29, _⟩ => ⟨S_, .f32⟩
  | .hbm, ⟨30, _⟩ => ⟨S4x1x4096, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S4x1x4096, .f32⟩
  | .hbm, ⟨35, _⟩ => ⟨S4x4096x4096, .f32⟩
  | .hbm, ⟨36, _⟩ => ⟨S4x4096x4096, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S4x4096, .f32⟩
  | .hbm, ⟨52, _⟩ => ⟨S4x4096x1, .f32⟩
  | .hbm, ⟨53, _⟩ => ⟨S1x1x16, .f32⟩
  | .hbm, ⟨54, _⟩ => ⟨S4x4096x16, .f32⟩
  | .hbm, ⟨55, _⟩ => ⟨S4x4096x16, .f32⟩
  | .hbm, ⟨56, _⟩ => ⟨S4x4096x16, .f32⟩
  | .hbm, ⟨57, _⟩ => ⟨S4x4096x16, .f32⟩
  | .hbm, ⟨58, _⟩ => ⟨S16384x16, .f32⟩
  | .hbm, ⟨59, _⟩ => ⟨S4x4096x16, .f32⟩
  | .hbm, ⟨60, _⟩ => ⟨S16384x16, .f32⟩
  | .hbm, ⟨61, _⟩ => ⟨S4x4096x4096, .bf16⟩
  | .hbm, ⟨62, _⟩ => ⟨S16384x4096, .bf16⟩
  | .hbm, ⟨63, _⟩ => ⟨S_, .f32⟩
  | .hbm, ⟨64, _⟩ => ⟨S16384x96, .f32⟩
  | .hbm, ⟨65, _⟩ => ⟨S16384x128, .f32⟩
  | .hbm, ⟨66, _⟩ => ⟨S16384x16, .f32⟩
  | .hbm, ⟨67, _⟩ => ⟨S_, .f32⟩
  | .hbm, ⟨68, _⟩ => ⟨S16384x112, .f32⟩
  | .hbm, ⟨69, _⟩ => ⟨S16384x128, .f32⟩
  | .hbm, ⟨70, _⟩ => ⟨S_, .f32⟩
  | .hbm, ⟨71, _⟩ => ⟨S16384x16, .f32⟩
  | .hbm, ⟨72, _⟩ => ⟨S_, .f32⟩
  | .hbm, ⟨73, _⟩ => ⟨S16384x96, .f32⟩
  | .hbm, ⟨74, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Sgu.lean ====
abbrev S16384x4096 : Shape := ⟨2, ![16384, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S16x128x1 : Shape := ⟨3, ![16, 128, 1]⟩
abbrev S16384x2048 : Shape := ⟨2, ![16384, 2048]⟩
abbrev S512x2048 : Shape := ⟨2, ![512, 2048]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩

abbrev nBuf : Space → Nat
  | .hbm => 14
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S2048, .f32⟩
  | .hbm, ⟨6, _⟩ => ⟨S2048, .f32⟩
  | .hbm, ⟨7, _⟩ => ⟨S16x128x128, .f32⟩
  | .hbm, ⟨8, _⟩ => ⟨S16x128, .f32⟩
  | .hbm, ⟨9, _⟩ => ⟨S16x128x1, .f32⟩
  | .hbm, ⟨10, _⟩ => ⟨S16x128x128, .f32⟩
  | .hbm, ⟨11, _⟩ => ⟨S1x2048, .f32⟩
  | .hbm, ⟨12, _⟩ => ⟨S1x2048, .f32⟩
  | .hbm, ⟨13, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S16x128x128, .f32⟩
  | .local _ .vmem, ⟨8, _⟩ => ⟨S512x2048, .bf16⟩
  | .local _ .vmem, ⟨9, _⟩ => ⟨S512x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S16384x4096 : Shape := ⟨2, ![16384, 4096]⟩
abbrev S1x2048 : Shape := ⟨2, ![1, 2048]⟩
abbrev S1x16x128x128 : Shape := ⟨4, ![1, 16, 128, 128]⟩
abbrev S1x16x128 : Shape := ⟨3, ![1, 16, 128]⟩
abbrev S4x4096x4096 : Shape := ⟨3, ![4, 4096, 4096]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S4x32x128x16x128 : Shape := ⟨5, ![4, 32, 128, 16, 128]⟩
abbrev S128x128 : Shape := ⟨2, ![128, 128]⟩
abbrev S1x128x128 : Shape := ⟨3, ![1, 128, 128]⟩
abbrev S16x128x128 : Shape := ⟨3, ![16, 128, 128]⟩
abbrev S16x4x32x128x128 : Shape := ⟨5, ![16, 4, 32, 128, 128]⟩
abbrev S16x128 : Shape := ⟨2, ![16, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S16384x2048 : Shape := ⟨2, ![16384, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S16384x4096, .f32⟩
  | .hbm, ⟨6, _⟩ => ⟨S4x4096x4096, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | .hbm, ⟨38, _⟩ => ⟨S4x32x128x16x128, .f32⟩
  | .hbm, ⟨39, _⟩ => ⟨S_, .i1⟩
  | .hbm, ⟨40, _⟩ => ⟨S128x128, .i1⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S_, .i1⟩
  | .hbm, ⟨48, _⟩ => ⟨S128x128, .i1⟩
  | .hbm, ⟨49, _⟩ => ⟨S128x128, .i1⟩
  | .hbm, ⟨50, _⟩ => ⟨S1x128x128, .i1⟩
  | .hbm, ⟨51, _⟩ => ⟨S16x128x128, .f32⟩
  | .hbm, ⟨52, _⟩ => ⟨S_, .f32⟩
  | .hbm, ⟨53, _⟩ => ⟨S_, .f32⟩
  | .hbm, ⟨54, _⟩ => ⟨S16x128x128, .i1⟩
  | .hbm, ⟨55, _⟩ => ⟨S16x128x128, .f32⟩
  | .hbm, ⟨56, _⟩ => ⟨S16x128x128, .f32⟩
  | .hbm, ⟨57, _⟩ => ⟨S16x4x32x128x128, .f32⟩
  | .hbm, ⟨58, _⟩ => ⟨S4x32x128x16x128, .f32⟩
  | .hbm, ⟨59, _⟩ => ⟨S16x128, .f32⟩
  | .hbm, ⟨60, _⟩ => ⟨S128x16, .f32⟩
  | .hbm, ⟨61, _⟩ => ⟨S128x16x1, .f32⟩
  | .hbm, ⟨62, _⟩ => ⟨S1x1x128x16x1, .f32⟩
  | .hbm, ⟨63, _⟩ => ⟨S4x32x128x16x128, .f32⟩
  | .hbm, ⟨64, _⟩ => ⟨S4x32x128x16x128, .f32⟩
  | .hbm, ⟨65, _⟩ => ⟨S4x4096x2048, .f32⟩
  | .hbm, ⟨66, _⟩ => ⟨S4x4096x2048, .f32⟩
  | .hbm, ⟨67, _⟩ => ⟨S4x4096x2048, .bf16⟩
  | .hbm, ⟨68, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Proof.Att.Bits.lean ====
/-
  The integer comparisons that both attention programs make of block, query and key numbers, in plain numbers.
-/
module

public import Idealize.ShloMosaic.Lib.Pointwise

@[expose] public section

set_option maxRecDepth 16384

noncomputable section

namespace Cert.AttBits

open Idealize.ShloMosaic

/-- The band of keys that query `r` of a block sees, of the 256 that end with its block. -/
theorem band (r : Fin 128) (k : Fin 256) : IntOp.andi
      (IntOp.cmpi .sge (IntOp.subi (IntOp.addi (BitVec.ofNat 32 r.val) 128#32) (BitVec.ofNat 32 k.val)) 0#32)
      (IntOp.cmpi .slt (IntOp.subi (IntOp.addi (BitVec.ofNat 32 r.val) 128#32) (BitVec.ofNat 32 k.val)) 128#32) = 1#1 ↔
      r.val < k.val ∧ k.val ≤ r.val + 128 := by
  have e : ∀ d : Fin 384, IntOp.andi (IntOp.cmpi .sge (IntOp.subi (BitVec.ofNat 32 d.val) 256#32) 0#32)
      (IntOp.cmpi .slt (IntOp.subi (BitVec.ofNat 32 d.val) 256#32) 128#32) = 1#1 ↔ 256 ≤ d.val ∧ d.val < 384 := by
    decide +kernel
  have e1 : IntOp.subi (IntOp.addi (BitVec.ofNat 32 r.val) 128#32) (BitVec.ofNat 32 k.val) =
      IntOp.subi (BitVec.ofNat 32 (r.val + 128 + 256 - k.val)) 256#32 := by
    have hr := r.isLt
    have hk := k.isLt
    unfold IntOp.subi IntOp.addi
    apply BitVec.eq_of_toNat_eq
    simp only [BitVec.toNat_sub, BitVec.toNat_add, BitVec.toNat_ofNat]
    omega
  rw [e1]
  by_cases h : r.val + 384 - k.val < 384
  · refine (e ⟨r.val + 384 - k.val, h⟩).trans ?_
    simp only
    omega
  · have f : ∀ d : Fin 128, ¬ IntOp.andi (IntOp.cmpi .sge (IntOp.subi (BitVec.ofNat 32 (384 + d.val)) 256#32) 0#32)
      (IntOp.cmpi .slt (IntOp.subi (BitVec.ofNat 32 (384 + d.val)) 256#32) 128#32) = 1#1 := by decide +kernel
    have hd : r.val + 384 - k.val = 384 + (r.val - k.val) := by omega
    have := f ⟨r.val - k.val, by omega⟩
    simp only [← hd] at this
    constructor
    · intro h'; exact absurd h' this
    · intro h'; omega

/-- A key's position in its sequence is not negative, unless its block is the sequence's first and the key before it. -/
theorem position (b : Fin 32) (k : Fin 256) :
    IntOp.cmpi .sge (IntOp.addi (IntOp.muli (IntOp.subi (BitVec.ofNat 32 b.val) 1#32) 128#32) (BitVec.ofNat 32 k.val)) 0#32 = 1#1 ↔
      128 ≤ k.val ∨ b.val ≠ 0 := by
  have e : ∀ (b : Fin 32) (k : Fin 256),
      (IntOp.cmpi .sge (IntOp.addi (IntOp.muli (IntOp.subi (BitVec.ofNat 32 b.val) 1#32) 128#32) (BitVec.ofNat 32 k.val)) 0#32 = 1#1 ↔
        128 ≤ k.val ∨ b.val ≠ 0) := by decide +kernel
  exact e b k

end Cert.AttBits

end
-- ==== Proof.Att.Core.lean ====
/-
  One row of sliding-window attention over the extended reals, two ways, and that the two agree.

  The kernel gives the sink the column of a key no query sees, divides the weighted values once by the sum of the
  weights; the reference masks every unseen key, adds the sink's weight to the denominator, and divides every weight
  before the values are weighted.
-/
module

public import Idealize.ShloMosaic.Lib.Pointwise

@[expose] public section

noncomputable section

namespace Cert.AttRow

open Idealize.ShloMosaic

/-- The scale 128^(-1/2) as both programs write it: the nearest f32. -/
abbrev scale : EReal := Ideal.ofBits .f32 0x3DB504F3#32

variable (q : Fin 128 → EReal) (kk kk' : Fin 256 → Fin 128 → EReal) (v v' : Fin 256 → EReal) (vis : Fin 256 → Prop)
  [DecidablePred vis] (sink : EReal)

/-- The kernel's score of key `k`: the sink at key 0, minus infinity at an unseen key. -/
def sc (k : Fin 256) : EReal :=
  if k.val = 0 then sink else if vis k then (∑ d, q d * kk k d) * scale else ⊥

/-- The reference's score of key `k`: minus infinity at an unseen key. -/
def rs (k : Fin 256) : EReal := if vis k then (∑ d, q d * kk k d) * scale else ⊥

/-- The kernel's result entry. -/
def kerRow : EReal :=
  Ideal.div
    (∑ k, Ideal.exp (sc q kk vis sink k - Finset.univ.fold max ⊥ (sc q kk vis sink)) * (if k.val = 0 then 0 else v k))
    (∑ k, Ideal.exp (sc q kk vis sink k - Finset.univ.fold max ⊥ (sc q kk vis sink)))

/-- The reference's greatest score, the sink among them. -/
def refMax : EReal := max (Finset.univ.fold max ⊥ (rs q kk vis)) sink

/-- The reference's result entry. -/
def refRow : EReal :=
  ∑ k, v k * Ideal.div (Ideal.exp (rs q kk vis k - refMax q kk vis sink))
    ((∑ k', Ideal.exp (rs q kk vis k' - refMax q kk vis sink)) + Ideal.exp (sink - refMax q kk vis sink))

theorem fold_max_eq_sup (f : Fin 256 → EReal) : Finset.univ.fold max ⊥ f = Finset.univ.sup f := rfl

/-- A finite sum of real numbers, taken among the reals or the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum times a nonnegative finite number, term by term. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The two greatest scores agree: key 0 is never seen, and the kernel keeps the sink there. -/
theorem max_eq (h0 : ∀ k : Fin 256, vis k → k.val ≠ 0) (hk : ∀ k, vis k → kk k = kk' k) :
    refMax q kk' vis sink = Finset.univ.fold max ⊥ (sc q kk vis sink) := by
  unfold refMax
  rw [fold_max_eq_sup, fold_max_eq_sup]
  apply le_antisymm
  · refine max_le (Finset.sup_le fun k _ => ?_) ?_
    · by_cases hv : vis k
      · have e : rs q kk' vis k = sc q kk vis sink k := by simp only [rs, sc, if_pos hv, if_neg (h0 k hv), hk k hv]
        rw [e]; exact Finset.le_sup (Finset.mem_univ k)
      · rw [rs, if_neg hv]; exact bot_le
    · have e : sc q kk vis sink (0 : Fin 256) = sink := by simp [sc]
      calc sink = sc q kk vis sink 0 := e.symm
        _ ≤ _ := Finset.le_sup (Finset.mem_univ _)
  · refine Finset.sup_le fun k _ => ?_
    unfold sc
    split
    · exact le_max_right _ _
    · split
      · rename_i _ hv
        refine le_trans (le_of_eq ?_) (le_trans (Finset.le_sup (Finset.mem_univ k)) (le_max_left _ _))
        simp only [rs, if_pos hv, hk k hv]
      · exact bot_le

/-- The two rows agree, when key 0 is not seen, the arrays agree at the seen keys, and the seen keys' scores and the
    sink are finite. -/
theorem kerRow_eq_refRow (h0 : ∀ k : Fin 256, vis k → k.val ≠ 0) (hk : ∀ k, vis k → kk k = kk' k)
    (hv : ∀ k, vis k → v k = v' k) (hs : ∃ x : ℝ, sink = x) (hf : ∀ k, vis k → ∃ x : ℝ, (∑ d, q d * kk k d) * scale = x) :
    kerRow q kk v vis sink = refRow q kk' v' vis sink := by
  obtain ⟨σ, rfl⟩ := hs
  have hM := max_eq q kk kk' vis (σ : EReal) h0 hk
  -- the greatest score is a real number
  have hreal : ∃ μ : ℝ, Finset.univ.fold max ⊥ (sc q kk vis (σ : EReal)) = μ := by
    have hlt : Finset.univ.sup (sc q kk vis (σ : EReal)) < ⊤ := by
      refine (Finset.sup_lt_iff (bot_lt_top)).mpr fun k _ => ?_
      unfold sc
      split
      · exact EReal.coe_lt_top σ
      · split
        · rename_i _ h; obtain ⟨x, hx⟩ := hf k h; rw [hx]; exact EReal.coe_lt_top x
        · exact bot_lt_top
    have hgt : ⊥ < Finset.univ.sup (sc q kk vis (σ : EReal)) := by
      refine lt_of_lt_of_le (EReal.bot_lt_coe σ) ?_
      have e : sc q kk vis (σ : EReal) (0 : Fin 256) = σ := by simp [sc]
      calc (σ : EReal) = sc q kk vis σ 0 := e.symm
        _ ≤ _ := Finset.le_sup (Finset.mem_univ _)
    rw [fold_max_eq_sup]
    exact ⟨_, (EReal.coe_toReal hlt.ne hgt.ne').symm⟩
  obtain ⟨μ, hμ⟩ := hreal
  -- every weight is a nonnegative real number, the sink's a positive one
  have hp : ∀ k, ∃ x : ℝ, 0 ≤ x ∧ Ideal.exp (sc q kk vis (σ : EReal) k - μ) = x ∧ (k.val = 0 → 0 < x) ∧
      (k.val ≠ 0 → ¬ vis k → x = 0) := by
    intro k
    unfold sc
    split
    · rename_i hk0
      refine ⟨Real.exp (σ - μ), (Real.exp_pos _).le, ?_, fun _ => Real.exp_pos _, fun h => absurd hk0 h⟩
      rw [← EReal.coe_sub]; rfl
    · rename_i hk0
      split
      · rename_i h
        obtain ⟨x, hx⟩ := hf k h
        refine ⟨Real.exp (x - μ), (Real.exp_pos _).le, ?_, fun h => absurd h hk0, fun _ h' => absurd h h'⟩
        rw [hx, ← EReal.coe_sub]; rfl
      · refine ⟨0, le_rfl, ?_, fun h => absurd h hk0, fun _ _ => rfl⟩
        rw [sub_eq_add_neg, EReal.bot_add]; rfl
  choose p hp0 hpe hpp hpz using hp
  have hpr : ∀ k, Ideal.exp (rs q kk' vis k - μ) = if k.val = 0 then 0 else (p k : EReal) := by
    intro k
    by_cases hvk : vis k
    · rw [if_neg (h0 k hvk), ← hpe k, rs, sc, if_pos hvk, if_neg (h0 k hvk), if_pos hvk, hk k hvk]
    · have e : Ideal.exp (rs q kk' vis k - μ) = 0 := by
        rw [rs, if_neg hvk, sub_eq_add_neg, EReal.bot_add]; rfl
      rw [e]
      split
      · rfl
      · rename_i hk0; rw [hpz k hk0 hvk]; rfl
  have hps : Ideal.exp ((σ : EReal) - μ) = p 0 := by
    rw [← hpe 0]; simp [sc]
  have hpos : 0 < ∑ k, p k := lt_of_lt_of_le (hpp 0 rfl) (Finset.single_le_sum (fun k _ => hp0 k) (Finset.mem_univ 0))
  have hden : (∑ k, Ideal.exp (rs q kk' vis k - μ)) + Ideal.exp ((σ : EReal) - μ) = ((∑ k, p k : ℝ) : EReal) := by
    rw [hps, coe_sum]
    simp only [hpr]
    rw [← Finset.sum_erase_add (s := Finset.univ) (f := fun k => if k.val = 0 then (0 : EReal) else (p k : EReal)) (a := 0)
      (Finset.mem_univ _), ← Finset.sum_erase_add (s := Finset.univ) (f := fun k => (p k : EReal)) (a := 0) (Finset.mem_univ _)]
    have e : ∑ x ∈ Finset.univ.erase (0 : Fin 256), (if x.val = 0 then (0 : EReal) else (p x : EReal)) =
        ∑ x ∈ Finset.univ.erase (0 : Fin 256), (p x : EReal) := by
      refine Finset.sum_congr rfl fun x hx => ?_
      have hne : x.val ≠ 0 := fun h => (Finset.mem_erase.mp hx).1 (Fin.ext h)
      rw [if_neg hne]
    rw [e]; simp
  have hdiv : ∀ x : EReal, Ideal.div x ((∑ k, p k : ℝ) : EReal) = x * (((∑ k, p k)⁻¹ : ℝ) : EReal) := by
    intro x
    rw [Ideal.div, if_neg (by exact_mod_cast hpos.ne'), EReal.coe_inv]
  unfold kerRow refRow
  rw [hM, hμ, hden]
  simp only [hpe, hpr]
  rw [show (∑ k, (p k : EReal)) = ((∑ k, p k : ℝ) : EReal) from (coe_sum _ _).symm, hdiv,
    sum_mul_coe _ _ _ (inv_nonneg.mpr hpos.le)]
  refine Finset.sum_congr rfl fun k _ => ?_
  rw [hdiv]
  by_cases hk0 : k.val = 0
  · simp [hk0]
  · rw [if_neg hk0, if_neg hk0]
    by_cases hvk : vis k
    · rw [hv k hvk, mul_comm (p k : EReal), mul_assoc]
    · rw [hpz k hk0 hvk]; simp

end Cert.AttRow

end
-- ==== Proof.Att.Block.lean ====
/-
  One block of the attention kernel's body: 128 queries of the four heads that share a key head, against 256 keys.
  The kernel writes these operations out eight times (once per block of rows it holds); here they are stated once, for
  any block, and read entry by entry over the extended reals.
-/
module

public import Idealize.ShloMosaic.Lib.Pointwise
public import Idealize.ShloMosaic.Lib.WholeRead
public import proofs.«01_k».proof.Proof.Att.Core
public import proofs.«01_k».proof.Proof.Gen.AttnIdeal.Value

@[expose] public section

set_option maxRecDepth 16384

noncomputable section

namespace Cert.AttnIdeal.Att

open Idealize.ShloMosaic Idealize.ShloMosaic.TcCoe Idealize.ShloMosaic.Tactic
open Cert.AttnIdeal.Gen
open Cert.AttRow

section Generic
variable {F : FTy → Type} [FloatOps F]

/-- The scores of the four heads, one below the other: queries times keys. -/
def scores (q0 q1 q2 q3 : FVec F S128x128 .bf16) (kk : FVec F S256x128 .bf16) : FVec F S512x256 .f32 :=
  matmul dot_S512x128_S256x128_S512x256_1_1_0_0_n_n none
    (concatenate S512x128 0 [⟨S128x128, q0⟩, ⟨S128x128, q1⟩, ⟨S128x128, q2⟩, ⟨S128x128, q3⟩]
      concatenates_S128x128_S128x128_S128x128_S128x128_S512x128_d0)
    kk (constant S512x256 .f32 0x00000000#32)

/-- One head's masked scores: column 0 holds the sink, an invisible key minus infinity. -/
def masked (s : FVec F S512x256 .f32) (off : Fin 2 → Nat) (h : S512x256.Slices off S128x256) (valid : IVec S128x256 1)
    (sink : F .f32) : FVec F S128x256 .f32 :=
  select k0_pay7 (broadcast S128x256 sink)
    (select valid
      (mulf (extractStridedSlice S128x256 off s h) (broadcast S128x256 (Scalar.ofBits .f32 0x3DB504F3#32)))
      (broadcast S128x256 (Scalar.ofBits .f32 0xFF800000#32)))

/-- One head's weights: the exponentials of the masked scores less their row's greatest. -/
def weights (x : FVec F S128x256 .f32) : FVec F S128x256 .bf16 :=
  truncf .bf16 (exp (subf x (broadcastTo S128x256 (shapeCast S128x1
    (multiReduction .maximumf [1] S128 x 0xFF800000#32 reduces_S128x256_S128 (.inl rfl) rfl)
    shapeCasts_S128_S128x1) broadcasts_S128x1_S128x256))) bitsLt_bf16_f32

/-- The values with their row 0 cleared, beside a block of ones. -/
def valuesOnes (vv : FVec F S256x128 .bf16) : FVec F S256x256 .bf16 :=
  concatenate S256x256 1 [⟨S256x128, select
      (cmpi .eq (iota .tc S256x128 32 [0] iota_S256x128_d0_w32) (broadcast S256x128 0#32))
      (broadcast S256x128 (Scalar.ofBits .bf16 0x0000#16)) vv⟩, ⟨S256x128, k0_pay8⟩]
    concatenates_S256x128_S256x128_S256x256_d1

/-- The four heads' results, one below the other: weighted values over the sum of the weights. -/
def results (p0 p1 p2 p3 : FVec F S128x256 .bf16) (vo : FVec F S256x256 .bf16) : FVec F S512x128 .f32 :=
  let o : FVec F S512x256 .f32 := matmul dot_S512x256_S256x256_S512x256_1_0_0_1_n_n none
    (concatenate S512x256 0 [⟨S128x256, p0⟩, ⟨S128x256, p1⟩, ⟨S128x256, p2⟩, ⟨S128x256, p3⟩]
      concatenates_S128x256_S128x256_S128x256_S128x256_S512x256_d0)
    vo (constant S512x256 .f32 0x00000000#32)
  divf (extractStridedSlice S512x128 ![0, 0] o slices_S512x256_o0_0_S512x128)
    (extractStridedSlice S512x128 ![0, 128] o slices_S512x256_o0_128_S512x128)

/-- The whole block: what the kernel divides out for 128 queries of four heads. -/
def block (valid : IVec S128x256 1) (q0 q1 q2 q3 : FVec F S128x128 .bf16) (kk vv : FVec F S256x128 .bf16)
    (s0 s1 s2 s3 : F .f32) : FVec F S512x128 .f32 :=
  results
    (weights (masked (scores q0 q1 q2 q3 kk) ![0, 0] slices_S512x256_o0_0_S128x256 valid s0))
    (weights (masked (scores q0 q1 q2 q3 kk) ![128, 0] slices_S512x256_o128_0_S128x256 valid s1))
    (weights (masked (scores q0 q1 q2 q3 kk) ![256, 0] slices_S512x256_o256_0_S128x256 valid s2))
    (weights (masked (scores q0 q1 q2 q3 kk) ![384, 0] slices_S512x256_o384_0_S128x256 valid s3))
    (valuesOnes vv)

/-- The rows of the block that are one head's, as they are stored. -/
def head (off : Fin 2 → Nat) (h : S512x128.Slices off S128x128) (x : FVec F S512x128 .f32) : FVec F S128x128 .bf16 :=
  truncf .bf16 (extractStridedSlice S128x128 off x h) bitsLt_bf16_f32

end Generic

theorem neg_inf : Ideal.ofBits .f32 0xFF800000#32 = ⊥ := by simp [Ideal.ofBits, Ideal.ieee]

/-- The word of a small number is zero just when the number is. -/
theorem select_zero {α : Type} (k : Nat) (hk : k < 4294967296) (a b : α) :
    Scalar.select (IntOp.cmpi .eq (BitVec.ofNat 32 k) 0#32) a b = if k = 0 then a else b := by
  unfold Scalar.select IntOp.cmpi
  by_cases h : k = 0
  · subst h; simp
  · have : (BitVec.ofNat 32 k == 0#32) = false := by
      rw [beq_eq_false_iff_ne]; intro e
      have := congrArg BitVec.toNat e
      simp at this; omega
    rw [this, if_neg h]; simp

/-- A head's weights, entry by entry. -/
theorem weights_apply (x : FVec Ideal S128x256 .f32) (r : Fin 128) (k : Fin 256) :
    weights x (ix2 r k) = Ideal.exp (x (ix2 r k) - Finset.univ.fold max ⊥ fun k' : Fin 256 => x (ix2 r k')) := by
  pointwise [weights]
  rw [neg_inf]

/-- A head's masked scores, entry by entry. -/
theorem masked_apply (s : FVec Ideal S512x256 .f32) (g : Nat) (h : S512x256.Slices ![g, 0] S128x256) (hg : g + 128 ≤ 512)
    (valid : IVec S128x256 1) (sink : Ideal .f32) (r : Fin 128) (k : Fin 256) :
    masked s ![g, 0] h valid sink (ix2 r k) =
      if k.val = 0 then sink else if valid (ix2 r k) = 1#1 then s (ix2 ⟨g + r.val, by omega⟩ k) * scale else ⊥ := by
  pointwise [masked, k0_pay7]
  rw [select_zero _ (by omega), neg_inf]
  rfl

/-- The scores of head 0, entry by entry; -/
theorem scores_apply0 (q0 q1 q2 q3 : FVec Ideal S128x128 .bf16) (kk : FVec Ideal S256x128 .bf16) (r : Fin 128) (k : Fin 256) :
    scores q0 q1 q2 q3 kk (ix2 ⟨0 + r.val, by omega⟩ k) = ∑ d : Fin 128, q0 (ix2 r d) * kk (ix2 k d) := by
  pointwise [scores]

/-- … of head 1; -/
theorem scores_apply1 (q0 q1 q2 q3 : FVec Ideal S128x128 .bf16) (kk : FVec Ideal S256x128 .bf16) (r : Fin 128) (k : Fin 256) :
    scores q0 q1 q2 q3 kk (ix2 ⟨128 + r.val, by omega⟩ k) = ∑ d : Fin 128, q1 (ix2 r d) * kk (ix2 k d) := by
  pointwise [scores]

/-- … of head 2; -/
theorem scores_apply2 (q0 q1 q2 q3 : FVec Ideal S128x128 .bf16) (kk : FVec Ideal S256x128 .bf16) (r : Fin 128) (k : Fin 256) :
    scores q0 q1 q2 q3 kk (ix2 ⟨256 + r.val, by omega⟩ k) = ∑ d : Fin 128, q2 (ix2 r d) * kk (ix2 k d) := by
  pointwise [scores]
  simp only [dif_neg (show ¬ 256 + r.val < 128 by omega), dif_neg (show ¬ 256 + r.val - 128 < 128 by omega),
    dif_pos r.isLt, show 256 + r.val - 128 - 128 = r.val by omega, Fin.eta]

/-- … of head 3. -/
theorem scores_apply3 (q0 q1 q2 q3 : FVec Ideal S128x128 .bf16) (kk : FVec Ideal S256x128 .bf16) (r : Fin 128) (k : Fin 256) :
    scores q0 q1 q2 q3 kk (ix2 ⟨384 + r.val, by omega⟩ k) = ∑ d : Fin 128, q3 (ix2 r d) * kk (ix2 k d) := by
  pointwise [scores]
  simp only [dif_neg (show ¬ 384 + r.val < 128 by omega), dif_neg (show ¬ 384 + r.val - 128 < 128 by omega),
    dif_neg (show ¬ 384 + r.val - 128 - 128 < 128 by omega), show 384 + r.val - 128 - 128 - 128 = r.val by omega, Fin.eta]

/-- The row of weights and the column of values an entry of the result is made of. -/
def entry (p : Fin 256 → EReal) (v : Fin 256 → EReal) : EReal :=
  Ideal.div (∑ k, p k * (if k.val = 0 then 0 else v k)) (∑ k, p k)

theorem entry_of_select (p v : Fin 256 → EReal) :
    Ideal.div (∑ x, Scalar.select (IntOp.cmpi .eq (BitVec.ofNat 32 x.val) 0#32) 0 (p x * v x)) (∑ x, p x) = entry p v := by
  unfold entry
  congr 1
  refine Finset.sum_congr rfl fun k _ => ?_
  rw [select_zero _ (by omega)]
  split <;> simp

/-- Head 0's results, entry by entry; -/
theorem results_apply0 (p0 p1 p2 p3 : FVec Ideal S128x256 .bf16) (vv : FVec Ideal S256x128 .bf16) (r : Fin 128) (d : Fin 128) :
    results p0 p1 p2 p3 (valuesOnes vv) (ix2 ⟨0 + r.val, by omega⟩ d) =
      entry (fun k => p0 (ix2 r k)) (fun k => vv (ix2 k d)) := by
  pointwise [results, valuesOnes, k0_pay8]
  exact entry_of_select (fun k => p0 (ix2 r k)) (fun k => vv (ix2 k d))

/-- … head 1's; -/
theorem results_apply1 (p0 p1 p2 p3 : FVec Ideal S128x256 .bf16) (vv : FVec Ideal S256x128 .bf16) (r : Fin 128) (d : Fin 128) :
    results p0 p1 p2 p3 (valuesOnes vv) (ix2 ⟨128 + r.val, by omega⟩ d) =
      entry (fun k => p1 (ix2 r k)) (fun k => vv (ix2 k d)) := by
  pointwise [results, valuesOnes, k0_pay8]
  exact entry_of_select (fun k => p1 (ix2 r k)) (fun k => vv (ix2 k d))

/-- … head 2's; -/
theorem results_apply2 (p0 p1 p2 p3 : FVec Ideal S128x256 .bf16) (vv : FVec Ideal S256x128 .bf16) (r : Fin 128) (d : Fin 128) :
    results p0 p1 p2 p3 (valuesOnes vv) (ix2 ⟨256 + r.val, by omega⟩ d) =
      entry (fun k => p2 (ix2 r k)) (fun k => vv (ix2 k d)) := by
  pointwise [results, valuesOnes, k0_pay8]
  simp only [dif_neg (show ¬ 256 + r.val < 128 by omega), dif_neg (show ¬ 256 + r.val - 128 < 128 by omega),
    dif_pos r.isLt, show 256 + r.val - 128 - 128 = r.val by omega, Fin.eta]
  exact entry_of_select (fun k => p2 (ix2 r k)) (fun k => vv (ix2 k d))

/-- … head 3's. -/
theorem results_apply3 (p0 p1 p2 p3 : FVec Ideal S128x256 .bf16) (vv : FVec Ideal S256x128 .bf16) (r : Fin 128) (d : Fin 128) :
    results p0 p1 p2 p3 (valuesOnes vv) (ix2 ⟨384 + r.val, by omega⟩ d) =
      entry (fun k => p3 (ix2 r k)) (fun k => vv (ix2 k d)) := by
  pointwise [results, valuesOnes, k0_pay8]
  simp only [dif_neg (show ¬ 384 + r.val < 128 by omega), dif_neg (show ¬ 384 + r.val - 128 < 128 by omega),
    dif_neg (show ¬ 384 + r.val - 128 - 128 < 128 by omega), show 384 + r.val - 128 - 128 - 128 = r.val by omega, Fin.eta]
  exact entry_of_select (fun k => p3 (ix2 r k)) (fun k => vv (ix2 k d))

/-- What a head stores, entry by entry. -/
theorem head_apply (g : Nat) (h : S512x128.Slices ![g, 0] S128x128) (hg : g + 128 ≤ 512) (x : FVec Ideal S512x128 .f32)
    (r d : Fin 128) : head ![g, 0] h x (ix2 r d) = x (ix2 ⟨g + r.val, by omega⟩ d) := by
  pointwise [head]

/-- The weights of a head's row are the row's of `Cert.AttRow`. -/
theorem entry_eq_kerRow (x : FVec Ideal S128x256 .f32) (q : Fin 128 → EReal) (kk : Fin 256 → Fin 128 → EReal)
    (v : Fin 256 → EReal) (vis : Fin 256 → Prop) [DecidablePred vis] (sink : EReal) (r : Fin 128)
    (hx : ∀ k, x (ix2 r k) = sc q kk vis sink k) :
    entry (fun k => weights x (ix2 r k)) v = kerRow q kk v vis sink := by
  simp only [weights_apply, hx]
  rfl

variable (valid : IVec S128x256 1) (q0 q1 q2 q3 : FVec Ideal S128x128 .bf16) (kk vv : FVec Ideal S256x128 .bf16)
    (s0 s1 s2 s3 : Ideal .f32) (r d : Fin 128)

/-- What the block stores for head 0; -/
theorem block_apply0 (h : S512x128.Slices ![0, 0] S128x128) :
    head ![0, 0] h (block valid q0 q1 q2 q3 kk vv s0 s1 s2 s3) (ix2 r d) =
      kerRow (fun e => q0 (ix2 r e)) (fun k e => kk (ix2 k e)) (fun k => vv (ix2 k d)) (fun k => valid (ix2 r k) = 1#1) s0 := by
  rw [head_apply _ _ (by omega), block, results_apply0]
  refine entry_eq_kerRow _ _ _ _ _ _ _ fun k => ?_
  rw [masked_apply _ _ _ (by omega), scores_apply0]; rfl

/-- … for head 1; -/
theorem block_apply1 (h : S512x128.Slices ![128, 0] S128x128) :
    head ![128, 0] h (block valid q0 q1 q2 q3 kk vv s0 s1 s2 s3) (ix2 r d) =
      kerRow (fun e => q1 (ix2 r e)) (fun k e => kk (ix2 k e)) (fun k => vv (ix2 k d)) (fun k => valid (ix2 r k) = 1#1) s1 := by
  rw [head_apply _ _ (by omega), block, results_apply1]
  refine entry_eq_kerRow _ _ _ _ _ _ _ fun k => ?_
  rw [masked_apply _ _ _ (by omega), scores_apply1]; rfl

/-- … for head 2; -/
theorem block_apply2 (h : S512x128.Slices ![256, 0] S128x128) :
    head ![256, 0] h (block valid q0 q1 q2 q3 kk vv s0 s1 s2 s3) (ix2 r d) =
      kerRow (fun e => q2 (ix2 r e)) (fun k e => kk (ix2 k e)) (fun k => vv (ix2 k d)) (fun k => valid (ix2 r k) = 1#1) s2 := by
  rw [head_apply _ _ (by omega), block, results_apply2]
  refine entry_eq_kerRow _ _ _ _ _ _ _ fun k => ?_
  rw [masked_apply _ _ _ (by omega), scores_apply2]; rfl

/-- … for head 3. -/
theorem block_apply3 (h : S512x128.Slices ![384, 0] S128x128) :
    head ![384, 0] h (block valid q0 q1 q2 q3 kk vv s0 s1 s2 s3) (ix2 r d) =
      kerRow (fun e => q3 (ix2 r e)) (fun k e => kk (ix2 k e)) (fun k => vv (ix2 k d)) (fun k => valid (ix2 r k) = 1#1) s3 := by
  rw [head_apply _ _ (by omega), block, results_apply3]
  refine entry_eq_kerRow _ _ _ _ _ _ _ fun k => ?_
  rw [masked_apply _ _ _ (by omega), scores_apply3]; rfl

end Cert.AttnIdeal.Att

end
-- ==== Proof.Att.Pieces.lean ====
/-
  What the attention kernel's body leaves in its staged block of results, entry by entry, from the staged blocks it
  reads. Its 32 stores are one head's 128 rows each; each is shown to be the same function of the block's coordinates.
-/
module

public import proofs.«01_k».proof.Proof.Att.Bits
public import proofs.«01_k».proof.Proof.Att.Block

@[expose] public section

set_option maxRecDepth 16384

noncomputable section

namespace Cert.AttnIdeal.Att

open Idealize.ShloMosaic Idealize.ShloMosaic.TcCoe Idealize.ShloMosaic.Tactic
open Cert.AttnIdeal.Gen
open Cert.AttRow

/-- Whether query `r` of block `n` (of the eight a staged block holds) sees key `k` of the 256 before it: the band, and
    nothing before its sequence's first key. -/
abbrev vis (i : grid0.Coords) (n r k : Nat) : Prop :=
  (r < k ∧ k ≤ r + 128) ∧ (n ≠ 0 ∨ 128 ≤ k ∨ (i 0).val % 4 ≠ 0)

/-- Row `k` of the 256 before block `n`'s end: of the staged block, or of the 128 rows before it. -/
def keyAt (x : FVec Ideal S1024x128 .bf16) (p : FVec Ideal S128x128 .bf16) (n : Fin 8) (k : Fin 256) (e : Fin 128) : EReal :=
  if h : n.val * 128 + k.val < 128 then p (ix2 ⟨n.val * 128 + k.val, h⟩ e)
  else x (ix2 ⟨n.val * 128 + k.val - 128, by have := n.isLt; have := k.isLt; omega⟩ e)

/-- The sink of head `g` of the grid point's four. -/
def sinkIx (i : grid0.Coords) (g : Fin 4) : S16.Idx :=
  ix1 ⟨(i 1).val * 4 + g.val, by have : (i 1).val < 4 := (i 1).isLt; have := g.isLt; omega⟩

/-- The result entry at row `r` of block `n`, column `d` of head `g`. -/
def valAt (i : grid0.Coords) (x0 : FVec Ideal S16 .f32) (x1 : FVec Ideal S1024x512 .bf16) (x2 : FVec Ideal S1024x128 .bf16)
    (x3 : FVec Ideal S128x128 .bf16) (x4 : FVec Ideal S1024x128 .bf16) (x5 : FVec Ideal S128x128 .bf16)
    (n : Fin 8) (r : Fin 128) (g : Fin 4) (d : Fin 128) : EReal :=
  kerRow
    (fun e => x1 (ix2 ⟨n.val * 128 + r.val, by omega⟩ ⟨g.val * 128 + e.val, by omega⟩))
    (fun k e => keyAt x2 x3 n k e) (fun k => keyAt x4 x5 n k d) (fun k => vis i n r k)
    (x0 (sinkIx i g))

/-- The whole block of results. -/
def blockVal (i : grid0.Coords) (x0 : FVec Ideal S16 .f32) (x1 : FVec Ideal S1024x512 .bf16) (x2 : FVec Ideal S1024x128 .bf16)
    (x3 : FVec Ideal S128x128 .bf16) (x4 : FVec Ideal S1024x128 .bf16) (x5 : FVec Ideal S128x128 .bf16) :
    FVec Ideal S1024x512 .bf16 := fun y =>
  valAt i x0 x1 x2 x3 x4 x5 ⟨(y 0).val / 128, by have : (y 0).val < 1024 := (y 0).isLt; omega⟩ ⟨(y 0).val % 128, by omega⟩
    ⟨(y 1).val / 128, by have : (y 1).val < 512 := (y 1).isLt; omega⟩ ⟨(y 1).val % 128, by omega⟩

section Pieces

variable (i : grid0.Coords) (x0 : FVec Ideal S16 .f32) (x1 : FVec Ideal S1024x512 .bf16) (x2 : FVec Ideal S1024x128 .bf16)
    (x3 : FVec Ideal S128x128 .bf16) (x4 : FVec Ideal S1024x128 .bf16) (x5 : FVec Ideal S128x128 .bf16)

/-- The block of results read at a stored rectangle. -/
theorem blockVal_emb (n : Fin 8) (g : Fin 4) (lo c : Nat) (hlo : lo = n.val * 128) (hc : c = g.val * 128)
    (inb : ∀ a, (![lo, c] : Fin 2 → Nat) a + (![128, 128] : Fin 2 → Nat) a ≤ S1024x512.size a)
    (x : (Rect.unit (s := S1024x512) ![lo, c] ![128, 128] inb).shape.Idx) :
    blockVal i x0 x1 x2 x3 x4 x5 ((Rect.unit (s := S1024x512) ![lo, c] ![128, 128] inb).emb x) =
      valAt i x0 x1 x2 x3 x4 x5 n (x 0) g (x 1) := by
  subst hlo hc
  have h0 : (x 0).val < 128 := (x 0).isLt
  have h1 : (x 1).val < 128 := (x 1).isLt
  have e0 : (((Rect.unit (s := S1024x512) ![n.val * 128, g.val * 128] ![128, 128] inb).emb x) 0).val = n.val * 128 + 1 * (x 0).val := rfl
  have e1 : (((Rect.unit (s := S1024x512) ![n.val * 128, g.val * 128] ![128, 128] inb).emb x) 1).val = g.val * 128 + 1 * (x 1).val := rfl
  unfold blockVal
  congr 1 <;> refine Fin.ext ?_ <;> simp only [e0, e1] <;> omega

/-- A block's kernel row is the entry of the result, when its operands are the staged blocks' rows. -/
theorem kerRow_eq_valAt (n : Fin 8) (g : Fin 4) (r d : Fin 128) (q : FVec Ideal S128x128 .bf16) (kk vv : FVec Ideal S256x128 .bf16)
    (s : EReal) (valid : IVec S128x256 1)
    (hq : ∀ e, q (ix2 r e) = x1 (ix2 ⟨n.val * 128 + r.val, by omega⟩ ⟨g.val * 128 + e.val, by omega⟩))
    (hk : ∀ k e, kk (ix2 k e) = keyAt x2 x3 n k e) (hv : ∀ k e, vv (ix2 k e) = keyAt x4 x5 n k e)
    (hvis : ∀ k, valid (ix2 r k) = 1#1 ↔ vis i n r k)
    (hs : s = x0 (sinkIx i g)) :
    kerRow (fun e => q (ix2 r e)) (fun k e => kk (ix2 k e)) (fun k => vv (ix2 k d)) (fun k => valid (ix2 r k) = 1#1) s =
      valAt i x0 x1 x2 x3 x4 x5 n r g d := by
  have e1 := funext hq
  have e2 := funext fun k => funext fun e => hk k e
  have e3 := funext fun k => hv k d
  unfold valAt
  rw [← e1, ← e2, ← e3, ← hs]
  have e4 : ∀ k, (if valid (ix2 r k) = 1#1 then (∑ e, q (ix2 r e) * kk (ix2 k e)) * scale else ⊥) =
      if vis i n r k then (∑ e, q (ix2 r e) * kk (ix2 k e)) * scale else (⊥ : EReal) := fun k => if_congr (hvis k) rfl rfl
  have e5 : ∀ s, sc (fun e => q (ix2 r e)) (fun k e => kk (ix2 k e)) (fun k => valid (ix2 r k) = 1#1) s =
      sc (fun e => q (ix2 r e)) (fun k e => kk (ix2 k e)) (fun k => vis i n r k) s := fun s => funext fun k => by
    unfold sc; rw [e4]
  unfold kerRow
  rw [e5]

/-- The band, as the kernel computes it. -/
theorem pay5_apply (r : Fin 128) (k : Fin 256) : k0_pay5 (ix2 r k) = 1#1 ↔ r.val < k.val ∧ k.val ≤ r.val + 128 := by
  pointwise [k0_pay5]
  exact AttBits.band r k

/-- The bit that is set unless a grid row starts a sequence. -/
def later (a : BitVec 32) : BitVec 1 :=
  let v1 : BitVec 32 := Scalar.select (Scalar.cmpi .eq 4#32 0#32) 1#32 4#32
  let v2 : BitVec 32 := Scalar.remsi a v1
  Scalar.xori (Scalar.cmpi .eq (Scalar.select (Scalar.andi (Scalar.xori (Scalar.cmpi .slt v2 0#32) (Scalar.cmpi .slt v1 0#32))
    (Scalar.cmpi .ne v2 0#32)) (Scalar.addi v2 v1) v2) 0#32) 1#1

theorem and_or_iff (P Q R : Prop) (a b c : BitVec 1) (ha : a = 1#1 ↔ P) (hb : b = 1#1 ↔ Q) (hc : c = 1#1 ↔ R) :
    IntOp.andi a (IntOp.ori b c) = 1#1 ↔ P ∧ (Q ∨ R) := by
  rw [← ha, ← hb, ← hc]
  have : ∀ a b c : BitVec 1, IntOp.andi a (IntOp.ori b c) = 1#1 ↔ a = 1#1 ∧ (b = 1#1 ∨ c = 1#1) := by decide
  exact this a b c

/-- The band of a sequence's first block, as the kernel computes it. -/
theorem pay6_apply (r : Fin 128) (k : Fin 256) : k0_pay6 i (ix2 r k) = 1#1 ↔ vis i 0 r k := by
  have e : ∀ (a : Fin 16), later (BitVec.ofNat 32 a.val) = 1#1 ↔ a.val % 4 ≠ 0 := by decide +kernel
  have e' : ∀ (k : Fin 256), IntOp.cmpi .sge (BitVec.ofNat 32 k.val) 128#32 = 1#1 ↔ 128 ≤ k.val := by decide +kernel
  pointwise [k0_pay6]
  refine (and_or_iff _ _ _ _ _ _ (pay5_apply r k) (e' k) (e (i 0))).trans ?_
  simp [vis]

end Pieces

section Loads

variable (i : grid0.Coords)

/-- A load of 128 rows of the staged queries. -/
theorem load_q (a : Memref sig .tc .vmem S1024x512 .bf16) (h : a.IsWhole) (x : FVec Ideal S1024x512 .bf16) (n : Fin 8) (g : Fin 4)
    (lo c : Nat) (hlo : lo = n.val * 128) (hc : c = g.val * 128)
    (inb : ∀ a, (![lo, c] : Fin 2 → Nat) a + S128x128.size a ≤ S1024x512.size a) (r e : Fin 128) :
    View.readAt (Elt Ideal) a.view (Rect.unit (s := S1024x512) ![lo, c] S128x128.size inb).toLoadRect (h.unread x) (ix2 r e) =
      x (ix2 ⟨n.val * 128 + r.val, by omega⟩ ⟨g.val * 128 + e.val, by omega⟩) := by
  subst hlo hc
  refine Eq.trans (Memref.IsWhole.readAt_unread (Val := Elt Ideal) h x (Rect.unit (s := S1024x512) ![n.val * 128, g.val * 128] S128x128.size inb).toLoadRect (ix2 r e)) ?_
  refine congrArg x ?_
  refine funext fun a => Fin.ext ?_
  match a with
  | 0 => show n.val * 128 + 1 * r.val = _; rw [Nat.one_mul]; rfl
  | 1 => show g.val * 128 + 1 * e.val = _; rw [Nat.one_mul]; rfl

/-- A load of 256 rows of the staged keys or values. -/
theorem load_k (a : Memref sig .tc .vmem S1024x128 .bf16) (h : a.IsWhole) (x : FVec Ideal S1024x128 .bf16)
    (p : FVec Ideal S128x128 .bf16) (n : Fin 8)
    (lo : Nat) (hn : lo + 128 = n.val * 128)
    (inb : ∀ a, (![lo, 0] : Fin 2 → Nat) a + S256x128.size a ≤ S1024x128.size a) (k : Fin 256) (e : Fin 128) :
    View.readAt (Elt Ideal) a.view (Rect.unit (s := S1024x128) ![lo, 0] S256x128.size inb).toLoadRect (h.unread x) (ix2 k e) =
      keyAt x p n k e := by
  unfold keyAt
  rw [dif_neg (by omega)]
  refine Eq.trans (Memref.IsWhole.readAt_unread (Val := Elt Ideal) h x (Rect.unit (s := S1024x128) ![lo, 0] S256x128.size inb).toLoadRect (ix2 k e)) ?_
  refine congrArg x ?_
  refine funext fun a => Fin.ext ?_
  match a with
  | 0 => show lo + 1 * k.val = n.val * 128 + k.val - 128; omega
  | 1 => show 0 + 1 * e.val = e.val; omega

/-- The first block's keys or values: the 128 rows before the staged block, and its first 128. -/
theorem load_k0 (b : Memref sig .tc .vmem S128x128 .bf16) (hb : b.IsWhole) (p : FVec Ideal S128x128 .bf16)
    (a : Memref sig .tc .vmem S1024x128 .bf16) (h : a.IsWhole) (x : FVec Ideal S1024x128 .bf16)
    (inb : ∀ a, (![0, 0] : Fin 2 → Nat) a + S128x128.size a ≤ S128x128.size a)
    (inb' : ∀ a, (![0, 0] : Fin 2 → Nat) a + S128x128.size a ≤ S1024x128.size a) (k : Fin 256) (e : Fin 128) :
    concatenate S256x128 0
      [⟨S128x128, View.readAt (Elt Ideal) b.view (Rect.unit (s := S128x128) ![0, 0] S128x128.size inb).toLoadRect (hb.unread p)⟩,
        ⟨S128x128, View.readAt (Elt Ideal) a.view (Rect.unit (s := S1024x128) ![0, 0] S128x128.size inb').toLoadRect (h.unread x)⟩]
      concatenates_S128x128_S128x128_S256x128_d0 (ix2 k e) = keyAt x p 0 k e := by
  have hk := k.isLt
  unfold keyAt
  generalize hA : View.readAt (Elt Ideal) b.view (Rect.unit (s := S128x128) ![0, 0] S128x128.size inb).toLoadRect (hb.unread p) = A
  generalize hB : View.readAt (Elt Ideal) a.view (Rect.unit (s := S1024x128) ![0, 0] S128x128.size inb').toLoadRect (h.unread x) = B
  have eA : ∀ (r e : Fin 128), A (ix2 r e) = p (ix2 r e) := by
    intro r e
    subst hA
    refine Eq.trans (Memref.IsWhole.readAt_unread (Val := Elt Ideal) hb p (Rect.unit (s := S128x128) ![0, 0] S128x128.size inb).toLoadRect (ix2 r e)) ?_
    refine congrArg p ?_
    refine funext fun a => Fin.ext ?_
    match a with
    | 0 => show 0 + 1 * r.val = r.val; omega
    | 1 => show 0 + 1 * e.val = e.val; omega
  have eB : ∀ (r e : Fin 128), B (ix2 r e) = x (ix2 ⟨r.val, by omega⟩ e) := by
    intro r e
    subst hB
    refine Eq.trans (Memref.IsWhole.readAt_unread (Val := Elt Ideal) h x (Rect.unit (s := S1024x128) ![0, 0] S128x128.size inb').toLoadRect (ix2 r e)) ?_
    refine congrArg x ?_
    refine funext fun a => Fin.ext ?_
    match a with
    | 0 => show 0 + 1 * r.val = r.val; omega
    | 1 => show 0 + 1 * e.val = e.val; omega
  clear hA hB
  pointwise []
  split
  · exact eA _ _
  · exact eB _ _

/-- A head's sink. -/
theorem load_sink (a : Memref sig .tc .smem S16 .f32) (h : a.IsWhole) (x : FVec Ideal S16 .f32) (g : Fin 4) (w : BitVec 32)
    (hw : w = BitVec.ofNat 32 g.val) (inb : ∀ a, (k0_off1 i w) a + S1.size a ≤ S16.size a)
    (hp : 0 < (Rect.unit (s := S16) (k0_off1 i w) S1.size inb).toLoadRect.shape.numel) :
    View.readAt (Elt Ideal) a.view (Rect.unit (s := S16) (k0_off1 i w) S1.size inb).toLoadRect (h.unread x) (Shape.Idx.first hp) =
      x (sinkIx i g) := by
  subst hw
  refine Eq.trans (Memref.IsWhole.readAt_unread (Val := Elt Ideal) h x (Rect.unit (s := S16) (k0_off1 i (BitVec.ofNat 32 g.val)) S1.size inb).toLoadRect (Shape.Idx.first hp)) ?_
  refine congrArg x ?_
  refine funext fun a => Fin.ext ?_
  match a with
  | 0 =>
    have e : ∀ (i1 : Fin 4) (g : Fin 4), (Scalar.indexCast (Scalar.addi (Scalar.muli (BitVec.ofNat 32 i1.val) 4#32) (BitVec.ofNat 32 g.val))).toNat = i1.val * 4 + g.val := by
      decide +kernel
    exact e (i 1) g

end Loads

end Cert.AttnIdeal.Att

end
-- ==== Proof.Att.Stored.lean ====
/-
  The attention kernel's 32 stores, each read as the one function of the staged block's coordinates, and with them the
  block the body leaves.
-/
module

public import proofs.«01_k».proof.Proof.Att.Pieces

@[expose] public section

set_option maxRecDepth 16384

noncomputable section

namespace Cert.AttnIdeal.Att

open Idealize.ShloMosaic Idealize.ShloMosaic.TcCoe Idealize.ShloMosaic.Tactic
open Cert.AttnIdeal.Gen
open Cert.AttRow

section Heads

variable (i : grid0.Coords) (x0 : FVec Ideal S16 .f32) (x1 : FVec Ideal S1024x512 .bf16) (x2 : FVec Ideal S1024x128 .bf16)
    (x3 : FVec Ideal S128x128 .bf16) (x4 : FVec Ideal S1024x128 .bf16) (x5 : FVec Ideal S128x128 .bf16)

/-- Head 0's store, when the operands are the staged blocks' rows. -/
theorem stored0 (n : Fin 8) (lo : Nat) (hlo : lo = n.val * 128) {q0 q1 q2 q3 : FVec Ideal S128x128 .bf16}
    {kk vv : FVec Ideal S256x128 .bf16} {s0 s1 s2 s3 : EReal} {valid : IVec S128x256 1}
    (hvis : ∀ (r : Fin 128) k, valid (ix2 r k) = 1#1 ↔ vis i n r k)
    (hq : ∀ r e : Fin 128, q0 (ix2 r e) = x1 (ix2 ⟨n.val * 128 + r.val, by omega⟩ ⟨(0 : Fin 4).val * 128 + e.val, by omega⟩))
    (hk : ∀ k e, kk (ix2 k e) = keyAt x2 x3 n k e) (hv : ∀ k e, vv (ix2 k e) = keyAt x4 x5 n k e)
    (hs : s0 = x0 (sinkIx i 0))
    {h : S512x128.Slices ![0, 0] S128x128}
    {inb : ∀ a, (![lo, 0] : Fin 2 → Nat) a + (![128, 128] : Fin 2 → Nat) a ≤ S1024x512.size a}
    (x : (Rect.unit (s := S1024x512) ![lo, 0] ![128, 128] inb).shape.Idx) :
    head ![0, 0] h (block valid q0 q1 q2 q3 kk vv s0 s1 s2 s3) x =
      blockVal i x0 x1 x2 x3 x4 x5 ((Rect.unit (s := S1024x512) ![lo, 0] ![128, 128] inb).emb x) := by
  rw [blockVal_emb i x0 x1 x2 x3 x4 x5 n 0 lo 0 hlo rfl inb x]
  have e : x = (ix2 (x 0) (x 1) : S128x128.Idx) := eq_ix2 (n0 := 128) (n1 := 128) x
  refine Eq.trans (congrArg (head ![0, 0] h (block valid q0 q1 q2 q3 kk vv s0 s1 s2 s3)) e) ?_
  refine Eq.trans (block_apply0 valid q0 q1 q2 q3 kk vv s0 s1 s2 s3 (x 0) (x 1) h) ?_
  exact kerRow_eq_valAt i x0 x1 x2 x3 x4 x5 n 0 (x 0) (x 1) q0 kk vv s0 valid (hq (x 0)) hk hv (hvis (x 0)) hs

/-- Head 1's store, when the operands are the staged blocks' rows. -/
theorem stored1 (n : Fin 8) (lo : Nat) (hlo : lo = n.val * 128) {q0 q1 q2 q3 : FVec Ideal S128x128 .bf16}
    {kk vv : FVec Ideal S256x128 .bf16} {s0 s1 s2 s3 : EReal} {valid : IVec S128x256 1}
    (hvis : ∀ (r : Fin 128) k, valid (ix2 r k) = 1#1 ↔ vis i n r k)
    (hq : ∀ r e : Fin 128, q1 (ix2 r e) = x1 (ix2 ⟨n.val * 128 + r.val, by omega⟩ ⟨(1 : Fin 4).val * 128 + e.val, by omega⟩))
    (hk : ∀ k e, kk (ix2 k e) = keyAt x2 x3 n k e) (hv : ∀ k e, vv (ix2 k e) = keyAt x4 x5 n k e)
    (hs : s1 = x0 (sinkIx i 1))
    {h : S512x128.Slices ![128, 0] S128x128}
    {inb : ∀ a, (![lo, 128] : Fin 2 → Nat) a + (![128, 128] : Fin 2 → Nat) a ≤ S1024x512.size a}
    (x : (Rect.unit (s := S1024x512) ![lo, 128] ![128, 128] inb).shape.Idx) :
    head ![128, 0] h (block valid q0 q1 q2 q3 kk vv s0 s1 s2 s3) x =
      blockVal i x0 x1 x2 x3 x4 x5 ((Rect.unit (s := S1024x512) ![lo, 128] ![128, 128] inb).emb x) := by
  rw [blockVal_emb i x0 x1 x2 x3 x4 x5 n 1 lo 128 hlo rfl inb x]
  have e : x = (ix2 (x 0) (x 1) : S128x128.Idx) := eq_ix2 (n0 := 128) (n1 := 128) x
  refine Eq.trans (congrArg (head ![128, 0] h (block valid q0 q1 q2 q3 kk vv s0 s1 s2 s3)) e) ?_
  refine Eq.trans (block_apply1 valid q0 q1 q2 q3 kk vv s0 s1 s2 s3 (x 0) (x 1) h) ?_
  exact kerRow_eq_valAt i x0 x1 x2 x3 x4 x5 n 1 (x 0) (x 1) q1 kk vv s1 valid (hq (x 0)) hk hv (hvis (x 0)) hs

/-- Head 2's store, when the operands are the staged blocks' rows. -/
theorem stored2 (n : Fin 8) (lo : Nat) (hlo : lo = n.val * 128) {q0 q1 q2 q3 : FVec Ideal S128x128 .bf16}
    {kk vv : FVec Ideal S256x128 .bf16} {s0 s1 s2 s3 : EReal} {valid : IVec S128x256 1}
    (hvis : ∀ (r : Fin 128) k, valid (ix2 r k) = 1#1 ↔ vis i n r k)
    (hq : ∀ r e : Fin 128, q2 (ix2 r e) = x1 (ix2 ⟨n.val * 128 + r.val, by omega⟩ ⟨(2 : Fin 4).val * 128 + e.val, by omega⟩))
    (hk : ∀ k e, kk (ix2 k e) = keyAt x2 x3 n k e) (hv : ∀ k e, vv (ix2 k e) = keyAt x4 x5 n k e)
    (hs : s2 = x0 (sinkIx i 2))
    {h : S512x128.Slices ![256, 0] S128x128}
    {inb : ∀ a, (![lo, 256] : Fin 2 → Nat) a + (![128, 128] : Fin 2 → Nat) a ≤ S1024x512.size a}
    (x : (Rect.unit (s := S1024x512) ![lo, 256] ![128, 128] inb).shape.Idx) :
    head ![256, 0] h (block valid q0 q1 q2 q3 kk vv s0 s1 s2 s3) x =
      blockVal i x0 x1 x2 x3 x4 x5 ((Rect.unit (s := S1024x512) ![lo, 256] ![128, 128] inb).emb x) := by
  rw [blockVal_emb i x0 x1 x2 x3 x4 x5 n 2 lo 256 hlo rfl inb x]
  have e : x = (ix2 (x 0) (x 1) : S128x128.Idx) := eq_ix2 (n0 := 128) (n1 := 128) x
  refine Eq.trans (congrArg (head ![256, 0] h (block valid q0 q1 q2 q3 kk vv s0 s1 s2 s3)) e) ?_
  refine Eq.trans (block_apply2 valid q0 q1 q2 q3 kk vv s0 s1 s2 s3 (x 0) (x 1) h) ?_
  exact kerRow_eq_valAt i x0 x1 x2 x3 x4 x5 n 2 (x 0) (x 1) q2 kk vv s2 valid (hq (x 0)) hk hv (hvis (x 0)) hs

/-- Head 3's store, when the operands are the staged blocks' rows. -/
theorem stored3 (n : Fin 8) (lo : Nat) (hlo : lo = n.val * 128) {q0 q1 q2 q3 : FVec Ideal S128x128 .bf16}
    {kk vv : FVec Ideal S256x128 .bf16} {s0 s1 s2 s3 : EReal} {valid : IVec S128x256 1}
    (hvis : ∀ (r : Fin 128) k, valid (ix2 r k) = 1#1 ↔ vis i n r k)
    (hq : ∀ r e : Fin 128, q3 (ix2 r e) = x1 (ix2 ⟨n.val * 128 + r.val, by omega⟩ ⟨(3 : Fin 4).val * 128 + e.val, by omega⟩))
    (hk : ∀ k e, kk (ix2 k e) = keyAt x2 x3 n k e) (hv : ∀ k e, vv (ix2 k e) = keyAt x4 x5 n k e)
    (hs : s3 = x0 (sinkIx i 3))
    {h : S512x128.Slices ![384, 0] S128x128}
    {inb : ∀ a, (![lo, 384] : Fin 2 → Nat) a + (![128, 128] : Fin 2 → Nat) a ≤ S1024x512.size a}
    (x : (Rect.unit (s := S1024x512) ![lo, 384] ![128, 128] inb).shape.Idx) :
    head ![384, 0] h (block valid q0 q1 q2 q3 kk vv s0 s1 s2 s3) x =
      blockVal i x0 x1 x2 x3 x4 x5 ((Rect.unit (s := S1024x512) ![lo, 384] ![128, 128] inb).emb x) := by
  rw [blockVal_emb i x0 x1 x2 x3 x4 x5 n 3 lo 384 hlo rfl inb x]
  have e : x = (ix2 (x 0) (x 1) : S128x128.Idx) := eq_ix2 (n0 := 128) (n1 := 128) x
  refine Eq.trans (congrArg (head ![384, 0] h (block valid q0 q1 q2 q3 kk vv s0 s1 s2 s3)) e) ?_
  refine Eq.trans (block_apply3 valid q0 q1 q2 q3 kk vv s0 s1 s2 s3 (x 0) (x 1) h) ?_
  exact kerRow_eq_valAt i x0 x1 x2 x3 x4 x5 n 3 (x 0) (x 1) q3 kk vv s3 valid (hq (x 0)) hk hv (hvis (x 0)) hs

end Heads

variable (c : Dev nD) (i : grid0.Coords) (arg2 : Memref sig .tc .smem S16 .f32) (harg2 : arg2.IsWhole) (arg3 : Memref sig .tc .vmem S1024x512 .bf16) (harg3 : arg3.IsWhole) (arg4 : Memref sig .tc .vmem S1024x128 .bf16) (harg4 : arg4.IsWhole) (arg5 : Memref sig .tc .vmem S128x128 .bf16) (harg5 : arg5.IsWhole) (arg6 : Memref sig .tc .vmem S1024x128 .bf16) (harg6 : arg6.IsWhole) (arg7 : Memref sig .tc .vmem S128x128 .bf16) (harg7 : arg7.IsWhole) (arg8 : Memref sig .tc .vmem S1024x512 .bf16) (harg8 : arg8.IsWhole)
    (x0 : FVec Ideal S16 .f32) (x1 : FVec Ideal S1024x512 .bf16) (x2 : FVec Ideal S1024x128 .bf16) (x3 : FVec Ideal S128x128 .bf16) (x4 : FVec Ideal S1024x128 .bf16) (x5 : FVec Ideal S128x128 .bf16)

/-- Every store of the body writes the block of results' entries at its own places. -/
theorem stores :
    ∀ pc ∈ (kernelRun0_A (F := Ideal) c i arg2 harg2 arg3 harg3 arg4 harg4 arg5 harg5 arg6 harg6 arg7 harg7 arg8 harg8 x0 x1 x2 x3 x4 x5).1,
      ∀ x, pc.2 x = blockVal i x0 x1 x2 x3 x4 x5 (pc.1.emb x) := by
  unfold kernelRun0_A
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact stored3 (h := slices_S512x128_o384_0_S128x128) i x0 x1 x2 x3 x4 x5 7 896 rfl (fun r k => (pay5_apply r k).trans ⟨fun h => ⟨h, .inl (by decide)⟩, And.left⟩)
      (fun r e => load_q arg3 harg3 x1 7 3 896 384 rfl rfl _ r e) (load_k arg4 harg4 x2 x3 7 768 rfl _)
      (load_k arg6 harg6 x4 x5 7 768 rfl _) (load_sink i arg2 harg2 x0 3 3#32 rfl _ _)
  · exact stored2 (h := slices_S512x128_o256_0_S128x128) i x0 x1 x2 x3 x4 x5 7 896 rfl (fun r k => (pay5_apply r k).trans ⟨fun h => ⟨h, .inl (by decide)⟩, And.left⟩)
      (fun r e => load_q arg3 harg3 x1 7 2 896 256 rfl rfl _ r e) (load_k arg4 harg4 x2 x3 7 768 rfl _)
      (load_k arg6 harg6 x4 x5 7 768 rfl _) (load_sink i arg2 harg2 x0 2 2#32 rfl _ _)
  · exact stored1 (h := slices_S512x128_o128_0_S128x128) i x0 x1 x2 x3 x4 x5 7 896 rfl (fun r k => (pay5_apply r k).trans ⟨fun h => ⟨h, .inl (by decide)⟩, And.left⟩)
      (fun r e => load_q arg3 harg3 x1 7 1 896 128 rfl rfl _ r e) (load_k arg4 harg4 x2 x3 7 768 rfl _)
      (load_k arg6 harg6 x4 x5 7 768 rfl _) (load_sink i arg2 harg2 x0 1 1#32 rfl _ _)
  · exact stored0 (h := slices_S512x128_o0_0_S128x128) i x0 x1 x2 x3 x4 x5 7 896 rfl (fun r k => (pay5_apply r k).trans ⟨fun h => ⟨h, .inl (by decide)⟩, And.left⟩)
      (fun r e => load_q arg3 harg3 x1 7 0 896 0 rfl rfl _ r e) (load_k arg4 harg4 x2 x3 7 768 rfl _)
      (load_k arg6 harg6 x4 x5 7 768 rfl _) (load_sink i arg2 harg2 x0 0 0#32 rfl _ _)
  · exact stored3 (h := slices_S512x128_o384_0_S128x128) i x0 x1 x2 x3 x4 x5 6 768 rfl (fun r k => (pay5_apply r k).trans ⟨fun h => ⟨h, .inl (by decide)⟩, And.left⟩)
      (fun r e => load_q arg3 harg3 x1 6 3 768 384 rfl rfl _ r e) (load_k arg4 harg4 x2 x3 6 640 rfl _)
      (load_k arg6 harg6 x4 x5 6 640 rfl _) (load_sink i arg2 harg2 x0 3 3#32 rfl _ _)
  · exact stored2 (h := slices_S512x128_o256_0_S128x128) i x0 x1 x2 x3 x4 x5 6 768 rfl (fun r k => (pay5_apply r k).trans ⟨fun h => ⟨h, .inl (by decide)⟩, And.left⟩)
      (fun r e => load_q arg3 harg3 x1 6 2 768 256 rfl rfl _ r e) (load_k arg4 harg4 x2 x3 6 640 rfl _)
      (load_k arg6 harg6 x4 x5 6 640 rfl _) (load_sink i arg2 harg2 x0 2 2#32 rfl _ _)
  · exact stored1 (h := slices_S512x128_o128_0_S128x128) i x0 x1 x2 x3 x4 x5 6 768 rfl (fun r k => (pay5_apply r k).trans ⟨fun h => ⟨h, .inl (by decide)⟩, And.left⟩)
      (fun r e => load_q arg3 harg3 x1 6 1 768 128 rfl rfl _ r e) (load_k arg4 harg4 x2 x3 6 640 rfl _)
      (load_k arg6 harg6 x4 x5 6 640 rfl _) (load_sink i arg2 harg2 x0 1 1#32 rfl _ _)
  · exact stored0 (h := slices_S512x128_o0_0_S128x128) i x0 x1 x2 x3 x4 x5 6 768 rfl (fun r k => (pay5_apply r k).trans ⟨fun h => ⟨h, .inl (by decide)⟩, And.left⟩)
      (fun r e => load_q arg3 harg3 x1 6 0 768 0 rfl rfl _ r e) (load_k arg4 harg4 x2 x3 6 640 rfl _)
      (load_k arg6 harg6 x4 x5 6 640 rfl _) (load_sink i arg2 harg2 x0 0 0#32 rfl _ _)
  · exact stored3 (h := slices_S512x128_o384_0_S128x128) i x0 x1 x2 x3 x4 x5 5 640 rfl (fun r k => (pay5_apply r k).trans ⟨fun h => ⟨h, .inl (by decide)⟩, And.left⟩)
      (fun r e => load_q arg3 harg3 x1 5 3 640 384 rfl rfl _ r e) (load_k arg4 harg4 x2 x3 5 512 rfl _)
      (load_k arg6 harg6 x4 x5 5 512 rfl _) (load_sink i arg2 harg2 x0 3 3#32 rfl _ _)
  · exact stored2 (h := slices_S512x128_o256_0_S128x128) i x0 x1 x2 x3 x4 x5 5 640 rfl (fun r k => (pay5_apply r k).trans ⟨fun h => ⟨h, .inl (by decide)⟩, And.left⟩)
      (fun r e => load_q arg3 harg3 x1 5 2 640 256 rfl rfl _ r e) (load_k arg4 harg4 x2 x3 5 512 rfl _)
      (load_k arg6 harg6 x4 x5 5 512 rfl _) (load_sink i arg2 harg2 x0 2 2#32 rfl _ _)
  · exact stored1 (h := slices_S512x128_o128_0_S128x128) i x0 x1 x2 x3 x4 x5 5 640 rfl (fun r k => (pay5_apply r k).trans ⟨fun h => ⟨h, .inl (by decide)⟩, And.left⟩)
      (fun r e => load_q arg3 harg3 x1 5 1 640 128 rfl rfl _ r e) (load_k arg4 harg4 x2 x3 5 512 rfl _)
      (load_k arg6 harg6 x4 x5 5 512 rfl _) (load_sink i arg2 harg2 x0 1 1#32 rfl _ _)
  · exact stored0 (h := slices_S512x128_o0_0_S128x128) i x0 x1 x2 x3 x4 x5 5 640 rfl (fun r k => (pay5_apply r k).trans ⟨fun h => ⟨h, .inl (by decide)⟩, And.left⟩)
      (fun r e => load_q arg3 harg3 x1 5 0 640 0 rfl rfl _ r e) (load_k arg4 harg4 x2 x3 5 512 rfl _)
      (load_k arg6 harg6 x4 x5 5 512 rfl _) (load_sink i arg2 harg2 x0 0 0#32 rfl _ _)
  · exact stored3 (h := slices_S512x128_o384_0_S128x128) i x0 x1 x2 x3 x4 x5 4 512 rfl (fun r k => (pay5_apply r k).trans ⟨fun h => ⟨h, .inl (by decide)⟩, And.left⟩)
      (fun r e => load_q arg3 harg3 x1 4 3 512 384 rfl rfl _ r e) (load_k arg4 harg4 x2 x3 4 384 rfl _)
      (load_k arg6 harg6 x4 x5 4 384 rfl _) (load_sink i arg2 harg2 x0 3 3#32 rfl _ _)
  · exact stored2 (h := slices_S512x128_o256_0_S128x128) i x0 x1 x2 x3 x4 x5 4 512 rfl (fun r k => (pay5_apply r k).trans ⟨fun h => ⟨h, .inl (by decide)⟩, And.left⟩)
      (fun r e => load_q arg3 harg3 x1 4 2 512 256 rfl rfl _ r e) (load_k arg4 harg4 x2 x3 4 384 rfl _)
      (load_k arg6 harg6 x4 x5 4 384 rfl _) (load_sink i arg2 harg2 x0 2 2#32 rfl _ _)
  · exact stored1 (h := slices_S512x128_o128_0_S128x128) i x0 x1 x2 x3 x4 x5 4 512 rfl (fun r k => (pay5_apply r k).trans ⟨fun h => ⟨h, .inl (by decide)⟩, And.left⟩)
      (fun r e => load_q arg3 harg3 x1 4 1 512 128 rfl rfl _ r e) (load_k arg4 harg4 x2 x3 4 384 rfl _)
      (load_k arg6 harg6 x4 x5 4 384 rfl _) (load_sink i arg2 harg2 x0 1 1#32 rfl _ _)
  · exact stored0 (h := slices_S512x128_o0_0_S128x128) i x0 x1 x2 x3 x4 x5 4 512 rfl (fun r k => (pay5_apply r k).trans ⟨fun h => ⟨h, .inl (by decide)⟩, And.left⟩)
      (fun r e => load_q arg3 harg3 x1 4 0 512 0 rfl rfl _ r e) (load_k arg4 harg4 x2 x3 4 384 rfl _)
      (load_k arg6 harg6 x4 x5 4 384 rfl _) (load_sink i arg2 harg2 x0 0 0#32 rfl _ _)
  · exact stored3 (h := slices_S512x128_o384_0_S128x128) i x0 x1 x2 x3 x4 x5 3 384 rfl (fun r k => (pay5_apply r k).trans ⟨fun h => ⟨h, .inl (by decide)⟩, And.left⟩)
      (fun r e => load_q arg3 harg3 x1 3 3 384 384 rfl rfl _ r e) (load_k arg4 harg4 x2 x3 3 256 rfl _)
      (load_k arg6 harg6 x4 x5 3 256 rfl _) (load_sink i arg2 harg2 x0 3 3#32 rfl _ _)
  · exact stored2 (h := slices_S512x128_o256_0_S128x128) i x0 x1 x2 x3 x4 x5 3 384 rfl (fun r k => (pay5_apply r k).trans ⟨fun h => ⟨h, .inl (by decide)⟩, And.left⟩)
      (fun r e => load_q arg3 harg3 x1 3 2 384 256 rfl rfl _ r e) (load_k arg4 harg4 x2 x3 3 256 rfl _)
      (load_k arg6 harg6 x4 x5 3 256 rfl _) (load_sink i arg2 harg2 x0 2 2#32 rfl _ _)
  · exact stored1 (h := slices_S512x128_o128_0_S128x128) i x0 x1 x2 x3 x4 x5 3 384 rfl (fun r k => (pay5_apply r k).trans ⟨fun h => ⟨h, .inl (by decide)⟩, And.left⟩)
      (fun r e => load_q arg3 harg3 x1 3 1 384 128 rfl rfl _ r e) (load_k arg4 harg4 x2 x3 3 256 rfl _)
      (load_k arg6 harg6 x4 x5 3 256 rfl _) (load_sink i arg2 harg2 x0 1 1#32 rfl _ _)
  · exact stored0 (h := slices_S512x128_o0_0_S128x128) i x0 x1 x2 x3 x4 x5 3 384 rfl (fun r k => (pay5_apply r k).trans ⟨fun h => ⟨h, .inl (by decide)⟩, And.left⟩)
      (fun r e => load_q arg3 harg3 x1 3 0 384 0 rfl rfl _ r e) (load_k arg4 harg4 x2 x3 3 256 rfl _)
      (load_k arg6 harg6 x4 x5 3 256 rfl _) (load_sink i arg2 harg2 x0 0 0#32 rfl _ _)
  · exact stored3 (h := slices_S512x128_o384_0_S128x128) i x0 x1 x2 x3 x4 x5 2 256 rfl (fun r k => (pay5_apply r k).trans ⟨fun h => ⟨h, .inl (by decide)⟩, And.left⟩)
      (fun r e => load_q arg3 harg3 x1 2 3 256 384 rfl rfl _ r e) (load_k arg4 harg4 x2 x3 2 128 rfl _)
      (load_k arg6 harg6 x4 x5 2 128 rfl _) (load_sink i arg2 harg2 x0 3 3#32 rfl _ _)
  · exact stored2 (h := slices_S512x128_o256_0_S128x128) i x0 x1 x2 x3 x4 x5 2 256 rfl (fun r k => (pay5_apply r k).trans ⟨fun h => ⟨h, .inl (by decide)⟩, And.left⟩)
      (fun r e => load_q arg3 harg3 x1 2 2 256 256 rfl rfl _ r e) (load_k arg4 harg4 x2 x3 2 128 rfl _)
      (load_k arg6 harg6 x4 x5 2 128 rfl _) (load_sink i arg2 harg2 x0 2 2#32 rfl _ _)
  · exact stored1 (h := slices_S512x128_o128_0_S128x128) i x0 x1 x2 x3 x4 x5 2 256 rfl (fun r k => (pay5_apply r k).trans ⟨fun h => ⟨h, .inl (by decide)⟩, And.left⟩)
      (fun r e => load_q arg3 harg3 x1 2 1 256 128 rfl rfl _ r e) (load_k arg4 harg4 x2 x3 2 128 rfl _)
      (load_k arg6 harg6 x4 x5 2 128 rfl _) (load_sink i arg2 harg2 x0 1 1#32 rfl _ _)
  · exact stored0 (h := slices_S512x128_o0_0_S128x128) i x0 x1 x2 x3 x4 x5 2 256 rfl (fun r k => (pay5_apply r k).trans ⟨fun h => ⟨h, .inl (by decide)⟩, And.left⟩)
      (fun r e => load_q arg3 harg3 x1 2 0 256 0 rfl rfl _ r e) (load_k arg4 harg4 x2 x3 2 128 rfl _)
      (load_k arg6 harg6 x4 x5 2 128 rfl _) (load_sink i arg2 harg2 x0 0 0#32 rfl _ _)
  · exact stored3 (h := slices_S512x128_o384_0_S128x128) i x0 x1 x2 x3 x4 x5 1 128 rfl (fun r k => (pay5_apply r k).trans ⟨fun h => ⟨h, .inl (by decide)⟩, And.left⟩)
      (fun r e => load_q arg3 harg3 x1 1 3 128 384 rfl rfl _ r e) (load_k arg4 harg4 x2 x3 1 0 rfl _)
      (load_k arg6 harg6 x4 x5 1 0 rfl _) (load_sink i arg2 harg2 x0 3 3#32 rfl _ _)
  · exact stored2 (h := slices_S512x128_o256_0_S128x128) i x0 x1 x2 x3 x4 x5 1 128 rfl (fun r k => (pay5_apply r k).trans ⟨fun h => ⟨h, .inl (by decide)⟩, And.left⟩)
      (fun r e => load_q arg3 harg3 x1 1 2 128 256 rfl rfl _ r e) (load_k arg4 harg4 x2 x3 1 0 rfl _)
      (load_k arg6 harg6 x4 x5 1 0 rfl _) (load_sink i arg2 harg2 x0 2 2#32 rfl _ _)
  · exact stored1 (h := slices_S512x128_o128_0_S128x128) i x0 x1 x2 x3 x4 x5 1 128 rfl (fun r k => (pay5_apply r k).trans ⟨fun h => ⟨h, .inl (by decide)⟩, And.left⟩)
      (fun r e => load_q arg3 harg3 x1 1 1 128 128 rfl rfl _ r e) (load_k arg4 harg4 x2 x3 1 0 rfl _)
      (load_k arg6 harg6 x4 x5 1 0 rfl _) (load_sink i arg2 harg2 x0 1 1#32 rfl _ _)
  · exact stored0 (h := slices_S512x128_o0_0_S128x128) i x0 x1 x2 x3 x4 x5 1 128 rfl (fun r k => (pay5_apply r k).trans ⟨fun h => ⟨h, .inl (by decide)⟩, And.left⟩)
      (fun r e => load_q arg3 harg3 x1 1 0 128 0 rfl rfl _ r e) (load_k arg4 harg4 x2 x3 1 0 rfl _)
      (load_k arg6 harg6 x4 x5 1 0 rfl _) (load_sink i arg2 harg2 x0 0 0#32 rfl _ _)
  · exact stored3 (h := slices_S512x128_o384_0_S128x128) i x0 x1 x2 x3 x4 x5 0 0 rfl (pay6_apply i)
      (fun r e => load_q arg3 harg3 x1 0 3 0 384 rfl rfl _ r e) (load_k0 arg5 harg5 x3 arg4 harg4 x2 _ _)
      (load_k0 arg7 harg7 x5 arg6 harg6 x4 _ _) (load_sink i arg2 harg2 x0 3 3#32 rfl _ _)
  · exact stored2 (h := slices_S512x128_o256_0_S128x128) i x0 x1 x2 x3 x4 x5 0 0 rfl (pay6_apply i)
      (fun r e => load_q arg3 harg3 x1 0 2 0 256 rfl rfl _ r e) (load_k0 arg5 harg5 x3 arg4 harg4 x2 _ _)
      (load_k0 arg7 harg7 x5 arg6 harg6 x4 _ _) (load_sink i arg2 harg2 x0 2 2#32 rfl _ _)
  · exact stored1 (h := slices_S512x128_o128_0_S128x128) i x0 x1 x2 x3 x4 x5 0 0 rfl (pay6_apply i)
      (fun r e => load_q arg3 harg3 x1 0 1 0 128 rfl rfl _ r e) (load_k0 arg5 harg5 x3 arg4 harg4 x2 _ _)
      (load_k0 arg7 harg7 x5 arg6 harg6 x4 _ _) (load_sink i arg2 harg2 x0 1 1#32 rfl _ _)
  · exact stored0 (h := slices_S512x128_o0_0_S128x128) i x0 x1 x2 x3 x4 x5 0 0 rfl (pay6_apply i)
      (fun r e => load_q arg3 harg3 x1 0 0 0 0 rfl rfl _ r e) (load_k0 arg5 harg5 x3 arg4 harg4 x2 _ _)
      (load_k0 arg7 harg7 x5 arg6 harg6 x4 _ _) (load_sink i arg2 harg2 x0 0 0#32 rfl _ _)

/-- The block the body leaves. -/
theorem out_eq : out0_A_6 (F := Ideal) c i arg2 harg2 arg3 harg3 arg4 harg4 arg5 harg5 arg6 harg6 arg7 harg7 arg8 harg8 x0 x1 x2 x3 x4 x5 =
    blockVal i x0 x1 x2 x3 x4 x5 := by
  unfold out0_A_6
  refine funext fun y => ?_
  rw [View.read_writes_junk_eq_canon]
  exact View.canon_apply_of_pieces (G := blockVal i x0 x1 x2 x3 x4 x5) _
    (stores c i arg2 harg2 arg3 harg3 arg4 harg4 arg5 harg5 arg6 harg6 arg7 harg7 arg8 harg8 x0 x1 x2 x3 x4 x5) y
    (cover0_A_6 (F := Ideal) c i arg2 harg2 arg3 harg3 arg4 harg4 arg5 harg5 arg6 harg6 arg7 harg7 arg8 harg8 x0 x1 x2 x3 x4 x5 y)

end Cert.AttnIdeal.Att

end
-- ==== Proof.Att.Whole.lean ====
/-
  The attention kernel's result array as one function of its two arguments, and the run with the array at it.
-/
module

public import proofs.«01_k».proof.Proof.Gen.AttnIdeal.Value
public import proofs.«01_k».proof.Proof.Att.Stored

@[expose] public section

set_option maxRecDepth 16384

noncomputable section

namespace Cert.AttnIdeal.Att

open Idealize.ShloMosaic Idealize.ShloMosaic.TcCoe Idealize.ShloMosaic.Tactic Idealize.SL.Sem
open Cert.AttnIdeal Cert.AttnIdeal.Gen Cert.AttnIdeal.Value
open Cert.AttRow

/-- The row the kernel reads for key `k` of the 256 that end with block `n`'s end; before the array's first row, where no
    query sees it, row `k`. -/
def rowOf (n : Fin 128) (k : Fin 256) : Fin 16384 :=
  ⟨if n.val * 128 + k.val < 128 then k.val else n.val * 128 + k.val - 128, by split <;> omega⟩

/-- A key's entry, or a value's, in column `col`. -/
def keyVal (X : FVec Ideal S16384x3072 .bf16) (col : Fin 3072) (n : Fin 128) (k : Fin 256) : EReal := X (ix2 (rowOf n k) col)

/-- Whether query `r` of block `n`, counted over all sequences, sees key `k`. -/
abbrev visAll (n r k : Nat) : Prop := (r < k ∧ k ≤ r + 128) ∧ (128 ≤ k ∨ n % 32 ≠ 0)

/-- The entry at row `r` of block `n`, column `d` of head `h * 4 + g`. -/
def entryOf (X : FVec Ideal S16384x3072 .bf16) (S : FVec Ideal S1x16 .f32) (n r : Fin 128) (h g : Fin 4) (d : Fin 128) : EReal :=
  kerRow (fun e => X (ix2 ⟨n.val * 128 + r.val, by omega⟩ ⟨(h.val * 4 + g.val) * 128 + e.val, by omega⟩))
    (fun k e => keyVal X ⟨2048 + (h.val * 128 + e.val), by omega⟩ n k)
    (fun k => keyVal X ⟨2560 + (h.val * 128 + d.val), by omega⟩ n k)
    (fun k => visAll n r k) (S (ix2 0 ⟨h.val * 4 + g.val, by omega⟩))

/-- The whole result. -/
def G (X : FVec Ideal S16384x3072 .bf16) (S : FVec Ideal S1x16 .f32) : FVec Ideal S16384x2048 .bf16 := fun y =>
  entryOf X S ⟨(y 0).val / 128, by have : (y 0).val < 16384 := (y 0).isLt; omega⟩ ⟨(y 0).val % 128, by omega⟩
    ⟨(y 1).val / 512, by have : (y 1).val < 2048 := (y 1).isLt; omega⟩ ⟨(y 1).val / 128 % 4, by omega⟩
    ⟨(y 1).val % 128, by omega⟩

/-- A kernel's row depends on which keys are seen alone, however that is decided. -/
theorem kerRow_vis (q : Fin 128 → EReal) (kk : Fin 256 → Fin 128 → EReal) (v : Fin 256 → EReal) (vis vis' : Fin 256 → Prop)
    [i : DecidablePred vis] [i' : DecidablePred vis'] (s : EReal) (h : ∀ k, vis k ↔ vis' k) :
    kerRow q kk v vis s = kerRow q kk v vis' s := by
  have e : vis = vis' := funext fun k => propext (h k)
  subst e
  have : i = i' := Subsingleton.elim _ _
  subst this
  rfl

section Windows

variable (t : Fin cfg0.N)

theorem t_lt : t.val < 64 := t.isLt

theorem coords_eq : ∀ t : Fin cfg0.N, (grid0.coords t 0).val = t.val / 4 ∧ (grid0.coords t 1).val = t.val % 4 :=
  (by decide +kernel : ∀ t : Fin grid0.N, _)
theorem idx0 : ∀ t : Fin cfg0.N, win0_0.index t (0 : Fin 1) = 0 := (by decide +kernel : ∀ t : Fin grid0.N, _)
theorem idx1 : ∀ t : Fin cfg0.N, win0_1.index t (0 : Fin 2) = t.val / 4 ∧ win0_1.index t (1 : Fin 2) = t.val % 4 :=
  (by decide +kernel : ∀ t : Fin grid0.N, _)
theorem idx2 : ∀ t : Fin cfg0.N, win0_2.index t (0 : Fin 2) = t.val / 4 ∧ win0_2.index t (1 : Fin 2) = 16 + t.val % 4 :=
  (by decide +kernel : ∀ t : Fin grid0.N, _)
theorem idx3 : ∀ t : Fin cfg0.N, win0_3.index t (0 : Fin 2) = 8 * (t.val / 4) - 1 ∧ win0_3.index t (1 : Fin 2) = 16 + t.val % 4 :=
  (by decide +kernel : ∀ t : Fin grid0.N, _)
theorem idx4 : ∀ t : Fin cfg0.N, win0_4.index t (0 : Fin 2) = t.val / 4 ∧ win0_4.index t (1 : Fin 2) = 20 + t.val % 4 :=
  (by decide +kernel : ∀ t : Fin grid0.N, _)
theorem idx5 : ∀ t : Fin cfg0.N, win0_5.index t (0 : Fin 2) = 8 * (t.val / 4) - 1 ∧ win0_5.index t (1 : Fin 2) = 20 + t.val % 4 :=
  (by decide +kernel : ∀ t : Fin grid0.N, _)
theorem idx6 : ∀ t : Fin cfg0.N, win0_6.index t (0 : Fin 2) = t.val / 4 ∧ win0_6.index t (1 : Fin 2) = t.val % 4 :=
  (by decide +kernel : ∀ t : Fin grid0.N, _)

variable (m : (ℓ : Loc nD τ sig) → Buf (Elt Ideal) ℓ) (c : Dev nD)

/-- The sinks' block; -/
theorem iblk0_apply (j : Fin 16) : (iblk (F := Ideal) m c 0 t : FVec Ideal S16 .f32) (ix1 j) =
    (V (F := Ideal) m c main_v0 : FVec Ideal S16 .f32) (ix1 j) := by
  refine congrArg (V (F := Ideal) m c main_v0 : FVec Ideal S16 .f32) (funext fun a => Fin.ext ?_)
  match a with
  | ⟨0, _⟩ => show win0_0.index t (0 : Fin 1) * 16 + 1 * j.val = j.val; rw [idx0]; omega

/-- … the queries'; -/
theorem iblk1_apply (a : Fin 1024) (b : Fin 512) : (iblk (F := Ideal) m c 1 t : FVec Ideal S1024x512 .bf16) (ix2 a b) =
    (V (F := Ideal) m c main_arg0 : FVec Ideal S16384x3072 .bf16)
      (ix2 ⟨t.val / 4 * 1024 + a.val, by have := t_lt t; omega⟩ ⟨t.val % 4 * 512 + b.val, by omega⟩) := by
  refine congrArg (V (F := Ideal) m c main_arg0 : FVec Ideal S16384x3072 .bf16) (funext fun x => Fin.ext ?_)
  match x with
  | ⟨0, _⟩ => show win0_1.index t (0 : Fin 2) * 1024 + 1 * a.val = _; rw [(idx1 t).1, Nat.one_mul]; rfl
  | ⟨1, _⟩ => show win0_1.index t (1 : Fin 2) * 512 + 1 * b.val = _; rw [(idx1 t).2, Nat.one_mul]; rfl

/-- … the keys' and the 128 rows' before them; -/
theorem keys_apply (n : Fin 8) (k : Fin 256) (e : Fin 128) : keyAt (iblk (F := Ideal) m c 2 t) (iblk (F := Ideal) m c 3 t) n k e =
    keyVal (V (F := Ideal) m c main_arg0) ⟨2048 + (t.val % 4 * 128 + e.val), by omega⟩
      ⟨t.val / 4 * 8 + n.val, by have := t_lt t; omega⟩ k := by
  have ht := t_lt t
  unfold keyAt keyVal rowOf
  split
  · refine congrArg (V (F := Ideal) m c main_arg0 : FVec Ideal S16384x3072 .bf16) (funext fun x => Fin.ext ?_)
    match x with
    | ⟨0, _⟩ =>
      show win0_3.index t (0 : Fin 2) * 128 + 1 * (n.val * 128 + k.val) =
        if (t.val / 4 * 8 + n.val) * 128 + k.val < 128 then k.val else (t.val / 4 * 8 + n.val) * 128 + k.val - 128
      rw [(idx3 t).1]; split <;> omega
    | ⟨1, _⟩ => show win0_3.index t (1 : Fin 2) * 128 + 1 * e.val = 2048 + (t.val % 4 * 128 + e.val); rw [(idx3 t).2]; omega
  · refine congrArg (V (F := Ideal) m c main_arg0 : FVec Ideal S16384x3072 .bf16) (funext fun x => Fin.ext ?_)
    match x with
    | ⟨0, _⟩ =>
      show win0_2.index t (0 : Fin 2) * 1024 + 1 * (n.val * 128 + k.val - 128) =
        if (t.val / 4 * 8 + n.val) * 128 + k.val < 128 then k.val else (t.val / 4 * 8 + n.val) * 128 + k.val - 128
      rw [(idx2 t).1]; split <;> omega
    | ⟨1, _⟩ => show win0_2.index t (1 : Fin 2) * 128 + 1 * e.val = 2048 + (t.val % 4 * 128 + e.val); rw [(idx2 t).2]; omega

/-- … the values' and the 128 rows' before them. -/
theorem values_apply (n : Fin 8) (k : Fin 256) (e : Fin 128) : keyAt (iblk (F := Ideal) m c 4 t) (iblk (F := Ideal) m c 5 t) n k e =
    keyVal (V (F := Ideal) m c main_arg0) ⟨2560 + (t.val % 4 * 128 + e.val), by omega⟩
      ⟨t.val / 4 * 8 + n.val, by have := t_lt t; omega⟩ k := by
  have ht := t_lt t
  unfold keyAt keyVal rowOf
  split
  · refine congrArg (V (F := Ideal) m c main_arg0 : FVec Ideal S16384x3072 .bf16) (funext fun x => Fin.ext ?_)
    match x with
    | ⟨0, _⟩ =>
      show win0_5.index t (0 : Fin 2) * 128 + 1 * (n.val * 128 + k.val) =
        if (t.val / 4 * 8 + n.val) * 128 + k.val < 128 then k.val else (t.val / 4 * 8 + n.val) * 128 + k.val - 128
      rw [(idx5 t).1]; split <;> omega
    | ⟨1, _⟩ => show win0_5.index t (1 : Fin 2) * 128 + 1 * e.val = 2560 + (t.val % 4 * 128 + e.val); rw [(idx5 t).2]; omega
  · refine congrArg (V (F := Ideal) m c main_arg0 : FVec Ideal S16384x3072 .bf16) (funext fun x => Fin.ext ?_)
    match x with
    | ⟨0, _⟩ =>
      show win0_4.index t (0 : Fin 2) * 1024 + 1 * (n.val * 128 + k.val - 128) =
        if (t.val / 4 * 8 + n.val) * 128 + k.val < 128 then k.val else (t.val / 4 * 8 + n.val) * 128 + k.val - 128
      rw [(idx4 t).1]; split <;> omega
    | ⟨1, _⟩ => show win0_4.index t (1 : Fin 2) * 128 + 1 * e.val = 2560 + (t.val % 4 * 128 + e.val); rw [(idx4 t).2]; omega

/-- The sinks as the region finds them are the second argument's one row. -/
theorem V_main_v0 (j : Fin 16) : (V (F := Ideal) m c main_v0 : FVec Ideal S16 .f32) (ix1 j) =
    (m ((c : Thread nD τ).loc main_arg1) : FVec Ideal S1x16 .f32) (ix2 0 j) := by
  have e : (V (F := Ideal) m c main_v0 : FVec Ideal S16 .f32) =
      shapeCast S16 (m ((c : Thread nD τ).loc main_arg1) : FVec Ideal S1x16 .f32) shapeCasts_S1x16_S16 := by
    show StableHlo.after hostOps0 (fun b => m (c, b)) main_v0 = _
    after_results
    rfl
  rw [e]
  pointwise []

/-- A grid point's block of results is its part of the whole. -/
theorem block_apply (n : Fin 8) (r : Fin 128) (g : Fin 4) (d : Fin 128) :
    valAt (grid0.coords t) (iblk (F := Ideal) m c 0 t) (iblk (F := Ideal) m c 1 t) (iblk (F := Ideal) m c 2 t)
      (iblk (F := Ideal) m c 3 t) (iblk (F := Ideal) m c 4 t) (iblk (F := Ideal) m c 5 t) n r g d =
    entryOf (V (F := Ideal) m c main_arg0) (m ((c : Thread nD τ).loc main_arg1)) ⟨t.val / 4 * 8 + n.val, by have := t_lt t; omega⟩ r
      ⟨t.val % 4, by omega⟩ g d := by
  have ht := t_lt t
  obtain ⟨c0, c1⟩ := coords_eq t
  unfold valAt entryOf
  have hq : (fun e : Fin 128 => (iblk (F := Ideal) m c 1 t : FVec Ideal S1024x512 .bf16) (ix2 ⟨n.val * 128 + r.val, by omega⟩ ⟨g.val * 128 + e.val, by omega⟩)) =
      fun e => (V (F := Ideal) m c main_arg0 : FVec Ideal S16384x3072 .bf16) (ix2 ⟨(t.val / 4 * 8 + n.val) * 128 + r.val, by omega⟩ ⟨(t.val % 4 * 4 + g.val) * 128 + e.val, by omega⟩) := by
    funext e
    rw [iblk1_apply]
    refine congrArg (V (F := Ideal) m c main_arg0 : FVec Ideal S16384x3072 .bf16) (congrArg₂ ix2 (Fin.ext ?_) (Fin.ext ?_)) <;> simp only <;> omega
  have hk := funext fun k => funext fun e => keys_apply t m c n k e
  have hv := funext fun k => values_apply t m c n k d
  have hs : (iblk (F := Ideal) m c 0 t : FVec Ideal S16 .f32) (sinkIx (grid0.coords t) g) =
      (m ((c : Thread nD τ).loc main_arg1) : FVec Ideal S1x16 .f32) (ix2 0 ⟨t.val % 4 * 4 + g.val, by omega⟩) := by
    unfold sinkIx
    rw [iblk0_apply, V_main_v0]
    refine congrArg (m ((c : Thread nD τ).loc main_arg1) : FVec Ideal S1x16 .f32) (congrArg₂ ix2 rfl (Fin.ext ?_))
    simp only [c1]
  rw [hq, hk, hv, hs]
  refine kerRow_vis _ _ _ _ _ _ fun k => ?_
  refine and_congr Iff.rfl ?_
  rw [c0]
  have := n.isLt
  simp only
  omega

/-- What a grid point writes back is its block of the whole. -/
theorem flushed_eq : (dats (F := Ideal) m 0 c).flushed 6 t =
    ((cfg0.win 6).blk t).view.read (Elt Ideal) (G (V (F := Ideal) m c main_arg0) (m ((c : Thread nD τ).loc main_arg1))) := by
  rw [flushed6_A, out_eq]
  have ht := t_lt t
  refine funext fun (j : S1024x512.Idx) => ?_
  have h0 : (j 0).val < 1024 := (j 0).isLt
  have h1 : (j 1).val < 512 := (j 1).isLt
  have e0 : ((((cfg0.win 6).blk t).view.emb j) 0).val = t.val / 4 * 1024 + (j 0).val := by
    show win0_6.index t (0 : Fin 2) * 1024 + 1 * (j 0).val = _; rw [(idx6 t).1]; omega
  have e1 : ((((cfg0.win 6).blk t).view.emb j) 1).val = t.val % 4 * 512 + (j 1).val := by
    show win0_6.index t (1 : Fin 2) * 512 + 1 * (j 1).val = _; rw [(idx6 t).2]; omega
  show valAt _ _ _ _ _ _ _ _ _ _ _ = G (V (F := Ideal) m c main_arg0) (m ((c : Thread nD τ).loc main_arg1)) (((cfg0.win 6).blk t).view.emb j)
  rw [block_apply]
  unfold G
  have p : ∀ {n n' r r' : Fin 128} {h h' g g' : Fin 4} {d d' : Fin 128}, n = n' → r = r' → h = h' → g = g' → d = d' →
      entryOf (V (F := Ideal) m c main_arg0) (m ((c : Thread nD τ).loc main_arg1)) n r h g d =
        entryOf (V (F := Ideal) m c main_arg0) (m ((c : Thread nD τ).loc main_arg1)) n' r' h' g' d' := by
    rintro _ _ _ _ _ _ _ _ _ _ rfl rfl rfl rfl rfl; rfl
  refine p (Fin.ext ?_) (Fin.ext ?_) (Fin.ext ?_) (Fin.ext ?_) (Fin.ext ?_)
  · show t.val / 4 * 8 + (j 0).val / 128 = ((((cfg0.win 6).blk t).view.emb j) 0).val / 128; rw [e0]; omega
  · show (j 0).val % 128 = ((((cfg0.win 6).blk t).view.emb j) 0).val % 128; rw [e0]; omega
  · show t.val % 4 = ((((cfg0.win 6).blk t).view.emb j) 1).val / 512; rw [e1]; omega
  · show (j 1).val / 128 = ((((cfg0.win 6).blk t).view.emb j) 1).val / 128 % 4; rw [e1]; omega
  · show (j 1).val % 128 = ((((cfg0.win 6).blk t).view.emb j) 1).val % 128; rw [e1]; omega

end Windows

/-- Every index of the result array is in some grid point's block. -/
theorem covered (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 64 := rfl
  let t : Fin cfg0.N := ⟨(i 0).val / 1024 * 4 + (i 1).val / 512, by omega⟩
  refine ⟨t, flush0_6 t, ?_⟩
  have tv : t.val = (i 0).val / 1024 * 4 + (i 1).val / 512 := rfl
  have e : ((cfg0.win 6).blk t).view.emb (ix2 (n0 := 1024) (n1 := 512) ⟨(i 0).val % 1024, by omega⟩ ⟨(i 1).val % 512, by omega⟩) = i := by
    refine funext fun x => Fin.ext ?_
    match x with
    | ⟨0, _⟩ => show win0_6.index t (0 : Fin 2) * 1024 + 1 * ((i 0).val % 1024) = (i 0).val; rw [(idx6 t).1]; omega
    | ⟨1, _⟩ => show win0_6.index t (1 : Fin 2) * 512 + 1 * ((i 1).val % 512) = (i 1).val; rw [(idx6 t).2]; omega
  have h := ((cfg0.win 6).blk t).view.emb_mem_set (ix2 (n0 := 1024) (n1 := 512) ⟨(i 0).val % 1024, by omega⟩ ⟨(i 1).val % 512, by omega⟩)
  rwa [e] at h

variable (m : (ℓ : Loc nD τ sig) → Buf (Elt Ideal) ℓ) (ρ : Dev nD → PrngReg)

/-- The result array after the run. -/
theorem final (c : Dev nD) : (dats (F := Ideal) m 0 c).arrAt 6 cfg0.N =
    G (m ((c : Thread nD τ).loc main_arg0)) (m ((c : Thread nD τ).loc main_arg1)) :=
  ((dats (F := Ideal) m 0 c).arrAt_eq_of_cover 6 (G (V (F := Ideal) m c main_arg0) (m ((c : Thread nD τ).loc main_arg1)))
    (fun t _ => flushed_eq t m c) covered).trans (by rw [V_main_arg0])

/-- The run: it ends with the result array at `G` of the arguments, and these as they were. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks (F := Ideal) m ρ)

end Cert.AttnIdeal.Att

end
-- ==== Proof.Att.Ref.lean ====
/-
  The attention reference's result, entry by entry, from its two arguments.
-/
module

public import Idealize.ShloMosaic.Lib.Pointwise
public import proofs.«01_k».proof.Proof.Gen.AttnRefIdeal.Read
public import proofs.«01_k».proof.Proof.Att.Bits
public import proofs.«01_k».proof.Proof.Att.Core

@[expose] public section

set_option maxRecDepth 16384

noncomputable section

namespace Cert.AttnRefIdeal.Att

open Idealize.ShloMosaic Idealize.ShloMosaic.TcCoe Idealize.ShloMosaic.Tactic
open Cert.AttnRefIdeal Cert.AttnRefIdeal.Gen Cert.AttnRefIdeal.Read
open Cert.AttRow

variable (X : FVec Ideal S16384x3072 .bf16) (S : FVec Ideal S1x16 .f32)

/-- A number's remainder by 32 as the reference computes it. -/
theorem rem_bits : ∀ n : Fin 128,
    (Scalar.select
          (IntOp.andi
            (IntOp.cmpi CmpIPredicate.ne
              (IntOp.cmpi CmpIPredicate.slt
                (IntOp.remsi ArithUnit.host (BitVec.ofNat 32 n.val)
                  (Scalar.select (IntOp.cmpi CmpIPredicate.eq 32#32 0#32) (1#32) 32#32))
                0#32)
              (IntOp.cmpi CmpIPredicate.slt
                (Scalar.select (IntOp.cmpi CmpIPredicate.eq 32#32 0#32) (1#32) 32#32)
                0#32))
            (IntOp.cmpi CmpIPredicate.ne
              (IntOp.remsi ArithUnit.host (BitVec.ofNat 32 n.val)
                (Scalar.select (IntOp.cmpi CmpIPredicate.eq 32#32 0#32) (1#32) 32#32))
              0#32))
          (IntOp.addi
            (IntOp.remsi ArithUnit.host (BitVec.ofNat 32 n.val)
              (Scalar.select (IntOp.cmpi CmpIPredicate.eq 32#32 0#32) (1#32) 32#32))
            (Scalar.select (IntOp.cmpi CmpIPredicate.eq 32#32 0#32) (1#32) 32#32))
          (IntOp.remsi ArithUnit.host (BitVec.ofNat 32 n.val)
            (Scalar.select (IntOp.cmpi CmpIPredicate.eq 32#32 0#32) (1#32) 32#32)))
      = BitVec.ofNat 32 (n.val % 32) := by decide +kernel

/-- A block's number within its sequence; -/
theorem block_number (n : Fin 128) : val_main_v27 (F := Ideal) (ix1 n) = BitVec.ofNat 32 (n.val % 32) := by
  pointwise [val_main_v27, val_main_v26, val_main_c_3, val_main_call3_v0, val_main_call3_c, val_main_call3_v1, val_main_call3_c_0, val_main_call3_v2, val_main_call3_v3, val_main_call3_v4, val_main_call3_c_1, val_main_call3_v5, val_main_call3_v6, val_main_call3_v7, val_main_call3_v8, val_main_call3_v9, val_main_call3_v10, val_main_call3_v11, val_main_call3_v12, val_main_call3_v13, val_main_call3_v14, val_main_call3_c_2, val_main_call3_c_3]
  exact rem_bits n

/-- … and the bit that is set at a sequence's first block. -/
theorem first_bit (n : Fin 128) : val_main_v8 (F := Ideal) (ix1 n) = 1#1 ↔ n.val % 32 = 0 := by
  have e : val_main_v6 (F := Ideal) (ix1 n) = BitVec.ofNat 32 (n.val % 32) := by
    pointwise [val_main_v6, val_main_v5, val_main_c, val_main_call0_v0, val_main_call0_c, val_main_call0_v1, val_main_call0_c_0, val_main_call0_v2, val_main_call0_v3, val_main_call0_v4, val_main_call0_c_1, val_main_call0_v5, val_main_call0_v6, val_main_call0_v7, val_main_call0_v8, val_main_call0_v9, val_main_call0_v10, val_main_call0_v11, val_main_call0_v12, val_main_call0_v13, val_main_call0_v14, val_main_call0_c_2, val_main_call0_c_3]
    exact rem_bits n
  have f : ∀ b : Fin 32, IntOp.cmpi .eq (BitVec.ofNat 32 b.val) 0#32 = 1#1 ↔ b.val = 0 := by decide +kernel
  pointwise [val_main_v8, val_main_v7, val_main_c_0]
  rw [e]
  exact f ⟨n.val % 32, by omega⟩

/-- A query's entry; -/
theorem queries (n r : Fin 128) (h g : Fin 4) (e : Fin 128) :
    val_main_v4 (F := Ideal) X (ix5 n r h g e) = X (ix2 ⟨n.val * 128 + r.val, by omega⟩ ⟨(h.val * 4 + g.val) * 128 + e.val, by omega⟩) := by
  pointwise [val_main_v4, val_main_v1, val_main_v0]
  congr 2
  exact Fin.ext (by simp only; omega)

/-- … a key's entry; -/
theorem keys (n r : Fin 128) (h : Fin 4) (e : Fin 128) :
    val_main_v10 (F := Ideal) X (ix4 n r h e) = X (ix2 ⟨n.val * 128 + r.val, by omega⟩ ⟨2048 + (h.val * 128 + e.val), by omega⟩) := by
  pointwise [val_main_v10, val_main_v2, val_main_v0]

/-- … a value's entry. -/
theorem values (n r : Fin 128) (h : Fin 4) (e : Fin 128) :
    val_main_v16 (F := Ideal) X (ix4 n r h e) = X (ix2 ⟨n.val * 128 + r.val, by omega⟩ ⟨2560 + (h.val * 128 + e.val), by omega⟩) := by
  pointwise [val_main_v16, val_main_v3, val_main_v0]

/-- Row `k` of the 256 that end with block `n`'s end, in column `col`: zero before the sequence's first. -/
def refKey (col : Fin 3072) (n : Fin 128) (k : Fin 256) : EReal :=
  if n.val % 32 = 0 ∧ k.val < 128 then 0
  else X (ix2 ⟨n.val * 128 + k.val - 128, by omega⟩ col)

theorem refKey_pos (col : Fin 3072) (n : Fin 128) (k : Fin 256) (hn : n.val % 32 = 0) (hk : k.val < 128) :
    refKey X col n k = 0 := if_pos ⟨hn, hk⟩

theorem refKey_neg (col : Fin 3072) (n : Fin 128) (k : Fin 256) (hn : ¬ (n.val % 32 = 0 ∧ k.val < 128)) (a : Nat) (ha : a < 16384)
    (e : a = n.val * 128 + k.val - 128) : X (ix2 ⟨a, ha⟩ col) = refKey X col n k := by
  subst e; exact (if_neg hn).symm

/-- The keys a block reads; -/
theorem keys_with_prev (n : Fin 128) (k : Fin 256) (h : Fin 4) (e : Fin 128) :
    val_main_v15 (F := Ideal) X (ix4 n k h e) = refKey X ⟨2048 + (h.val * 128 + e.val), by omega⟩ n k := by
  pointwise [val_main_v15, val_main_v14, val_main_v13, val_main_v12, val_main_v11, val_main_call1_v1, val_main_call1_v2, val_main_v9, val_main_call1_v0, val_main_cst]
  simp only [keys]
  by_cases hk : k.val < 128
  · simp only [dif_pos hk]
    unfold Scalar.select
    by_cases hn : n.val % 32 = 0
    · refine Eq.trans (if_pos ((first_bit n).mpr hn)) ?_
      exact Ideal.ofBits_zero_f32.trans (refKey_pos X _ n k hn hk).symm
    · refine Eq.trans (if_neg (mt (first_bit n).mp hn)) ?_
      rw [dif_neg (show ¬ n.val < 1 by omega)]
      exact refKey_neg X _ n k (fun a => hn a.1) _ _ (by omega)
  · simp only [dif_neg hk]
    exact refKey_neg X _ n k (fun a => hk a.2) _ _ (by omega)

/-- … and the values. -/
theorem values_with_prev (n : Fin 128) (k : Fin 256) (h : Fin 4) (e : Fin 128) :
    val_main_v21 (F := Ideal) X (ix4 n k h e) = refKey X ⟨2560 + (h.val * 128 + e.val), by omega⟩ n k := by
  pointwise [val_main_v21, val_main_v20, val_main_v19, val_main_v18, val_main_v17, val_main_call2_v1, val_main_call2_v2, val_main_v9, val_main_call2_v0, val_main_cst_1]
  simp only [values]
  by_cases hk : k.val < 128
  · simp only [dif_pos hk]
    unfold Scalar.select
    by_cases hn : n.val % 32 = 0
    · refine Eq.trans (if_pos ((first_bit n).mpr hn)) ?_
      exact Ideal.ofBits_zero_f32.trans (refKey_pos X _ n k hn hk).symm
    · refine Eq.trans (if_neg (mt (first_bit n).mp hn)) ?_
      rw [dif_neg (show ¬ n.val < 1 by omega)]
      exact refKey_neg X _ n k (fun a => hn a.1) _ _ (by omega)
  · simp only [dif_neg hk]
    exact refKey_neg X _ n k (fun a => hk a.2) _ _ (by omega)

/-- Whether query `r` of block `n` sees key `k`. -/
abbrev vis (n r k : Nat) : Prop := (r < k ∧ k ≤ r + 128) ∧ (128 ≤ k ∨ n % 32 ≠ 0)

/-- The mask, as the reference computes it. -/
theorem vis_bit (n r : Fin 128) (k : Fin 256) : val_main_v54 (F := Ideal) (ix3 n r k) = 1#1 ↔ vis n r k := by
  pointwise [val_main_v54, val_main_v53, val_main_v52, val_main_v51, val_main_v50, val_main_c_9, val_main_v49, val_main_v48, val_main_v47, val_main_c_8, val_main_v46, val_main_v45, val_main_c_7, val_main_v44, val_main_v43, val_main_v42, val_main_v41, val_main_v40, val_main_v39, val_main_v38, val_main_v37, val_main_v36, val_main_v35, val_main_v34, val_main_v33, val_main_v32, val_main_v31, val_main_v30, val_main_v29, val_main_v28, val_main_c_6, val_main_c_5, val_main_c_4]
  rw [block_number]
  have e : ∀ a b : BitVec 1, IntOp.andi a b = 1#1 ↔ a = 1#1 ∧ b = 1#1 := by decide
  refine (e _ _).trans ?_
  rw [AttBits.band r k]
  exact and_congr Iff.rfl (AttBits.position ⟨n.val % 32, by omega⟩ k)

/-- A query's entries, one block's rows below another. -/
def refQ (n r : Fin 128) (h g : Fin 4) (e : Fin 128) : EReal :=
  X (ix2 ⟨n.val * 128 + r.val, by omega⟩ ⟨(h.val * 4 + g.val) * 128 + e.val, by omega⟩)

/-- A masked score; -/
theorem scores (n r : Fin 128) (h g : Fin 4) (k : Fin 256) : val_main_v56 (F := Ideal) X (ix5 n h g r k) =
    rs (refQ X n r h g) (fun k e => refKey X ⟨2048 + (h.val * 128 + e.val), by omega⟩ n k) (fun k => vis n r k) k := by
  pointwise [val_main_v56, val_main_call4_v1, val_main_call4_v2, val_main_call4_v0, val_main_v25, val_main_v24, val_main_v23, val_main_v22, val_main_v55, val_main_cst_2, val_main_cst_10]
  unfold rs refQ Scalar.select
  simp only [keys_with_prev, queries]
  refine if_congr (vis_bit n r k) ?_ ?_
  · congr 1
    exact Finset.sum_congr rfl fun e _ => mul_comm _ _
  · show Ideal.ofBits .f32 0xFF800000#32 = ⊥
    simp [Ideal.ofBits, Ideal.ieee]

/-- The host's maximum over the last axis. -/
theorem reduce_max (y : FVec Ideal S128x4x4x128x256 .f32) (c : FVec Ideal S_ .f32) (n r : Fin 128) (h g : Fin 4) :
    Host.reduce (FloatOps.maximumf (F := Ideal)) y c reducesTo_S128x4x4x128x256_S128x4x4x128_d4 h_S_ (ix4 n h g r) =
      Finset.univ.fold max (c (Shape.Idx.first h_S_)) (fun k : Fin 256 => y (ix5 n h g r k)) := by
  simp only [pointwise]

/-- … a query's greatest score; -/
theorem maxs (n r : Fin 128) (h g : Fin 4) : val_main_v62 (F := Ideal) X S (ix5 n h g r 0) =
    refMax (refQ X n r h g) (fun k e => refKey X ⟨2048 + (h.val * 128 + e.val), by omega⟩ n k) (fun k => vis n r k)
      (S (ix2 0 ⟨h.val * 4 + g.val, by omega⟩)) := by
  have e59 : val_main_v59 (F := Ideal) X (ix4 n h g r) = Finset.univ.fold max ⊥
      (rs (refQ X n r h g) (fun k e => refKey X ⟨2048 + (h.val * 128 + e.val), by omega⟩ n k) (fun k => vis n r k)) := by
    unfold val_main_v59
    rw [reduce_max]
    refine congrArg₂ (Finset.univ.fold max) ?_ (funext fun k => scores X n r h g k)
    show Ideal.ofBits .f32 0xFF800000#32 = ⊥
    simp [Ideal.ofBits, Ideal.ieee]
  have e62 : ∀ y : FVec Ideal S128x4x4x128 .f32, val_main_v59 (F := Ideal) X = y → val_main_v62 (F := Ideal) X S (ix5 n h g r 0) =
      max (y (ix4 n h g r)) (S (ix2 0 ⟨h.val * 4 + g.val, by omega⟩)) := by
    intro y hy
    unfold val_main_v62 val_main_v60
    rw [hy]
    pointwise [val_main_v61, val_main_v58, val_main_v57]
  rw [e62 _ rfl, e59]
  rfl

/-- … a weight; -/
theorem weight (n r : Fin 128) (h g : Fin 4) (k : Fin 256) : val_main_v73 (F := Ideal) X S (ix5 n h g r k) =
    Ideal.div (Ideal.exp (val_main_v56 (F := Ideal) X (ix5 n h g r k) - val_main_v62 (F := Ideal) X S (ix5 n h g r 0)))
      ((∑ k', Ideal.exp (val_main_v56 (F := Ideal) X (ix5 n h g r k') - val_main_v62 (F := Ideal) X S (ix5 n h g r 0))) +
        Ideal.exp (S (ix2 0 ⟨h.val * 4 + g.val, by omega⟩) - val_main_v62 (F := Ideal) X S (ix5 n h g r 0))) := by
  pointwise [val_main_v73, val_main_v72, val_main_v71, val_main_v70, val_main_v69, val_main_v68, val_main_v67, val_main_v66, val_main_v65, val_main_v64, val_main_v63, val_main_cst_12, val_main_v58, val_main_v57]

/-- … and a result's entry. -/
theorem result (n r : Fin 128) (h g : Fin 4) (d : Fin 128) : val_main_v75 (F := Ideal) X S (ix5 n r h g d) =
    refRow (refQ X n r h g) (fun k e => refKey X ⟨2048 + (h.val * 128 + e.val), by omega⟩ n k)
      (fun k => refKey X ⟨2560 + (h.val * 128 + d.val), by omega⟩ n k) (fun k => vis n r k)
      (S (ix2 0 ⟨h.val * 4 + g.val, by omega⟩)) := by
  pointwise [val_main_v75, val_main_v74]
  unfold refRow
  simp only [weight, maxs, scores, values_with_prev]

/-- The whole result. -/
theorem result_apply (R : Fin 16384) (C : Fin 2048) : val_main_v77 (F := Ideal) X S (ix2 R C) =
    refRow (refQ X ⟨R.val / 128, by omega⟩ ⟨R.val % 128, by omega⟩ ⟨C.val / 512, by omega⟩ ⟨C.val / 128 % 4, by omega⟩)
      (fun k e => refKey X ⟨2048 + (C.val / 512 * 128 + e.val), by omega⟩ ⟨R.val / 128, by omega⟩ k)
      (fun k => refKey X ⟨2560 + (C.val / 512 * 128 + C.val % 128), by omega⟩ ⟨R.val / 128, by omega⟩ k)
      (fun k => vis (R.val / 128) (R.val % 128) k)
      (S (ix2 0 ⟨C.val / 512 * 4 + C.val / 128 % 4, by omega⟩)) := by
  rw [val_main_v77_apply, val_main_v76_apply]
  refine Eq.trans (congrArg (val_main_v75 (F := Ideal) X S) ?_)
    (result X S ⟨R.val / 128, by omega⟩ ⟨R.val % 128, by omega⟩ ⟨C.val / 512, by omega⟩ ⟨C.val / 128 % 4, by omega⟩ ⟨C.val % 128, by omega⟩)
  have hR := R.isLt
  have hC := C.isLt
  refine funext fun a => Fin.ext ?_
  match a with
  | ⟨0, _⟩ => show (R.val * 2048 + C.val) / 262144 = R.val / 128; omega
  | ⟨1, _⟩ => show (R.val * 2048 + C.val) / 2048 % 128 = R.val % 128; omega
  | ⟨2, _⟩ => show (R.val * 2048 + C.val) / 512 % 4 = C.val / 512; omega
  | ⟨3, _⟩ => show (R.val * 2048 + C.val) / 128 % 4 = C.val / 128 % 4; omega
  | ⟨4, _⟩ => show (R.val * 2048 + C.val) % 128 = C.val % 128; omega

end Cert.AttnRefIdeal.Att

end
-- ==== Proof.Att.Equal.lean ====
/-
  The attention kernel's result array is the reference's, when the queries, the keys and the sinks are finite.
-/
module

public import proofs.«01_k».proof.Defs
public import proofs.«01_k».proof.Proof.Att.Whole
public import proofs.«01_k».proof.Proof.Att.Ref

@[expose] public section

set_option maxRecDepth 16384

noncomputable section

namespace Cert.AttEqual

open Idealize.ShloMosaic Idealize.ShloMosaic.TcCoe Idealize.ShloMosaic.Tactic
open Cert.AttRow
open Cert.AttnIdeal (S16384x3072 S1x16 S16384x2048)

/-- The scale is a real number. -/
theorem scale_real : ∃ x : ℝ, scale = x := by
  unfold scale
  simp [Ideal.ofBits, Ideal.ieee]
  exact ⟨_, (EReal.coe_mul _ _).symm⟩

/-- The word of plus infinity. -/
theorem top_bits : Ideal.ofBits .f32 2139095040#32 = ⊤ := by simp [Ideal.ofBits, Ideal.ieee]

/-- A comparison's bit. -/
theorem of_bit {p : Prop} [Decidable p] (h : BitVec.ofBool (decide p) = 1#1) : p := by
  by_contra hp
  rw [decide_eq_false hp] at h
  exact absurd h (by decide)

/-- An extended real whose magnitude is below infinity is a real number. -/
theorem real_of_abs_lt {x : EReal} (h : max x (-x) < ⊤) : ∃ y : ℝ, x = y := by
  refine ⟨x.toReal, (EReal.coe_toReal ?_ ?_).symm⟩
  · rintro rfl; simp at h
  · rintro rfl; simp at h

/-- The precondition's functions take what they take. -/
instance pre_facts : Cert.Pre_finite_scores.Facts where
  slices_S16384x3072_S16384x2560_0_0 := by decide
  bitsLt_bf16_f32 := by decide
  bcast_S_S16384x2560 := by decide
  bcast_S_S1x16 := by decide

variable (X : FVec Ideal S16384x3072 .bf16) (S : FVec Ideal S1x16 .f32)

/-- The precondition says that the first 2560 columns hold real numbers; -/
theorem real_arg0 (h : (Cert.Pre_finite_scores.fn (F := Ideal) X S).1 = fun _ => 1#1) (R : Fin 16384) (C : Fin 3072) (hC : C.val < 2560) :
    ∃ x : ℝ, X (ix2 R C) = x := by
  have e := congrFun h (ix2 R (⟨C.val, hC⟩ : Fin 2560))
  revert e
  unfold Cert.Pre_finite_scores.fn
  pointwise []
  intro e
  rw [top_bits] at e
  exact real_of_abs_lt (of_bit e)

/-- … and the sinks are real numbers. -/
theorem real_arg1 (h : (Cert.Pre_finite_scores.fn (F := Ideal) X S).2 = fun _ => 1#1) (j : Fin 16) : ∃ x : ℝ, S (ix2 0 j) = x := by
  have e := congrFun h (ix2 0 j)
  revert e
  unfold Cert.Pre_finite_scores.fn
  pointwise []
  intro e
  rw [top_bits] at e
  exact real_of_abs_lt (of_bit e)

/-- The two results agree. -/
theorem equal (hX : ∀ (R : Fin 16384) (C : Fin 3072), C.val < 2560 → ∃ x : ℝ, X (ix2 R C) = x) (hS : ∀ j, ∃ x : ℝ, S (ix2 0 j) = x) :
    AttnIdeal.Att.G X S = AttnRefIdeal.Read.val_main_v77 (F := Ideal) X S := by
  refine funext fun (y : S16384x2048.Idx) => ?_
  have hy : y = ix2 (n0 := 16384) (n1 := 2048) (y 0) (y 1) := eq_ix2 (n0 := 16384) (n1 := 2048) y
  have h0 : (y 0).val < 16384 := (y 0).isLt
  have h1 : (y 1).val < 2048 := (y 1).isLt
  refine Eq.trans ?_ (congrArg (AttnRefIdeal.Read.val_main_v77 (F := Ideal) X S) hy.symm)
  refine Eq.trans ?_ (AttnRefIdeal.Att.result_apply X S (y 0) (y 1)).symm
  unfold AttnIdeal.Att.G AttnIdeal.Att.entryOf
  have key : ∀ (n r : Fin 128) (k : Fin 256) (col : Fin 3072), AttnIdeal.Att.visAll n r k →
      AttnIdeal.Att.keyVal X col n k = AttnRefIdeal.Att.refKey X col n k := by
    intro n r k col hv
    unfold AttnIdeal.Att.keyVal
    refine AttnRefIdeal.Att.refKey_neg X col n k (fun a => ?_) _ _ ?_
    · rcases hv.2 with b | b
      · omega
      · exact b a.1
    · have : ¬ n.val * 128 + k.val < 128 := by rcases hv.2 with b | b <;> omega
      simp only [if_neg this]
  obtain ⟨sc, hsc⟩ := scale_real
  refine kerRow_eq_refRow _ _ _ _ _ _ _ (fun k hv => by have := hv.1.1; omega) (fun k hv => funext fun e => key _ _ k _ hv)
    (fun k hv => key _ _ k _ hv) (hS _) (fun k hv => ?_)
  choose q hq using fun e : Fin 128 => hX ⟨(y 0).val / 128 * 128 + (y 0).val % 128, by omega⟩
    ⟨((y 1).val / 512 * 4 + (y 1).val / 128 % 4) * 128 + e.val, by omega⟩ (by simp only; omega)
  choose p hp using fun e : Fin 128 => hX (AttnIdeal.Att.rowOf ⟨(y 0).val / 128, by omega⟩ k)
    ⟨2048 + ((y 1).val / 512 * 128 + e.val), by omega⟩ (by simp only; omega)
  refine ⟨(∑ e, q e * p e) * sc, ?_⟩
  rw [hsc, EReal.coe_mul, coe_sum]
  congr 1
  refine Finset.sum_congr rfl fun e _ => ?_
  rw [EReal.coe_mul, ← hq e, ← hp e]
  rfl

end Cert.AttEqual

end
-- ==== Proof.Ffn.Body.lean ====
module

public import proofs.«01_k».proof.Proof.Gen.FfnIdeal.Frame
public import proofs.«01_k».proof.Proof.Gen.FfnIdeal.Skeleton
public import proofs.«01_k».proof.Proof.Gen.FfnIdeal.Points
public import Idealize.ShloMosaic.Lib.Pipeline.Value
public import Idealize.ShloMosaic.Lib.Pipeline.ValueKit
public import Idealize.ShloMosaic.Lib.VecWindow

@[expose] public section

set_option maxRecDepth 16384

/-! # The feed-forward kernel's body, case by case

The body looks at its grid point `(i, j)`: `i` counts blocks of 1024 rows (one more than there are), `j` blocks of 256
hidden columns. It clears an accumulator, adds the point's product into one, and writes 32 finished rows from the other,
each under conditions on `(i, j)`. Seven combinations occur; here is what each leaves, on any whole staging memrefs. -/

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The program's test "the row block's number is odd", as it computes it. -/
abbrev oddBlock (i : grid0.Coords) : BitVec 1 :=
  Scalar.cmpi .eq (Scalar.select
    (Scalar.andi (Scalar.xori (Scalar.cmpi .slt (Scalar.remsi (BitVec.ofNat 32 (i 0).val) (Scalar.select (Scalar.cmpi .eq 2#32 0#32) 1#32 2#32)) 0#32)
        (Scalar.cmpi .slt (Scalar.select (Scalar.cmpi .eq 2#32 0#32) 1#32 2#32) 0#32))
      (Scalar.cmpi .ne (Scalar.remsi (BitVec.ofNat 32 (i 0).val) (Scalar.select (Scalar.cmpi .eq 2#32 0#32) 1#32 2#32)) 0#32))
    (Scalar.addi (Scalar.remsi (BitVec.ofNat 32 (i 0).val) (Scalar.select (Scalar.cmpi .eq 2#32 0#32) 1#32 2#32)) (Scalar.select (Scalar.cmpi .eq 2#32 0#32) 1#32 2#32))
    (Scalar.remsi (BitVec.ofNat 32 (i 0).val) (Scalar.select (Scalar.cmpi .eq 2#32 0#32) 1#32 2#32))) 1#32

/-- The first accumulator is cleared: the first hidden block of an even row block. -/
abbrev clears0 (i : grid0.Coords) : Prop :=
  (Scalar.cmpi .ne (Scalar.extui (Scalar.andi (Scalar.andi (Scalar.cmpi .eq (BitVec.ofNat 32 (i 1).val) 0#32)
    (Scalar.cmpi .slt (BitVec.ofNat 32 (i 0).val) 16#32)) (Scalar.xori (oddBlock i) 1#1))) 0#32) = 1#1

/-- The second accumulator is cleared: the first hidden block of an odd row block. -/
abbrev clears1 (i : grid0.Coords) : Prop :=
  (Scalar.cmpi .ne (Scalar.extui (Scalar.andi (Scalar.andi (Scalar.cmpi .eq (BitVec.ofNat 32 (i 1).val) 0#32)
    (Scalar.cmpi .slt (BitVec.ofNat 32 (i 0).val) 16#32)) (oddBlock i))) 0#32) = 1#1

/-- Nothing is written out yet: the first row block. -/
abbrev firstBlock (i : grid0.Coords) : Prop :=
  (Scalar.cmpi .ne (Scalar.extui (Scalar.cmpi .eq (BitVec.ofNat 32 (i 0).val) 0#32)) 0#32) = 1#1

/-- One hidden block's product added to an accumulator `a`: `a + (silu (h·wg) * (h·wu)) · wd`. -/
abbrev step (h : Vec F S1024x4096 .bf16) (wg wu : Vec F S4096x256 .bf16) (wd : Vec F S256x4096 .bf16)
    (a : Vec F S1024x4096 .f32) : Vec F S1024x4096 .f32 := k0_pay10 (k0_pay4 h wg wu) a wd

/-- The 32 rows of an accumulator starting where `off` says. -/
abbrev rows (off : Fin 2 → Nat) (inb : ∀ a, off a + S32x4096.size a ≤ S1024x4096.size a) (a : Vec F S1024x4096 .f32) :
    Vec F S32x4096 .f32 := View.ld a (Rect.unit (s := S1024x4096) off S32x4096.size inb)

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1600000 in
/-- At the first row block's first hidden block: the first accumulator is cleared and takes the product; nothing else changes. -/
theorem first_clear (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S32x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S32x4096 .f32) (harg9 : arg9.IsWhole) (arg10 : Memref sig .tc .vmem S1024x4096 .f32) (harg10 : arg10.IsWhole) (arg11 : Memref sig .tc .vmem S1024x4096 .f32) (harg11 : arg11.IsWhole)
    (hc1 : clears0 i) (hc2 : ¬ (clears1 i)) (hc3 : firstBlock i) (hc4 : ¬ (k0_cond4 i = 1#1)) (hc5 : ¬ (k0_cond5 i = 1#1)) (hc6 : ¬ (k0_cond6 i = 1#1))
    (x0 : Vec F S1024x4096 .bf16) (x1 x2 : Vec F S4096x256 .bf16) (x3 : Vec F S256x4096 .bf16) (x4 : Vec F S32x4096 .f32) (x5 : Vec F S1x4096 .f32) (x6 : Vec F S1x1x4096 .f32)
    (xo : Vec F S32x4096 .f32) (d0 d1 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare (step x0 x1 x2 x3 (k0_pay8 (F := F))) ∗ owns (c : Thread nD τ) arg11 fullShare d1) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton, k0_part1_eq_skeleton, k0_part2_eq_skeleton, k0_part3_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    try frame_out
    exact View.read_writes_full _ _ _ _ _
  iexists _; isplitr
  swap; · iexact H9
  ipureintro
  exact harg11.read_unread _

set_option maxHeartbeats 1600000 in
/-- At the first row block's later hidden blocks: the first accumulator takes the product; nothing else changes. -/
theorem first_step (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S32x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S32x4096 .f32) (harg9 : arg9.IsWhole) (arg10 : Memref sig .tc .vmem S1024x4096 .f32) (harg10 : arg10.IsWhole) (arg11 : Memref sig .tc .vmem S1024x4096 .f32) (harg11 : arg11.IsWhole)
    (hc1 : ¬ (clears0 i)) (hc2 : ¬ (clears1 i)) (hc3 : firstBlock i) (hc4 : ¬ (k0_cond4 i = 1#1)) (hc5 : ¬ (k0_cond5 i = 1#1)) (hc6 : ¬ (k0_cond6 i = 1#1))
    (x0 : Vec F S1024x4096 .bf16) (x1 x2 : Vec F S4096x256 .bf16) (x3 : Vec F S256x4096 .bf16) (x4 : Vec F S32x4096 .f32) (x5 : Vec F S1x4096 .f32) (x6 : Vec F S1x1x4096 .f32)
    (xo : Vec F S32x4096 .f32) (d0 d1 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare (step x0 x1 x2 x3 d0) ∗ owns (c : Thread nD τ) arg11 fullShare d1) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton, k0_part1_eq_skeleton, k0_part2_eq_skeleton, k0_part3_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    try frame_out
    exact View.read_writes_full _ _ _ _ _
  iexists _; isplitr
  swap; · iexact H9
  ipureintro
  exact harg11.read_unread _

set_option maxHeartbeats 1600000 in
/-- At a later even row block's first hidden block: 32 rows of the second accumulator are written out, the first is cleared and takes the product. -/
theorem even_clear (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S32x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S32x4096 .f32) (harg9 : arg9.IsWhole) (arg10 : Memref sig .tc .vmem S1024x4096 .f32) (harg10 : arg10.IsWhole) (arg11 : Memref sig .tc .vmem S1024x4096 .f32) (harg11 : arg11.IsWhole)
    (hc1 : clears0 i) (hc2 : ¬ (clears1 i)) (hc3 : ¬ (firstBlock i)) (hc4 : k0_cond4 i = 1#1) (hc5 : ¬ (k0_cond5 i = 1#1)) (hc6 : ¬ (k0_cond6 i = 1#1))
    (x0 : Vec F S1024x4096 .bf16) (x1 x2 : Vec F S4096x256 .bf16) (x3 : Vec F S256x4096 .bf16) (x4 : Vec F S32x4096 .f32) (x5 : Vec F S1x4096 .f32) (x6 : Vec F S1x1x4096 .f32)
    (xo : Vec F S32x4096 .f32) (d0 d1 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 (rows (k0_off1 i) (k0_off1_inb i hc4) d1) x4 x6 x5) ∗ owns (c : Thread nD τ) arg10 fullShare (step x0 x1 x2 x3 (k0_pay8 (F := F))) ∗ owns (c : Thread nD τ) arg11 fullShare d1) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton, k0_part1_eq_skeleton, k0_part2_eq_skeleton, k0_part3_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    try frame_out
    exact View.read_writes_full _ _ _ _ _
  isplitl [H8]
  · iexists _; isplitr
    swap; · iexact H8
    ipureintro
    try frame_out
    exact View.read_writes_full _ _ _ _ _
  iexists _; isplitr
  swap; · iexact H9
  ipureintro
  exact harg11.read_unread _

set_option maxHeartbeats 1600000 in
/-- At a later even row block's later hidden blocks: 32 rows of the second accumulator are written out, the first takes the product. -/
theorem even_step (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S32x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S32x4096 .f32) (harg9 : arg9.IsWhole) (arg10 : Memref sig .tc .vmem S1024x4096 .f32) (harg10 : arg10.IsWhole) (arg11 : Memref sig .tc .vmem S1024x4096 .f32) (harg11 : arg11.IsWhole)
    (hc1 : ¬ (clears0 i)) (hc2 : ¬ (clears1 i)) (hc3 : ¬ (firstBlock i)) (hc4 : k0_cond4 i = 1#1) (hc5 : ¬ (k0_cond5 i = 1#1)) (hc6 : ¬ (k0_cond6 i = 1#1))
    (x0 : Vec F S1024x4096 .bf16) (x1 x2 : Vec F S4096x256 .bf16) (x3 : Vec F S256x4096 .bf16) (x4 : Vec F S32x4096 .f32) (x5 : Vec F S1x4096 .f32) (x6 : Vec F S1x1x4096 .f32)
    (xo : Vec F S32x4096 .f32) (d0 d1 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 (rows (k0_off1 i) (k0_off1_inb i hc4) d1) x4 x6 x5) ∗ owns (c : Thread nD τ) arg10 fullShare (step x0 x1 x2 x3 d0) ∗ owns (c : Thread nD τ) arg11 fullShare d1) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton, k0_part1_eq_skeleton, k0_part2_eq_skeleton, k0_part3_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    try frame_out
    exact View.read_writes_full _ _ _ _ _
  isplitl [H8]
  · iexists _; isplitr
    swap; · iexact H8
    ipureintro
    try frame_out
    exact View.read_writes_full _ _ _ _ _
  iexists _; isplitr
  swap; · iexact H9
  ipureintro
  exact harg11.read_unread _

set_option maxHeartbeats 1600000 in
/-- At an odd row block's first hidden block: 32 rows of the first accumulator are written out, the second is cleared and takes the product. -/
theorem odd_clear (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S32x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S32x4096 .f32) (harg9 : arg9.IsWhole) (arg10 : Memref sig .tc .vmem S1024x4096 .f32) (harg10 : arg10.IsWhole) (arg11 : Memref sig .tc .vmem S1024x4096 .f32) (harg11 : arg11.IsWhole)
    (hc1 : ¬ (clears0 i)) (hc2 : clears1 i) (hc3 : ¬ (firstBlock i)) (hc4 : ¬ (k0_cond4 i = 1#1)) (hc5 : k0_cond5 i = 1#1) (hc6 : ¬ (k0_cond6 i = 1#1))
    (x0 : Vec F S1024x4096 .bf16) (x1 x2 : Vec F S4096x256 .bf16) (x3 : Vec F S256x4096 .bf16) (x4 : Vec F S32x4096 .f32) (x5 : Vec F S1x4096 .f32) (x6 : Vec F S1x1x4096 .f32)
    (xo : Vec F S32x4096 .f32) (d0 d1 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 (rows (k0_off2 i) (k0_off2_inb i hc5) d0) x4 x6 x5) ∗ owns (c : Thread nD τ) arg10 fullShare d0 ∗ owns (c : Thread nD τ) arg11 fullShare (step x0 x1 x2 x3 (k0_pay8 (F := F)))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton, k0_part1_eq_skeleton, k0_part2_eq_skeleton, k0_part3_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    try frame_out
    exact View.read_writes_full _ _ _ _ _
  isplitl [H8]
  · iexists _; isplitr
    swap; · iexact H8
    ipureintro
    exact harg10.read_unread _
  iexists _; isplitr
  swap; · iexact H9
  ipureintro
  try frame_out
  exact View.read_writes_full _ _ _ _ _

set_option maxHeartbeats 1600000 in
/-- At an odd row block's later hidden blocks: 32 rows of the first accumulator are written out, the second takes the product. -/
theorem odd_step (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S32x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S32x4096 .f32) (harg9 : arg9.IsWhole) (arg10 : Memref sig .tc .vmem S1024x4096 .f32) (harg10 : arg10.IsWhole) (arg11 : Memref sig .tc .vmem S1024x4096 .f32) (harg11 : arg11.IsWhole)
    (hc1 : ¬ (clears0 i)) (hc2 : ¬ (clears1 i)) (hc3 : ¬ (firstBlock i)) (hc4 : ¬ (k0_cond4 i = 1#1)) (hc5 : k0_cond5 i = 1#1) (hc6 : ¬ (k0_cond6 i = 1#1))
    (x0 : Vec F S1024x4096 .bf16) (x1 x2 : Vec F S4096x256 .bf16) (x3 : Vec F S256x4096 .bf16) (x4 : Vec F S32x4096 .f32) (x5 : Vec F S1x4096 .f32) (x6 : Vec F S1x1x4096 .f32)
    (xo : Vec F S32x4096 .f32) (d0 d1 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 (rows (k0_off2 i) (k0_off2_inb i hc5) d0) x4 x6 x5) ∗ owns (c : Thread nD τ) arg10 fullShare d0 ∗ owns (c : Thread nD τ) arg11 fullShare (step x0 x1 x2 x3 d1)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton, k0_part1_eq_skeleton, k0_part2_eq_skeleton, k0_part3_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    try frame_out
    exact View.read_writes_full _ _ _ _ _
  isplitl [H8]
  · iexists _; isplitr
    swap; · iexact H8
    ipureintro
    exact harg10.read_unread _
  iexists _; isplitr
  swap; · iexact H9
  ipureintro
  try frame_out
  exact View.read_writes_full _ _ _ _ _

set_option maxHeartbeats 1600000 in
/-- After the last row block: 32 rows of the second accumulator are written out; both accumulators stay. -/
theorem last (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S32x4096 .f32) (harg6 : arg6.IsWhole) (arg7 : Memref sig .tc .vmem S1x4096 .f32) (harg7 : arg7.IsWhole) (arg8 : Memref sig .tc .vmem S1x1x4096 .f32) (harg8 : arg8.IsWhole) (arg9 : Memref sig .tc .vmem S32x4096 .f32) (harg9 : arg9.IsWhole) (arg10 : Memref sig .tc .vmem S1024x4096 .f32) (harg10 : arg10.IsWhole) (arg11 : Memref sig .tc .vmem S1024x4096 .f32) (harg11 : arg11.IsWhole)
    (hc1 : ¬ (clears0 i)) (hc2 : ¬ (clears1 i)) (hc3 : ¬ (firstBlock i)) (hc4 : ¬ (k0_cond4 i = 1#1)) (hc5 : ¬ (k0_cond5 i = 1#1)) (hc6 : k0_cond6 i = 1#1)
    (x0 : Vec F S1024x4096 .bf16) (x1 x2 : Vec F S4096x256 .bf16) (x3 : Vec F S256x4096 .bf16) (x4 : Vec F S32x4096 .f32) (x5 : Vec F S1x4096 .f32) (x6 : Vec F S1x1x4096 .f32)
    (xo : Vec F S32x4096 .f32) (d0 d1 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 (rows (k0_off3 i) (k0_off3_inb i hc6) d1) x4 x6 x5) ∗ owns (c : Thread nD τ) arg10 fullShare d0 ∗ owns (c : Thread nD τ) arg11 fullShare d1) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K := by
  simp only [cc0_ffn_eq_skeleton, k0_part1_eq_skeleton, k0_part2_eq_skeleton, k0_part3_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    try frame_out
    exact View.read_writes_full _ _ _ _ _
  isplitl [H8]
  · iexists _; isplitr
    swap; · iexact H8
    ipureintro
    exact harg10.read_unread _
  iexists _; isplitr
  swap; · iexact H9
  ipureintro
  exact harg11.read_unread _

end Cert.FfnIdeal.Hand

end
-- ==== Proof.Ffn.Frame.lean ====
module

public import proofs.«01_k».proof.Proof.Ffn.Body

@[expose] public section

set_option maxRecDepth 16384

/-! # The feed-forward kernel's run

Two accumulators take turns. While row block `i` is summed up in one, the finished sum of row block `i - 1` stands in the
other, and 32 of its rows are written out at each of the block's grid points. The invariant says just that; with it every
grid point's body runs as its case says, so the whole grid runs, for any values. -/

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions in plain numbers: point `t` is row block `t / 43`, hidden block `t % 43` -/

theorem clears0_iff : ∀ t : Fin cfg0.N, clears0 (grid0.coords t) ↔ t.val % 43 = 0 ∧ t.val / 43 < 16 ∧ t.val / 43 % 2 = 0 :=
  (by decide +kernel : ∀ t : Fin grid0.N, _)
theorem clears1_iff : ∀ t : Fin cfg0.N, clears1 (grid0.coords t) ↔ t.val % 43 = 0 ∧ t.val / 43 < 16 ∧ t.val / 43 % 2 = 1 :=
  (by decide +kernel : ∀ t : Fin grid0.N, _)
theorem firstBlock_iff : ∀ t : Fin cfg0.N, firstBlock (grid0.coords t) ↔ t.val / 43 = 0 :=
  (by decide +kernel : ∀ t : Fin grid0.N, _)
theorem cond4_iff : ∀ t : Fin cfg0.N, k0_cond4 (grid0.coords t) = 1#1 ↔ 0 < t.val / 43 ∧ t.val / 43 < 16 ∧ t.val / 43 % 2 = 0 :=
  (by decide +kernel : ∀ t : Fin grid0.N, _)
theorem cond5_iff : ∀ t : Fin cfg0.N, k0_cond5 (grid0.coords t) = 1#1 ↔ 0 < t.val / 43 ∧ t.val / 43 < 16 ∧ t.val / 43 % 2 = 1 :=
  (by decide +kernel : ∀ t : Fin grid0.N, _)
theorem cond6_iff : ∀ t : Fin cfg0.N, k0_cond6 (grid0.coords t) = 1#1 ↔ t.val / 43 = 16 :=
  (by decide +kernel : ∀ t : Fin grid0.N, _)

/-- Where point `n`'s 32 rows start in the finished accumulator. -/
abbrev rowOff (n : ℕ) : Fin 2 → Nat := ![32 * min (n % 43) 31, 0]

theorem rowOff_inb (n : ℕ) : ∀ a, rowOff n a + S32x4096.size a ≤ S1024x4096.size a := fun a => by
  match a with
  | ⟨0, _⟩ => show 32 * min (n % 43) 31 + 32 ≤ 1024; omega
  | ⟨1, _⟩ => show 0 + 4096 ≤ 4096; omega

theorem off_eq : ∀ t : Fin cfg0.N, k0_off1 (grid0.coords t) = rowOff t.val :=
  (by decide +kernel : ∀ t : Fin grid0.N, _)

theorem idle_eq : ∀ t : Fin cfg0.N, cfg0.idle 7 (grid0.coords t) = decide (t.val / 43 = 0) :=
  (by decide +kernel : ∀ t : Fin grid0.N, _)
theorem flush_first : ∀ t : Fin cfg0.N, t.val / 43 = 0 → (cfg0.win 7).flush t = false :=
  (by decide +kernel : ∀ t : Fin grid0.N, t.val / 43 = 0 → win0_7.flush t = false)

/-! ## What the accumulators and the output hold -/

theorem N_eq : cfg0.N = 731 := N_0

/-- The grid point numbered `n`. -/
def pt (n : ℕ) : Fin cfg0.N := ⟨n % 731, lt_of_lt_of_eq (Nat.mod_lt _ (by decide)) N_eq.symm⟩

theorem pt_val (t : Fin cfg0.N) : pt t.val = t := Fin.ext (Nat.mod_eq_of_lt (lt_of_lt_of_eq t.isLt N_eq))

/-- An accumulator with nothing in it. -/
abbrev zeroAcc : Vec F S1024x4096 .f32 := k0_pay8 (F := F)

/-- Point `n`'s product added to an accumulator. -/
def stepAt (c : Dev nD) (n : ℕ) (a : Vec F S1024x4096 .f32) : Vec F S1024x4096 .f32 :=
  step (iblk m c 0 (pt n)) (iblk m c 1 (pt n)) (iblk m c 2 (pt n)) (iblk m c 3 (pt n)) a

/-- The running sum after point `n` of its row block's products, in the points' order. -/
def chain (c : Dev nD) : ℕ → Vec F S1024x4096 .f32
  | 0 => stepAt m c 0 zeroAcc
  | n + 1 => stepAt m c (n + 1) (if (n + 1) % 43 = 0 then zeroAcc else chain c n)

theorem chain_clear (c : Dev nD) (n : ℕ) (h : n % 43 = 0) : chain m c n = stepAt m c n zeroAcc := by
  cases n with
  | zero => rfl
  | succ n => unfold chain; rw [if_pos h]

theorem chain_step (c : Dev nD) (n : ℕ) (h : ¬ n % 43 = 0) : chain m c n = stepAt m c n (chain m c (n - 1)) := by
  cases n with
  | zero => exact absurd rfl h
  | succ n => conv_lhs => unfold chain
              rw [if_neg h]; rfl

/-- The 32 rows point `n` writes out: rows of the finished sum of the row block before, scaled and added to the input. -/
def slab (c : Dev nD) (n : ℕ) : Vec F S32x4096 .f32 :=
  k0_pay3 (rows (rowOff n) (rowOff_inb n) (chain m c (43 * (n / 43) - 1))) (iblk m c 4 (pt n)) (iblk m c 6 (pt n)) (iblk m c 5 (pt n))

theorem rows_congr {off off' : Fin 2 → Nat} (e : off = off') (inb inb') (a : Vec F S1024x4096 .f32) :
    rows off inb a = rows off' inb' a := by subst e; rfl

/-- Row block `i`'s accumulator of the two. -/
def pick {α : Type} (i : ℕ) (a b : α) : α := if i % 2 = 0 then a else b

theorem pick_even {α : Type} {i : ℕ} (h : i % 2 = 0) (a b : α) : pick i a b = a := if_pos h
theorem pick_odd {α : Type} {i : ℕ} (h : ¬ i % 2 = 0) (a b : α) : pick i a b = b := if_neg h
theorem pick_add_two {α : Type} (i : ℕ) (a b : α) : pick (i + 1 + 1) a b = pick i a b := by
  unfold pick; rw [show (i + 1 + 1) % 2 = i % 2 by omega]

/-- Before point `n`: the row block's own accumulator holds the running sum, the other the finished sum of the block before. -/
structure Inv (c : Dev nD) (n : ℕ) (d0 d1 : Vec F S1024x4096 .f32) : Prop where
  cur : ¬ n % 43 = 0 → n / 43 < 16 → pick (n / 43) d0 d1 = chain m c (n - 1)
  done : 0 < n / 43 → n / 43 ≤ 16 → pick (n / 43 + 1) d0 d1 = chain m c (43 * (n / 43) - 1)

/-- What a point must leave for the next. -/
theorem Inv.next {c : Dev nD} {n : ℕ} {d0 d1 : Vec F S1024x4096 .f32}
    (h1 : n / 43 < 16 → pick (n / 43) d0 d1 = chain m c n)
    (h2 : 0 < n / 43 → n / 43 ≤ 16 → pick (n / 43 + 1) d0 d1 = chain m c (43 * (n / 43) - 1)) : Inv m c (n + 1) d0 d1 := by
  by_cases hj : n % 43 = 42
  · have e : (n + 1) / 43 = n / 43 + 1 := by omega
    refine ⟨fun h => absurd (by omega) h, fun _ hi => ?_⟩
    rw [e] at hi
    rw [e, pick_add_two, h1 (by omega)]
    congr 1; omega
  · have e : (n + 1) / 43 = n / 43 := by omega
    refine ⟨fun _ hi => ?_, fun h0 hi => ?_⟩
    · rw [e] at hi; rw [e, h1 hi]; rfl
    · rw [e] at h0 hi; rw [e, h2 h0 hi]

/-! ## The body at a grid point -/

abbrev ms0 (t : Fin cfg0.N) : Memref sig .tc .vmem S1024x4096 .bf16 := win0_0.stage (cfg0.slots t 0)
theorem hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S4096x256 .bf16 := win0_2.stage (cfg0.slots t 2)
theorem hs2 (t : Fin cfg0.N) : (ms2 t).IsWhole := hstage0_2 ((cfg0.slots t 2).cast nbuf0_2)
abbrev ms3 (t : Fin cfg0.N) : Memref sig .tc .vmem S256x4096 .bf16 := win0_3.stage (cfg0.slots t 3)
theorem hs3 (t : Fin cfg0.N) : (ms3 t).IsWhole := hstage0_3 ((cfg0.slots t 3).cast nbuf0_3)
abbrev ms4 (t : Fin cfg0.N) : Memref sig .tc .vmem S32x4096 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S1x4096 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S1x1x4096 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S32x4096 .f32 := win0_7.stage (cfg0.slots t 7)
theorem hs7 (t : Fin cfg0.N) : (ms7 t).IsWhole := hstage0_7 ((cfg0.slots t 7).cast nbuf0_7)
/-- The two accumulators. -/
abbrev acc0 : Memref sig .tc .vmem S1024x4096 .f32 := Memref.whole cc0_scratch0
abbrev acc1 : Memref sig .tc .vmem S1024x4096 .f32 := Memref.whole cc0_scratch1

/-- The inputs' staging buffers at point `t`'s blocks. -/
abbrev inputs (c : Dev nD) (t : Fin cfg0.N) (P : sProp 𝕄) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ P)

/-- What the body does at point `t` from contents the invariant allows: it leaves contents the invariant allows next, and
    in the output's buffer the point's 32 rows (what it found there, in the first row block). -/
theorem body_at (c : Dev nD) (t : Fin cfg0.N) (xo : Vec F S32x4096 .f32) (d0 d1 : Vec F S1024x4096 .f32) (hI : Inv m c t.val d0 d1) :
    ∃ (o : Vec F S32x4096 .f32) (e0 e1 : Vec F S1024x4096 .f32), Inv m c (t.val + 1) e0 e1 ∧ (o = if t.val / 43 = 0 then xo else slab m c t.val) ∧
      ∀ (E : Set ℕ) (K : PUnit → sProp 𝕄),
        inputs m c t iprop(owns (c : Thread nD τ) (ms7 t) fullShare xo ∗ owns (c : Thread nD τ) acc0 fullShare d0 ∗ owns (c : Thread nD τ) acc1 fullShare d1
          ∗ (inputs m c t iprop(owns (c : Thread nD τ) (ms7 t) fullShare o ∗ owns (c : Thread nD τ) acc0 fullShare e0 ∗ owns (c : Thread nD τ) acc1 fullShare e1) -∗ K ⟨⟩))
        ⊢ wp frame (wpE (defs₀ (F := F)) Variants.none c none) E (bodyAt0 t) K := by
  have ht : t.val < 731 := lt_of_lt_of_eq t.isLt N_eq
  have hst : ∀ a, step (iblk m c 0 t) (iblk m c 1 t) (iblk m c 2 t) (iblk m c 3 t) a = stepAt m c t.val a := fun a => by
    unfold stepAt; rw [pt_val]
  have hsl : ∀ a off inb, a = chain m c (43 * (t.val / 43) - 1) → off = rowOff t.val →
      k0_pay3 (rows off inb a) (iblk m c 4 t) (iblk m c 6 t) (iblk m c 5 t) = slab m c t.val := fun a off inb ea eo => by
    unfold slab; rw [pt_val, ea, rows_congr eo inb (rowOff_inb t.val)]
  by_cases hi0 : t.val / 43 = 0
  · have hp : ∀ a b : Vec F S1024x4096 .f32, pick (t.val / 43) a b = a := pick_even (by omega)
    by_cases hj : t.val % 43 = 0
    · refine ⟨xo, _, _, ?_, (if_pos hi0).symm, first_clear c (grid0.coords t) _ _ _ _ _ _ _ _ _ _ _ _ _ _ _ _ _ _ _ _
        ((clears0_iff t).mpr (by omega)) (fun h => by have := (clears1_iff t).mp h; omega) ((firstBlock_iff t).mpr (by omega)) (fun h => by have := (cond4_iff t).mp h; omega) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) xo d0 d1⟩
      exact Inv.next m (fun _ => by rw [hp, hst, chain_clear m c _ hj]) (fun h => by omega)
    · refine ⟨xo, _, _, ?_, (if_pos hi0).symm, first_step c (grid0.coords t) _ _ _ _ _ _ _ _ _ _ _ _ _ _ _ _ _ _ _ _
        (fun h => by have := (clears0_iff t).mp h; omega) (fun h => by have := (clears1_iff t).mp h; omega) ((firstBlock_iff t).mpr (by omega)) (fun h => by have := (cond4_iff t).mp h; omega) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) xo d0 d1⟩
      have hc := hI.cur hj (by omega)
      rw [hp] at hc
      exact Inv.next m (fun _ => by rw [hp, hst, chain_step m c _ hj, hc]) (fun h => by omega)
  · by_cases hi : t.val / 43 = 16
    · refine ⟨_, d0, d1, ?_, ?_, last c (grid0.coords t) _ _ _ _ _ _ _ _ _ _ _ _ _ _ _ _ _ _ _ _
        (fun h => by have := (clears0_iff t).mp h; omega) (fun h => by have := (clears1_iff t).mp h; omega) (fun h => by have := (firstBlock_iff t).mp h; omega) (fun h => by have := (cond4_iff t).mp h; omega) (fun h => by have := (cond5_iff t).mp h; omega) ((cond6_iff t).mpr (by omega)) (iblk m c 0 t) (iblk m c 1 t) (iblk m c 2 t) (iblk m c 3 t) (iblk m c 4 t) (iblk m c 5 t) (iblk m c 6 t) xo d0 d1⟩
      · exact Inv.next m (fun h => by omega) hI.done
      · have hd := hI.done (by omega) (by omega)
        rw [pick_odd (by omega)] at hd
        rw [if_neg hi0]
        exact hsl _ _ _ hd (off_eq t)
    · have hd := hI.done (by omega) (by omega)
      by_cases he : t.val / 43 % 2 = 0
      · have hp : ∀ a b : Vec F S1024x4096 .f32, pick (t.val / 43) a b = a := pick_even he
        have hq : ∀ a b : Vec F S1024x4096 .f32, pick (t.val / 43 + 1) a b = b := pick_odd (by omega)
        rw [hq] at hd
        by_cases hj : t.val % 43 = 0
        · refine ⟨_, _, _, ?_, ?_, even_clear c (grid0.coords t) _ _ _ _ _ _ _ _ _ _ _ _ _ _ _ _ _ _ _ _
            ((clears0_iff t).mpr (by omega)) (fun h => by have := (clears1_iff t).mp h; omega) (fun h => by have := (firstBlock_iff t).mp h; omega) ((cond4_iff t).mpr (by omega)) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) xo d0 d1⟩
          · exact Inv.next m (fun _ => by rw [hp, hst, chain_clear m c _ hj]) (fun _ _ => by rw [hq, hd])
          · rw [if_neg hi0]
            exact hsl _ _ _ hd (off_eq t)
        · refine ⟨_, _, _, ?_, ?_, even_step c (grid0.coords t) _ _ _ _ _ _ _ _ _ _ _ _ _ _ _ _ _ _ _ _
            (fun h => by have := (clears0_iff t).mp h; omega) (fun h => by have := (clears1_iff t).mp h; omega) (fun h => by have := (firstBlock_iff t).mp h; omega) ((cond4_iff t).mpr (by omega)) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) xo d0 d1⟩
          · have hc := hI.cur hj (by omega)
            rw [hp] at hc
            exact Inv.next m (fun _ => by rw [hp, hst, chain_step m c _ hj, hc]) (fun _ _ => by rw [hq, hd])
          · rw [if_neg hi0]
            exact hsl _ _ _ hd (off_eq t)
      · have hp : ∀ a b : Vec F S1024x4096 .f32, pick (t.val / 43) a b = b := pick_odd he
        have hq : ∀ a b : Vec F S1024x4096 .f32, pick (t.val / 43 + 1) a b = a := pick_even (by omega)
        rw [hq] at hd
        by_cases hj : t.val % 43 = 0
        · refine ⟨_, _, _, ?_, ?_, odd_clear c (grid0.coords t) _ _ _ _ _ _ _ _ _ _ _ _ _ _ _ _ _ _ _ _
            (fun h => by have := (clears0_iff t).mp h; omega) ((clears1_iff t).mpr (by omega)) (fun h => by have := (firstBlock_iff t).mp h; omega) (fun h => by have := (cond4_iff t).mp h; omega) ((cond5_iff t).mpr (by omega)) (fun h => by have := (cond6_iff t).mp h; omega) (iblk m c 0 t) (iblk m c 1 t) (iblk m c 2 t) (iblk m c 3 t) (iblk m c 4 t) (iblk m c 5 t) (iblk m c 6 t) xo d0 d1⟩
          · exact Inv.next m (fun _ => by rw [hp, hst, chain_clear m c _ hj]) (fun _ _ => by rw [hq, hd])
          · rw [if_neg hi0]
            exact hsl _ _ _ hd (off_eq t)
        · refine ⟨_, _, _, ?_, ?_, odd_step c (grid0.coords t) _ _ _ _ _ _ _ _ _ _ _ _ _ _ _ _ _ _ _ _
            (fun h => by have := (clears0_iff t).mp h; omega) (fun h => by have := (clears1_iff t).mp h; omega) (fun h => by have := (firstBlock_iff t).mp h; omega) (fun h => by have := (cond4_iff t).mp h; omega) ((cond5_iff t).mpr (by omega)) (fun h => by have := (cond6_iff t).mp h; omega) (iblk m c 0 t) (iblk m c 1 t) (iblk m c 2 t) (iblk m c 3 t) (iblk m c 4 t) (iblk m c 5 t) (iblk m c 6 t) xo d0 d1⟩
          · have hc := hI.cur hj (by omega)
            rw [hp] at hc
            exact Inv.next m (fun _ => by rw [hp, hst, chain_step m c _ hj, hc]) (fun _ _ => by rw [hq, hd])
          · rw [if_neg hi0]
            exact hsl _ _ _ hd (off_eq t)

/-! ## The pipeline's proof data -/

/-- The invariant before point `n`: the two accumulators at contents `Inv` allows, the generator's register at anything. -/
def Phi (c : Dev nD) (n : ℕ) : sProp 𝕄 :=
  iprop((∃ d0 d1, ⌜Inv m c n d0 d1⌝ ∗ owns (c : Thread nD τ) acc0 fullShare d0 ∗ owns (c : Thread nD τ) acc1 fullShare d1) ∗ (∃ r, prngReg c r))

/-- Before the first point nothing is asked of the accumulators. -/
theorem Phi0_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

/-- The arrays as the region finds them; each input's buffer left at its block, the output's at the point's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => slab m c t.val
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = slab m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (dats m 0 c).leavesExact 7 t)

/-- What the output's buffer must hold after point `t`: the point's rows, or in the first row block what it held. -/
theorem leaves7 (c : Dev nD) (t : Fin cfg0.N) (d : Vec F S32x4096 .f32) :
    (owns (c : Thread nD τ) (ms7 t) fullShare (if t.val / 43 = 0 then (dats m 0 c).before 7 t d else slab m c t.val) : sProp 𝕄)
      ⊢ (dats m 0 c).leavesExact 7 t := by
  by_cases h : t.val / 43 = 0
  · rw [if_pos h, (dats m 0 c).leavesExact_idle 7 t ((idle_eq t).trans (decide_eq_true h)) (flush_first t h)]
    iintro H
    iexists d; iexact H
  · rw [if_neg h]
    unfold Dat.leavesExact
    rw [show cfg0.idle 7 (cfg0.grid.coords t) = false from (idle_eq t).trans (decide_eq_false h), after7]

/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6]
  rw [show (dats m 0 c).owesAt () t.succ = (dats m 0 c).owesAt () t.castSucc from rfl,
    after0, after1, after2, after3, after4, after5, after6]
  rw [show (dats m 0 c).Φ t.succ = Phi m c (t.val + 1) from rfl, show (dats m 0 c).Φ t.castSucc = Phi m c t.val from rfl]
  unfold Phi
  iintro ⟨⟨⟨%d0, %d1, %hI, HA, HB⟩, Hg⟩, Ho, ⟨%y0, H0⟩, ⟨%y1, H1⟩, ⟨%y2, H2⟩, ⟨%y3, H3⟩, ⟨%y4, H4⟩, ⟨%y5, H5⟩, ⟨%y6, H6⟩, ⟨%y7, H7⟩⟩
  obtain ⟨o, e0, e1, hN, ho, hrun⟩ := body_at m c t ((dats m 0 c).before 7 t y7) d0 d1 hI
  subst ho
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  iintro ⟨H0, H1, H2, H3, H4, H5, H6, H7, HA, HB⟩
  isplitl [HA HB Hg]
  · isplitl [HA HB]
    · iexists e0; iexists e1
      isplitr; · ipureintro; exact hN
      isplitl [HA]; · iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t y7)
  iexact H7

theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, Phi0_eq]
  unfold Phi
  iintro ⟨⟨⟨%d0, HA⟩, ⟨%d1, HB⟩⟩, Hg⟩
  isplitl [HA HB]
  · iexists d0; iexists d1
    isplitr; · ipureintro; exact ⟨fun h => absurd rfl h, fun h => absurd h (by decide)⟩
    isplitl [HA]; · iexact HA
    iexact HB
  iexact Hg

theorem hout (c : Dev nD) : (dats m 0 c).Φ (Fin.last cfg0.N) ⊢ Pipeline.ΦA spec0 c := by
  rw [show (dats m 0 c).Φ (Fin.last cfg0.N) = Phi m c cfg0.N from rfl, Phi0_eq]
  unfold Phi
  iintro ⟨⟨%d0, %d1, -, HA, HB⟩, Hg⟩
  isplitl [HA HB]
  · isplitl [HA]; · iexists d0; iexact HA
    iexists d1; iexact HB
  iexact Hg

/-! ## The run and the frame -/

set_option backward.isDefEq.respectTransparency.types false in
/-- The launch: every array of the pipeline at what the proof data makes of it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame, for any values: the arguments end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal.Hand

end
-- ==== Proof.Ffn.Value.lean ====
/-
  The feed-forward kernel's result over the extended reals, as one function of its arguments, and the run with the result
  array at it.
-/
module

public import proofs.«01_k».proof.Proof.Ffn.Frame
public import Idealize.ShloMosaic.Lib.Pointwise

@[expose] public section

set_option maxRecDepth 16384

noncomputable section

namespace Cert.FfnIdeal.Hand

open Idealize.ShloMosaic Idealize.ShloMosaic.TcCoe Idealize.ShloMosaic.Tactic Idealize.SL.Sem
open Cert.FfnIdeal Cert.FfnIdeal.Gen

/-! ## The vectors at an index -/

/-- The hidden block: a logistic-weighted product times a second product. -/
theorem pay4_apply (h : Vec Ideal S1024x4096 .bf16) (wg wu : Vec Ideal S4096x256 .bf16) (a : Fin 1024) (q : Fin 256) :
    (k0_pay4 (F := Ideal) h wg wu : FVec Ideal S1024x256 .bf16) (ix2 a q) =
      (∑ x : Fin 4096, (h : FVec Ideal S1024x4096 .bf16) (ix2 a x) * (wg : FVec Ideal S4096x256 .bf16) (ix2 x q))
        * Ideal.logistic (∑ x : Fin 4096, (h : FVec Ideal S1024x4096 .bf16) (ix2 a x) * (wg : FVec Ideal S4096x256 .bf16) (ix2 x q))
        * ∑ x : Fin 4096, (h : FVec Ideal S1024x4096 .bf16) (ix2 a x) * (wu : FVec Ideal S4096x256 .bf16) (ix2 x q) := by
  unfold k0_pay4
  pointwise []

/-- The accumulator's step. -/
theorem pay10_apply (g : FVec Ideal S1024x256 .bf16) (acc : Vec Ideal S1024x4096 .f32) (wd : Vec Ideal S256x4096 .bf16) (a : Fin 1024) (b : Fin 4096) :
    (k0_pay10 (F := Ideal) g acc wd : FVec Ideal S1024x4096 .f32) (ix2 a b) =
      (acc : FVec Ideal S1024x4096 .f32) (ix2 a b) + ∑ x : Fin 256, g (ix2 a x) * (wd : FVec Ideal S256x4096 .bf16) (ix2 x b) := by
  unfold k0_pay10
  pointwise []

/-- The mean's divisor and the small term under the root. -/
abbrev width : EReal := Ideal.ofBits .f32 1166016512#32
abbrev eps : EReal := Ideal.ofBits .f32 897988541#32

/-- The rows written out. -/
theorem pay3_apply (f x : Vec Ideal S32x4096 .f32) (gt : Vec Ideal S1x1x4096 .f32) (g : Vec Ideal S1x4096 .f32) (a : Fin 32) (b : Fin 4096) :
    (k0_pay3 (F := Ideal) f x gt g : FVec Ideal S32x4096 .f32) (ix2 a b) =
      (x : FVec Ideal S32x4096 .f32) (ix2 a b) + (f : FVec Ideal S32x4096 .f32) (ix2 a b)
        * Ideal.rsqrt (Ideal.div (∑ y : Fin 4096, (f : FVec Ideal S32x4096 .f32) (ix2 a y) * (f : FVec Ideal S32x4096 .f32) (ix2 a y)) width + eps)
        * ((gt : FVec Ideal S1x1x4096 .f32) (ix3 0 0 b) * (g : FVec Ideal S1x4096 .f32) (ix2 0 b)) := by
  unfold k0_pay3
  pointwise []

theorem zeroAcc_apply (a : Fin 1024) (b : Fin 4096) : (zeroAcc (F := Ideal) : FVec Ideal S1024x4096 .f32) (ix2 a b) = 0 := by
  show (k0_pay8 (F := Ideal) : FVec Ideal S1024x4096 .f32) (ix2 a b) = 0
  unfold k0_pay8
  pointwise []

theorem rows_apply (off : Fin 2 → Nat) (inb) (acc : Vec Ideal S1024x4096 .f32) (a : Fin 32) (b : Fin 4096) (r : Fin 1024)
    (h0 : r.val = off 0 + a.val) (h1 : off 1 = 0) :
    (rows off inb acc : FVec Ideal S32x4096 .f32) (ix2 a b) = (acc : FVec Ideal S1024x4096 .f32) (ix2 r b) := by
  refine View.ld_unit_apply_of (S := S1024x4096) (Val := Elt Ideal) (e := .f32) acc off S32x4096.size inb (ix2 a b) (ix2 r b) fun x => ?_
  match x with
  | ⟨0, _⟩ => exact h0
  | ⟨1, _⟩ => show b.val = off 1 + b.val; rw [h1]; omega

/-! ## The result -/

section Whole

variable (H : FVec Ideal S16384x4096 .bf16) (WG WU : FVec Ideal S4096x11008 .bf16) (WD : FVec Ideal S11008x4096 .bf16)
  (X : FVec Ideal S16384x4096 .f32) (GP : FVec Ideal S1x4096 .f32) (M : FVec Ideal S4x24576 .f32)

/-- The hidden layer's entry. -/
def hidden (r : Fin 16384) (k : Fin 11008) : EReal :=
  (∑ x : Fin 4096, H (ix2 r x) * WG (ix2 x k)) * Ideal.logistic (∑ x : Fin 4096, H (ix2 r x) * WG (ix2 x k))
    * ∑ x : Fin 4096, H (ix2 r x) * WU (ix2 x k)

/-- Its product with the last weights. -/
def outSum (r : Fin 16384) (d : Fin 4096) : EReal := ∑ k : Fin 11008, hidden H WG WU r k * WD (ix2 k d)

/-- The part of it that hidden block `s` gives. -/
def part (r : Fin 16384) (d : Fin 4096) (s : ℕ) : EReal :=
  ∑ q : Fin 256, hidden H WG WU r ⟨(s * 256 + q.val) % 11008, Nat.mod_lt _ (by decide)⟩ *
    WD (ix2 ⟨(s * 256 + q.val) % 11008, Nat.mod_lt _ (by decide)⟩ d)

/-- The parts together. -/
theorem sum_parts (r : Fin 16384) (d : Fin 4096) : ∑ s ∈ Finset.range 43, part H WG WU WD r d s = outSum H WG WU WD r d := by
  rw [Finset.sum_range]
  unfold part outSum
  refine Fin.sum_mul_add_congr (S := 43) (n := 256) (fun s q hl => ?_)
  have e : (s.val * 256 + q.val) % 11008 = s.val * 256 + q.val := Nat.mod_eq_of_lt hl
  simp only [e]

/-- The result's entry: the input's plus the scaled, normalised sum. -/
def entry (r : Fin 16384) (d : Fin 4096) : EReal :=
  X (ix2 r d) + outSum H WG WU WD r d
    * Ideal.rsqrt (Ideal.div (∑ y : Fin 4096, outSum H WG WU WD r y * outSum H WG WU WD r y) width + eps)
    * (M (ix2 ⟨r.val / 4096, by omega⟩ ⟨20480 + d.val, by omega⟩) * GP (ix2 0 d))

/-- The whole result. -/
def G : FVec Ideal S16384x4096 .f32 := fun y => entry H WG WU WD X GP M (y 0) (y 1)

end Whole

/-! ## The windows' blocks -/

theorem idx0 : ∀ t : Fin cfg0.N, win0_0.index t (0 : Fin 2) = min (t.val / 43) 15 ∧ win0_0.index t (1 : Fin 2) = 0 :=
  (by decide +kernel : ∀ t : Fin grid0.N, _)
theorem idx1 : ∀ t : Fin cfg0.N, t.val / 43 < 16 → win0_1.index t (0 : Fin 2) = 0 ∧ win0_1.index t (1 : Fin 2) = t.val % 43 :=
  (by decide +kernel : ∀ t : Fin grid0.N, t.val / 43 < 16 → win0_1.index t (0 : Fin 2) = 0 ∧ win0_1.index t (1 : Fin 2) = t.val % 43)
theorem idx2 : ∀ t : Fin cfg0.N, t.val / 43 < 16 → win0_2.index t (0 : Fin 2) = 0 ∧ win0_2.index t (1 : Fin 2) = t.val % 43 :=
  (by decide +kernel : ∀ t : Fin grid0.N, t.val / 43 < 16 → win0_2.index t (0 : Fin 2) = 0 ∧ win0_2.index t (1 : Fin 2) = t.val % 43)
theorem idx3 : ∀ t : Fin cfg0.N, t.val / 43 < 16 → win0_3.index t (0 : Fin 2) = t.val % 43 ∧ win0_3.index t (1 : Fin 2) = 0 :=
  (by decide +kernel : ∀ t : Fin grid0.N, t.val / 43 < 16 → win0_3.index t (0 : Fin 2) = t.val % 43 ∧ win0_3.index t (1 : Fin 2) = 0)
theorem idx4 : ∀ t : Fin cfg0.N, 0 < t.val / 43 → win0_4.index t (0 : Fin 2) = (t.val / 43 - 1) * 32 + min (t.val % 43) 31 ∧ win0_4.index t (1 : Fin 2) = 0 :=
  (by decide +kernel : ∀ t : Fin grid0.N, 0 < t.val / 43 → win0_4.index t (0 : Fin 2) = (t.val / 43 - 1) * 32 + min (t.val % 43) 31 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = (t.val / 43 - 1) / 4 * 6 + 5 ∧ win0_6.index t (1 : Fin 3) = 0 ∧ win0_6.index t (2 : Fin 3) = 0 :=
  (by decide +kernel : ∀ t : Fin grid0.N, _)
theorem idx7 : ∀ t : Fin cfg0.N, 0 < t.val / 43 → win0_7.index t (0 : Fin 2) = (t.val / 43 - 1) * 32 + min (t.val % 43) 31 ∧ win0_7.index t (1 : Fin 2) = 0 :=
  (by decide +kernel : ∀ t : Fin grid0.N, 0 < t.val / 43 → win0_7.index t (0 : Fin 2) = (t.val / 43 - 1) * 32 + min (t.val % 43) 31 ∧ win0_7.index t (1 : Fin 2) = 0)
/-- A row block's 32 slabs are written back, the last at the block's last point. -/
theorem flush7 : ∀ t : Fin cfg0.N, 0 < t.val / 43 → (t.val % 43 < 31 ∨ t.val % 43 = 42) → (cfg0.win 7).flush t = true :=
  (by decide +kernel : ∀ t : Fin grid0.N, 0 < t.val / 43 → (t.val % 43 < 31 ∨ t.val % 43 = 42) → win0_7.flush t = true)

variable (m : (ℓ : Loc nD τ sig) → Buf (Elt Ideal) ℓ) (ρ : Dev nD → PrngReg) (c : Dev nD)

/-- The arguments. -/
abbrev aH : FVec Ideal S16384x4096 .bf16 := m ((c : Thread nD τ).loc main_arg0)
abbrev aG : FVec Ideal S4096x11008 .bf16 := m ((c : Thread nD τ).loc main_arg1)
abbrev aU : FVec Ideal S4096x11008 .bf16 := m ((c : Thread nD τ).loc main_arg2)
abbrev aD : FVec Ideal S11008x4096 .bf16 := m ((c : Thread nD τ).loc main_arg3)
abbrev aX : FVec Ideal S16384x4096 .f32 := m ((c : Thread nD τ).loc main_arg4)
abbrev aP : FVec Ideal S1x4096 .f32 := m ((c : Thread nD τ).loc main_arg5)
abbrev aM : FVec Ideal S4x24576 .f32 := m ((c : Thread nD τ).loc main_arg6)

section Blocks

variable (t : Fin cfg0.N)

theorem t_lt : t.val < 731 := lt_of_lt_of_eq t.isLt N_eq

theorem iblk0_apply (a : Fin 1024) (x : Fin 4096) (r : Fin 16384) (hr : r.val = 1024 * min (t.val / 43) 15 + a.val) :
    (iblk (F := Ideal) m c 0 t : FVec Ideal S1024x4096 .bf16) (ix2 a x) = aH m c (ix2 r x) := by
  refine Eq.trans (b := (V (F := Ideal) m c main_arg0 : FVec Ideal S16384x4096 .bf16) (ix2 r x)) ?_ (by rw [V_main_arg0])
  refine congrArg (V (F := Ideal) m c main_arg0 : FVec Ideal S16384x4096 .bf16) (funext fun y => Fin.ext ?_)
  match y with
  | ⟨0, _⟩ => show win0_0.index t (0 : Fin 2) * 1024 + 1 * a.val = r.val; rw [(idx0 t).1]; omega
  | ⟨1, _⟩ => show win0_0.index t (1 : Fin 2) * 4096 + 1 * x.val = x.val; rw [(idx0 t).2]; omega

theorem iblk1_apply (h : t.val / 43 < 16) (x : Fin 4096) (q : Fin 256) (k : Fin 11008) (hk : k.val = t.val % 43 * 256 + q.val) :
    (iblk (F := Ideal) m c 1 t : FVec Ideal S4096x256 .bf16) (ix2 x q) = aG m c (ix2 x k) := by
  refine Eq.trans (b := (V (F := Ideal) m c main_arg1 : FVec Ideal S4096x11008 .bf16) (ix2 x k)) ?_ (by rw [V_main_arg1])
  refine congrArg (V (F := Ideal) m c main_arg1 : FVec Ideal S4096x11008 .bf16) (funext fun y => Fin.ext ?_)
  match y with
  | ⟨0, _⟩ => show win0_1.index t (0 : Fin 2) * 4096 + 1 * x.val = x.val; rw [(idx1 t h).1]; omega
  | ⟨1, _⟩ => show win0_1.index t (1 : Fin 2) * 256 + 1 * q.val = k.val; rw [(idx1 t h).2]; omega

theorem iblk2_apply (h : t.val / 43 < 16) (x : Fin 4096) (q : Fin 256) (k : Fin 11008) (hk : k.val = t.val % 43 * 256 + q.val) :
    (iblk (F := Ideal) m c 2 t : FVec Ideal S4096x256 .bf16) (ix2 x q) = aU m c (ix2 x k) := by
  refine Eq.trans (b := (V (F := Ideal) m c main_arg2 : FVec Ideal S4096x11008 .bf16) (ix2 x k)) ?_ (by rw [V_main_arg2])
  refine congrArg (V (F := Ideal) m c main_arg2 : FVec Ideal S4096x11008 .bf16) (funext fun y => Fin.ext ?_)
  match y with
  | ⟨0, _⟩ => show win0_2.index t (0 : Fin 2) * 4096 + 1 * x.val = x.val; rw [(idx2 t h).1]; omega
  | ⟨1, _⟩ => show win0_2.index t (1 : Fin 2) * 256 + 1 * q.val = k.val; rw [(idx2 t h).2]; omega

theorem iblk3_apply (h : t.val / 43 < 16) (q : Fin 256) (b : Fin 4096) (k : Fin 11008) (hk : k.val = t.val % 43 * 256 + q.val) :
    (iblk (F := Ideal) m c 3 t : FVec Ideal S256x4096 .bf16) (ix2 q b) = aD m c (ix2 k b) := by
  refine Eq.trans (b := (V (F := Ideal) m c main_arg3 : FVec Ideal S11008x4096 .bf16) (ix2 k b)) ?_ (by rw [V_main_arg3])
  refine congrArg (V (F := Ideal) m c main_arg3 : FVec Ideal S11008x4096 .bf16) (funext fun y => Fin.ext ?_)
  match y with
  | ⟨0, _⟩ => show win0_3.index t (0 : Fin 2) * 256 + 1 * q.val = k.val; rw [(idx3 t h).1]; omega
  | ⟨1, _⟩ => show win0_3.index t (1 : Fin 2) * 4096 + 1 * b.val = b.val; rw [(idx3 t h).2]; omega

theorem iblk4_apply (h : 0 < t.val / 43) (a : Fin 32) (b : Fin 4096) (r : Fin 16384)
    (hr : r.val = ((t.val / 43 - 1) * 32 + min (t.val % 43) 31) * 32 + a.val) :
    (iblk (F := Ideal) m c 4 t : FVec Ideal S32x4096 .f32) (ix2 a b) = aX m c (ix2 r b) := by
  refine Eq.trans (b := (V (F := Ideal) m c main_arg4 : FVec Ideal S16384x4096 .f32) (ix2 r b)) ?_ (by rw [V_main_arg4])
  refine congrArg (V (F := Ideal) m c main_arg4 : FVec Ideal S16384x4096 .f32) (funext fun y => Fin.ext ?_)
  match y with
  | ⟨0, _⟩ => show win0_4.index t (0 : Fin 2) * 32 + 1 * a.val = r.val; rw [(idx4 t h).1]; omega
  | ⟨1, _⟩ => show win0_4.index t (1 : Fin 2) * 4096 + 1 * b.val = b.val; rw [(idx4 t h).2]; omega

/-- The scale and the gates as the region finds them. -/
theorem V_main_v2 (b : Fin 4096) : (V (F := Ideal) m c main_v2 : FVec Ideal S1x4096 .f32) (ix2 0 b) = aP m c (ix2 0 b) := by
  have e : (V (F := Ideal) m c main_v2 : FVec Ideal S1x4096 .f32) =
      shapeCast S1x4096 (shapeCast S4096 (aP m c) shapeCasts_S1x4096_S4096) shapeCasts_S4096_S1x4096 := by
    show StableHlo.after hostOps0 (fun b => m (c, b)) main_v2 = _
    after_results
    rfl
  rw [e]
  pointwise []

theorem V_main_v0 (i : Fin 24) (b : Fin 4096) : (V (F := Ideal) m c main_v0 : FVec Ideal S24x1x4096 .f32) (ix3 i 0 b) =
    aM m c (ix2 ⟨i.val / 6, by omega⟩ ⟨i.val % 6 * 4096 + b.val, by omega⟩) := by
  have e : (V (F := Ideal) m c main_v0 : FVec Ideal S24x1x4096 .f32) = shapeCast S24x1x4096 (aM m c) shapeCasts_S4x24576_S24x1x4096 := by
    show StableHlo.after hostOps0 (fun b => m (c, b)) main_v0 = _
    after_results
    rfl
  rw [e]
  refine shapeCast_apply (aM m c) shapeCasts_S4x24576_S24x1x4096 (ix3 i 0 b) _ ?_
  rw [Shape.rowMajor_val_three, Shape.rowMajor_val_two]
  show i.val / 6 * 24576 + (i.val % 6 * 4096 + b.val) = (i.val * 1 + 0) * 4096 + b.val
  omega

theorem iblk5_apply (b : Fin 4096) : (iblk (F := Ideal) m c 5 t : FVec Ideal S1x4096 .f32) (ix2 0 b) = aP m c (ix2 0 b) := by
  refine Eq.trans ?_ (V_main_v2 m c b)
  refine congrArg (V (F := Ideal) m c main_v2 : FVec Ideal S1x4096 .f32) (funext fun y => Fin.ext ?_)
  match y with
  | ⟨0, _⟩ => show win0_5.index t (0 : Fin 2) * 1 + 1 * 0 = 0; rw [(idx5 t).1]
  | ⟨1, _⟩ => show win0_5.index t (1 : Fin 2) * 4096 + 1 * b.val = b.val; rw [(idx5 t).2]; omega

theorem iblk6_apply (b : Fin 4096) (s : Fin 4) (d : Fin 24576) (hs : s.val = (t.val / 43 - 1) / 4) (hd : d.val = 20480 + b.val) :
    (iblk (F := Ideal) m c 6 t : FVec Ideal S1x1x4096 .f32) (ix3 0 0 b) = aM m c (ix2 s d) := by
  have ht := t_lt t
  have hi : (t.val / 43 - 1) / 4 * 6 + 5 < 24 := by omega
  refine Eq.trans (b := (V (F := Ideal) m c main_v0 : FVec Ideal S24x1x4096 .f32) (ix3 ⟨(t.val / 43 - 1) / 4 * 6 + 5, hi⟩ 0 b)) ?_ ?_
  · refine congrArg (V (F := Ideal) m c main_v0 : FVec Ideal S24x1x4096 .f32) (funext fun y => Fin.ext ?_)
    match y with
    | ⟨0, _⟩ => show win0_6.index t (0 : Fin 3) * 1 + 1 * 0 = (t.val / 43 - 1) / 4 * 6 + 5; rw [(idx6 t).1]; omega
    | ⟨1, _⟩ => show win0_6.index t (1 : Fin 3) * 1 + 1 * 0 = 0; rw [(idx6 t).2.1]
    | ⟨2, _⟩ => show win0_6.index t (2 : Fin 3) * 4096 + 1 * b.val = b.val; rw [(idx6 t).2.2]; omega
  · rw [V_main_v0]
    refine congrArg (aM m c) (congrArg₂ ix2 (Fin.ext ?_) (Fin.ext ?_)) <;> simp only <;> omega

end Blocks

/-! ## The running sum -/

/-- One point's step, at an index. -/
theorem stepAt_apply (n : ℕ) (hn : n / 43 < 16) (acc : Vec Ideal S1024x4096 .f32) (a : Fin 1024) (b : Fin 4096) (r : Fin 16384)
    (hr : r.val = 1024 * (n / 43) + a.val) :
    (stepAt (F := Ideal) m c n acc : FVec Ideal S1024x4096 .f32) (ix2 a b) =
      (acc : FVec Ideal S1024x4096 .f32) (ix2 a b) + part (aH m c) (aG m c) (aU m c) (aD m c) r b (n % 43) := by
  have hp : (pt n).val = n := Nat.mod_eq_of_lt (by omega)
  unfold stepAt step
  rw [pay10_apply]
  refine congrArg _ ?_
  unfold part
  refine Finset.sum_congr rfl fun q _ => ?_
  have hk : n % 43 * 256 + q.val < 11008 := by omega
  have hx : ∀ x : Fin 4096, (iblk (F := Ideal) m c 0 (pt n) : FVec Ideal S1024x4096 .bf16) (ix2 a x) = aH m c (ix2 r x) := fun x =>
    iblk0_apply m c (pt n) a x r (by rw [hp]; omega)
  have hg : ∀ x : Fin 4096, (iblk (F := Ideal) m c 1 (pt n) : FVec Ideal S4096x256 .bf16) (ix2 x q) =
      aG m c (ix2 x ⟨(n % 43 * 256 + q.val) % 11008, Nat.mod_lt _ (by decide)⟩) := fun x =>
    iblk1_apply m c (pt n) (by rw [hp]; exact hn) x q _ (by rw [hp]; exact Nat.mod_eq_of_lt hk)
  have hu : ∀ x : Fin 4096, (iblk (F := Ideal) m c 2 (pt n) : FVec Ideal S4096x256 .bf16) (ix2 x q) =
      aU m c (ix2 x ⟨(n % 43 * 256 + q.val) % 11008, Nat.mod_lt _ (by decide)⟩) := fun x =>
    iblk2_apply m c (pt n) (by rw [hp]; exact hn) x q _ (by rw [hp]; exact Nat.mod_eq_of_lt hk)
  have hd : (iblk (F := Ideal) m c 3 (pt n) : FVec Ideal S256x4096 .bf16) (ix2 q b) =
      aD m c (ix2 ⟨(n % 43 * 256 + q.val) % 11008, Nat.mod_lt _ (by decide)⟩ b) :=
    iblk3_apply m c (pt n) (by rw [hp]; exact hn) q b _ (by rw [hp]; exact Nat.mod_eq_of_lt hk)
  refine congrArg₂ (· * ·) ?_ hd
  refine (pay4_apply _ _ _ a q).trans ?_
  unfold hidden
  simp only [hx, hg, hu]

/-- The running sum after hidden block `j`. -/
theorem chain_apply (i : ℕ) (hi : i < 16) (a : Fin 1024) (b : Fin 4096) (r : Fin 16384) (hr : r.val = 1024 * i + a.val) (j : ℕ) (hj : j < 43) :
    (chain (F := Ideal) m c (43 * i + j) : FVec Ideal S1024x4096 .f32) (ix2 a b) =
      ∑ s ∈ Finset.range (j + 1), part (aH m c) (aG m c) (aU m c) (aD m c) r b s := by
  have e1 : (43 * i + j) / 43 = i := by omega
  have e2 : (43 * i + j) % 43 = j := by omega
  induction j with
  | zero =>
    rw [chain_clear m c _ e2, stepAt_apply m c _ (by omega) _ a b r (by omega), e2, zeroAcc_apply, zero_add, Finset.sum_range_one]
  | succ j ih =>
    rw [chain_step m c _ (by omega), stepAt_apply m c _ (by omega) _ a b r (by omega), e2,
      show 43 * i + (j + 1) - 1 = 43 * i + j by omega, ih (by omega) (by omega) (by omega), Finset.sum_range_succ _ (j + 1)]

/-- The finished sum. -/
theorem chain_last (i : ℕ) (hi : i < 16) (a : Fin 1024) (b : Fin 4096) (r : Fin 16384) (hr : r.val = 1024 * i + a.val) :
    (chain (F := Ideal) m c (43 * i + 42) : FVec Ideal S1024x4096 .f32) (ix2 a b) = outSum (aH m c) (aG m c) (aU m c) (aD m c) r b :=
  (chain_apply m c i hi a b r hr 42 (by omega)).trans (sum_parts _ _ _ _ r b)

/-- The 32 rows a point writes out are the result's. -/
theorem slab_apply (t : Fin cfg0.N) (h : 0 < t.val / 43) (a : Fin 32) (b : Fin 4096) (r : Fin 16384)
    (hr : r.val = ((t.val / 43 - 1) * 32 + min (t.val % 43) 31) * 32 + a.val) :
    (slab (F := Ideal) m c t.val : FVec Ideal S32x4096 .f32) (ix2 a b) =
      entry (aH m c) (aG m c) (aU m c) (aD m c) (aX m c) (aP m c) (aM m c) r b := by
  have ht := t_lt t
  have hf : ∀ y : Fin 4096, (rows (rowOff t.val) (rowOff_inb t.val) (chain (F := Ideal) m c (43 * (t.val / 43) - 1)) : FVec Ideal S32x4096 .f32) (ix2 a y) =
      outSum (aH m c) (aG m c) (aU m c) (aD m c) r y := fun y => by
    rw [rows_apply (rowOff t.val) (rowOff_inb t.val) _ a y ⟨32 * min (t.val % 43) 31 + a.val, by omega⟩ rfl rfl,
      show 43 * (t.val / 43) - 1 = 43 * (t.val / 43 - 1) + 42 by omega]
    exact chain_last m c (t.val / 43 - 1) (by omega) _ y r (by simp only; omega)
  unfold slab
  rw [pay3_apply, pt_val, iblk4_apply m c t h a b r hr, iblk5_apply,
    iblk6_apply m c t b ⟨r.val / 4096, by omega⟩ ⟨20480 + b.val, by omega⟩ (by simp only; omega) rfl]
  simp only [hf]
  rfl

/-! ## The result array -/

/-- What a grid point writes back is its block of the whole. -/
theorem flushed_eq (t : Fin cfg0.N) (hfl : (cfg0.win 7).flush t = true) : (dats (F := Ideal) m 0 c).flushed 7 t =
    ((cfg0.win 7).blk t).view.read (Elt Ideal) (G (aH m c) (aG m c) (aU m c) (aD m c) (aX m c) (aP m c) (aM m c)) := by
  have h : 0 < t.val / 43 := Nat.pos_of_ne_zero fun h => by
    have := flush_first t h; rw [hfl] at this; exact absurd this (by decide)
  show (cfg0.win 7).cut (grid0.coords t) ((dats (F := Ideal) m 0 c).after 7 t) = _
  rw [after7]
  have ht := t_lt t
  refine funext fun (j : S32x4096.Idx) => ?_
  have h0 : (j 0).val < 32 := (j 0).isLt
  have h1 : (j 1).val < 4096 := (j 1).isLt
  have e0 : ((((cfg0.win 7).blk t).view.emb j) 0).val = ((t.val / 43 - 1) * 32 + min (t.val % 43) 31) * 32 + (j 0).val := by
    show win0_7.index t (0 : Fin 2) * 32 + 1 * (j 0).val = _; rw [(idx7 t h).1]; omega
  have e1 : ((((cfg0.win 7).blk t).view.emb j) 1) = (j 1 : Fin 4096) := Fin.ext (by
    show win0_7.index t (1 : Fin 2) * 4096 + 1 * (j 1).val = _; rw [(idx7 t h).2]; omega)
  show (slab (F := Ideal) m c t.val : FVec Ideal S32x4096 .f32) j =
    entry (aH m c) (aG m c) (aU m c) (aD m c) (aX m c) (aP m c) (aM m c) ((((cfg0.win 7).blk t).view.emb j) 0) ((((cfg0.win 7).blk t).view.emb j) 1)
  rw [e1, ← slab_apply m c t h (j 0) (j 1) _ e0]
  exact congrArg (slab (F := Ideal) m c t.val : FVec Ideal S32x4096 .f32) (eq_ix2 (n0 := 32) (n1 := 4096) j)

/-- Every index of the result array is in a block that is written back. -/
theorem covered (i : S16384x4096.Idx) : ∃ t : Fin cfg0.N, (cfg0.win 7).flush t = true ∧ i ∈ ((cfg0.win 7).blk t).view.set := by
  have h0 : (i 0).val < 16384 := (i 0).isLt
  have h1 : (i 1).val < 4096 := (i 1).isLt
  obtain ⟨n, hn, hd, hm, hj⟩ : ∃ n, n < 731 ∧ n / 43 = (i 0).val / 1024 + 1 ∧ min (n % 43) 31 = (i 0).val % 1024 / 32 ∧ (n % 43 < 31 ∨ n % 43 = 42) := by
    by_cases h : (i 0).val % 1024 / 32 < 31
    · exact ⟨43 * ((i 0).val / 1024 + 1) + (i 0).val % 1024 / 32, by omega, by omega, by omega, by omega⟩
    · exact ⟨43 * ((i 0).val / 1024 + 1) + 42, by omega, by omega, by omega, by omega⟩
  let t : Fin cfg0.N := ⟨n, lt_of_lt_of_eq hn N_eq.symm⟩
  have tv : t.val = n := rfl
  have hpos : 0 < t.val / 43 := by omega
  refine ⟨t, flush7 t hpos (by omega), ?_⟩
  have e : ((cfg0.win 7).blk t).view.emb (ix2 (n0 := 32) (n1 := 4096) ⟨(i 0).val % 32, by omega⟩ ⟨(i 1).val, h1⟩) = i := by
    refine funext fun x => Fin.ext ?_
    match x with
    | ⟨0, _⟩ => show win0_7.index t (0 : Fin 2) * 32 + 1 * ((i 0).val % 32) = (i 0).val; rw [(idx7 t hpos).1]; omega
    | ⟨1, _⟩ => show win0_7.index t (1 : Fin 2) * 4096 + 1 * (i 1).val = (i 1).val; rw [(idx7 t hpos).2]; omega
  have h := ((cfg0.win 7).blk t).view.emb_mem_set (ix2 (n0 := 32) (n1 := 4096) ⟨(i 0).val % 32, by omega⟩ ⟨(i 1).val, h1⟩)
  rwa [e] at h

/-- The result array after the run. -/
theorem final : (dats (F := Ideal) m 0 c).arrAt 7 cfg0.N = G (aH m c) (aG m c) (aU m c) (aD m c) (aX m c) (aP m c) (aM m c) :=
  (dats (F := Ideal) m 0 c).arrAt_eq_of_cover 7 (G (aH m c) (aG m c) (aU m c) (aD m c) (aX m c) (aP m c) (aM m c))
    (fun t ht => flushed_eq m c t ht) covered

/-- The run: it ends with the result array at `G` of the arguments, and these as they were. -/
theorem run : θ_run defs (onTc (τ := τ) (main (F := Ideal))) ⟨m, fun _ => 0, ρ⟩ fun r => ∀ c : Dev nD,
      r.2.mem ((c.tc : Thread nD τ).loc main_v3) = G (aH m c) (aG m c) (aU m c) (aD m c) (aX m c) (aP m c) (aM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1 c).trans (final m c), h.2 c⟩)
    (θ_run_and ((θ_run defs _ _).mono (fun r h c => (h c).1 7) (run_main (F := Ideal) m ρ))
      (frame_of m ρ (dats m) (A_eq m) (run_main (F := Ideal) m ρ)))

end Cert.FfnIdeal.Hand

end
-- ==== Proof.Ffn.Ref.lean ====
/-
  The feed-forward reference over the extended reals, read at an index.
-/
module

public import proofs.«01_k».proof.Proof.Gen.FfnRefIdeal.Read
public import Idealize.ShloMosaic.Lib.Pointwise

@[expose] public section

set_option maxRecDepth 16384

noncomputable section

namespace Cert.FfnRefIdeal.Hand

open Idealize.ShloMosaic Idealize.ShloMosaic.TcCoe Idealize.ShloMosaic.Tactic
open Cert.FfnRefIdeal Cert.FfnRefIdeal.Read

variable (x0 : FVec Ideal S16384x4096 .bf16) (x1 x2 : FVec Ideal S4096x11008 .bf16) (x3 : FVec Ideal S11008x4096 .bf16)
  (x4 : FVec Ideal S16384x4096 .f32) (x5 : FVec Ideal S1x4096 .f32) (x6 : FVec Ideal S4x24576 .f32)

/-- The sum's mean square's divisor, and the small term added to it. -/
abbrev width : EReal := Ideal.ofBits .f32 1166016512#32
abbrev eps : EReal := Ideal.ofBits .f32 897988541#32

/-- Row `r` of sequence `s`. -/
abbrev row (s : Fin 4) (r : Fin 4096) : Fin 16384 := ⟨s.val * 4096 + r.val, by omega⟩

/-- The hidden layer. -/
theorem hidden_apply (s : Fin 4) (r : Fin 4096) (k : Fin 11008) : (val_main_v13 (F := Ideal) x0 x1 x2) (ix3 s r k) =
    (∑ x : Fin 4096, x0 (ix2 (row s r) x) * x1 (ix2 x k))
      * Ideal.div 1 (1 + Ideal.exp (-∑ x : Fin 4096, x0 (ix2 (row s r) x) * x1 (ix2 x k)))
      * ∑ x : Fin 4096, x0 (ix2 (row s r) x) * x2 (ix2 x k) := by
  pointwise [val_main_v13, val_main_v12, val_main_v11, val_main_v10, val_main_v9, val_main_v8, val_main_v1, val_main_v0,
    val_main_call0_v0, val_main_call0_v1, val_main_call0_v2, val_main_call0_v3, val_main_call0_v4, val_main_call0_v5,
    val_main_call0_cst, val_main_call0_cst_0]

/-- Its product with the last weights. -/
theorem out_apply (s : Fin 4) (r d : Fin 4096) : (val_main_v15 (F := Ideal) x0 x1 x2 x3) (ix3 s r d) =
    ∑ k : Fin 11008, (val_main_v13 (F := Ideal) x0 x1 x2) (ix3 s r k) * x3 (ix2 k d) := by
  pointwise [val_main_v15, val_main_v14]

/-- The gate. -/
theorem gate_apply (s : Fin 4) (d : Fin 4096) : (val_main_v7 (F := Ideal) x6) (ix2 s d) = x6 (ix2 s ⟨20480 + d.val, by omega⟩) := by
  pointwise [val_main_v7]

/-- The result, by sequence and row. -/
theorem result_apply (s : Fin 4) (r d : Fin 4096) : (val_main_v34 (F := Ideal) x0 x1 x2 x3 x4 x5 x6) (ix3 s r d) =
    x4 (ix2 (row s r) d) + x6 (ix2 s ⟨20480 + d.val, by omega⟩) *
      ((val_main_v15 (F := Ideal) x0 x1 x2 x3) (ix3 s r d) *
        Ideal.rsqrt (Ideal.div (∑ y : Fin 4096, (val_main_v15 (F := Ideal) x0 x1 x2 x3) (ix3 s r y) * (val_main_v15 (F := Ideal) x0 x1 x2 x3) (ix3 s r y)) width + eps)
        * x5 (ix2 0 d)) := by
  have z : val_main_cst (F := Ideal) (Shape.Idx.first Gen.h_S_) = 0 := by pointwise [val_main_cst]
  have w : val_main_cst_0 (F := Ideal) ix0 = width := by pointwise [val_main_cst_0]
  have e : val_main_cst_1 (F := Ideal) ix0 = eps := by pointwise [val_main_cst_1]
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16]
  rw [z, w, e, gate_apply, zero_add]

/-- The result is its rows in the sequences' order. -/
theorem flat_apply (s : Fin 4) (r d : Fin 4096) : (val_main_v35 (F := Ideal) x0 x1 x2 x3 x4 x5 x6) (ix2 (row s r) d) =
    (val_main_v34 (F := Ideal) x0 x1 x2 x3 x4 x5 x6) (ix3 s r d) := by
  have hs := s.isLt
  have hr := r.isLt
  have hd := d.isLt
  rw [val_main_v35_apply]
  refine congrArg _ (funext fun a => Fin.ext ?_)
  match a with
  | ⟨0, _⟩ => show ((s.val * 4096 + r.val) * 4096 + d.val) / 16777216 = s.val; omega
  | ⟨1, _⟩ => show ((s.val * 4096 + r.val) * 4096 + d.val) / 4096 % 4096 = r.val; omega
  | ⟨2, _⟩ => show ((s.val * 4096 + r.val) * 4096 + d.val) % 4096 = d.val; omega

end Cert.FfnRefIdeal.Hand

end
-- ==== Proof.Ffn.Equal.lean ====
/-
  The feed-forward kernel's result array is the reference's, for any arguments.
-/
module

public import proofs.«01_k».proof.Proof.Ffn.Value
public import proofs.«01_k».proof.Proof.Ffn.Ref

@[expose] public section

set_option maxRecDepth 16384

noncomputable section

namespace Cert.FfnEqual

open Idealize.ShloMosaic Idealize.ShloMosaic.TcCoe Idealize.ShloMosaic.Tactic
open Cert.FfnIdeal (S16384x4096 S4096x11008 S11008x4096 S1x4096 S4x24576)

variable (H : FVec Ideal S16384x4096 .bf16) (WG WU : FVec Ideal S4096x11008 .bf16) (WD : FVec Ideal S11008x4096 .bf16)
  (X : FVec Ideal S16384x4096 .f32) (GP : FVec Ideal S1x4096 .f32) (M : FVec Ideal S4x24576 .f32)

/-- The sums over the hidden layer are the same. -/
theorem sums (s : Fin 4) (r d : Fin 4096) : FfnRefIdeal.Read.val_main_v15 (F := Ideal) H WG WU WD (ix3 s r d) =
    FfnIdeal.Hand.outSum H WG WU WD (FfnRefIdeal.Hand.row s r) d := by
  rw [FfnRefIdeal.Hand.out_apply]
  refine Finset.sum_congr rfl fun k _ => ?_
  rw [FfnRefIdeal.Hand.hidden_apply]
  rfl

/-- The two results agree at a row of a sequence; -/
theorem equal_at (s : Fin 4) (r d : Fin 4096) : FfnIdeal.Hand.G H WG WU WD X GP M (ix2 (FfnRefIdeal.Hand.row s r) d) =
    FfnRefIdeal.Read.val_main_v35 (F := Ideal) H WG WU WD X GP M (ix2 (FfnRefIdeal.Hand.row s r) d) := by
  rw [FfnRefIdeal.Hand.flat_apply, FfnRefIdeal.Hand.result_apply]
  simp only [sums]
  show FfnIdeal.Hand.entry H WG WU WD X GP M (FfnRefIdeal.Hand.row s r) d = _
  unfold FfnIdeal.Hand.entry
  have e : (⟨(FfnRefIdeal.Hand.row s r).val / 4096, by omega⟩ : Fin 4) = s := Fin.ext (by simp only; omega)
  rw [e]
  refine congrArg _ ?_
  rw [← mul_assoc, mul_comm _ (M (ix2 s ⟨20480 + d.val, by omega⟩)), mul_assoc]

/-- … so they agree. -/
theorem equal : FfnIdeal.Hand.G H WG WU WD X GP M = FfnRefIdeal.Read.val_main_v35 (F := Ideal) H WG WU WD X GP M := by
  refine funext fun (y : S16384x4096.Idx) => ?_
  have h0 : (y 0).val < 16384 := (y 0).isLt
  have e : y = ix2 (n0 := 16384) (n1 := 4096) (FfnRefIdeal.Hand.row ⟨(y 0).val / 4096, by omega⟩ ⟨(y 0).val % 4096, by omega⟩) (y 1) := by
    refine (eq_ix2 (n0 := 16384) (n1 := 4096) y).trans (congrArg₂ ix2 (Fin.ext ?_) rfl)
    show (y 0).val = (y 0).val / 4096 * 4096 + (y 0).val % 4096
    omega
  rw [e]
  exact equal_at H WG WU WD X GP M _ _ _

end Cert.FfnEqual

end
-- ==== Proof.Gates.Value.lean ====
/-
  The gate projection's results over the extended reals, each as one function of the arguments, and the run with the
  result arrays at them.
-/
module

public import proofs.«01_k».proof.Proof.Gen.GatesIdeal.Frame
public import proofs.«01_k».proof.Proof.Gen.GatesIdeal.Points
public import Idealize.ShloMosaic.Lib.Pipeline.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.GatesIdeal.Hand

open Idealize.ShloMosaic Idealize.ShloMosaic.TcCoe Idealize.ShloMosaic.Tactic Idealize.SL.Sem
open Cert.GatesIdeal Cert.GatesIdeal.Gen

/-! ## The vectors at an index -/

/-- The weight block as it is kept: unchanged. -/
theorem pay1_apply (w : Vec Ideal S4096x512 .f32) (x : Fin 4096) (q : Fin 512) :
    (k0_pay1 (F := Ideal) w : FVec Ideal S4096x512 .bf16) (ix2 x q) = (w : FVec Ideal S4096x512 .f32) (ix2 x q) := by
  unfold k0_pay1
  pointwise []

theorem pay2_apply (w : Vec Ideal S16x11008 .f32) (a : Fin 16) (b : Fin 11008) :
    (k0_pay2 (F := Ideal) w : FVec Ideal S16x11008 .bf16) (ix2 a b) = (w : FVec Ideal S16x11008 .f32) (ix2 a b) := by
  unfold k0_pay2
  pointwise []

theorem pay3_apply (w : Vec Ideal S16x11008 .f32) (a : Fin 16) (b : Fin 11008) :
    (k0_pay3 (F := Ideal) w : FVec Ideal S16x11008 .bf16) (ix2 a b) = (w : FVec Ideal S16x11008 .f32) (ix2 a b) := by
  unfold k0_pay3
  pointwise []

/-- The product of a row block and a weight block. -/
theorem pay4_apply (h : Vec Ideal S1024x4096 .bf16) (w : Vec Ideal S4096x512 .bf16) (a : Fin 1024) (q : Fin 512) :
    (k0_pay4 (F := Ideal) h w : FVec Ideal S1024x512 .bf16) (ix2 a q) =
      ∑ x : Fin 4096, (h : FVec Ideal S1024x4096 .bf16) (ix2 a x) * (w : FVec Ideal S4096x512 .bf16) (ix2 x q) := by
  unfold k0_pay4
  pointwise []

/-! ## The results -/

/-- The gate columns of the projection. -/
def prod (H : FVec Ideal S16384x4096 .bf16) (W : FVec Ideal S1x4096x15360 .f32) : FVec Ideal S16384x8192 .bf16 := fun y =>
  ∑ x : Fin 4096, H (ix2 (n0 := 16384) (y 0) x) * W (ix3 (n0 := 1) (n2 := 15360) 0 x ⟨7168 + (y 1).val, by have : (y 1).val < 8192 := (y 1).isLt; omega⟩)

/-- The first layer of a stack of weights. -/
def first (W : FVec Ideal S1x4096x11008 .f32) : FVec Ideal S4096x11008 .bf16 := fun y =>
  W (ix3 (n0 := 1) (n1 := 4096) (n2 := 11008) 0 (y 0) (y 1))

variable (m : (ℓ : Loc nD τ sig) → Buf (Elt Ideal) ℓ) (ρ : Dev nD → PrngReg) (c : Dev nD)

/-- The arguments. -/
abbrev aH : FVec Ideal S16384x4096 .bf16 := m ((c : Thread nD τ).loc main_arg0)
abbrev aW : FVec Ideal S1x4096x15360 .f32 := m ((c : Thread nD τ).loc main_arg1)
abbrev aG : FVec Ideal S1x4096x11008 .f32 := m ((c : Thread nD τ).loc main_arg2)
abbrev aU : FVec Ideal S1x4096x11008 .f32 := m ((c : Thread nD τ).loc main_arg3)

/-! ## The windows' blocks -/

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 16 + 14 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val % 16 ∧ win0_4.index t (1 : Fin 2) = t.val / 16 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

theorem t_lt (t : Fin cfg0.N) : t.val < 256 := lt_of_lt_of_eq t.isLt N_0

/-- The weights as the region finds them. -/
theorem V_main_v0 (x : Fin 4096) (k : Fin 15360) : (V (F := Ideal) m c main_v0 : FVec Ideal S4096x15360 .f32) (ix2 x k) = aW m c (ix3 0 x k) := by
  have e : (V (F := Ideal) m c main_v0 : FVec Ideal S4096x15360 .f32) = shapeCast S4096x15360 (aW m c) shapeCasts_S1x4096x15360_S4096x15360 := by
    show StableHlo.after hostOps0 (fun b => m (c, b)) main_v0 = _
    after_results
    rfl
  rw [e]
  pointwise []

theorem V_main_v1 (x : Fin 4096) (k : Fin 11008) : (V (F := Ideal) m c main_v1 : FVec Ideal S4096x11008 .f32) (ix2 x k) = aG m c (ix3 0 x k) := by
  have e : (V (F := Ideal) m c main_v1 : FVec Ideal S4096x11008 .f32) = shapeCast S4096x11008 (aG m c) shapeCasts_S1x4096x11008_S4096x11008 := by
    show StableHlo.after hostOps0 (fun b => m (c, b)) main_v1 = _
    after_results
    rfl
  rw [e]
  pointwise []

theorem V_main_v2 (x : Fin 4096) (k : Fin 11008) : (V (F := Ideal) m c main_v2 : FVec Ideal S4096x11008 .f32) (ix2 x k) = aU m c (ix3 0 x k) := by
  have e : (V (F := Ideal) m c main_v2 : FVec Ideal S4096x11008 .f32) = shapeCast S4096x11008 (aU m c) shapeCasts_S1x4096x11008_S4096x11008 := by
    show StableHlo.after hostOps0 (fun b => m (c, b)) main_v2 = _
    after_results
    rfl
  rw [e]
  pointwise []

section Blocks

variable (t : Fin cfg0.N)

theorem iblk0_apply (a : Fin 1024) (x : Fin 4096) (r : Fin 16384) (hr : r.val = t.val % 16 * 1024 + a.val) :
    (iblk (F := Ideal) m c 0 t : FVec Ideal S1024x4096 .bf16) (ix2 a x) = aH m c (ix2 r x) := by
  refine Eq.trans (b := (V (F := Ideal) m c main_arg0 : FVec Ideal S16384x4096 .bf16) (ix2 r x)) ?_ (by rw [V_main_arg0])
  refine congrArg (V (F := Ideal) m c main_arg0 : FVec Ideal S16384x4096 .bf16) (funext fun y => Fin.ext ?_)
  match y with
  | ⟨0, _⟩ => show win0_0.index t (0 : Fin 2) * 1024 + 1 * a.val = r.val; rw [(idx0 t).1]; omega
  | ⟨1, _⟩ => show win0_0.index t (1 : Fin 2) * 4096 + 1 * x.val = x.val; rw [(idx0 t).2]; omega

theorem iblk1_apply (x : Fin 4096) (q : Fin 512) (k : Fin 15360) (hk : k.val = 7168 + (t.val / 16 * 512 + q.val)) :
    (iblk (F := Ideal) m c 1 t : FVec Ideal S4096x512 .f32) (ix2 x q) = aW m c (ix3 0 x k) := by
  refine Eq.trans ?_ (V_main_v0 m c x k)
  refine congrArg (V (F := Ideal) m c main_v0 : FVec Ideal S4096x15360 .f32) (funext fun y => Fin.ext ?_)
  match y with
  | ⟨0, _⟩ => show win0_1.index t (0 : Fin 2) * 4096 + 1 * x.val = x.val; rw [(idx1 t).1]; omega
  | ⟨1, _⟩ => show win0_1.index t (1 : Fin 2) * 512 + 1 * q.val = k.val; rw [(idx1 t).2]; omega

theorem iblk2_apply (a : Fin 16) (b : Fin 11008) (x : Fin 4096) (hx : x.val = t.val * 16 + a.val) :
    (iblk (F := Ideal) m c 2 t : FVec Ideal S16x11008 .f32) (ix2 a b) = aG m c (ix3 0 x b) := by
  refine Eq.trans ?_ (V_main_v1 m c x b)
  refine congrArg (V (F := Ideal) m c main_v1 : FVec Ideal S4096x11008 .f32) (funext fun y => Fin.ext ?_)
  match y with
  | ⟨0, _⟩ => show win0_2.index t (0 : Fin 2) * 16 + 1 * a.val = x.val; rw [(idx2 t).1]; omega
  | ⟨1, _⟩ => show win0_2.index t (1 : Fin 2) * 11008 + 1 * b.val = b.val; rw [(idx2 t).2]; omega

theorem iblk3_apply (a : Fin 16) (b : Fin 11008) (x : Fin 4096) (hx : x.val = t.val * 16 + a.val) :
    (iblk (F := Ideal) m c 3 t : FVec Ideal S16x11008 .f32) (ix2 a b) = aU m c (ix3 0 x b) := by
  refine Eq.trans ?_ (V_main_v2 m c x b)
  refine congrArg (V (F := Ideal) m c main_v2 : FVec Ideal S4096x11008 .f32) (funext fun y => Fin.ext ?_)
  match y with
  | ⟨0, _⟩ => show win0_3.index t (0 : Fin 2) * 16 + 1 * a.val = x.val; rw [(idx3 t).1]; omega
  | ⟨1, _⟩ => show win0_3.index t (1 : Fin 2) * 11008 + 1 * b.val = b.val; rw [(idx3 t).2]; omega

/-- The kept weight block at a point is the one its column block's first point stored. -/
theorem kept_apply (x : Fin 4096) (q : Fin 512) (k : Fin 15360) (hk : k.val = 7168 + (t.val / 16 * 512 + q.val)) :
    ((outsAt0 (F := Ideal) m c t.val t.isLt).2.2.2 : FVec Ideal S4096x512 .bf16) (ix2 x q) = aW m c (ix3 0 x k) := by
  refine (Pipeline.eq_of_write_hold_apply (N := cfg0.N) (fun n h => ((outsAt0 (F := Ideal) m c n h).2.2.2 : FVec Ideal S4096x512 .bf16)) 16
    (fun t => (k0_pay1 (F := Ideal) (iblk (F := Ideal) m c 1 t) : FVec Ideal S4096x512 .bf16)) (fun t h i => ?_) (fun t h i => ?_) t (ix2 x q)).trans ?_
  · beta_reduce
    rw [outsAt0_A m c t h]; frame_out
  · beta_reduce
    rw [outsAt0_B m c t h]
    rfl
  · rw [pay1_apply]
    exact iblk1_apply m c _ x q k (by show k.val = 7168 + (16 * (t.val / 16) / 16 * 512 + q.val); omega)

/-- A point's block of the gates. -/
theorem out4_apply (a : Fin 1024) (q : Fin 512) (r : Fin 16384) (k : Fin 15360) (hr : r.val = t.val % 16 * 1024 + a.val)
    (hk : k.val = 7168 + (t.val / 16 * 512 + q.val)) :
    ((outsAt0 (F := Ideal) m c t.val t.isLt).1 : FVec Ideal S1024x512 .bf16) (ix2 a q) =
      ∑ x : Fin 4096, aH m c (ix2 r x) * aW m c (ix3 0 x k) := by
  by_cases h : t.val % 16 = 0
  · rw [outsAt0_A m c t h]; frame_out
    rw [pay4_apply]
    refine Finset.sum_congr rfl fun x _ => ?_
    rw [pay1_apply, iblk0_apply m c t a x r hr, iblk1_apply m c t x q k hk]
  · rw [outsAt0_B m c t h]; frame_out
    simp only [read_unread_whole]
    rw [pay4_apply]
    refine Finset.sum_congr rfl fun x _ => ?_
    rw [iblk0_apply m c t a x r hr]
    refine congrArg _ (kept_apply m c ⟨t.val - 1, Nat.lt_of_le_of_lt (Nat.sub_le _ _) t.isLt⟩ x q k ?_)
    show k.val = 7168 + ((t.val - 1) / 16 * 512 + q.val)
    omega

end Blocks

/-! ## The result arrays -/

theorem final4 : (dats (F := Ideal) m 0 c).arrAt 4 cfg0.N = prod (aH m c) (aW m c) := by
  refine (dats m 0 c).arrAt_eq_of_covers 4 _ (by decide +kernel) fun t hf (y : S1024x512.Idx) => ?_
  blk_simp
  rw [after0_4]
  have h0 : (y 0).val < 1024 := (y 0).isLt
  have h1 : (y 1).val < 512 := (y 1).isLt
  have ht := t_lt t
  have e0 : ((((View.whole main_v3_0).slice (win0_4.rect t)).emb y) 0).val = t.val % 16 * 1024 + (y 0).val := by
    show win0_4.index t (0 : Fin 2) * 1024 + 1 * (y 0).val = _; rw [(idx4 t).1]; omega
  have e1 : ((((View.whole main_v3_0).slice (win0_4.rect t)).emb y) 1).val = t.val / 16 * 512 + (y 1).val := by
    show win0_4.index t (1 : Fin 2) * 512 + 1 * (y 1).val = _; rw [(idx4 t).2]; omega
  refine Eq.trans ?_ (out4_apply m c t (y 0) (y 1) _ ⟨7168 + ((((View.whole main_v3_0).slice (win0_4.rect t)).emb y) 1).val, by rw [e1]; omega⟩ e0 (by simp only [e1]))
  exact congrArg ((outsAt0 (F := Ideal) m c t.val t.isLt).1 : FVec Ideal S1024x512 .bf16) (eq_ix2 (n0 := 1024) (n1 := 512) y)

theorem final5 : (dats (F := Ideal) m 0 c).arrAt 5 cfg0.N = first (aG m c) := by
  refine (dats m 0 c).arrAt_eq_of_covers 5 _ (by decide +kernel) fun t hf (y : S16x11008.Idx) => ?_
  blk_simp
  rw [after0_5]
  have e : ((outsAt0 (F := Ideal) m c t.val t.isLt).2.1 : FVec Ideal S16x11008 .bf16) = k0_pay2 (F := Ideal) (iblk (F := Ideal) m c 2 t) := by
    by_cases h : t.val % 16 = 0
    · rw [outsAt0_A m c t h]; frame_out
    · rw [outsAt0_B m c t h]; frame_out
  have e0 : ((((View.whole main_v3_1).slice (win0_5.rect t)).emb y) 0).val = t.val * 16 + (y 0).val := by
    show win0_5.index t (0 : Fin 2) * 16 + 1 * (y 0).val = _; rw [(idx5 t).1]; omega
  have e1 : ((((View.whole main_v3_1).slice (win0_5.rect t)).emb y) 1) = (y 1 : Fin 11008) := Fin.ext (by
    show win0_5.index t (1 : Fin 2) * 11008 + 1 * (y 1).val = _; rw [(idx5 t).2]; omega)
  unfold first
  rw [e, e1]
  refine Eq.trans ?_ ((pay2_apply (iblk (F := Ideal) m c 2 t) (y 0) (y 1)).trans (iblk2_apply m c t (y 0) (y 1) _ e0))
  exact congrArg (k0_pay2 (F := Ideal) (iblk (F := Ideal) m c 2 t)) (eq_ix2 (n0 := 16) (n1 := 11008) y)

theorem final6 : (dats (F := Ideal) m 0 c).arrAt 6 cfg0.N = first (aU m c) := by
  refine (dats m 0 c).arrAt_eq_of_covers 6 _ (by decide +kernel) fun t hf (y : S16x11008.Idx) => ?_
  blk_simp
  rw [after0_6]
  have e : ((outsAt0 (F := Ideal) m c t.val t.isLt).2.2.1 : FVec Ideal S16x11008 .bf16) = k0_pay3 (F := Ideal) (iblk (F := Ideal) m c 3 t) := by
    by_cases h : t.val % 16 = 0
    · rw [outsAt0_A m c t h]; frame_out
    · rw [outsAt0_B m c t h]; frame_out
  have e0 : ((((View.whole main_v3_2).slice (win0_6.rect t)).emb y) 0).val = t.val * 16 + (y 0).val := by
    show win0_6.index t (0 : Fin 2) * 16 + 1 * (y 0).val = _; rw [(idx6 t).1]; omega
  have e1 : ((((View.whole main_v3_2).slice (win0_6.rect t)).emb y) 1) = (y 1 : Fin 11008) := Fin.ext (by
    show win0_6.index t (1 : Fin 2) * 11008 + 1 * (y 1).val = _; rw [(idx6 t).2]; omega)
  unfold first
  rw [e, e1]
  refine Eq.trans ?_ ((pay3_apply (iblk (F := Ideal) m c 3 t) (y 0) (y 1)).trans (iblk3_apply m c t (y 0) (y 1) _ e0))
  exact congrArg (k0_pay3 (F := Ideal) (iblk (F := Ideal) m c 3 t)) (eq_ix2 (n0 := 16) (n1 := 11008) y)

/-- The run: it ends with the result arrays at those functions of the arguments, and these as they were. -/
theorem run : θ_run defs (onTc (τ := τ) (main (F := Ideal))) ⟨m, fun _ => 0, ρ⟩ fun r => ∀ c : Dev nD,
      r.2.mem ((c.tc : Thread nD τ).loc main_v3_0) = prod (aH m c) (aW m c)
      ∧ r.2.mem ((c.tc : Thread nD τ).loc main_v3_1) = first (aG m c)
      ∧ r.2.mem ((c.tc : Thread nD τ).loc main_v3_2) = first (aU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c), h.2 c⟩)
    (θ_run_and (run_main (F := Ideal) m ρ) (unchanged (F := Ideal) m ρ))

end Cert.GatesIdeal.Hand

end
-- ==== Proof.Gates.Equal.lean ====
/-
  The gate projection's result arrays are the reference's, for any arguments.
-/
module

public import proofs.«01_k».proof.Proof.Gates.Value
public import proofs.«01_k».proof.Proof.Gen.GatesRefIdeal.Read

@[expose] public section

set_option maxRecDepth 16384

noncomputable section

namespace Cert.GatesEqual

open Idealize.ShloMosaic Idealize.ShloMosaic.TcCoe Idealize.ShloMosaic.Tactic
open Cert.GatesIdeal (S16384x4096 S1x4096x15360 S1x4096x11008 S16384x8192 S4096x11008)
open Cert.GatesRefIdeal.Read

variable (H : FVec Ideal S16384x4096 .bf16) (W : FVec Ideal S1x4096x15360 .f32) (U : FVec Ideal S1x4096x11008 .f32)

/-- The reference's gates at an index. -/
theorem gates_apply (r : Fin 16384) (k : Fin 8192) : (val_main_v4 (F := Ideal) H W) (ix2 r k) =
    ∑ x : Fin 4096, H (ix2 r x) * W (ix3 0 x ⟨7168 + k.val, by omega⟩) := by
  pointwise [val_main_v4, val_main_v3, val_main_v2, val_main_v1, val_main_v0]

/-- The gates agree; -/
theorem gates : GatesIdeal.Hand.prod H W = val_main_v4 (F := Ideal) H W := by
  refine funext fun (y : S16384x8192.Idx) => ?_
  rw [eq_ix2 (n0 := 16384) (n1 := 8192) y]
  exact Eq.symm ((gates_apply H W (y 0) (y 1)).trans rfl)

/-- the first weights agree; -/
theorem weights : GatesIdeal.Hand.first U = val_main_v6 (F := Ideal) U := by
  refine funext fun (y : S4096x11008.Idx) => ?_
  rw [eq_ix2 (n0 := 4096) (n1 := 11008) y]
  refine Eq.symm (Eq.trans (b := U (ix3 (n0 := 1) (n1 := 4096) (n2 := 11008) 0 (y 0) (y 1))) ?_ rfl)
  pointwise [val_main_v6, val_main_v5]

/-- and so do the second. -/
theorem weights' : GatesIdeal.Hand.first U = val_main_v8 (F := Ideal) U := weights U

end Cert.GatesEqual

end
-- ==== Proof.Uv.Value.lean ====
/-
  The spatial-gate projection's results over the extended reals, each as one function of the arguments, and the run with the
  result arrays at them.
-/
module

public import proofs.«01_k».proof.Proof.Gen.UvIdeal.Frame
public import proofs.«01_k».proof.Proof.Gen.UvIdeal.Points
public import Idealize.ShloMosaic.Lib.Pipeline.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.UvIdeal.Hand

open Idealize.ShloMosaic Idealize.ShloMosaic.TcCoe Idealize.ShloMosaic.Tactic Idealize.SL.Sem
open Cert.UvIdeal Cert.UvIdeal.Gen

/-! ## The vectors at an index -/

/-- The weight block as it is kept: unchanged. -/
theorem pay1_apply (w : Vec Ideal S4096x512 .f32) (x : Fin 4096) (q : Fin 512) :
    (k0_pay1 (F := Ideal) w : FVec Ideal S4096x512 .bf16) (ix2 x q) = (w : FVec Ideal S4096x512 .f32) (ix2 x q) := by
  unfold k0_pay1
  pointwise []

theorem pay2_apply (w : Vec Ideal S128x4096 .f32) (a : Fin 128) (b : Fin 4096) :
    (k0_pay2 (F := Ideal) w : FVec Ideal S128x4096 .bf16) (ix2 a b) = (w : FVec Ideal S128x4096 .f32) (ix2 a b) := by
  unfold k0_pay2
  pointwise []

/-- The smooth rectifier, as the kernel writes it. -/
def gelu (z : EReal) : EReal :=
  Ideal.ofBits .f32 0x3F000000#32 * z * (1 + Ideal.erf (z * Ideal.ofBits .f32 0x3F3504F3#32))

/-- The product of a row block and a weight block, rectified. -/
theorem pay3_apply (h : Vec Ideal S1024x4096 .bf16) (w : Vec Ideal S4096x512 .bf16) (a : Fin 1024) (q : Fin 512) :
    (k0_pay3 (F := Ideal) h w : FVec Ideal S1024x512 .bf16) (ix2 a q) =
      gelu (∑ x : Fin 4096, (h : FVec Ideal S1024x4096 .bf16) (ix2 a x) * (w : FVec Ideal S4096x512 .bf16) (ix2 x q)) := by
  unfold k0_pay3 gelu
  pointwise []
  rfl

/-! ## The results -/

/-- The spatial gate's columns of the projection, rectified. -/
def act (H : FVec Ideal S16384x4096 .bf16) (W : FVec Ideal S1x4096x15360 .f32) : FVec Ideal S16384x4096 .bf16 := fun y =>
  gelu (∑ x : Fin 4096, H (ix2 (n0 := 16384) (y 0) x) * W (ix3 (n0 := 1) (n2 := 15360) 0 x ⟨3072 + (y 1).val, by have : (y 1).val < 4096 := (y 1).isLt; omega⟩))

/-- The first layer of a stack of weights. -/
def first (W : FVec Ideal S1x11008x4096 .f32) : FVec Ideal S11008x4096 .bf16 := fun y =>
  W (ix3 (n0 := 1) (n1 := 11008) (n2 := 4096) 0 (y 0) (y 1))

variable (m : (ℓ : Loc nD τ sig) → Buf (Elt Ideal) ℓ) (ρ : Dev nD → PrngReg) (c : Dev nD)

/-- The arguments. -/
abbrev aH : FVec Ideal S16384x4096 .bf16 := m ((c : Thread nD τ).loc main_arg0)
abbrev aW : FVec Ideal S1x4096x15360 .f32 := m ((c : Thread nD τ).loc main_arg1)
abbrev aD : FVec Ideal S1x11008x4096 .f32 := m ((c : Thread nD τ).loc main_arg2)

/-! ## The windows' blocks -/

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 16 + 6 :=
  (by decide +kernel : ∀ t : Fin grid0.N, _)
theorem idx2 : ∀ t : Fin cfg0.N, win0_2.index t (0 : Fin 2) = min t.val 85 ∧ win0_2.index t (1 : Fin 2) = 0 :=
  (by decide +kernel : ∀ t : Fin grid0.N, _)
theorem idx3 : ∀ t : Fin cfg0.N, win0_3.index t (0 : Fin 2) = t.val % 16 ∧ win0_3.index t (1 : Fin 2) = t.val / 16 :=
  (by decide +kernel : ∀ t : Fin grid0.N, _)
theorem idx4 : ∀ t : Fin cfg0.N, win0_4.index t (0 : Fin 2) = min t.val 85 ∧ win0_4.index t (1 : Fin 2) = 0 :=
  (by decide +kernel : ∀ t : Fin grid0.N, _)

theorem t_lt (t : Fin cfg0.N) : t.val < 128 := lt_of_lt_of_eq t.isLt N_0

/-- The weights as the region finds them. -/
theorem V_main_v0 (x : Fin 4096) (k : Fin 15360) : (V (F := Ideal) m c main_v0 : FVec Ideal S4096x15360 .f32) (ix2 x k) = aW m c (ix3 0 x k) := by
  have e : (V (F := Ideal) m c main_v0 : FVec Ideal S4096x15360 .f32) = shapeCast S4096x15360 (aW m c) shapeCasts_S1x4096x15360_S4096x15360 := by
    show StableHlo.after hostOps0 (fun b => m (c, b)) main_v0 = _
    after_results
    rfl
  rw [e]
  pointwise []

theorem V_main_v1 (x : Fin 11008) (k : Fin 4096) : (V (F := Ideal) m c main_v1 : FVec Ideal S11008x4096 .f32) (ix2 x k) = aD m c (ix3 0 x k) := by
  have e : (V (F := Ideal) m c main_v1 : FVec Ideal S11008x4096 .f32) = shapeCast S11008x4096 (aD m c) shapeCasts_S1x11008x4096_S11008x4096 := by
    show StableHlo.after hostOps0 (fun b => m (c, b)) main_v1 = _
    after_results
    rfl
  rw [e]
  pointwise []

section Blocks

variable (t : Fin cfg0.N)

theorem iblk0_apply (a : Fin 1024) (x : Fin 4096) (r : Fin 16384) (hr : r.val = t.val % 16 * 1024 + a.val) :
    (iblk (F := Ideal) m c 0 t : FVec Ideal S1024x4096 .bf16) (ix2 a x) = aH m c (ix2 r x) := by
  refine Eq.trans (b := (V (F := Ideal) m c main_arg0 : FVec Ideal S16384x4096 .bf16) (ix2 r x)) ?_ (by rw [V_main_arg0])
  refine congrArg (V (F := Ideal) m c main_arg0 : FVec Ideal S16384x4096 .bf16) (funext fun y => Fin.ext ?_)
  match y with
  | ⟨0, _⟩ => show win0_0.index t (0 : Fin 2) * 1024 + 1 * a.val = r.val; rw [(idx0 t).1]; omega
  | ⟨1, _⟩ => show win0_0.index t (1 : Fin 2) * 4096 + 1 * x.val = x.val; rw [(idx0 t).2]; omega

theorem iblk1_apply (x : Fin 4096) (q : Fin 512) (k : Fin 15360) (hk : k.val = 3072 + (t.val / 16 * 512 + q.val)) :
    (iblk (F := Ideal) m c 1 t : FVec Ideal S4096x512 .f32) (ix2 x q) = aW m c (ix3 0 x k) := by
  refine Eq.trans ?_ (V_main_v0 m c x k)
  refine congrArg (V (F := Ideal) m c main_v0 : FVec Ideal S4096x15360 .f32) (funext fun y => Fin.ext ?_)
  match y with
  | ⟨0, _⟩ => show win0_1.index t (0 : Fin 2) * 4096 + 1 * x.val = x.val; rw [(idx1 t).1]; omega
  | ⟨1, _⟩ => show win0_1.index t (1 : Fin 2) * 512 + 1 * q.val = k.val; rw [(idx1 t).2]; omega

theorem iblk2_apply (a : Fin 128) (b : Fin 4096) (x : Fin 11008) (hx : x.val = min t.val 85 * 128 + a.val) :
    (iblk (F := Ideal) m c 2 t : FVec Ideal S128x4096 .f32) (ix2 a b) = aD m c (ix3 0 x b) := by
  refine Eq.trans ?_ (V_main_v1 m c x b)
  refine congrArg (V (F := Ideal) m c main_v1 : FVec Ideal S11008x4096 .f32) (funext fun y => Fin.ext ?_)
  match y with
  | ⟨0, _⟩ => show win0_2.index t (0 : Fin 2) * 128 + 1 * a.val = x.val; rw [(idx2 t).1]; omega
  | ⟨1, _⟩ => show win0_2.index t (1 : Fin 2) * 4096 + 1 * b.val = b.val; rw [(idx2 t).2]; omega

/-- The kept weight block at a point is the one its column block's first point stored. -/
theorem kept_apply (x : Fin 4096) (q : Fin 512) (k : Fin 15360) (hk : k.val = 3072 + (t.val / 16 * 512 + q.val)) :
    ((outsAt0 (F := Ideal) m c t.val t.isLt).2.2 : FVec Ideal S4096x512 .bf16) (ix2 x q) = aW m c (ix3 0 x k) := by
  refine (Pipeline.eq_of_write_hold_apply (N := cfg0.N) (fun n h => ((outsAt0 (F := Ideal) m c n h).2.2 : FVec Ideal S4096x512 .bf16)) 16
    (fun t => (k0_pay1 (F := Ideal) (iblk (F := Ideal) m c 1 t) : FVec Ideal S4096x512 .bf16)) (fun t h i => ?_) (fun t h i => ?_) t (ix2 x q)).trans ?_
  · beta_reduce
    rw [outsAt0_A m c t h]; frame_out
  · beta_reduce
    rw [outsAt0_B m c t h]
    rfl
  · rw [pay1_apply]
    exact iblk1_apply m c _ x q k (by show k.val = 3072 + (16 * (t.val / 16) / 16 * 512 + q.val); omega)

/-- A point's block of the rectified product. -/
theorem out3_apply (a : Fin 1024) (q : Fin 512) (r : Fin 16384) (k : Fin 15360) (hr : r.val = t.val % 16 * 1024 + a.val)
    (hk : k.val = 3072 + (t.val / 16 * 512 + q.val)) :
    ((outsAt0 (F := Ideal) m c t.val t.isLt).1 : FVec Ideal S1024x512 .bf16) (ix2 a q) =
      gelu (∑ x : Fin 4096, aH m c (ix2 r x) * aW m c (ix3 0 x k)) := by
  by_cases h : t.val % 16 = 0
  · rw [outsAt0_A m c t h]; frame_out
    rw [pay3_apply]
    refine congrArg gelu (Finset.sum_congr rfl fun x _ => ?_)
    rw [pay1_apply, iblk0_apply m c t a x r hr, iblk1_apply m c t x q k hk]
  · rw [outsAt0_B m c t h]; frame_out
    simp only [read_unread_whole]
    rw [pay3_apply]
    refine congrArg gelu (Finset.sum_congr rfl fun x _ => ?_)
    rw [iblk0_apply m c t a x r hr]
    refine congrArg _ (kept_apply m c ⟨t.val - 1, Nat.lt_of_le_of_lt (Nat.sub_le _ _) t.isLt⟩ x q k ?_)
    show k.val = 3072 + ((t.val - 1) / 16 * 512 + q.val)
    omega

end Blocks

/-! ## The result arrays -/

theorem final3 : (dats (F := Ideal) m 0 c).arrAt 3 cfg0.N = act (aH m c) (aW m c) := by
  refine (dats m 0 c).arrAt_eq_of_covers 3 _ (by decide +kernel) fun t hf (y : S1024x512.Idx) => ?_
  blk_simp
  rw [after0_3]
  have h0 : (y 0).val < 1024 := (y 0).isLt
  have h1 : (y 1).val < 512 := (y 1).isLt
  have ht := t_lt t
  have e0 : ((((View.whole main_v2_0).slice (win0_3.rect t)).emb y) 0).val = t.val % 16 * 1024 + (y 0).val := by
    show win0_3.index t (0 : Fin 2) * 1024 + 1 * (y 0).val = _; rw [(idx3 t).1]; omega
  have e1 : ((((View.whole main_v2_0).slice (win0_3.rect t)).emb y) 1).val = t.val / 16 * 512 + (y 1).val := by
    show win0_3.index t (1 : Fin 2) * 512 + 1 * (y 1).val = _; rw [(idx3 t).2]; omega
  refine Eq.trans ?_ (out3_apply m c t (y 0) (y 1) _ ⟨3072 + ((((View.whole main_v2_0).slice (win0_3.rect t)).emb y) 1).val, by rw [e1]; omega⟩ e0 (by simp only [e1]))
  exact congrArg ((outsAt0 (F := Ideal) m c t.val t.isLt).1 : FVec Ideal S1024x512 .bf16) (eq_ix2 (n0 := 1024) (n1 := 512) y)

theorem final4 : (dats (F := Ideal) m 0 c).arrAt 4 cfg0.N = first (aD m c) := by
  refine (dats m 0 c).arrAt_eq_of_covers 4 _ (by decide +kernel) fun t hf (y : S128x4096.Idx) => ?_
  blk_simp
  rw [after0_4]
  have e : ((outsAt0 (F := Ideal) m c t.val t.isLt).2.1 : FVec Ideal S128x4096 .bf16) = k0_pay2 (F := Ideal) (iblk (F := Ideal) m c 2 t) := by
    by_cases h : t.val % 16 = 0
    · rw [outsAt0_A m c t h]; frame_out
    · rw [outsAt0_B m c t h]; frame_out
  have e0 : ((((View.whole main_v2_1).slice (win0_4.rect t)).emb y) 0).val = min t.val 85 * 128 + (y 0).val := by
    show win0_4.index t (0 : Fin 2) * 128 + 1 * (y 0).val = _; rw [(idx4 t).1]; omega
  have e1 : ((((View.whole main_v2_1).slice (win0_4.rect t)).emb y) 1) = (y 1 : Fin 4096) := Fin.ext (by
    show win0_4.index t (1 : Fin 2) * 4096 + 1 * (y 1).val = _; rw [(idx4 t).2]; omega)
  unfold first
  rw [e, e1]
  refine Eq.trans ?_ ((pay2_apply (iblk (F := Ideal) m c 2 t) (y 0) (y 1)).trans (iblk2_apply m c t (y 0) (y 1) _ e0))
  exact congrArg (k0_pay2 (F := Ideal) (iblk (F := Ideal) m c 2 t)) (eq_ix2 (n0 := 128) (n1 := 4096) y)

/-- The run: it ends with the result arrays at those functions of the arguments, and these as they were. -/
theorem run : θ_run defs (onTc (τ := τ) (main (F := Ideal))) ⟨m, fun _ => 0, ρ⟩ fun r => ∀ c : Dev nD,
      r.2.mem ((c.tc : Thread nD τ).loc main_v2_0) = act (aH m c) (aW m c)
      ∧ r.2.mem ((c.tc : Thread nD τ).loc main_v2_1) = first (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final3 m c), ((h.1 c).1 4).trans (final4 m c), h.2 c⟩)
    (θ_run_and (run_main (F := Ideal) m ρ) (unchanged (F := Ideal) m ρ))

end Cert.UvIdeal.Hand

end
-- ==== Proof.Uv.Equal.lean ====
/-
  The spatial-gate projection's result arrays are the reference's, for any arguments.
-/
module

public import proofs.«01_k».proof.Proof.Uv.Value
public import proofs.«01_k».proof.Proof.Gen.UvRefIdeal.Read
public import Idealize.ShloMosaic.PureOps.Ideal.Laws

@[expose] public section

set_option maxRecDepth 16384

noncomputable section

namespace Cert.UvEqual

open Idealize.ShloMosaic Idealize.ShloMosaic.TcCoe Idealize.ShloMosaic.Tactic
open Cert.UvIdeal (S16384x4096 S1x4096x15360 S1x11008x4096 S11008x4096)
open Cert.UvRefIdeal.Read

variable (H : FVec Ideal S16384x4096 .bf16) (W : FVec Ideal S1x4096x15360 .f32) (U : FVec Ideal S1x11008x4096 .f32)

/-- The reference writes the rectifier with the complement of the error function at the negated argument. -/
theorem gelu_eq (z : EReal) :
    Ideal.ofBits .f32 0x3F000000#32 * z * Ideal.erfc (-z * Ideal.ofBits .f32 0x3F3504F3#32) = UvIdeal.Hand.gelu z := by
  unfold UvIdeal.Hand.gelu
  rw [neg_mul, Ideal.erfc_neg]

/-- The projection's columns at an index. -/
theorem proj_apply (r : Fin 16384) (k : Fin 4096) : (val_main_v3 (F := Ideal) H W) (ix2 r k) =
    ∑ x : Fin 4096, H (ix2 r x) * W (ix3 0 x ⟨3072 + k.val, by omega⟩) := by
  pointwise [val_main_v3, val_main_v2, val_main_v1, val_main_v0]

/-- The reference's rectified columns at an index. -/
theorem act_apply (r : Fin 16384) (k : Fin 4096) : (val_main_v11 (F := Ideal) H W) (ix2 r k) =
    Ideal.ofBits .f32 0x3F000000#32 * (val_main_v3 (F := Ideal) H W) (ix2 r k)
      * Ideal.erfc (-(val_main_v3 (F := Ideal) H W) (ix2 r k) * Ideal.ofBits .f32 0x3F3504F3#32) := by
  pointwise [val_main_v11, val_main_v10, val_main_v9, val_main_v8, val_main_v7, val_main_v6, val_main_v5, val_main_v4,
    val_main_cst, val_main_cst_0]

/-- The rectified columns agree; -/
theorem act : UvIdeal.Hand.act H W = val_main_v11 (F := Ideal) H W := by
  refine funext fun (y : S16384x4096.Idx) => ?_
  rw [eq_ix2 (n0 := 16384) (n1 := 4096) y]
  exact Eq.symm (((act_apply H W (y 0) (y 1)).trans (gelu_eq _)).trans (congrArg UvIdeal.Hand.gelu (proj_apply H W (y 0) (y 1))))

/-- and so do the weights. -/
theorem weights : UvIdeal.Hand.first U = val_main_v13 (F := Ideal) U := by
  refine funext fun (y : S11008x4096.Idx) => ?_
  rw [eq_ix2 (n0 := 11008) (n1 := 4096) y]
  refine Eq.symm (Eq.trans (b := U (ix3 (n0 := 1) (n1 := 11008) (n2 := 4096) 0 (y 0) (y 1))) ?_ rfl)
  pointwise [val_main_v13, val_main_v12]

end Cert.UvEqual

end
-- ==== Proof.Mix.Body.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.Value
public import Idealize.ShloMosaic.Lib.Pipeline.ValueKit
public import Idealize.ShloMosaic.Lib.VecWindow

@[expose] public section

set_option maxRecDepth 16384

/-! # The mixing kernel's body, case by case

The body looks at its grid point `(i, j)`: `i` counts blocks of 512 rows (one more than there are), `j` blocks of 512
merged columns. It clears an accumulator, adds the point's product into one, and finishes 64 rows of the other (the
residual sum and the next norm), each under conditions on `(i, j)`. Seven combinations occur; here is what each leaves, on any whole staging memrefs. -/

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The program's test "the row block's number is odd", as it computes it. -/
abbrev oddBlock (i : grid0.Coords) : BitVec 1 :=
  Scalar.cmpi .eq (Scalar.select
    (Scalar.andi (Scalar.xori (Scalar.cmpi .slt (Scalar.remsi (BitVec.ofNat 32 (i 0).val) (Scalar.select (Scalar.cmpi .eq 2#32 0#32) 1#32 2#32)) 0#32)
        (Scalar.cmpi .slt (Scalar.select (Scalar.cmpi .eq 2#32 0#32) 1#32 2#32) 0#32))
      (Scalar.cmpi .ne (Scalar.remsi (BitVec.ofNat 32 (i 0).val) (Scalar.select (Scalar.cmpi .eq 2#32 0#32) 1#32 2#32)) 0#32))
    (Scalar.addi (Scalar.remsi (BitVec.ofNat 32 (i 0).val) (Scalar.select (Scalar.cmpi .eq 2#32 0#32) 1#32 2#32)) (Scalar.select (Scalar.cmpi .eq 2#32 0#32) 1#32 2#32))
    (Scalar.remsi (BitVec.ofNat 32 (i 0).val) (Scalar.select (Scalar.cmpi .eq 2#32 0#32) 1#32 2#32))) 1#32

/-- The first accumulator is cleared: the first column block of an even row block. -/
abbrev clears0 (i : grid0.Coords) : Prop :=
  (Scalar.cmpi .ne (Scalar.extui (Scalar.andi (Scalar.andi (Scalar.cmpi .eq (BitVec.ofNat 32 (i 1).val) 0#32)
    (Scalar.cmpi .slt (BitVec.ofNat 32 (i 0).val) 32#32)) (Scalar.xori (oddBlock i) 1#1))) 0#32) = 1#1

/-- The second accumulator is cleared: the first column block of an odd row block. -/
abbrev clears1 (i : grid0.Coords) : Prop :=
  (Scalar.cmpi .ne (Scalar.extui (Scalar.andi (Scalar.andi (Scalar.cmpi .eq (BitVec.ofNat 32 (i 1).val) 0#32)
    (Scalar.cmpi .slt (BitVec.ofNat 32 (i 0).val) 32#32)) (oddBlock i))) 0#32) = 1#1

/-- Nothing is written out yet: the first row block. -/
abbrev firstBlock (i : grid0.Coords) : Prop :=
  (Scalar.cmpi .ne (Scalar.extui (Scalar.cmpi .eq (BitVec.ofNat 32 (i 0).val) 0#32)) 0#32) = 1#1

/-- One column block's product added to an accumulator `a`: `a + (sigmoid ga * (s·ps) + sigmoid gb * (t·pt)) · w`. -/
abbrev step (s t : Vec F S512x2048 .bf16) (ga gb : Vec F S512x512 .bf16) (ps pt : Vec F S2048x512 .bf16) (w : Vec F S512x4096 .bf16)
    (a : Vec F S512x4096 .f32) : Vec F S512x4096 .f32 := k0_pay18 s ps t pt ga gb a w

/-- The 64 rows of an accumulator starting where `off` says. -/
abbrev rows (off : Fin 2 → Nat) (inb : ∀ a, off a + S64x4096.size a ≤ S512x4096.size a) (a : Vec F S512x4096 .f32) :
    Vec F S64x4096 .f32 := View.ld a (Rect.unit (s := S512x4096) off S64x4096.size inb)

/-- Finished rows `f` normed, scaled and added to the input rows `x`: the residual sum. -/
abbrev residual (f x : Vec F S64x4096 .f32) (g : Vec F S1x4096 .f32) (gt : Vec F S1x1x4096 .f32) : Vec F S64x4096 .f32 := k0_pay3 f x gt g

/-- The residual sum normed, scaled and shifted: the feed-forward's input. -/
abbrev normed (f x : Vec F S64x4096 .f32) (g : Vec F S1x4096 .f32) (gt : Vec F S1x1x4096 .f32) (g' : Vec F S1x4096 .f32)
    (sh sc : Vec F S1x1x4096 .f32) : Vec F S64x4096 .bf16 :=
  k0_pay6 (k0_pay3 f x gt g) (k0_pay4 g' sc) (k0_pay5 f x gt g) (Scalar.ofBits .f32 0x358637BD#32) sh

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 3200000 in
/-- At the first row block's first column block: the first accumulator is cleared and takes the product; nothing else changes. -/
theorem first_clear (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x4096 .bf16) (harg8 : arg8.IsWhole) (arg9 : Memref sig .tc .vmem S64x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x4096 .f32) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S64x4096 .f32) (harg15 : arg15.IsWhole) (arg16 : Memref sig .tc .vmem S64x4096 .bf16) (harg16 : arg16.IsWhole) (arg17 : Memref sig .tc .vmem S512x4096 .f32) (harg17 : arg17.IsWhole) (arg18 : Memref sig .tc .vmem S512x4096 .f32) (harg18 : arg18.IsWhole)
    (hc1 : clears0 i) (hc2 : ¬ (clears1 i)) (hc3 : firstBlock i) (hc4 : ¬ (k0_cond4 i = 1#1)) (hc5 : ¬ (k0_cond5 i = 1#1)) (hc6 : ¬ (k0_cond6 i = 1#1))
    (x0 : Vec F S512x2048 .bf16) (x1 : Vec F S512x2048 .bf16) (x2 : Vec F S512x512 .bf16) (x3 : Vec F S512x512 .bf16) (x4 : Vec F S2048x512 .bf16) (x5 : Vec F S2048x512 .bf16) (x6 : Vec F S512x4096 .bf16) (x7 : Vec F S64x4096 .f32) (x8 : Vec F S1x4096 .f32) (x9 : Vec F S1x1x4096 .f32) (x10 : Vec F S1x4096 .f32) (x11 : Vec F S1x1x4096 .f32) (x12 : Vec F S1x1x4096 .f32)
    (xo : Vec F S64x4096 .f32) (xh : Vec F S64x4096 .bf16) (d0 d1 : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare d0 ∗ owns (c : Thread nD τ) arg18 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare (step x0 x1 x2 x3 x4 x5 x6 (k0_pay16 (F := F))) ∗ owns (c : Thread nD τ) arg18 fullShare d1) -∗ K ⟨⟩))
      ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_out_eq_skeleton, k0_part1_eq_skeleton, k0_part2_eq_skeleton, k0_part3_eq_skeleton, k0_part4_eq_skeleton, k0_part5_eq_skeleton,
    k0_part6_eq_skeleton]; unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    exact harg15.read_unread _
  isplitl [H14]
  · iexists _; isplitr
    swap; · iexact H14
    ipureintro
    exact harg16.read_unread _
  isplitl [H15]
  · iexists _; isplitr
    swap; · iexact H15
    ipureintro
    try frame_out
    exact View.read_writes_full _ _ _ _ _
  iexists _; isplitr
  swap; · iexact H16
  ipureintro
  exact harg18.read_unread _

set_option maxHeartbeats 3200000 in
/-- At the first row block's later column blocks: the first accumulator takes the product; nothing else changes. -/
theorem first_step (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x4096 .bf16) (harg8 : arg8.IsWhole) (arg9 : Memref sig .tc .vmem S64x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x4096 .f32) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S64x4096 .f32) (harg15 : arg15.IsWhole) (arg16 : Memref sig .tc .vmem S64x4096 .bf16) (harg16 : arg16.IsWhole) (arg17 : Memref sig .tc .vmem S512x4096 .f32) (harg17 : arg17.IsWhole) (arg18 : Memref sig .tc .vmem S512x4096 .f32) (harg18 : arg18.IsWhole)
    (hc1 : ¬ (clears0 i)) (hc2 : ¬ (clears1 i)) (hc3 : firstBlock i) (hc4 : ¬ (k0_cond4 i = 1#1)) (hc5 : ¬ (k0_cond5 i = 1#1)) (hc6 : ¬ (k0_cond6 i = 1#1))
    (x0 : Vec F S512x2048 .bf16) (x1 : Vec F S512x2048 .bf16) (x2 : Vec F S512x512 .bf16) (x3 : Vec F S512x512 .bf16) (x4 : Vec F S2048x512 .bf16) (x5 : Vec F S2048x512 .bf16) (x6 : Vec F S512x4096 .bf16) (x7 : Vec F S64x4096 .f32) (x8 : Vec F S1x4096 .f32) (x9 : Vec F S1x1x4096 .f32) (x10 : Vec F S1x4096 .f32) (x11 : Vec F S1x1x4096 .f32) (x12 : Vec F S1x1x4096 .f32)
    (xo : Vec F S64x4096 .f32) (xh : Vec F S64x4096 .bf16) (d0 d1 : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare d0 ∗ owns (c : Thread nD τ) arg18 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare (step x0 x1 x2 x3 x4 x5 x6 d0) ∗ owns (c : Thread nD τ) arg18 fullShare d1) -∗ K ⟨⟩))
      ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_out_eq_skeleton, k0_part1_eq_skeleton, k0_part2_eq_skeleton, k0_part3_eq_skeleton, k0_part4_eq_skeleton, k0_part5_eq_skeleton,
    k0_part6_eq_skeleton]; unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    exact harg15.read_unread _
  isplitl [H14]
  · iexists _; isplitr
    swap; · iexact H14
    ipureintro
    exact harg16.read_unread _
  isplitl [H15]
  · iexists _; isplitr
    swap; · iexact H15
    ipureintro
    try frame_out
    exact View.read_writes_full _ _ _ _ _
  iexists _; isplitr
  swap; · iexact H16
  ipureintro
  exact harg18.read_unread _

set_option maxHeartbeats 3200000 in
/-- At a later even row block's first column block: 64 rows of the second accumulator are finished and written out, the first is cleared and takes the product. -/
theorem even_clear (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x4096 .bf16) (harg8 : arg8.IsWhole) (arg9 : Memref sig .tc .vmem S64x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x4096 .f32) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S64x4096 .f32) (harg15 : arg15.IsWhole) (arg16 : Memref sig .tc .vmem S64x4096 .bf16) (harg16 : arg16.IsWhole) (arg17 : Memref sig .tc .vmem S512x4096 .f32) (harg17 : arg17.IsWhole) (arg18 : Memref sig .tc .vmem S512x4096 .f32) (harg18 : arg18.IsWhole)
    (hc1 : clears0 i) (hc2 : ¬ (clears1 i)) (hc3 : ¬ (firstBlock i)) (hc4 : k0_cond4 i = 1#1) (hc5 : ¬ (k0_cond5 i = 1#1)) (hc6 : ¬ (k0_cond6 i = 1#1))
    (x0 : Vec F S512x2048 .bf16) (x1 : Vec F S512x2048 .bf16) (x2 : Vec F S512x512 .bf16) (x3 : Vec F S512x512 .bf16) (x4 : Vec F S2048x512 .bf16) (x5 : Vec F S2048x512 .bf16) (x6 : Vec F S512x4096 .bf16) (x7 : Vec F S64x4096 .f32) (x8 : Vec F S1x4096 .f32) (x9 : Vec F S1x1x4096 .f32) (x10 : Vec F S1x4096 .f32) (x11 : Vec F S1x1x4096 .f32) (x12 : Vec F S1x1x4096 .f32)
    (xo : Vec F S64x4096 .f32) (xh : Vec F S64x4096 .bf16) (d0 d1 : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare d0 ∗ owns (c : Thread nD τ) arg18 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (residual (rows (k0_off1 i) (k0_off1_inb i hc4) d1) x7 x8 x9) ∗ owns (c : Thread nD τ) arg16 fullShare (normed (rows (k0_off1 i) (k0_off1_inb i hc4) d1) x7 x8 x9 x10 x11 x12) ∗ owns (c : Thread nD τ) arg17 fullShare (step x0 x1 x2 x3 x4 x5 x6 (k0_pay16 (F := F))) ∗ owns (c : Thread nD τ) arg18 fullShare d1) -∗ K ⟨⟩))
      ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_out_eq_skeleton, k0_part1_eq_skeleton, k0_part2_eq_skeleton, k0_part3_eq_skeleton, k0_part4_eq_skeleton, k0_part5_eq_skeleton,
    k0_part6_eq_skeleton]; unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    try frame_out
    exact View.read_writes_full _ _ _ _ _
  isplitl [H14]
  · iexists _; isplitr
    swap; · iexact H14
    ipureintro
    try frame_out
    exact View.read_writes_full _ _ _ _ _
  isplitl [H15]
  · iexists _; isplitr
    swap; · iexact H15
    ipureintro
    try frame_out
    exact View.read_writes_full _ _ _ _ _
  iexists _; isplitr
  swap; · iexact H16
  ipureintro
  exact harg18.read_unread _

set_option maxHeartbeats 3200000 in
/-- At a later even row block's later column blocks: 64 rows of the second accumulator are finished and written out, the first takes the product. -/
theorem even_step (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x4096 .bf16) (harg8 : arg8.IsWhole) (arg9 : Memref sig .tc .vmem S64x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x4096 .f32) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S64x4096 .f32) (harg15 : arg15.IsWhole) (arg16 : Memref sig .tc .vmem S64x4096 .bf16) (harg16 : arg16.IsWhole) (arg17 : Memref sig .tc .vmem S512x4096 .f32) (harg17 : arg17.IsWhole) (arg18 : Memref sig .tc .vmem S512x4096 .f32) (harg18 : arg18.IsWhole)
    (hc1 : ¬ (clears0 i)) (hc2 : ¬ (clears1 i)) (hc3 : ¬ (firstBlock i)) (hc4 : k0_cond4 i = 1#1) (hc5 : ¬ (k0_cond5 i = 1#1)) (hc6 : ¬ (k0_cond6 i = 1#1))
    (x0 : Vec F S512x2048 .bf16) (x1 : Vec F S512x2048 .bf16) (x2 : Vec F S512x512 .bf16) (x3 : Vec F S512x512 .bf16) (x4 : Vec F S2048x512 .bf16) (x5 : Vec F S2048x512 .bf16) (x6 : Vec F S512x4096 .bf16) (x7 : Vec F S64x4096 .f32) (x8 : Vec F S1x4096 .f32) (x9 : Vec F S1x1x4096 .f32) (x10 : Vec F S1x4096 .f32) (x11 : Vec F S1x1x4096 .f32) (x12 : Vec F S1x1x4096 .f32)
    (xo : Vec F S64x4096 .f32) (xh : Vec F S64x4096 .bf16) (d0 d1 : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare d0 ∗ owns (c : Thread nD τ) arg18 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (residual (rows (k0_off1 i) (k0_off1_inb i hc4) d1) x7 x8 x9) ∗ owns (c : Thread nD τ) arg16 fullShare (normed (rows (k0_off1 i) (k0_off1_inb i hc4) d1) x7 x8 x9 x10 x11 x12) ∗ owns (c : Thread nD τ) arg17 fullShare (step x0 x1 x2 x3 x4 x5 x6 d0) ∗ owns (c : Thread nD τ) arg18 fullShare d1) -∗ K ⟨⟩))
      ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_out_eq_skeleton, k0_part1_eq_skeleton, k0_part2_eq_skeleton, k0_part3_eq_skeleton, k0_part4_eq_skeleton, k0_part5_eq_skeleton,
    k0_part6_eq_skeleton]; unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    try frame_out
    exact View.read_writes_full _ _ _ _ _
  isplitl [H14]
  · iexists _; isplitr
    swap; · iexact H14
    ipureintro
    try frame_out
    exact View.read_writes_full _ _ _ _ _
  isplitl [H15]
  · iexists _; isplitr
    swap; · iexact H15
    ipureintro
    try frame_out
    exact View.read_writes_full _ _ _ _ _
  iexists _; isplitr
  swap; · iexact H16
  ipureintro
  exact harg18.read_unread _

set_option maxHeartbeats 3200000 in
/-- At an odd row block's first column block: 64 rows of the first accumulator are finished and written out, the second is cleared and takes the product. -/
theorem odd_clear (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x4096 .bf16) (harg8 : arg8.IsWhole) (arg9 : Memref sig .tc .vmem S64x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x4096 .f32) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S64x4096 .f32) (harg15 : arg15.IsWhole) (arg16 : Memref sig .tc .vmem S64x4096 .bf16) (harg16 : arg16.IsWhole) (arg17 : Memref sig .tc .vmem S512x4096 .f32) (harg17 : arg17.IsWhole) (arg18 : Memref sig .tc .vmem S512x4096 .f32) (harg18 : arg18.IsWhole)
    (hc1 : ¬ (clears0 i)) (hc2 : clears1 i) (hc3 : ¬ (firstBlock i)) (hc4 : ¬ (k0_cond4 i = 1#1)) (hc5 : k0_cond5 i = 1#1) (hc6 : ¬ (k0_cond6 i = 1#1))
    (x0 : Vec F S512x2048 .bf16) (x1 : Vec F S512x2048 .bf16) (x2 : Vec F S512x512 .bf16) (x3 : Vec F S512x512 .bf16) (x4 : Vec F S2048x512 .bf16) (x5 : Vec F S2048x512 .bf16) (x6 : Vec F S512x4096 .bf16) (x7 : Vec F S64x4096 .f32) (x8 : Vec F S1x4096 .f32) (x9 : Vec F S1x1x4096 .f32) (x10 : Vec F S1x4096 .f32) (x11 : Vec F S1x1x4096 .f32) (x12 : Vec F S1x1x4096 .f32)
    (xo : Vec F S64x4096 .f32) (xh : Vec F S64x4096 .bf16) (d0 d1 : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare d0 ∗ owns (c : Thread nD τ) arg18 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (residual (rows (k0_off2 i) (k0_off2_inb i hc5) d0) x7 x8 x9) ∗ owns (c : Thread nD τ) arg16 fullShare (normed (rows (k0_off2 i) (k0_off2_inb i hc5) d0) x7 x8 x9 x10 x11 x12) ∗ owns (c : Thread nD τ) arg17 fullShare d0 ∗ owns (c : Thread nD τ) arg18 fullShare (step x0 x1 x2 x3 x4 x5 x6 (k0_pay16 (F := F)))) -∗ K ⟨⟩))
      ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_out_eq_skeleton, k0_part1_eq_skeleton, k0_part2_eq_skeleton, k0_part3_eq_skeleton, k0_part4_eq_skeleton, k0_part5_eq_skeleton,
    k0_part6_eq_skeleton]; unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    try frame_out
    exact View.read_writes_full _ _ _ _ _
  isplitl [H14]
  · iexists _; isplitr
    swap; · iexact H14
    ipureintro
    try frame_out
    exact View.read_writes_full _ _ _ _ _
  isplitl [H15]
  · iexists _; isplitr
    swap; · iexact H15
    ipureintro
    exact harg17.read_unread _
  iexists _; isplitr
  swap; · iexact H16
  ipureintro
  try frame_out
  exact View.read_writes_full _ _ _ _ _

set_option maxHeartbeats 3200000 in
/-- At an odd row block's later column blocks: 64 rows of the first accumulator are finished and written out, the second takes the product. -/
theorem odd_step (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x4096 .bf16) (harg8 : arg8.IsWhole) (arg9 : Memref sig .tc .vmem S64x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x4096 .f32) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S64x4096 .f32) (harg15 : arg15.IsWhole) (arg16 : Memref sig .tc .vmem S64x4096 .bf16) (harg16 : arg16.IsWhole) (arg17 : Memref sig .tc .vmem S512x4096 .f32) (harg17 : arg17.IsWhole) (arg18 : Memref sig .tc .vmem S512x4096 .f32) (harg18 : arg18.IsWhole)
    (hc1 : ¬ (clears0 i)) (hc2 : ¬ (clears1 i)) (hc3 : ¬ (firstBlock i)) (hc4 : ¬ (k0_cond4 i = 1#1)) (hc5 : k0_cond5 i = 1#1) (hc6 : ¬ (k0_cond6 i = 1#1))
    (x0 : Vec F S512x2048 .bf16) (x1 : Vec F S512x2048 .bf16) (x2 : Vec F S512x512 .bf16) (x3 : Vec F S512x512 .bf16) (x4 : Vec F S2048x512 .bf16) (x5 : Vec F S2048x512 .bf16) (x6 : Vec F S512x4096 .bf16) (x7 : Vec F S64x4096 .f32) (x8 : Vec F S1x4096 .f32) (x9 : Vec F S1x1x4096 .f32) (x10 : Vec F S1x4096 .f32) (x11 : Vec F S1x1x4096 .f32) (x12 : Vec F S1x1x4096 .f32)
    (xo : Vec F S64x4096 .f32) (xh : Vec F S64x4096 .bf16) (d0 d1 : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare d0 ∗ owns (c : Thread nD τ) arg18 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (residual (rows (k0_off2 i) (k0_off2_inb i hc5) d0) x7 x8 x9) ∗ owns (c : Thread nD τ) arg16 fullShare (normed (rows (k0_off2 i) (k0_off2_inb i hc5) d0) x7 x8 x9 x10 x11 x12) ∗ owns (c : Thread nD τ) arg17 fullShare d0 ∗ owns (c : Thread nD τ) arg18 fullShare (step x0 x1 x2 x3 x4 x5 x6 d1)) -∗ K ⟨⟩))
      ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_out_eq_skeleton, k0_part1_eq_skeleton, k0_part2_eq_skeleton, k0_part3_eq_skeleton, k0_part4_eq_skeleton, k0_part5_eq_skeleton,
    k0_part6_eq_skeleton]; unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    try frame_out
    exact View.read_writes_full _ _ _ _ _
  isplitl [H14]
  · iexists _; isplitr
    swap; · iexact H14
    ipureintro
    try frame_out
    exact View.read_writes_full _ _ _ _ _
  isplitl [H15]
  · iexists _; isplitr
    swap; · iexact H15
    ipureintro
    exact harg17.read_unread _
  iexists _; isplitr
  swap; · iexact H16
  ipureintro
  try frame_out
  exact View.read_writes_full _ _ _ _ _

set_option maxHeartbeats 3200000 in
/-- After the last row block: 64 rows of the second accumulator are finished and written out; both accumulators stay. -/
theorem last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x4096 .bf16) (harg8 : arg8.IsWhole) (arg9 : Memref sig .tc .vmem S64x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x4096 .f32) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S64x4096 .f32) (harg15 : arg15.IsWhole) (arg16 : Memref sig .tc .vmem S64x4096 .bf16) (harg16 : arg16.IsWhole) (arg17 : Memref sig .tc .vmem S512x4096 .f32) (harg17 : arg17.IsWhole) (arg18 : Memref sig .tc .vmem S512x4096 .f32) (harg18 : arg18.IsWhole)
    (hc1 : ¬ (clears0 i)) (hc2 : ¬ (clears1 i)) (hc3 : ¬ (firstBlock i)) (hc4 : ¬ (k0_cond4 i = 1#1)) (hc5 : ¬ (k0_cond5 i = 1#1)) (hc6 : k0_cond6 i = 1#1)
    (x0 : Vec F S512x2048 .bf16) (x1 : Vec F S512x2048 .bf16) (x2 : Vec F S512x512 .bf16) (x3 : Vec F S512x512 .bf16) (x4 : Vec F S2048x512 .bf16) (x5 : Vec F S2048x512 .bf16) (x6 : Vec F S512x4096 .bf16) (x7 : Vec F S64x4096 .f32) (x8 : Vec F S1x4096 .f32) (x9 : Vec F S1x1x4096 .f32) (x10 : Vec F S1x4096 .f32) (x11 : Vec F S1x1x4096 .f32) (x12 : Vec F S1x1x4096 .f32)
    (xo : Vec F S64x4096 .f32) (xh : Vec F S64x4096 .bf16) (d0 d1 : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg16 fullShare xh ∗ owns (c : Thread nD τ) arg17 fullShare d0 ∗ owns (c : Thread nD τ) arg18 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (residual (rows (k0_off3 i) (k0_off3_inb i hc6) d1) x7 x8 x9) ∗ owns (c : Thread nD τ) arg16 fullShare (normed (rows (k0_off3 i) (k0_off3_inb i hc6) d1) x7 x8 x9 x10 x11 x12) ∗ owns (c : Thread nD τ) arg17 fullShare d0 ∗ owns (c : Thread nD τ) arg18 fullShare d1) -∗ K ⟨⟩))
      ⊢ wp frame (wpE (defs₀ (F := F)) Variants.none c none) E (cc0_mix_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_out_eq_skeleton, k0_part1_eq_skeleton, k0_part2_eq_skeleton, k0_part3_eq_skeleton, k0_part4_eq_skeleton, k0_part5_eq_skeleton,
    k0_part6_eq_skeleton]; unfold cc0_mix_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5 | sl_exact hc6)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    try frame_out
    exact View.read_writes_full _ _ _ _ _
  isplitl [H14]
  · iexists _; isplitr
    swap; · iexact H14
    ipureintro
    try frame_out
    exact View.read_writes_full _ _ _ _ _
  isplitl [H15]
  · iexists _; isplitr
    swap; · iexact H15
    ipureintro
    exact harg17.read_unread _
  iexists _; isplitr
  swap; · iexact H16
  ipureintro
  exact harg18.read_unread _

end Cert.MixIdeal.Hand

end
-- ==== Proof.Mix.Frame.lean ====
module

public import proofs.«01_k».proof.Proof.Mix.Body

@[expose] public section

set_option maxRecDepth 16384

/-! # The mixing kernel's run

Two accumulators take turns. While row block `i` is summed up in one, the finished sum of row block `i - 1` stands in the
other, and 64 of its rows are finished and written out at each of the block's grid points. The invariant says just that; with it every
grid point's body runs as its case says, so the whole grid runs, for any values. -/

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions in plain numbers: point `t` is row block `t / 8`, column block `t % 8` -/

theorem clears0_iff : ∀ t : Fin cfg0.N, clears0 (grid0.coords t) ↔ t.val % 8 = 0 ∧ t.val / 8 < 32 ∧ t.val / 8 % 2 = 0 :=
  (by decide +kernel : ∀ t : Fin grid0.N, _)
theorem clears1_iff : ∀ t : Fin cfg0.N, clears1 (grid0.coords t) ↔ t.val % 8 = 0 ∧ t.val / 8 < 32 ∧ t.val / 8 % 2 = 1 :=
  (by decide +kernel : ∀ t : Fin grid0.N, _)
theorem firstBlock_iff : ∀ t : Fin cfg0.N, firstBlock (grid0.coords t) ↔ t.val / 8 = 0 :=
  (by decide +kernel : ∀ t : Fin grid0.N, _)
theorem cond4_iff : ∀ t : Fin cfg0.N, k0_cond4 (grid0.coords t) = 1#1 ↔ 0 < t.val / 8 ∧ t.val / 8 < 32 ∧ t.val / 8 % 2 = 0 :=
  (by decide +kernel : ∀ t : Fin grid0.N, _)
theorem cond5_iff : ∀ t : Fin cfg0.N, k0_cond5 (grid0.coords t) = 1#1 ↔ 0 < t.val / 8 ∧ t.val / 8 < 32 ∧ t.val / 8 % 2 = 1 :=
  (by decide +kernel : ∀ t : Fin grid0.N, _)
theorem cond6_iff : ∀ t : Fin cfg0.N, k0_cond6 (grid0.coords t) = 1#1 ↔ t.val / 8 = 32 :=
  (by decide +kernel : ∀ t : Fin grid0.N, _)

/-- Where point `n`'s 64 rows start in the finished accumulator. -/
abbrev rowOff (n : ℕ) : Fin 2 → Nat := ![64 * (n % 8), 0]

theorem rowOff_inb (n : ℕ) : ∀ a, rowOff n a + S64x4096.size a ≤ S512x4096.size a := fun a => by
  match a with
  | ⟨0, _⟩ => show 64 * (n % 8) + 64 ≤ 512; omega
  | ⟨1, _⟩ => show 0 + 4096 ≤ 4096; omega

theorem off_eq : ∀ t : Fin cfg0.N, k0_off1 (grid0.coords t) = rowOff t.val :=
  (by decide +kernel : ∀ t : Fin grid0.N, _)

theorem idle13_eq : ∀ t : Fin cfg0.N, cfg0.idle 13 (grid0.coords t) = decide (t.val / 8 = 0) :=
  (by decide +kernel : ∀ t : Fin grid0.N, _)
theorem flush13_first : ∀ t : Fin cfg0.N, t.val / 8 = 0 → (cfg0.win 13).flush t = false :=
  (by decide +kernel : ∀ t : Fin grid0.N, t.val / 8 = 0 → win0_13.flush t = false)
theorem idle14_eq : ∀ t : Fin cfg0.N, cfg0.idle 14 (grid0.coords t) = decide (t.val / 8 = 0) :=
  (by decide +kernel : ∀ t : Fin grid0.N, _)
theorem flush14_first : ∀ t : Fin cfg0.N, t.val / 8 = 0 → (cfg0.win 14).flush t = false :=
  (by decide +kernel : ∀ t : Fin grid0.N, t.val / 8 = 0 → win0_14.flush t = false)

/-! ## What the accumulators and the output hold -/

theorem N_eq : cfg0.N = 264 := N_0

/-- The grid point numbered `n`. -/
def pt (n : ℕ) : Fin cfg0.N := ⟨n % 264, lt_of_lt_of_eq (Nat.mod_lt _ (by decide)) N_eq.symm⟩

theorem pt_val (t : Fin cfg0.N) : pt t.val = t := Fin.ext (Nat.mod_eq_of_lt (lt_of_lt_of_eq t.isLt N_eq))

/-- An accumulator with nothing in it. -/
abbrev zeroAcc : Vec F S512x4096 .f32 := k0_pay16 (F := F)

/-- Point `n`'s product added to an accumulator. -/
def stepAt (c : Dev nD) (n : ℕ) (a : Vec F S512x4096 .f32) : Vec F S512x4096 .f32 :=
  step (iblk m c 0 (pt n)) (iblk m c 1 (pt n)) (iblk m c 2 (pt n)) (iblk m c 3 (pt n)) (iblk m c 4 (pt n)) (iblk m c 5 (pt n)) (iblk m c 6 (pt n)) a

/-- The running sum after point `n` of its row block's products, in the points' order. -/
def chain (c : Dev nD) : ℕ → Vec F S512x4096 .f32
  | 0 => stepAt m c 0 zeroAcc
  | n + 1 => stepAt m c (n + 1) (if (n + 1) % 8 = 0 then zeroAcc else chain c n)

theorem chain_clear (c : Dev nD) (n : ℕ) (h : n % 8 = 0) : chain m c n = stepAt m c n zeroAcc := by
  cases n with
  | zero => rfl
  | succ n => unfold chain; rw [if_pos h]

theorem chain_step (c : Dev nD) (n : ℕ) (h : ¬ n % 8 = 0) : chain m c n = stepAt m c n (chain m c (n - 1)) := by
  cases n with
  | zero => exact absurd rfl h
  | succ n => conv_lhs => unfold chain
              rw [if_neg h]; rfl

/-- The rows of the finished sum of the row block before, which point `n` finishes. -/
def done (c : Dev nD) (n : ℕ) : Vec F S64x4096 .f32 := rows (rowOff n) (rowOff_inb n) (chain m c (8 * (n / 8) - 1))

/-- The 64 rows point `n` writes out: the finished rows, normed, scaled and added to the input; -/
def slab (c : Dev nD) (n : ℕ) : Vec F S64x4096 .f32 :=
  residual (done m c n) (iblk m c 7 (pt n)) (iblk m c 8 (pt n)) (iblk m c 9 (pt n))

/-- and these normed, scaled and shifted. -/
def slabH (c : Dev nD) (n : ℕ) : Vec F S64x4096 .bf16 :=
  normed (done m c n) (iblk m c 7 (pt n)) (iblk m c 8 (pt n)) (iblk m c 9 (pt n)) (iblk m c 10 (pt n)) (iblk m c 11 (pt n)) (iblk m c 12 (pt n))

theorem rows_congr {off off' : Fin 2 → Nat} (e : off = off') (inb inb') (a : Vec F S512x4096 .f32) :
    rows off inb a = rows off' inb' a := by subst e; rfl

/-- Row block `i`'s accumulator of the two. -/
def pick {α : Type} (i : ℕ) (a b : α) : α := if i % 2 = 0 then a else b

theorem pick_even {α : Type} {i : ℕ} (h : i % 2 = 0) (a b : α) : pick i a b = a := if_pos h
theorem pick_odd {α : Type} {i : ℕ} (h : ¬ i % 2 = 0) (a b : α) : pick i a b = b := if_neg h
theorem pick_add_two {α : Type} (i : ℕ) (a b : α) : pick (i + 1 + 1) a b = pick i a b := by
  unfold pick; rw [show (i + 1 + 1) % 2 = i % 2 by omega]

/-- Before point `n`: the row block's own accumulator holds the running sum, the other the finished sum of the block before. -/
structure Inv (c : Dev nD) (n : ℕ) (d0 d1 : Vec F S512x4096 .f32) : Prop where
  cur : ¬ n % 8 = 0 → n / 8 < 32 → pick (n / 8) d0 d1 = chain m c (n - 1)
  done : 0 < n / 8 → n / 8 ≤ 32 → pick (n / 8 + 1) d0 d1 = chain m c (8 * (n / 8) - 1)

/-- What a point must leave for the next. -/
theorem Inv.next {c : Dev nD} {n : ℕ} {d0 d1 : Vec F S512x4096 .f32}
    (h1 : n / 8 < 32 → pick (n / 8) d0 d1 = chain m c n)
    (h2 : 0 < n / 8 → n / 8 ≤ 32 → pick (n / 8 + 1) d0 d1 = chain m c (8 * (n / 8) - 1)) : Inv m c (n + 1) d0 d1 := by
  by_cases hj : n % 8 = 7
  · have e : (n + 1) / 8 = n / 8 + 1 := by omega
    refine ⟨fun h => absurd (by omega) h, fun _ hi => ?_⟩
    rw [e] at hi
    rw [e, pick_add_two, h1 (by omega)]
    congr 1; omega
  · have e : (n + 1) / 8 = n / 8 := by omega
    refine ⟨fun _ hi => ?_, fun h0 hi => ?_⟩
    · rw [e] at hi; rw [e, h1 hi]; rfl
    · rw [e] at h0 hi; rw [e, h2 h0 hi]

/-! ## The body at a grid point -/

abbrev ms0 (t : Fin cfg0.N) : Memref sig .tc .vmem S512x2048 .bf16 := win0_0.stage (cfg0.slots t 0)
theorem hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
theorem hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
theorem hs3 (t : Fin cfg0.N) : (ms3 t).IsWhole := hstage0_3 ((cfg0.slots t 3).cast nbuf0_3)
abbrev ms4 (t : Fin cfg0.N) : Memref sig .tc .vmem S2048x512 .bf16 := win0_4.stage (cfg0.slots t 4)
theorem hs4 (t : Fin cfg0.N) : (ms4 t).IsWhole := hstage0_4 ((cfg0.slots t 4).cast nbuf0_4)
abbrev ms5 (t : Fin cfg0.N) : Memref sig .tc .vmem S2048x512 .bf16 := win0_5.stage (cfg0.slots t 5)
theorem hs5 (t : Fin cfg0.N) : (ms5 t).IsWhole := hstage0_5 ((cfg0.slots t 5).cast nbuf0_5)
abbrev ms6 (t : Fin cfg0.N) : Memref sig .tc .vmem S512x4096 .bf16 := win0_6.stage (cfg0.slots t 6)
theorem hs6 (t : Fin cfg0.N) : (ms6 t).IsWhole := hstage0_6 ((cfg0.slots t 6).cast nbuf0_6)
abbrev ms7 (t : Fin cfg0.N) : Memref sig .tc .vmem S64x4096 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S1x4096 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S1x1x4096 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S1x4096 .f32 := win0_10.stage (cfg0.slots t 10)
theorem hs10 (t : Fin cfg0.N) : (ms10 t).IsWhole := hstage0_10 ((cfg0.slots t 10).cast nbuf0_10)
abbrev ms11 (t : Fin cfg0.N) : Memref sig .tc .vmem S1x1x4096 .f32 := win0_11.stage (cfg0.slots t 11)
theorem hs11 (t : Fin cfg0.N) : (ms11 t).IsWhole := hstage0_11 ((cfg0.slots t 11).cast nbuf0_11)
abbrev ms12 (t : Fin cfg0.N) : Memref sig .tc .vmem S1x1x4096 .f32 := win0_12.stage (cfg0.slots t 12)
theorem hs12 (t : Fin cfg0.N) : (ms12 t).IsWhole := hstage0_12 ((cfg0.slots t 12).cast nbuf0_12)
abbrev ms13 (t : Fin cfg0.N) : Memref sig .tc .vmem S64x4096 .f32 := win0_13.stage (cfg0.slots t 13)
theorem hs13 (t : Fin cfg0.N) : (ms13 t).IsWhole := hstage0_13 ((cfg0.slots t 13).cast nbuf0_13)
abbrev ms14 (t : Fin cfg0.N) : Memref sig .tc .vmem S64x4096 .bf16 := win0_14.stage (cfg0.slots t 14)
theorem hs14 (t : Fin cfg0.N) : (ms14 t).IsWhole := hstage0_14 ((cfg0.slots t 14).cast nbuf0_14)
/-- The two accumulators. -/
abbrev acc0 : Memref sig .tc .vmem S512x4096 .f32 := Memref.whole cc0_scratch0
abbrev acc1 : Memref sig .tc .vmem S512x4096 .f32 := Memref.whole cc0_scratch1

/-- The inputs' staging buffers at point `t`'s blocks. -/
abbrev inputs (c : Dev nD) (t : Fin cfg0.N) (P : sProp 𝕄) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ P)

/-- What the body does at point `t` from contents the invariant allows: it leaves contents the invariant allows next, and
    in the outputs' buffers the point's 64 rows (what it found there, in the first row block). -/
theorem body_at (c : Dev nD) (t : Fin cfg0.N) (xo : Vec F S64x4096 .f32) (xh : Vec F S64x4096 .bf16) (d0 d1 : Vec F S512x4096 .f32) (hI : Inv m c t.val d0 d1) :
    ∃ (o : Vec F S64x4096 .f32) (p : Vec F S64x4096 .bf16) (e0 e1 : Vec F S512x4096 .f32), Inv m c (t.val + 1) e0 e1
        ∧ (o = if t.val / 8 = 0 then xo else slab m c t.val) ∧ (p = if t.val / 8 = 0 then xh else slabH m c t.val) ∧
      ∀ (E : Set ℕ) (K : PUnit → sProp 𝕄),
        inputs m c t iprop(owns (c : Thread nD τ) (ms13 t) fullShare xo ∗ owns (c : Thread nD τ) (ms14 t) fullShare xh
          ∗ owns (c : Thread nD τ) acc0 fullShare d0 ∗ owns (c : Thread nD τ) acc1 fullShare d1
          ∗ (inputs m c t iprop(owns (c : Thread nD τ) (ms13 t) fullShare o ∗ owns (c : Thread nD τ) (ms14 t) fullShare p
            ∗ owns (c : Thread nD τ) acc0 fullShare e0 ∗ owns (c : Thread nD τ) acc1 fullShare e1) -∗ K ⟨⟩))
        ⊢ wp frame (wpE (defs₀ (F := F)) Variants.none c none) E (bodyAt0 t) K := by
  have ht : t.val < 264 := lt_of_lt_of_eq t.isLt N_eq
  have hst : ∀ a, step (iblk m c 0 t) (iblk m c 1 t) (iblk m c 2 t) (iblk m c 3 t) (iblk m c 4 t) (iblk m c 5 t) (iblk m c 6 t) a = stepAt m c t.val a := fun a => by
    unfold stepAt; rw [pt_val]
  have hdn : ∀ a off inb, a = chain m c (8 * (t.val / 8) - 1) → off = rowOff t.val → rows off inb a = done m c t.val :=
    fun a off inb ea eo => by unfold done; rw [ea, rows_congr eo inb (rowOff_inb t.val)]
  have hsl : ∀ r, r = done m c t.val → residual r (iblk m c 7 t) (iblk m c 8 t) (iblk m c 9 t) = slab m c t.val :=
    fun r er => by unfold slab; rw [pt_val, er]
  have hsh : ∀ r, r = done m c t.val → normed r (iblk m c 7 t) (iblk m c 8 t) (iblk m c 9 t) (iblk m c 10 t) (iblk m c 11 t) (iblk m c 12 t)
      = slabH m c t.val := fun r er => by unfold slabH; rw [pt_val, er]
  by_cases hi0 : t.val / 8 = 0
  · have hp : ∀ a b : Vec F S512x4096 .f32, pick (t.val / 8) a b = a := pick_even (by omega)
    by_cases hj : t.val % 8 = 0
    · refine ⟨xo, xh, _, _, ?_, (if_pos hi0).symm, (if_pos hi0).symm, first_clear c (grid0.coords t) _ _ _ _ _ _ _ _ _ _ _ _ _ _ _ _ _ _ _ _ _ _ _ _ _ _ _ _ _ _ _ _ _ _
        ((clears0_iff t).mpr (by omega)) (fun h => by have := (clears1_iff t).mp h; omega) ((firstBlock_iff t).mpr (by omega)) (fun h => by have := (cond4_iff t).mp h; omega) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo xh d0 d1⟩
      exact Inv.next m (fun _ => by rw [hp, hst, chain_clear m c _ hj]) (fun h => by omega)
    · refine ⟨xo, xh, _, _, ?_, (if_pos hi0).symm, (if_pos hi0).symm, first_step c (grid0.coords t) _ _ _ _ _ _ _ _ _ _ _ _ _ _ _ _ _ _ _ _ _ _ _ _ _ _ _ _ _ _ _ _ _ _
        (fun h => by have := (clears0_iff t).mp h; omega) (fun h => by have := (clears1_iff t).mp h; omega) ((firstBlock_iff t).mpr (by omega)) (fun h => by have := (cond4_iff t).mp h; omega) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo xh d0 d1⟩
      have hc := hI.cur hj (by omega)
      rw [hp] at hc
      exact Inv.next m (fun _ => by rw [hp, hst, chain_step m c _ hj, hc]) (fun h => by omega)
  · by_cases hi : t.val / 8 = 32
    · refine ⟨_, _, d0, d1, ?_, ?_, ?_, last c (grid0.coords t) _ _ _ _ _ _ _ _ _ _ _ _ _ _ _ _ _ _ _ _ _ _ _ _ _ _ _ _ _ _ _ _ _ _
        (fun h => by have := (clears0_iff t).mp h; omega) (fun h => by have := (clears1_iff t).mp h; omega) (fun h => by have := (firstBlock_iff t).mp h; omega) (fun h => by have := (cond4_iff t).mp h; omega) (fun h => by have := (cond5_iff t).mp h; omega) ((cond6_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo xh d0 d1⟩
      · exact Inv.next m (fun h => by omega) hI.done
      · have hd := hI.done (by omega) (by omega)
        rw [pick_odd (by omega)] at hd
        rw [if_neg hi0]
        exact hsl _ (hdn _ _ _ hd (off_eq t))
      · have hd := hI.done (by omega) (by omega)
        rw [pick_odd (by omega)] at hd
        rw [if_neg hi0]
        exact hsh _ (hdn _ _ _ hd (off_eq t))
    · have hd := hI.done (by omega) (by omega)
      by_cases he : t.val / 8 % 2 = 0
      · have hp : ∀ a b : Vec F S512x4096 .f32, pick (t.val / 8) a b = a := pick_even he
        have hq : ∀ a b : Vec F S512x4096 .f32, pick (t.val / 8 + 1) a b = b := pick_odd (by omega)
        rw [hq] at hd
        by_cases hj : t.val % 8 = 0
        · refine ⟨_, _, _, _, ?_, ?_, ?_, even_clear c (grid0.coords t) _ _ _ _ _ _ _ _ _ _ _ _ _ _ _ _ _ _ _ _ _ _ _ _ _ _ _ _ _ _ _ _ _ _
            ((clears0_iff t).mpr (by omega)) (fun h => by have := (clears1_iff t).mp h; omega) (fun h => by have := (firstBlock_iff t).mp h; omega) ((cond4_iff t).mpr (by omega)) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo xh d0 d1⟩
          · exact Inv.next m (fun _ => by rw [hp, hst, chain_clear m c _ hj]) (fun _ _ => by rw [hq, hd])
          · rw [if_neg hi0]
            exact hsl _ (hdn _ _ _ hd (off_eq t))
          · rw [if_neg hi0]
            exact hsh _ (hdn _ _ _ hd (off_eq t))
        · refine ⟨_, _, _, _, ?_, ?_, ?_, even_step c (grid0.coords t) _ _ _ _ _ _ _ _ _ _ _ _ _ _ _ _ _ _ _ _ _ _ _ _ _ _ _ _ _ _ _ _ _ _
            (fun h => by have := (clears0_iff t).mp h; omega) (fun h => by have := (clears1_iff t).mp h; omega) (fun h => by have := (firstBlock_iff t).mp h; omega) ((cond4_iff t).mpr (by omega)) (fun h => by have := (cond5_iff t).mp h; omega) (fun h => by have := (cond6_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo xh d0 d1⟩
          · have hc := hI.cur hj (by omega)
            rw [hp] at hc
            exact Inv.next m (fun _ => by rw [hp, hst, chain_step m c _ hj, hc]) (fun _ _ => by rw [hq, hd])
          · rw [if_neg hi0]
            exact hsl _ (hdn _ _ _ hd (off_eq t))
          · rw [if_neg hi0]
            exact hsh _ (hdn _ _ _ hd (off_eq t))
      · have hp : ∀ a b : Vec F S512x4096 .f32, pick (t.val / 8) a b = b := pick_odd he
        have hq : ∀ a b : Vec F S512x4096 .f32, pick (t.val / 8 + 1) a b = a := pick_even (by omega)
        rw [hq] at hd
        by_cases hj : t.val % 8 = 0
        · refine ⟨_, _, _, _, ?_, ?_, ?_, odd_clear c (grid0.coords t) _ _ _ _ _ _ _ _ _ _ _ _ _ _ _ _ _ _ _ _ _ _ _ _ _ _ _ _ _ _ _ _ _ _
            (fun h => by have := (clears0_iff t).mp h; omega) ((clears1_iff t).mpr (by omega)) (fun h => by have := (firstBlock_iff t).mp h; omega) (fun h => by have := (cond4_iff t).mp h; omega) ((cond5_iff t).mpr (by omega)) (fun h => by have := (cond6_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo xh d0 d1⟩
          · exact Inv.next m (fun _ => by rw [hp, hst, chain_clear m c _ hj]) (fun _ _ => by rw [hq, hd])
          · rw [if_neg hi0]
            exact hsl _ (hdn _ _ _ hd (off_eq t))
          · rw [if_neg hi0]
            exact hsh _ (hdn _ _ _ hd (off_eq t))
        · refine ⟨_, _, _, _, ?_, ?_, ?_, odd_step c (grid0.coords t) _ _ _ _ _ _ _ _ _ _ _ _ _ _ _ _ _ _ _ _ _ _ _ _ _ _ _ _ _ _ _ _ _ _
            (fun h => by have := (clears0_iff t).mp h; omega) (fun h => by have := (clears1_iff t).mp h; omega) (fun h => by have := (firstBlock_iff t).mp h; omega) (fun h => by have := (cond4_iff t).mp h; omega) ((cond5_iff t).mpr (by omega)) (fun h => by have := (cond6_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo xh d0 d1⟩
          · have hc := hI.cur hj (by omega)
            rw [hp] at hc
            exact Inv.next m (fun _ => by rw [hp, hst, chain_step m c _ hj, hc]) (fun _ _ => by rw [hq, hd])
          · rw [if_neg hi0]
            exact hsl _ (hdn _ _ _ hd (off_eq t))
          · rw [if_neg hi0]
            exact hsh _ (hdn _ _ _ hd (off_eq t))

/-! ## The pipeline's proof data -/

/-- The invariant before point `n`: the two accumulators at contents `Inv` allows, the generator's register at anything. -/
def Phi (c : Dev nD) (n : ℕ) : sProp 𝕄 :=
  iprop((∃ d0 d1, ⌜Inv m c n d0 d1⌝ ∗ owns (c : Thread nD τ) acc0 fullShare d0 ∗ owns (c : Thread nD τ) acc1 fullShare d1) ∗ (∃ r, prngReg c r))

/-- Before the first point nothing is asked of the accumulators. -/
theorem Phi0_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

/-- The arrays as the region finds them; arrays that several windows read in shares; each input's buffer left at its block, the outputs' at the point's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => slab m c t.val
    | ⟨14, _⟩ => slabH m c t.val
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = slab m c t.val := by dsimp only [dats]
theorem after14 (c : Dev nD) (t : Fin cfg0.N) : (dats m 0 c).after 14 t = slabH m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ (dats m 0 c).leavesExact 13 t ∗ (dats m 0 c).leavesExact 14 t)

/-- What the first output's buffer must hold after point `t`: the point's rows, or in the first row block what it held; -/
theorem leaves13 (c : Dev nD) (t : Fin cfg0.N) (d : Vec F S64x4096 .f32) :
    (owns (c : Thread nD τ) (ms13 t) fullShare (if t.val / 8 = 0 then (dats m 0 c).before 13 t d else slab m c t.val) : sProp 𝕄)
      ⊢ (dats m 0 c).leavesExact 13 t := by
  by_cases h : t.val / 8 = 0
  · rw [if_pos h, (dats m 0 c).leavesExact_idle 13 t ((idle13_eq t).trans (decide_eq_true h)) (flush13_first t h)]
    iintro H
    iexists d; iexact H
  · rw [if_neg h]
    unfold Dat.leavesExact
    rw [show cfg0.idle 13 (cfg0.grid.coords t) = false from (idle13_eq t).trans (decide_eq_false h), after13]

/-- and the second's. -/
theorem leaves14 (c : Dev nD) (t : Fin cfg0.N) (d : Vec F S64x4096 .bf16) :
    (owns (c : Thread nD τ) (ms14 t) fullShare (if t.val / 8 = 0 then (dats m 0 c).before 14 t d else slabH m c t.val) : sProp 𝕄)
      ⊢ (dats m 0 c).leavesExact 14 t := by
  by_cases h : t.val / 8 = 0
  · rw [if_pos h, (dats m 0 c).leavesExact_idle 14 t ((idle14_eq t).trans (decide_eq_true h)) (flush14_first t h)]
    iintro H
    iexists d; iexact H
  · rw [if_neg h]
    unfold Dat.leavesExact
    rw [show cfg0.idle 14 (cfg0.grid.coords t) = false from (idle14_eq t).trans (decide_eq_false h), after14]

/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, before11, before12]
  rw [show (dats m 0 c).owesAt () t.succ = (dats m 0 c).owesAt () t.castSucc from rfl,
    after0, after1, after2, after3, after4, after5, after6, after7, after8, after9, after10, after11, after12]
  rw [show (dats m 0 c).Φ t.succ = Phi m c (t.val + 1) from rfl, show (dats m 0 c).Φ t.castSucc = Phi m c t.val from rfl]
  unfold Phi
  iintro ⟨⟨⟨%d0, %d1, %hI, HA, HB⟩, Hg⟩, Ho, ⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, H13⟩, ⟨%y14, H14⟩⟩
  obtain ⟨o, p, e0, e1, hN, ho, hp, hrun⟩ := body_at m c t ((dats m 0 c).before 13 t y13) ((dats m 0 c).before 14 t y14) d0 d1 hI
  subst ho; subst hp
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HA]; · iexact HA
  isplitl [HB]; · iexact HB
  iintro ⟨H0, H1, H2, H3, H4, H5, H6, H7, H8, H9, H10, H11, H12, H13, H14, HA, HB⟩
  isplitl [HA HB Hg]
  · isplitl [HA HB]
    · iexists e0; iexists e1
      isplitr; · ipureintro; exact hN
      isplitl [HA]; · iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (leaves13 m c t y13); iexact H13
  iapply (leaves14 m c t y14)
  iexact H14

theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, Phi0_eq]
  unfold Phi
  iintro ⟨⟨⟨%d0, HA⟩, ⟨%d1, HB⟩⟩, Hg⟩
  isplitl [HA HB]
  · iexists d0; iexists d1
    isplitr; · ipureintro; exact ⟨fun h => absurd rfl h, fun h => absurd h (by decide)⟩
    isplitl [HA]; · iexact HA
    iexact HB
  iexact Hg

theorem hout (c : Dev nD) : (dats m 0 c).Φ (Fin.last cfg0.N) ⊢ Pipeline.ΦA spec0 c := by
  rw [show (dats m 0 c).Φ (Fin.last cfg0.N) = Phi m c cfg0.N from rfl, Phi0_eq]
  unfold Phi
  iintro ⟨⟨%d0, %d1, -, HA, HB⟩, Hg⟩
  isplitl [HA HB]
  · isplitl [HA]; · iexists d0; iexact HA
    iexists d1; iexact HB
  iexact Hg

/-! ## The run and the frame -/

set_option backward.isDefEq.respectTransparency.types false in
/-- The launch: every array of the pipeline at what the proof data makes of it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame, for any values: the arguments end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.MixIdeal.Hand

end
-- ==== Proof.Mix.Value.lean ====
/-
  The mixing kernel's two results over the extended reals, as functions of its arguments, and the run with the result arrays
  at them.
-/
module

public import proofs.«01_k».proof.Proof.Mix.Frame
public import Idealize.ShloMosaic.Lib.Pointwise

@[expose] public section

set_option maxRecDepth 16384

noncomputable section

namespace Cert.MixIdeal.Hand

open Idealize.ShloMosaic Idealize.ShloMosaic.TcCoe Idealize.ShloMosaic.Tactic Idealize.SL.Sem
open Cert.MixIdeal Cert.MixIdeal.Gen

/-! ## The vectors at an index -/

/-- The accumulator's step: the two branches' products, each weighted by its gate, times the output weights. -/
theorem pay18_apply (s t : Vec Ideal S512x2048 .bf16) (ga gb : Vec Ideal S512x512 .bf16) (ps pt : Vec Ideal S2048x512 .bf16)
    (w : Vec Ideal S512x4096 .bf16) (acc : Vec Ideal S512x4096 .f32) (a : Fin 512) (b : Fin 4096) :
    (k0_pay18 (F := Ideal) s ps t pt ga gb acc w : FVec Ideal S512x4096 .f32) (ix2 a b) =
      (acc : FVec Ideal S512x4096 .f32) (ix2 a b) + ∑ q : Fin 512,
        (Ideal.logistic ((ga : FVec Ideal S512x512 .bf16) (ix2 a q))
            * (∑ x : Fin 2048, (s : FVec Ideal S512x2048 .bf16) (ix2 a x) * (ps : FVec Ideal S2048x512 .bf16) (ix2 x q))
          + Ideal.logistic ((gb : FVec Ideal S512x512 .bf16) (ix2 a q))
            * ∑ x : Fin 2048, (t : FVec Ideal S512x2048 .bf16) (ix2 a x) * (pt : FVec Ideal S2048x512 .bf16) (ix2 x q))
          * (w : FVec Ideal S512x4096 .bf16) (ix2 q b) := by
  unfold k0_pay18
  pointwise []

/-- The means' divisor and the small term under the roots. -/
abbrev width : EReal := Ideal.ofBits .f32 1166016512#32
abbrev eps : EReal := Ideal.ofBits .f32 897988541#32

/-- The rows written to the residual stream. -/
theorem residual_apply (f x : Vec Ideal S64x4096 .f32) (g : Vec Ideal S1x4096 .f32) (gt : Vec Ideal S1x1x4096 .f32) (a : Fin 64) (b : Fin 4096) :
    (residual (F := Ideal) f x g gt : FVec Ideal S64x4096 .f32) (ix2 a b) =
      (x : FVec Ideal S64x4096 .f32) (ix2 a b) + (f : FVec Ideal S64x4096 .f32) (ix2 a b)
        * Ideal.rsqrt (Ideal.div (∑ y : Fin 4096, (f : FVec Ideal S64x4096 .f32) (ix2 a y) * (f : FVec Ideal S64x4096 .f32) (ix2 a y)) width + eps)
        * ((gt : FVec Ideal S1x1x4096 .f32) (ix3 0 0 b) * (g : FVec Ideal S1x4096 .f32) (ix2 0 b)) := by
  unfold residual k0_pay3
  pointwise []

/-- The rows written for the feed-forward, from the rows `u` of the residual stream. -/
theorem pay6_apply (u : FVec Ideal S64x4096 .f32) (p : FVec Ideal S1x4096 .f32) (v : FVec Ideal S64x1 .f32) (e : EReal)
    (sh : Vec Ideal S1x1x4096 .f32) (a : Fin 64) (b : Fin 4096) :
    (k0_pay6 (F := Ideal) u p v e sh : FVec Ideal S64x4096 .bf16) (ix2 a b) =
      u (ix2 a b) * Ideal.rsqrt (v (ix2 a 0) + e) * p (ix2 0 b) + (sh : FVec Ideal S1x1x4096 .f32) (ix3 0 0 b) := by
  unfold k0_pay6
  pointwise []

theorem pay4_apply (g' : Vec Ideal S1x4096 .f32) (sc : Vec Ideal S1x1x4096 .f32) (b : Fin 4096) :
    (k0_pay4 (F := Ideal) g' sc : FVec Ideal S1x4096 .f32) (ix2 0 b) =
      (g' : FVec Ideal S1x4096 .f32) (ix2 0 b) * (1 + (sc : FVec Ideal S1x1x4096 .f32) (ix3 0 0 b)) := by
  unfold k0_pay4
  pointwise []

theorem pay5_apply (f x : Vec Ideal S64x4096 .f32) (g : Vec Ideal S1x4096 .f32) (gt : Vec Ideal S1x1x4096 .f32) (a : Fin 64) :
    (k0_pay5 (F := Ideal) f x gt g : FVec Ideal S64x1 .f32) (ix2 a 0) =
      Ideal.div (∑ y : Fin 4096, (residual (F := Ideal) f x g gt : FVec Ideal S64x4096 .f32) (ix2 a y)
        * (residual (F := Ideal) f x g gt : FVec Ideal S64x4096 .f32) (ix2 a y)) width := by
  unfold k0_pay5 residual
  generalize k0_pay3 (F := Ideal) f x gt g = u
  pointwise []

theorem normed_apply (f x : Vec Ideal S64x4096 .f32) (g : Vec Ideal S1x4096 .f32) (gt : Vec Ideal S1x1x4096 .f32) (g' : Vec Ideal S1x4096 .f32)
    (sh sc : Vec Ideal S1x1x4096 .f32) (a : Fin 64) (b : Fin 4096) :
    (normed (F := Ideal) f x g gt g' sh sc : FVec Ideal S64x4096 .bf16) (ix2 a b) =
      (residual (F := Ideal) f x g gt : FVec Ideal S64x4096 .f32) (ix2 a b)
        * Ideal.rsqrt (Ideal.div (∑ y : Fin 4096, (residual (F := Ideal) f x g gt : FVec Ideal S64x4096 .f32) (ix2 a y)
          * (residual (F := Ideal) f x g gt : FVec Ideal S64x4096 .f32) (ix2 a y)) width + eps)
        * ((g' : FVec Ideal S1x4096 .f32) (ix2 0 b) * (1 + (sc : FVec Ideal S1x1x4096 .f32) (ix3 0 0 b)))
        + (sh : FVec Ideal S1x1x4096 .f32) (ix3 0 0 b) := by
  refine (pay6_apply _ _ _ _ sh a b).trans ?_
  rw [pay4_apply, pay5_apply]
  rfl

theorem zeroAcc_apply (a : Fin 512) (b : Fin 4096) : (zeroAcc (F := Ideal) : FVec Ideal S512x4096 .f32) (ix2 a b) = 0 := by
  show (k0_pay16 (F := Ideal) : FVec Ideal S512x4096 .f32) (ix2 a b) = 0
  unfold k0_pay16
  pointwise []

theorem rows_apply (off : Fin 2 → Nat) (inb) (acc : Vec Ideal S512x4096 .f32) (a : Fin 64) (b : Fin 4096) (r : Fin 512)
    (h0 : r.val = off 0 + a.val) (h1 : off 1 = 0) :
    (rows off inb acc : FVec Ideal S64x4096 .f32) (ix2 a b) = (acc : FVec Ideal S512x4096 .f32) (ix2 r b) := by
  refine View.ld_unit_apply_of (S := S512x4096) (Val := Elt Ideal) (e := .f32) acc off S64x4096.size inb (ix2 a b) (ix2 r b) fun x => ?_
  match x with
  | ⟨0, _⟩ => exact h0
  | ⟨1, _⟩ => show b.val = off 1 + b.val; rw [h1]; omega

/-! ## The results -/

section Whole

variable (SA AA : FVec Ideal S16384x2048 .bf16) (GT : FVec Ideal S16384x8192 .bf16) (WS WA : FVec Ideal S2048x4096 .bf16)
  (WO : FVec Ideal S4096x4096 .bf16) (X : FVec Ideal S16384x4096 .f32) (GP GF : FVec Ideal S1x4096 .f32) (M : FVec Ideal S4x24576 .f32)

/-- The merged branches' entry. -/
def merged (r : Fin 16384) (k : Fin 4096) : EReal :=
  Ideal.logistic (GT (ix2 r ⟨k.val, by omega⟩)) * (∑ x : Fin 2048, SA (ix2 r x) * WS (ix2 x k))
    + Ideal.logistic (GT (ix2 r ⟨4096 + k.val, by omega⟩)) * ∑ x : Fin 2048, AA (ix2 r x) * WA (ix2 x k)

/-- Its product with the output weights. -/
def outSum (r : Fin 16384) (d : Fin 4096) : EReal := ∑ k : Fin 4096, merged SA AA GT WS WA r k * WO (ix2 k d)

/-- The part of it that column block `s` gives. -/
def part (r : Fin 16384) (d : Fin 4096) (s : ℕ) : EReal :=
  ∑ q : Fin 512, merged SA AA GT WS WA r ⟨(s * 512 + q.val) % 4096, Nat.mod_lt _ (by decide)⟩ *
    WO (ix2 ⟨(s * 512 + q.val) % 4096, Nat.mod_lt _ (by decide)⟩ d)

/-- The parts together. -/
theorem sum_parts (r : Fin 16384) (d : Fin 4096) : ∑ s ∈ Finset.range 8, part SA AA GT WS WA WO r d s = outSum SA AA GT WS WA WO r d := by
  rw [Finset.sum_range]
  unfold part outSum
  refine Fin.sum_mul_add_congr (S := 8) (n := 512) (fun s q hl => ?_)
  have e : (s.val * 512 + q.val) % 4096 = s.val * 512 + q.val := Nat.mod_eq_of_lt hl
  simp only [e]

/-- The residual stream's entry: the input's plus the scaled, normed sum. -/
def entry (r : Fin 16384) (d : Fin 4096) : EReal :=
  X (ix2 r d) + outSum SA AA GT WS WA WO r d
    * Ideal.rsqrt (Ideal.div (∑ y : Fin 4096, outSum SA AA GT WS WA WO r y * outSum SA AA GT WS WA WO r y) width + eps)
    * (M (ix2 ⟨r.val / 4096, by omega⟩ ⟨8192 + d.val, by omega⟩) * GP (ix2 0 d))

/-- The feed-forward's input's entry: the residual stream's, normed, scaled and shifted. -/
def entryH (r : Fin 16384) (d : Fin 4096) : EReal :=
  entry SA AA GT WS WA WO X GP M r d
    * Ideal.rsqrt (Ideal.div (∑ y : Fin 4096, entry SA AA GT WS WA WO X GP M r y * entry SA AA GT WS WA WO X GP M r y) width + eps)
    * (GF (ix2 0 d) * (1 + M (ix2 ⟨r.val / 4096, by omega⟩ ⟨16384 + d.val, by omega⟩)))
    + M (ix2 ⟨r.val / 4096, by omega⟩ ⟨12288 + d.val, by omega⟩)

/-- The whole results. -/
def G : FVec Ideal S16384x4096 .f32 := fun y => entry SA AA GT WS WA WO X GP M (y 0) (y 1)
def GH : FVec Ideal S16384x4096 .bf16 := fun y => entryH SA AA GT WS WA WO X GP GF M (y 0) (y 1)

end Whole

/-! ## The windows' blocks -/

theorem idx0 : ∀ t : Fin cfg0.N, win0_0.index t (0 : Fin 2) = min (t.val / 8) 31 ∧ win0_0.index t (1 : Fin 2) = 0 :=
  (by decide +kernel : ∀ t : Fin grid0.N, _)
theorem idx1 : ∀ t : Fin cfg0.N, win0_1.index t (0 : Fin 2) = min (t.val / 8) 31 ∧ win0_1.index t (1 : Fin 2) = 0 :=
  (by decide +kernel : ∀ t : Fin grid0.N, _)
theorem idx2 : ∀ t : Fin cfg0.N, t.val / 8 < 32 → win0_2.index t (0 : Fin 2) = t.val / 8 ∧ win0_2.index t (1 : Fin 2) = t.val % 8 :=
  (by decide +kernel : ∀ t : Fin grid0.N, t.val / 8 < 32 → win0_2.index t (0 : Fin 2) = t.val / 8 ∧ win0_2.index t (1 : Fin 2) = t.val % 8)
theorem idx3 : ∀ t : Fin cfg0.N, t.val / 8 < 32 → win0_3.index t (0 : Fin 2) = t.val / 8 ∧ win0_3.index t (1 : Fin 2) = t.val % 8 + 8 :=
  (by decide +kernel : ∀ t : Fin grid0.N, t.val / 8 < 32 → win0_3.index t (0 : Fin 2) = t.val / 8 ∧ win0_3.index t (1 : Fin 2) = t.val % 8 + 8)
theorem idx4 : ∀ t : Fin cfg0.N, t.val / 8 < 32 → win0_4.index t (0 : Fin 2) = 0 ∧ win0_4.index t (1 : Fin 2) = t.val % 8 :=
  (by decide +kernel : ∀ t : Fin grid0.N, t.val / 8 < 32 → win0_4.index t (0 : Fin 2) = 0 ∧ win0_4.index t (1 : Fin 2) = t.val % 8)
theorem idx5 : ∀ t : Fin cfg0.N, t.val / 8 < 32 → win0_5.index t (0 : Fin 2) = 0 ∧ win0_5.index t (1 : Fin 2) = t.val % 8 :=
  (by decide +kernel : ∀ t : Fin grid0.N, t.val / 8 < 32 → win0_5.index t (0 : Fin 2) = 0 ∧ win0_5.index t (1 : Fin 2) = t.val % 8)
theorem idx6 : ∀ t : Fin cfg0.N, t.val / 8 < 32 → win0_6.index t (0 : Fin 2) = t.val % 8 ∧ win0_6.index t (1 : Fin 2) = 0 :=
  (by decide +kernel : ∀ t : Fin grid0.N, t.val / 8 < 32 → win0_6.index t (0 : Fin 2) = t.val % 8 ∧ win0_6.index t (1 : Fin 2) = 0)
theorem idx7 : ∀ t : Fin cfg0.N, 0 < t.val / 8 → win0_7.index t (0 : Fin 2) = (t.val / 8 - 1) * 8 + t.val % 8 ∧ win0_7.index t (1 : Fin 2) = 0 :=
  (by decide +kernel : ∀ t : Fin grid0.N, 0 < t.val / 8 → win0_7.index t (0 : Fin 2) = (t.val / 8 - 1) * 8 + t.val % 8 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = (t.val / 8 - 1) / 8 * 6 + 2 ∧ win0_9.index t (1 : Fin 3) = 0 ∧ win0_9.index t (2 : Fin 3) = 0 :=
  (by decide +kernel : ∀ t : Fin grid0.N, _)
theorem idx11 : ∀ t : Fin cfg0.N, win0_11.index t (0 : Fin 3) = (t.val / 8 - 1) / 8 * 6 + 3 ∧ win0_11.index t (1 : Fin 3) = 0 ∧ win0_11.index t (2 : Fin 3) = 0 :=
  (by decide +kernel : ∀ t : Fin grid0.N, _)
theorem idx12 : ∀ t : Fin cfg0.N, win0_12.index t (0 : Fin 3) = (t.val / 8 - 1) / 8 * 6 + 4 ∧ win0_12.index t (1 : Fin 3) = 0 ∧ win0_12.index t (2 : Fin 3) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx13 : ∀ t : Fin cfg0.N, 0 < t.val / 8 → win0_13.index t (0 : Fin 2) = (t.val / 8 - 1) * 8 + t.val % 8 ∧ win0_13.index t (1 : Fin 2) = 0 :=
  (by decide +kernel : ∀ t : Fin grid0.N, 0 < t.val / 8 → win0_13.index t (0 : Fin 2) = (t.val / 8 - 1) * 8 + t.val % 8 ∧ win0_13.index t (1 : Fin 2) = 0)
theorem idx14 : ∀ t : Fin cfg0.N, 0 < t.val / 8 → win0_14.index t (0 : Fin 2) = (t.val / 8 - 1) * 8 + t.val % 8 ∧ win0_14.index t (1 : Fin 2) = 0 :=
  (by decide +kernel : ∀ t : Fin grid0.N, 0 < t.val / 8 → win0_14.index t (0 : Fin 2) = (t.val / 8 - 1) * 8 + t.val % 8 ∧ win0_14.index t (1 : Fin 2) = 0)
/-- From the second row block on, each point's 64 rows are written back. -/
theorem flush13 : ∀ t : Fin cfg0.N, 0 < t.val / 8 → (cfg0.win 13).flush t = true :=
  (by decide +kernel : ∀ t : Fin grid0.N, 0 < t.val / 8 → win0_13.flush t = true)
theorem flush14 : ∀ t : Fin cfg0.N, 0 < t.val / 8 → (cfg0.win 14).flush t = true :=
  (by decide +kernel : ∀ t : Fin grid0.N, 0 < t.val / 8 → win0_14.flush t = true)

variable (m : (ℓ : Loc nD τ sig) → Buf (Elt Ideal) ℓ) (ρ : Dev nD → PrngReg) (c : Dev nD)

/-- The arguments. -/
abbrev aS : FVec Ideal S16384x2048 .bf16 := m ((c : Thread nD τ).loc main_arg0)
abbrev aA : FVec Ideal S16384x2048 .bf16 := m ((c : Thread nD τ).loc main_arg1)
abbrev aG : FVec Ideal S16384x8192 .bf16 := m ((c : Thread nD τ).loc main_arg2)
abbrev aWS : FVec Ideal S2048x4096 .bf16 := m ((c : Thread nD τ).loc main_arg3)
abbrev aWA : FVec Ideal S2048x4096 .bf16 := m ((c : Thread nD τ).loc main_arg4)
abbrev aWO : FVec Ideal S4096x4096 .bf16 := m ((c : Thread nD τ).loc main_arg5)
abbrev aX : FVec Ideal S16384x4096 .f32 := m ((c : Thread nD τ).loc main_arg6)
abbrev aP : FVec Ideal S1x4096 .f32 := m ((c : Thread nD τ).loc main_arg7)
abbrev aF : FVec Ideal S1x4096 .f32 := m ((c : Thread nD τ).loc main_arg8)
abbrev aM : FVec Ideal S4x24576 .f32 := m ((c : Thread nD τ).loc main_arg9)

section Blocks

variable (t : Fin cfg0.N)

theorem t_lt : t.val < 264 := lt_of_lt_of_eq t.isLt N_eq

theorem iblk0_apply (a : Fin 512) (x : Fin 2048) (r : Fin 16384) (hr : r.val = 512 * min (t.val / 8) 31 + a.val) :
    (iblk (F := Ideal) m c 0 t : FVec Ideal S512x2048 .bf16) (ix2 a x) = aS m c (ix2 r x) := by
  refine Eq.trans (b := (V (F := Ideal) m c main_arg0 : FVec Ideal S16384x2048 .bf16) (ix2 r x)) ?_ (by rw [V_main_arg0])
  refine congrArg (V (F := Ideal) m c main_arg0 : FVec Ideal S16384x2048 .bf16) (funext fun y => Fin.ext ?_)
  match y with
  | ⟨0, _⟩ => show win0_0.index t (0 : Fin 2) * 512 + 1 * a.val = r.val; rw [(idx0 t).1]; omega
  | ⟨1, _⟩ => show win0_0.index t (1 : Fin 2) * 2048 + 1 * x.val = x.val; rw [(idx0 t).2]; omega

theorem iblk1_apply (a : Fin 512) (x : Fin 2048) (r : Fin 16384) (hr : r.val = 512 * min (t.val / 8) 31 + a.val) :
    (iblk (F := Ideal) m c 1 t : FVec Ideal S512x2048 .bf16) (ix2 a x) = aA m c (ix2 r x) := by
  refine Eq.trans (b := (V (F := Ideal) m c main_arg1 : FVec Ideal S16384x2048 .bf16) (ix2 r x)) ?_ (by rw [V_main_arg1])
  refine congrArg (V (F := Ideal) m c main_arg1 : FVec Ideal S16384x2048 .bf16) (funext fun y => Fin.ext ?_)
  match y with
  | ⟨0, _⟩ => show win0_1.index t (0 : Fin 2) * 512 + 1 * a.val = r.val; rw [(idx1 t).1]; omega
  | ⟨1, _⟩ => show win0_1.index t (1 : Fin 2) * 2048 + 1 * x.val = x.val; rw [(idx1 t).2]; omega

theorem iblk2_apply (h : t.val / 8 < 32) (a : Fin 512) (q : Fin 512) (r : Fin 16384) (hr : r.val = 512 * (t.val / 8) + a.val) (k : Fin 8192)
    (hk : k.val = t.val % 8 * 512 + q.val) :
    (iblk (F := Ideal) m c 2 t : FVec Ideal S512x512 .bf16) (ix2 a q) = aG m c (ix2 r k) := by
  refine Eq.trans (b := (V (F := Ideal) m c main_arg2 : FVec Ideal S16384x8192 .bf16) (ix2 r k)) ?_ (by rw [V_main_arg2])
  refine congrArg (V (F := Ideal) m c main_arg2 : FVec Ideal S16384x8192 .bf16) (funext fun y => Fin.ext ?_)
  match y with
  | ⟨0, _⟩ => show win0_2.index t (0 : Fin 2) * 512 + 1 * a.val = r.val; rw [(idx2 t h).1]; omega
  | ⟨1, _⟩ => show win0_2.index t (1 : Fin 2) * 512 + 1 * q.val = k.val; rw [(idx2 t h).2]; omega

theorem iblk3_apply (h : t.val / 8 < 32) (a : Fin 512) (q : Fin 512) (r : Fin 16384) (hr : r.val = 512 * (t.val / 8) + a.val) (k : Fin 8192)
    (hk : k.val = 4096 + (t.val % 8 * 512 + q.val)) :
    (iblk (F := Ideal) m c 3 t : FVec Ideal S512x512 .bf16) (ix2 a q) = aG m c (ix2 r k) := by
  refine Eq.trans (b := (V (F := Ideal) m c main_arg2 : FVec Ideal S16384x8192 .bf16) (ix2 r k)) ?_ (by rw [V_main_arg2])
  refine congrArg (V (F := Ideal) m c main_arg2 : FVec Ideal S16384x8192 .bf16) (funext fun y => Fin.ext ?_)
  match y with
  | ⟨0, _⟩ => show win0_3.index t (0 : Fin 2) * 512 + 1 * a.val = r.val; rw [(idx3 t h).1]; omega
  | ⟨1, _⟩ => show win0_3.index t (1 : Fin 2) * 512 + 1 * q.val = k.val; rw [(idx3 t h).2]; omega

theorem iblk4_apply (h : t.val / 8 < 32) (x : Fin 2048) (q : Fin 512) (k : Fin 4096) (hk : k.val = t.val % 8 * 512 + q.val) :
    (iblk (F := Ideal) m c 4 t : FVec Ideal S2048x512 .bf16) (ix2 x q) = aWS m c (ix2 x k) := by
  refine Eq.trans (b := (V (F := Ideal) m c main_arg3 : FVec Ideal S2048x4096 .bf16) (ix2 x k)) ?_ (by rw [V_main_arg3])
  refine congrArg (V (F := Ideal) m c main_arg3 : FVec Ideal S2048x4096 .bf16) (funext fun y => Fin.ext ?_)
  match y with
  | ⟨0, _⟩ => show win0_4.index t (0 : Fin 2) * 2048 + 1 * x.val = x.val; rw [(idx4 t h).1]; omega
  | ⟨1, _⟩ => show win0_4.index t (1 : Fin 2) * 512 + 1 * q.val = k.val; rw [(idx4 t h).2]; omega

theorem iblk5_apply (h : t.val / 8 < 32) (x : Fin 2048) (q : Fin 512) (k : Fin 4096) (hk : k.val = t.val % 8 * 512 + q.val) :
    (iblk (F := Ideal) m c 5 t : FVec Ideal S2048x512 .bf16) (ix2 x q) = aWA m c (ix2 x k) := by
  refine Eq.trans (b := (V (F := Ideal) m c main_arg4 : FVec Ideal S2048x4096 .bf16) (ix2 x k)) ?_ (by rw [V_main_arg4])
  refine congrArg (V (F := Ideal) m c main_arg4 : FVec Ideal S2048x4096 .bf16) (funext fun y => Fin.ext ?_)
  match y with
  | ⟨0, _⟩ => show win0_5.index t (0 : Fin 2) * 2048 + 1 * x.val = x.val; rw [(idx5 t h).1]; omega
  | ⟨1, _⟩ => show win0_5.index t (1 : Fin 2) * 512 + 1 * q.val = k.val; rw [(idx5 t h).2]; omega

theorem iblk6_apply (h : t.val / 8 < 32) (q : Fin 512) (b : Fin 4096) (k : Fin 4096) (hk : k.val = t.val % 8 * 512 + q.val) :
    (iblk (F := Ideal) m c 6 t : FVec Ideal S512x4096 .bf16) (ix2 q b) = aWO m c (ix2 k b) := by
  refine Eq.trans (b := (V (F := Ideal) m c main_arg5 : FVec Ideal S4096x4096 .bf16) (ix2 k b)) ?_ (by rw [V_main_arg5])
  refine congrArg (V (F := Ideal) m c main_arg5 : FVec Ideal S4096x4096 .bf16) (funext fun y => Fin.ext ?_)
  match y with
  | ⟨0, _⟩ => show win0_6.index t (0 : Fin 2) * 512 + 1 * q.val = k.val; rw [(idx6 t h).1]; omega
  | ⟨1, _⟩ => show win0_6.index t (1 : Fin 2) * 4096 + 1 * b.val = b.val; rw [(idx6 t h).2]; omega

theorem iblk7_apply (h : 0 < t.val / 8) (a : Fin 64) (b : Fin 4096) (r : Fin 16384)
    (hr : r.val = ((t.val / 8 - 1) * 8 + t.val % 8) * 64 + a.val) :
    (iblk (F := Ideal) m c 7 t : FVec Ideal S64x4096 .f32) (ix2 a b) = aX m c (ix2 r b) := by
  refine Eq.trans (b := (V (F := Ideal) m c main_arg6 : FVec Ideal S16384x4096 .f32) (ix2 r b)) ?_ (by rw [V_main_arg6])
  refine congrArg (V (F := Ideal) m c main_arg6 : FVec Ideal S16384x4096 .f32) (funext fun y => Fin.ext ?_)
  match y with
  | ⟨0, _⟩ => show win0_7.index t (0 : Fin 2) * 64 + 1 * a.val = r.val; rw [(idx7 t h).1]; omega
  | ⟨1, _⟩ => show win0_7.index t (1 : Fin 2) * 4096 + 1 * b.val = b.val; rw [(idx7 t h).2]; omega

/-- The two norms' scales and the modulation as the region finds them. -/
theorem V_main_v3 (b : Fin 4096) : (V (F := Ideal) m c main_v3 : FVec Ideal S1x4096 .f32) (ix2 0 b) = aP m c (ix2 0 b) := by
  have e : (V (F := Ideal) m c main_v3 : FVec Ideal S1x4096 .f32) =
      shapeCast S1x4096 (shapeCast S4096 (aP m c) shapeCasts_S1x4096_S4096) shapeCasts_S4096_S1x4096 := by
    show StableHlo.after hostOps0 (fun b => m (c, b)) main_v3 = _
    after_results
    rfl
  rw [e]
  pointwise []

theorem V_main_v4 (b : Fin 4096) : (V (F := Ideal) m c main_v4 : FVec Ideal S1x4096 .f32) (ix2 0 b) = aF m c (ix2 0 b) := by
  have e : (V (F := Ideal) m c main_v4 : FVec Ideal S1x4096 .f32) =
      shapeCast S1x4096 (shapeCast S4096 (aF m c) shapeCasts_S1x4096_S4096) shapeCasts_S4096_S1x4096 := by
    show StableHlo.after hostOps0 (fun b => m (c, b)) main_v4 = _
    after_results
    rfl
  rw [e]
  pointwise []

theorem V_main_v0 (i : Fin 24) (b : Fin 4096) : (V (F := Ideal) m c main_v0 : FVec Ideal S24x1x4096 .f32) (ix3 i 0 b) =
    aM m c (ix2 ⟨i.val / 6, by omega⟩ ⟨i.val % 6 * 4096 + b.val, by omega⟩) := by
  have e : (V (F := Ideal) m c main_v0 : FVec Ideal S24x1x4096 .f32) = shapeCast S24x1x4096 (aM m c) shapeCasts_S4x24576_S24x1x4096 := by
    show StableHlo.after hostOps0 (fun b => m (c, b)) main_v0 = _
    after_results
    rfl
  rw [e]
  refine shapeCast_apply (aM m c) shapeCasts_S4x24576_S24x1x4096 (ix3 i 0 b) _ ?_
  rw [Shape.rowMajor_val_three, Shape.rowMajor_val_two]
  show i.val / 6 * 24576 + (i.val % 6 * 4096 + b.val) = (i.val * 1 + 0) * 4096 + b.val
  omega

theorem iblk8_apply (b : Fin 4096) : (iblk (F := Ideal) m c 8 t : FVec Ideal S1x4096 .f32) (ix2 0 b) = aP m c (ix2 0 b) := by
  refine Eq.trans ?_ (V_main_v3 m c b)
  refine congrArg (V (F := Ideal) m c main_v3 : FVec Ideal S1x4096 .f32) (funext fun y => Fin.ext ?_)
  match y with
  | ⟨0, _⟩ => show win0_8.index t (0 : Fin 2) * 1 + 1 * 0 = 0; rw [(idx8 t).1]
  | ⟨1, _⟩ => show win0_8.index t (1 : Fin 2) * 4096 + 1 * b.val = b.val; rw [(idx8 t).2]; omega

theorem iblk10_apply (b : Fin 4096) : (iblk (F := Ideal) m c 10 t : FVec Ideal S1x4096 .f32) (ix2 0 b) = aF m c (ix2 0 b) := by
  refine Eq.trans ?_ (V_main_v4 m c b)
  refine congrArg (V (F := Ideal) m c main_v4 : FVec Ideal S1x4096 .f32) (funext fun y => Fin.ext ?_)
  match y with
  | ⟨0, _⟩ => show win0_10.index t (0 : Fin 2) * 1 + 1 * 0 = 0; rw [(idx10 t).1]
  | ⟨1, _⟩ => show win0_10.index t (1 : Fin 2) * 4096 + 1 * b.val = b.val; rw [(idx10 t).2]; omega

theorem iblk9_apply (b : Fin 4096) (s : Fin 4) (d : Fin 24576) (hs : s.val = (t.val / 8 - 1) / 8) (hd : d.val = 8192 + b.val) :
    (iblk (F := Ideal) m c 9 t : FVec Ideal S1x1x4096 .f32) (ix3 0 0 b) = aM m c (ix2 s d) := by
  have ht := t_lt t
  have hi : (t.val / 8 - 1) / 8 * 6 + 2 < 24 := by omega
  refine Eq.trans (b := (V (F := Ideal) m c main_v0 : FVec Ideal S24x1x4096 .f32) (ix3 ⟨(t.val / 8 - 1) / 8 * 6 + 2, hi⟩ 0 b)) ?_ ?_
  · refine congrArg (V (F := Ideal) m c main_v0 : FVec Ideal S24x1x4096 .f32) (funext fun y => Fin.ext ?_)
    match y with
    | ⟨0, _⟩ => show win0_9.index t (0 : Fin 3) * 1 + 1 * 0 = (t.val / 8 - 1) / 8 * 6 + 2; rw [(idx9 t).1]; omega
    | ⟨1, _⟩ => show win0_9.index t (1 : Fin 3) * 1 + 1 * 0 = 0; rw [(idx9 t).2.1]
    | ⟨2, _⟩ => show win0_9.index t (2 : Fin 3) * 4096 + 1 * b.val = b.val; rw [(idx9 t).2.2]; omega
  · rw [V_main_v0]
    refine congrArg (aM m c) (congrArg₂ ix2 (Fin.ext ?_) (Fin.ext ?_)) <;> simp only <;> omega

theorem iblk11_apply (b : Fin 4096) (s : Fin 4) (d : Fin 24576) (hs : s.val = (t.val / 8 - 1) / 8) (hd : d.val = 12288 + b.val) :
    (iblk (F := Ideal) m c 11 t : FVec Ideal S1x1x4096 .f32) (ix3 0 0 b) = aM m c (ix2 s d) := by
  have ht := t_lt t
  have hi : (t.val / 8 - 1) / 8 * 6 + 3 < 24 := by omega
  refine Eq.trans (b := (V (F := Ideal) m c main_v0 : FVec Ideal S24x1x4096 .f32) (ix3 ⟨(t.val / 8 - 1) / 8 * 6 + 3, hi⟩ 0 b)) ?_ ?_
  · refine congrArg (V (F := Ideal) m c main_v0 : FVec Ideal S24x1x4096 .f32) (funext fun y => Fin.ext ?_)
    match y with
    | ⟨0, _⟩ => show win0_11.index t (0 : Fin 3) * 1 + 1 * 0 = (t.val / 8 - 1) / 8 * 6 + 3; rw [(idx11 t).1]; omega
    | ⟨1, _⟩ => show win0_11.index t (1 : Fin 3) * 1 + 1 * 0 = 0; rw [(idx11 t).2.1]
    | ⟨2, _⟩ => show win0_11.index t (2 : Fin 3) * 4096 + 1 * b.val = b.val; rw [(idx11 t).2.2]; omega
  · rw [V_main_v0]
    refine congrArg (aM m c) (congrArg₂ ix2 (Fin.ext ?_) (Fin.ext ?_)) <;> simp only <;> omega

theorem iblk12_apply (b : Fin 4096) (s : Fin 4) (d : Fin 24576) (hs : s.val = (t.val / 8 - 1) / 8) (hd : d.val = 16384 + b.val) :
    (iblk (F := Ideal) m c 12 t : FVec Ideal S1x1x4096 .f32) (ix3 0 0 b) = aM m c (ix2 s d) := by
  have ht := t_lt t
  have hi : (t.val / 8 - 1) / 8 * 6 + 4 < 24 := by omega
  refine Eq.trans (b := (V (F := Ideal) m c main_v0 : FVec Ideal S24x1x4096 .f32) (ix3 ⟨(t.val / 8 - 1) / 8 * 6 + 4, hi⟩ 0 b)) ?_ ?_
  · refine congrArg (V (F := Ideal) m c main_v0 : FVec Ideal S24x1x4096 .f32) (funext fun y => Fin.ext ?_)
    match y with
    | ⟨0, _⟩ => show win0_12.index t (0 : Fin 3) * 1 + 1 * 0 = (t.val / 8 - 1) / 8 * 6 + 4; rw [(idx12 t).1]; omega
    | ⟨1, _⟩ => show win0_12.index t (1 : Fin 3) * 1 + 1 * 0 = 0; rw [(idx12 t).2.1]
    | ⟨2, _⟩ => show win0_12.index t (2 : Fin 3) * 4096 + 1 * b.val = b.val; rw [(idx12 t).2.2]; omega
  · rw [V_main_v0]
    refine congrArg (aM m c) (congrArg₂ ix2 (Fin.ext ?_) (Fin.ext ?_)) <;> simp only <;> omega

end Blocks

/-! ## The running sum -/

/-- One point's step, at an index. -/
theorem stepAt_apply (n : ℕ) (hn : n / 8 < 32) (acc : Vec Ideal S512x4096 .f32) (a : Fin 512) (b : Fin 4096) (r : Fin 16384)
    (hr : r.val = 512 * (n / 8) + a.val) :
    (stepAt (F := Ideal) m c n acc : FVec Ideal S512x4096 .f32) (ix2 a b) =
      (acc : FVec Ideal S512x4096 .f32) (ix2 a b) + part (aS m c) (aA m c) (aG m c) (aWS m c) (aWA m c) (aWO m c) r b (n % 8) := by
  have hp : (pt n).val = n := Nat.mod_eq_of_lt (by omega)
  have hl : (pt n).val / 8 < 32 := by rw [hp]; exact hn
  unfold stepAt step
  rw [pay18_apply]
  refine congrArg _ ?_
  unfold part
  refine Finset.sum_congr rfl fun q _ => ?_
  have hk : n % 8 * 512 + q.val < 4096 := by omega
  have hm : (n % 8 * 512 + q.val) % 4096 = n % 8 * 512 + q.val := Nat.mod_eq_of_lt hk
  have hs : ∀ x : Fin 2048, (iblk (F := Ideal) m c 0 (pt n) : FVec Ideal S512x2048 .bf16) (ix2 a x) = aS m c (ix2 r x) := fun x =>
    iblk0_apply m c (pt n) a x r (by rw [hp]; omega)
  have ha : ∀ x : Fin 2048, (iblk (F := Ideal) m c 1 (pt n) : FVec Ideal S512x2048 .bf16) (ix2 a x) = aA m c (ix2 r x) := fun x =>
    iblk1_apply m c (pt n) a x r (by rw [hp]; omega)
  have hga : (iblk (F := Ideal) m c 2 (pt n) : FVec Ideal S512x512 .bf16) (ix2 a q) =
      aG m c (ix2 r ⟨(n % 8 * 512 + q.val) % 4096, by omega⟩) :=
    iblk2_apply m c (pt n) hl a q r (by rw [hp]; exact hr) _ (by rw [hp]; exact hm)
  have hgb : (iblk (F := Ideal) m c 3 (pt n) : FVec Ideal S512x512 .bf16) (ix2 a q) =
      aG m c (ix2 r ⟨4096 + (n % 8 * 512 + q.val) % 4096, by omega⟩) :=
    iblk3_apply m c (pt n) hl a q r (by rw [hp]; exact hr) _ (by rw [hp]; simp only [hm])
  have hws : ∀ x : Fin 2048, (iblk (F := Ideal) m c 4 (pt n) : FVec Ideal S2048x512 .bf16) (ix2 x q) =
      aWS m c (ix2 x ⟨(n % 8 * 512 + q.val) % 4096, Nat.mod_lt _ (by decide)⟩) := fun x => iblk4_apply m c (pt n) hl x q _ (by rw [hp]; exact hm)
  have hwa : ∀ x : Fin 2048, (iblk (F := Ideal) m c 5 (pt n) : FVec Ideal S2048x512 .bf16) (ix2 x q) =
      aWA m c (ix2 x ⟨(n % 8 * 512 + q.val) % 4096, Nat.mod_lt _ (by decide)⟩) := fun x => iblk5_apply m c (pt n) hl x q _ (by rw [hp]; exact hm)
  have hwo : (iblk (F := Ideal) m c 6 (pt n) : FVec Ideal S512x4096 .bf16) (ix2 q b) =
      aWO m c (ix2 ⟨(n % 8 * 512 + q.val) % 4096, Nat.mod_lt _ (by decide)⟩ b) := iblk6_apply m c (pt n) hl q b _ (by rw [hp]; exact hm)
  refine congrArg₂ (· * ·) ?_ hwo
  rw [hga, hgb]
  unfold merged
  simp only [hs, ha, hws, hwa]

/-- The running sum after column block `j`. -/
theorem chain_apply (i : ℕ) (hi : i < 32) (a : Fin 512) (b : Fin 4096) (r : Fin 16384) (hr : r.val = 512 * i + a.val) (j : ℕ) (hj : j < 8) :
    (chain (F := Ideal) m c (8 * i + j) : FVec Ideal S512x4096 .f32) (ix2 a b) =
      ∑ s ∈ Finset.range (j + 1), part (aS m c) (aA m c) (aG m c) (aWS m c) (aWA m c) (aWO m c) r b s := by
  have e1 : (8 * i + j) / 8 = i := by omega
  have e2 : (8 * i + j) % 8 = j := by omega
  induction j with
  | zero =>
    rw [chain_clear m c _ e2, stepAt_apply m c _ (by omega) _ a b r (by omega), e2, zeroAcc_apply, zero_add, Finset.sum_range_one]
  | succ j ih =>
    rw [chain_step m c _ (by omega), stepAt_apply m c _ (by omega) _ a b r (by omega), e2,
      show 8 * i + (j + 1) - 1 = 8 * i + j by omega, ih (by omega) (by omega) (by omega), Finset.sum_range_succ _ (j + 1)]

/-- The finished sum. -/
theorem chain_last (i : ℕ) (hi : i < 32) (a : Fin 512) (b : Fin 4096) (r : Fin 16384) (hr : r.val = 512 * i + a.val) :
    (chain (F := Ideal) m c (8 * i + 7) : FVec Ideal S512x4096 .f32) (ix2 a b) = outSum (aS m c) (aA m c) (aG m c) (aWS m c) (aWA m c) (aWO m c) r b :=
  (chain_apply m c i hi a b r hr 7 (by omega)).trans (sum_parts _ _ _ _ _ _ r b)

/-- The 64 rows a point finishes are the sum's. -/
theorem done_apply (t : Fin cfg0.N) (h : 0 < t.val / 8) (a : Fin 64) (b : Fin 4096) (r : Fin 16384)
    (hr : r.val = ((t.val / 8 - 1) * 8 + t.val % 8) * 64 + a.val) :
    (done (F := Ideal) m c t.val : FVec Ideal S64x4096 .f32) (ix2 a b) = outSum (aS m c) (aA m c) (aG m c) (aWS m c) (aWA m c) (aWO m c) r b := by
  have ht := t_lt t
  unfold done
  rw [rows_apply (rowOff t.val) (rowOff_inb t.val) _ a b ⟨64 * (t.val % 8) + a.val, by omega⟩ rfl rfl,
    show 8 * (t.val / 8) - 1 = 8 * (t.val / 8 - 1) + 7 by omega]
  exact chain_last m c (t.val / 8 - 1) (by omega) _ b r (by simp only; omega)

/-- The 64 rows a point writes to the residual stream are the result's; -/
theorem slab_apply (t : Fin cfg0.N) (h : 0 < t.val / 8) (a : Fin 64) (b : Fin 4096) (r : Fin 16384)
    (hr : r.val = ((t.val / 8 - 1) * 8 + t.val % 8) * 64 + a.val) :
    (slab (F := Ideal) m c t.val : FVec Ideal S64x4096 .f32) (ix2 a b) = entry (aS m c) (aA m c) (aG m c) (aWS m c) (aWA m c) (aWO m c) (aX m c) (aP m c) (aM m c) r b := by
  have ht := t_lt t
  have hf : ∀ y : Fin 4096, (done (F := Ideal) m c t.val : FVec Ideal S64x4096 .f32) (ix2 a y) = outSum (aS m c) (aA m c) (aG m c) (aWS m c) (aWA m c) (aWO m c) r y :=
    fun y => done_apply m c t h a y r hr
  unfold slab
  rw [residual_apply, pt_val, iblk7_apply m c t h a b r hr, iblk8_apply,
    iblk9_apply m c t b ⟨r.val / 4096, by omega⟩ ⟨8192 + b.val, by omega⟩ (by simp only; omega) rfl]
  simp only [hf]
  rfl

/-- and so are those it writes for the feed-forward. -/
theorem slabH_apply (t : Fin cfg0.N) (h : 0 < t.val / 8) (a : Fin 64) (b : Fin 4096) (r : Fin 16384)
    (hr : r.val = ((t.val / 8 - 1) * 8 + t.val % 8) * 64 + a.val) :
    (slabH (F := Ideal) m c t.val : FVec Ideal S64x4096 .bf16) (ix2 a b) = entryH (aS m c) (aA m c) (aG m c) (aWS m c) (aWA m c) (aWO m c) (aX m c) (aP m c) (aF m c) (aM m c) r b := by
  have ht := t_lt t
  have hf : ∀ y : Fin 4096, (residual (F := Ideal) (done m c t.val) (iblk m c 7 (pt t.val)) (iblk m c 8 (pt t.val)) (iblk m c 9 (pt t.val)) :
      FVec Ideal S64x4096 .f32) (ix2 a y) = entry (aS m c) (aA m c) (aG m c) (aWS m c) (aWA m c) (aWO m c) (aX m c) (aP m c) (aM m c) r y :=
    fun y => slab_apply m c t h a y r hr
  unfold slabH
  rw [normed_apply]
  simp only [hf]
  rw [pt_val, iblk10_apply,
    iblk11_apply m c t b ⟨r.val / 4096, by omega⟩ ⟨12288 + b.val, by omega⟩ (by simp only; omega) rfl,
    iblk12_apply m c t b ⟨r.val / 4096, by omega⟩ ⟨16384 + b.val, by omega⟩ (by simp only; omega) rfl]
  rfl

/-! ## The result arrays -/

/-- What a grid point writes back is its block of the whole. -/
theorem flushed13 (t : Fin cfg0.N) (hfl : (cfg0.win 13).flush t = true) : (dats (F := Ideal) m 0 c).flushed 13 t =
    ((cfg0.win 13).blk t).view.read (Elt Ideal) (G (aS m c) (aA m c) (aG m c) (aWS m c) (aWA m c) (aWO m c) (aX m c) (aP m c) (aM m c)) := by
  have h : 0 < t.val / 8 := Nat.pos_of_ne_zero fun h => by
    have := flush13_first t h; rw [hfl] at this; exact absurd this (by decide)
  show (cfg0.win 13).cut (grid0.coords t) ((dats (F := Ideal) m 0 c).after 13 t) = _
  rw [after13]
  have ht := t_lt t
  refine funext fun (j : S64x4096.Idx) => ?_
  have h0 : (j 0).val < 64 := (j 0).isLt
  have h1 : (j 1).val < 4096 := (j 1).isLt
  have e0 : ((((cfg0.win 13).blk t).view.emb j) 0).val = ((t.val / 8 - 1) * 8 + t.val % 8) * 64 + (j 0).val := by
    show win0_13.index t (0 : Fin 2) * 64 + 1 * (j 0).val = _; rw [(idx13 t h).1]; omega
  have e1 : ((((cfg0.win 13).blk t).view.emb j) 1) = (j 1 : Fin 4096) := Fin.ext (by
    show win0_13.index t (1 : Fin 2) * 4096 + 1 * (j 1).val = _; rw [(idx13 t h).2]; omega)
  show (slab (F := Ideal) m c t.val : FVec Ideal S64x4096 .f32) j =
    entry (aS m c) (aA m c) (aG m c) (aWS m c) (aWA m c) (aWO m c) (aX m c) (aP m c) (aM m c) ((((cfg0.win 13).blk t).view.emb j) 0) ((((cfg0.win 13).blk t).view.emb j) 1)
  rw [e1, ← slab_apply m c t h (j 0) (j 1) _ e0]
  exact congrArg (slab (F := Ideal) m c t.val : FVec Ideal S64x4096 .f32) (eq_ix2 (n0 := 64) (n1 := 4096) j)

/-- Every index of the result array is in a block that is written back. -/
theorem covered13 (i : S16384x4096.Idx) : ∃ t : Fin cfg0.N, (cfg0.win 13).flush t = true ∧ i ∈ ((cfg0.win 13).blk t).view.set := by
  have h0 : (i 0).val < 16384 := (i 0).isLt
  have h1 : (i 1).val < 4096 := (i 1).isLt
  let t : Fin cfg0.N := ⟨(i 0).val / 64 + 8, lt_of_lt_of_eq (by omega) N_eq.symm⟩
  have tv : t.val = (i 0).val / 64 + 8 := rfl
  have hpos : 0 < t.val / 8 := by omega
  refine ⟨t, flush13 t hpos, ?_⟩
  have e : ((cfg0.win 13).blk t).view.emb (ix2 (n0 := 64) (n1 := 4096) ⟨(i 0).val % 64, by omega⟩ ⟨(i 1).val, h1⟩) = i := by
    refine funext fun x => Fin.ext ?_
    match x with
    | ⟨0, _⟩ => show win0_13.index t (0 : Fin 2) * 64 + 1 * ((i 0).val % 64) = (i 0).val; rw [(idx13 t hpos).1]; omega
    | ⟨1, _⟩ => show win0_13.index t (1 : Fin 2) * 4096 + 1 * (i 1).val = (i 1).val; rw [(idx13 t hpos).2]; omega
  have h := ((cfg0.win 13).blk t).view.emb_mem_set (ix2 (n0 := 64) (n1 := 4096) ⟨(i 0).val % 64, by omega⟩ ⟨(i 1).val, h1⟩)
  rwa [e] at h

/-- The result array after the run. -/
theorem final13 : (dats (F := Ideal) m 0 c).arrAt 13 cfg0.N = G (aS m c) (aA m c) (aG m c) (aWS m c) (aWA m c) (aWO m c) (aX m c) (aP m c) (aM m c) :=
  (dats (F := Ideal) m 0 c).arrAt_eq_of_cover 13 (G (aS m c) (aA m c) (aG m c) (aWS m c) (aWA m c) (aWO m c) (aX m c) (aP m c) (aM m c)) (fun t ht => flushed13 m c t ht) covered13

/-- What a grid point writes back is its block of the whole. -/
theorem flushed14 (t : Fin cfg0.N) (hfl : (cfg0.win 14).flush t = true) : (dats (F := Ideal) m 0 c).flushed 14 t =
    ((cfg0.win 14).blk t).view.read (Elt Ideal) (GH (aS m c) (aA m c) (aG m c) (aWS m c) (aWA m c) (aWO m c) (aX m c) (aP m c) (aF m c) (aM m c)) := by
  have h : 0 < t.val / 8 := Nat.pos_of_ne_zero fun h => by
    have := flush14_first t h; rw [hfl] at this; exact absurd this (by decide)
  show (cfg0.win 14).cut (grid0.coords t) ((dats (F := Ideal) m 0 c).after 14 t) = _
  rw [after14]
  have ht := t_lt t
  refine funext fun (j : S64x4096.Idx) => ?_
  have h0 : (j 0).val < 64 := (j 0).isLt
  have h1 : (j 1).val < 4096 := (j 1).isLt
  have e0 : ((((cfg0.win 14).blk t).view.emb j) 0).val = ((t.val / 8 - 1) * 8 + t.val % 8) * 64 + (j 0).val := by
    show win0_14.index t (0 : Fin 2) * 64 + 1 * (j 0).val = _; rw [(idx14 t h).1]; omega
  have e1 : ((((cfg0.win 14).blk t).view.emb j) 1) = (j 1 : Fin 4096) := Fin.ext (by
    show win0_14.index t (1 : Fin 2) * 4096 + 1 * (j 1).val = _; rw [(idx14 t h).2]; omega)
  show (slabH (F := Ideal) m c t.val : FVec Ideal S64x4096 .bf16) j =
    entryH (aS m c) (aA m c) (aG m c) (aWS m c) (aWA m c) (aWO m c) (aX m c) (aP m c) (aF m c) (aM m c) ((((cfg0.win 14).blk t).view.emb j) 0) ((((cfg0.win 14).blk t).view.emb j) 1)
  rw [e1, ← slabH_apply m c t h (j 0) (j 1) _ e0]
  exact congrArg (slabH (F := Ideal) m c t.val : FVec Ideal S64x4096 .bf16) (eq_ix2 (n0 := 64) (n1 := 4096) j)

/-- Every index of the result array is in a block that is written back. -/
theorem covered14 (i : S16384x4096.Idx) : ∃ t : Fin cfg0.N, (cfg0.win 14).flush t = true ∧ i ∈ ((cfg0.win 14).blk t).view.set := by
  have h0 : (i 0).val < 16384 := (i 0).isLt
  have h1 : (i 1).val < 4096 := (i 1).isLt
  let t : Fin cfg0.N := ⟨(i 0).val / 64 + 8, lt_of_lt_of_eq (by omega) N_eq.symm⟩
  have tv : t.val = (i 0).val / 64 + 8 := rfl
  have hpos : 0 < t.val / 8 := by omega
  refine ⟨t, flush14 t hpos, ?_⟩
  have e : ((cfg0.win 14).blk t).view.emb (ix2 (n0 := 64) (n1 := 4096) ⟨(i 0).val % 64, by omega⟩ ⟨(i 1).val, h1⟩) = i := by
    refine funext fun x => Fin.ext ?_
    match x with
    | ⟨0, _⟩ => show win0_14.index t (0 : Fin 2) * 64 + 1 * ((i 0).val % 64) = (i 0).val; rw [(idx14 t hpos).1]; omega
    | ⟨1, _⟩ => show win0_14.index t (1 : Fin 2) * 4096 + 1 * (i 1).val = (i 1).val; rw [(idx14 t hpos).2]; omega
  have h := ((cfg0.win 14).blk t).view.emb_mem_set (ix2 (n0 := 64) (n1 := 4096) ⟨(i 0).val % 64, by omega⟩ ⟨(i 1).val, h1⟩)
  rwa [e] at h

/-- The result array after the run. -/
theorem final14 : (dats (F := Ideal) m 0 c).arrAt 14 cfg0.N = GH (aS m c) (aA m c) (aG m c) (aWS m c) (aWA m c) (aWO m c) (aX m c) (aP m c) (aF m c) (aM m c) :=
  (dats (F := Ideal) m 0 c).arrAt_eq_of_cover 14 (GH (aS m c) (aA m c) (aG m c) (aWS m c) (aWA m c) (aWO m c) (aX m c) (aP m c) (aF m c) (aM m c)) (fun t ht => flushed14 m c t ht) covered14

/-- The run: it ends with the result arrays at `G` and `GH` of the arguments, and these as they were. -/
theorem run : θ_run defs (onTc (τ := τ) (main (F := Ideal))) ⟨m, fun _ => 0, ρ⟩ fun r => ∀ c : Dev nD,
      r.2.mem ((c.tc : Thread nD τ).loc main_v5_0) = G (aS m c) (aA m c) (aG m c) (aWS m c) (aWA m c) (aWO m c) (aX m c) (aP m c) (aM m c)
      ∧ r.2.mem ((c.tc : Thread nD τ).loc main_v5_1) = GH (aS m c) (aA m c) (aG m c) (aWS m c) (aWA m c) (aWO m c) (aX m c) (aP m c) (aF m c) (aM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h.1.1 c).trans (final13 m c), (h.1.2 c).trans (final14 m c), h.2 c⟩)
    (θ_run_and (θ_run_and ((θ_run defs _ _).mono (fun r h c => (h c).1 13) (run_main (F := Ideal) m ρ))
        ((θ_run defs _ _).mono (fun r h c => (h c).1 14) (run_main (F := Ideal) m ρ)))
      (frame_of m ρ (dats m) (A_eq m) (run_main (F := Ideal) m ρ)))

end Cert.MixIdeal.Hand

end
-- ==== Proof.Mix.Ref.lean ====
/-
  The mixing's reference over the extended reals, read at an index.
-/
module

public import proofs.«01_k».proof.Proof.Gen.MixRefIdeal.Read
public import Idealize.ShloMosaic.Lib.Pointwise

@[expose] public section

set_option maxRecDepth 16384

noncomputable section

namespace Cert.MixRefIdeal.Hand

open Idealize.ShloMosaic Idealize.ShloMosaic.TcCoe Idealize.ShloMosaic.Tactic
open Cert.MixRefIdeal Cert.MixRefIdeal.Read

variable (x0 x1 : FVec Ideal S16384x2048 .bf16) (x2 : FVec Ideal S16384x8192 .bf16) (x3 x4 : FVec Ideal S2048x4096 .bf16)
  (x5 : FVec Ideal S4096x4096 .bf16) (x6 : FVec Ideal S16384x4096 .f32) (x7 x8 : FVec Ideal S1x4096 .f32) (x9 : FVec Ideal S4x24576 .f32)

/-- The mean squares' divisor, and the small term added to them. -/
abbrev width : EReal := Ideal.ofBits .f32 1166016512#32
abbrev eps : EReal := Ideal.ofBits .f32 897988541#32

/-- Row `r` of sequence `s`. -/
abbrev row (s : Fin 4) (r : Fin 4096) : Fin 16384 := ⟨s.val * 4096 + r.val, by omega⟩

/-- The two branches' projections, each weighted by its gate. -/
theorem merged_apply (s : Fin 4) (r k : Fin 4096) : (val_main_v32 (F := Ideal) x0 x1 x2 x3 x4) (ix3 s r k) =
    Ideal.div 1 (1 + Ideal.exp (-x2 (ix2 (row s r) ⟨k.val, by omega⟩))) * (∑ x : Fin 2048, x0 (ix2 (row s r) x) * x3 (ix2 x k))
      + Ideal.div 1 (1 + Ideal.exp (-x2 (ix2 (row s r) ⟨4096 + k.val, by omega⟩)))
        * ∑ x : Fin 2048, x1 (ix2 (row s r) x) * x4 (ix2 x k) := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_cst, val_main_cst_0, val_main_cst_1, val_main_cst_2]

/-- Their product with the output weights. -/
theorem out_apply (s : Fin 4) (r d : Fin 4096) : (val_main_v34 (F := Ideal) x0 x1 x2 x3 x4 x5) (ix3 s r d) =
    ∑ k : Fin 4096, (val_main_v32 (F := Ideal) x0 x1 x2 x3 x4) (ix3 s r k) * x5 (ix2 k d) := by
  pointwise [val_main_v34, val_main_v33]

/-- The gate, the shift and the scale. -/
theorem gate_apply (s : Fin 4) (d : Fin 4096) : (val_main_v2 (F := Ideal) x9) (ix2 s d) = x9 (ix2 s ⟨8192 + d.val, by omega⟩) := by
  pointwise [val_main_v2]
theorem shift_apply (s : Fin 4) (d : Fin 4096) : (val_main_v3 (F := Ideal) x9) (ix2 s d) = x9 (ix2 s ⟨12288 + d.val, by omega⟩) := by
  pointwise [val_main_v3]
theorem scale_apply (s : Fin 4) (d : Fin 4096) : (val_main_v4 (F := Ideal) x9) (ix2 s d) = x9 (ix2 s ⟨16384 + d.val, by omega⟩) := by
  pointwise [val_main_v4]

/-- The residual sum, by sequence and row. -/
theorem resid_apply (s : Fin 4) (r d : Fin 4096) : (val_main_v53 (F := Ideal) x0 x1 x2 x3 x4 x5 x6 x7 x9) (ix3 s r d) =
    x6 (ix2 (row s r) d) + x9 (ix2 s ⟨8192 + d.val, by omega⟩) *
      ((val_main_v34 (F := Ideal) x0 x1 x2 x3 x4 x5) (ix3 s r d) *
        Ideal.rsqrt (Ideal.div (∑ y : Fin 4096, (val_main_v34 (F := Ideal) x0 x1 x2 x3 x4 x5) (ix3 s r y) * (val_main_v34 (F := Ideal) x0 x1 x2 x3 x4 x5) (ix3 s r y)) width + eps)
        * x7 (ix2 0 d)) := by
  have z : val_main_cst_3 (F := Ideal) (Shape.Idx.first Gen.h_S_) = 0 := by pointwise [val_main_cst_3]
  have w : val_main_cst_4 (F := Ideal) ix0 = width := by pointwise [val_main_cst_4]
  have e : val_main_cst_5 (F := Ideal) ix0 = eps := by pointwise [val_main_cst_5]
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35]
  rw [z, w, e, gate_apply, zero_add]

/-- The residual sum normed, scaled and shifted. -/
theorem normed_apply (s : Fin 4) (r d : Fin 4096) : (val_main_v75 (F := Ideal) x0 x1 x2 x3 x4 x5 x6 x7 x8 x9) (ix3 s r d) =
    (val_main_v53 (F := Ideal) x0 x1 x2 x3 x4 x5 x6 x7 x9) (ix3 s r d) *
        Ideal.rsqrt (Ideal.div (∑ y : Fin 4096, (val_main_v53 (F := Ideal) x0 x1 x2 x3 x4 x5 x6 x7 x9) (ix3 s r y) * (val_main_v53 (F := Ideal) x0 x1 x2 x3 x4 x5 x6 x7 x9) (ix3 s r y)) width + eps)
        * x8 (ix2 0 d) * (1 + x9 (ix2 s ⟨16384 + d.val, by omega⟩)) + x9 (ix2 s ⟨12288 + d.val, by omega⟩) := by
  have z : val_main_cst_6 (F := Ideal) (Shape.Idx.first Gen.h_S_) = 0 := by pointwise [val_main_cst_6]
  have w : val_main_cst_7 (F := Ideal) ix0 = width := by pointwise [val_main_cst_7]
  have e : val_main_cst_8 (F := Ideal) ix0 = eps := by pointwise [val_main_cst_8]
  have o : val_main_cst_9 (F := Ideal) ix0 = 1 := by pointwise [val_main_cst_9]
  pointwise [val_main_v75, val_main_v74, val_main_v73, val_main_v72, val_main_v71, val_main_v70, val_main_v69, val_main_v68,
    val_main_v67, val_main_v66, val_main_v65, val_main_v64, val_main_v63, val_main_v62, val_main_v61, val_main_v60, val_main_v59,
    val_main_v58, val_main_v57, val_main_v56, val_main_v55, val_main_v54]
  rw [z, w, e, o, scale_apply, shift_apply, zero_add]

/-- The two results are their rows in the sequences' order. -/
theorem flat_apply (s : Fin 4) (r d : Fin 4096) : (val_main_v76 (F := Ideal) x0 x1 x2 x3 x4 x5 x6 x7 x9) (ix2 (row s r) d) =
    (val_main_v53 (F := Ideal) x0 x1 x2 x3 x4 x5 x6 x7 x9) (ix3 s r d) := by
  have hs := s.isLt
  have hr := r.isLt
  have hd := d.isLt
  rw [val_main_v76_apply]
  refine congrArg _ (funext fun a => Fin.ext ?_)
  match a with
  | ⟨0, _⟩ => show ((s.val * 4096 + r.val) * 4096 + d.val) / 16777216 = s.val; omega
  | ⟨1, _⟩ => show ((s.val * 4096 + r.val) * 4096 + d.val) / 4096 % 4096 = r.val; omega
  | ⟨2, _⟩ => show ((s.val * 4096 + r.val) * 4096 + d.val) % 4096 = d.val; omega

theorem flat_apply' (s : Fin 4) (r d : Fin 4096) : (val_main_v78 (F := Ideal) x0 x1 x2 x3 x4 x5 x6 x7 x8 x9) (ix2 (row s r) d) =
    (val_main_v75 (F := Ideal) x0 x1 x2 x3 x4 x5 x6 x7 x8 x9) (ix3 s r d) := by
  have hs := s.isLt
  have hr := r.isLt
  have hd := d.isLt
  rw [val_main_v78_apply]
  refine Eq.trans (b := (val_main_v77 (F := Ideal) x0 x1 x2 x3 x4 x5 x6 x7 x8 x9) (ix3 s r d)) (congrArg _ (funext fun a => Fin.ext ?_)) (by pointwise [val_main_v77])
  match a with
  | ⟨0, _⟩ => show ((s.val * 4096 + r.val) * 4096 + d.val) / 16777216 = s.val; omega
  | ⟨1, _⟩ => show ((s.val * 4096 + r.val) * 4096 + d.val) / 4096 % 4096 = r.val; omega
  | ⟨2, _⟩ => show ((s.val * 4096 + r.val) * 4096 + d.val) % 4096 = d.val; omega

end Cert.MixRefIdeal.Hand

end
-- ==== Proof.Mix.Equal.lean ====
/-
  The mixing kernel's result arrays are the reference's, for any arguments.
-/
module

public import proofs.«01_k».proof.Proof.Mix.Value
public import proofs.«01_k».proof.Proof.Mix.Ref

@[expose] public section

set_option maxRecDepth 16384

noncomputable section

namespace Cert.MixEqual

open Idealize.ShloMosaic Idealize.ShloMosaic.TcCoe Idealize.ShloMosaic.Tactic
open Cert.MixIdeal (S16384x2048 S16384x8192 S2048x4096 S4096x4096 S16384x4096 S1x4096 S4x24576)

variable (SA AA : FVec Ideal S16384x2048 .bf16) (GT : FVec Ideal S16384x8192 .bf16) (WS WA : FVec Ideal S2048x4096 .bf16)
  (WO : FVec Ideal S4096x4096 .bf16) (X : FVec Ideal S16384x4096 .f32) (GP GF : FVec Ideal S1x4096 .f32) (M : FVec Ideal S4x24576 .f32)

/-- The products with the output weights are the same. -/
theorem sums (s : Fin 4) (r d : Fin 4096) : MixRefIdeal.Read.val_main_v34 (F := Ideal) SA AA GT WS WA WO (ix3 s r d) =
    MixIdeal.Hand.outSum SA AA GT WS WA WO (MixRefIdeal.Hand.row s r) d := by
  rw [MixRefIdeal.Hand.out_apply]
  refine Finset.sum_congr rfl fun k _ => ?_
  rw [MixRefIdeal.Hand.merged_apply]
  rfl

/-- A row's sequence. -/
theorem seq (s : Fin 4) (r : Fin 4096) : (⟨(MixRefIdeal.Hand.row s r).val / 4096, by omega⟩ : Fin 4) = s := Fin.ext (by simp only; omega)

/-- The residual streams are the same, … -/
theorem resid (s : Fin 4) (r d : Fin 4096) : MixRefIdeal.Read.val_main_v53 (F := Ideal) SA AA GT WS WA WO X GP M (ix3 s r d) =
    MixIdeal.Hand.entry SA AA GT WS WA WO X GP M (MixRefIdeal.Hand.row s r) d := by
  rw [MixRefIdeal.Hand.resid_apply]
  simp only [sums]
  unfold MixIdeal.Hand.entry
  rw [seq]
  refine congrArg _ ?_
  rw [← mul_assoc, mul_comm (M (ix2 s ⟨8192 + d.val, by omega⟩)), mul_assoc]

/-- … and so are the feed-forward's inputs. -/
theorem normed (s : Fin 4) (r d : Fin 4096) : MixRefIdeal.Read.val_main_v75 (F := Ideal) SA AA GT WS WA WO X GP GF M (ix3 s r d) =
    MixIdeal.Hand.entryH SA AA GT WS WA WO X GP GF M (MixRefIdeal.Hand.row s r) d := by
  rw [MixRefIdeal.Hand.normed_apply]
  simp only [resid]
  unfold MixIdeal.Hand.entryH
  rw [seq, mul_assoc (_ * _)]

/-- Every index is a row of a sequence. -/
theorem at_row (y : S16384x4096.Idx) : ∃ (s : Fin 4) (r d : Fin 4096), y = ix2 (n0 := 16384) (n1 := 4096) (MixRefIdeal.Hand.row s r) d := by
  have h0 : (y 0).val < 16384 := (y 0).isLt
  refine ⟨⟨(y 0).val / 4096, by omega⟩, ⟨(y 0).val % 4096, by omega⟩, y 1, ?_⟩
  refine (eq_ix2 (n0 := 16384) (n1 := 4096) y).trans (congrArg₂ ix2 (Fin.ext ?_) rfl)
  show (y 0).val = (y 0).val / 4096 * 4096 + (y 0).val % 4096
  omega

/-- The first results agree, … -/
theorem equal : MixIdeal.Hand.G SA AA GT WS WA WO X GP M = MixRefIdeal.Read.val_main_v76 (F := Ideal) SA AA GT WS WA WO X GP M := by
  refine funext fun (y : S16384x4096.Idx) => ?_
  obtain ⟨s, r, d, rfl⟩ := at_row y
  exact ((MixRefIdeal.Hand.flat_apply SA AA GT WS WA WO X GP M s r d).trans (resid SA AA GT WS WA WO X GP M s r d)).symm

/-- … and the second. -/
theorem equal' : MixIdeal.Hand.GH SA AA GT WS WA WO X GP GF M = MixRefIdeal.Read.val_main_v78 (F := Ideal) SA AA GT WS WA WO X GP GF M := by
  refine funext fun (y : S16384x4096.Idx) => ?_
  obtain ⟨s, r, d, rfl⟩ := at_row y
  exact ((MixRefIdeal.Hand.flat_apply' SA AA GT WS WA WO X GP GF M s r d).trans (normed SA AA GT WS WA WO X GP GF M s r d)).symm

end Cert.MixEqual

end
-- ==== Proof.Qkv.Turn.lean ====
/-
  The rotation of one head's 128 rows, as the projection's kernel computes it on pairs of rows, at an index.
-/
module

public import proofs.«01_k».proof.Proof.Gen.QkvIdeal
public import Idealize.ShloMosaic.Lib.Pointwise

@[expose] public section

set_option maxRecDepth 16384

noncomputable section

namespace Cert.QkvIdeal.Hand

open Idealize.ShloMosaic Idealize.ShloMosaic.TcCoe Idealize.ShloMosaic.Tactic
open Cert.QkvIdeal Cert.QkvIdeal.Gen

/-- The lanes of a 128-lane vector moved by `n`: the even and the odd rows are moved on their own and put together again. -/
abbrev moved (n : BitVec 32) (z : FVec Ideal S128x128 .bf16) : FVec Ideal S128x128 .bf16 :=
  interleaveRows S128x128 (dynamicRotate 1 n none (rowsOfParity 0 S64x128 z bitcasts_S128x128_w16_S64x128_w32) rotates_S64x128_d1)
    (dynamicRotate 1 n none (rowsOfParity 1 S64x128 z bitcasts_S128x128_w16_S64x128_w32) rotates_S64x128_d1) bitcasts_S128x128_w16_S64x128_w32

/-- Moved by 112, a lane is the one sixteen to its right, around the end; -/
theorem moved112 (z : FVec Ideal S128x128 .bf16) (a q : Fin 128) :
    moved 112#32 z (ix2 a q) = z (ix2 a ⟨(q.val + 16) % 128, by omega⟩) := by
  pointwise [moved]
  split <;> congr 2 <;> refine Fin.ext ?_ <;> simp only <;> omega

/-- moved by 16, it is the one sixteen to its left. -/
theorem moved16 (z : FVec Ideal S128x128 .bf16) (a q : Fin 128) :
    moved 16#32 z (ix2 a q) = z (ix2 a ⟨(q.val + 112) % 128, by omega⟩) := by
  pointwise [moved]
  split <;> congr 2 <;> refine Fin.ext ?_ <;> simp only <;> omega

/-- One head's 128 rows turned: the rows by the first table, their lanes from the right by the second, from the left by the third. -/
abbrev turned (c s s' z : FVec Ideal S128x128 .f32) : FVec Ideal S128x128 .bf16 :=
  truncf .bf16
    (addf (addf (mulf z (shapeCast S128x128 c shapeCasts_S128x128_S128x128))
        (mulf (extf .f32 (moved 112#32 (truncf .bf16 z bitsLt_bf16_f32)) bitsLt_bf16_f32) (shapeCast S128x128 s shapeCasts_S128x128_S128x128)))
      (mulf (extf .f32 (moved 16#32 (truncf .bf16 z bitsLt_bf16_f32)) bitsLt_bf16_f32) (shapeCast S128x128 s' shapeCasts_S128x128_S128x128)))
    bitsLt_bf16_f32

/-- The turned rows at an index. -/
theorem turned_apply (c s s' z : FVec Ideal S128x128 .f32) (a q : Fin 128) :
    turned c s s' z (ix2 a q) =
      z (ix2 a q) * c (ix2 a q) + z (ix2 a ⟨(q.val + 16) % 128, by omega⟩) * s (ix2 a q)
        + z (ix2 a ⟨(q.val + 112) % 128, by omega⟩) * s' (ix2 a q) := by
  have e1 := moved112 (truncf .bf16 z bitsLt_bf16_f32) a q
  have e2 := moved16 (truncf .bf16 z bitsLt_bf16_f32) a q
  unfold turned
  generalize moved 112#32 (truncf .bf16 z bitsLt_bf16_f32) = A at *
  generalize moved 16#32 (truncf .bf16 z bitsLt_bf16_f32) = B at *
  pointwise []
  rw [e1, e2]
  rfl

end Cert.QkvIdeal.Hand

end
-- ==== Proof.Qkv.Stored.lean ====
/-
  The rotated columns' 32 stores, each read as one function of the block's coordinates, and with them the block the body
  leaves: every head's lanes turned by the tables' rows.
-/
module

public import proofs.«01_k».proof.Proof.Qkv.Turn
public import proofs.«01_k».proof.Proof.Gen.QkvIdeal.Frame
public import Idealize.ShloMosaic.Lib.Pipeline.ValueKit
public import Idealize.ShloMosaic.Lib.Pipeline.ReadBack
public import Idealize.ShloMosaic.Lib.WholeRead

@[expose] public section

set_option maxRecDepth 16384

noncomputable section

namespace Cert.QkvIdeal.Hand

open Idealize.ShloMosaic Idealize.ShloMosaic.TcCoe Idealize.ShloMosaic.Tactic
open Cert.QkvIdeal Cert.QkvIdeal.Gen

/-- An entry of a block whose heads are turned: head `g`, lane `d`, of row `r`. -/
def turnAt (p : FVec Ideal S1024x512 .f32) (x2 x3 x4 : FVec Ideal S1024x128 .f32) (r : Fin 1024) (g : Fin 4) (d : Fin 128) : EReal :=
  p (ix2 r ⟨g.val * 128 + d.val, by omega⟩) * x2 (ix2 r d)
    + p (ix2 r ⟨g.val * 128 + (d.val + 16) % 128, by omega⟩) * x3 (ix2 r d)
    + p (ix2 r ⟨g.val * 128 + (d.val + 112) % 128, by omega⟩) * x4 (ix2 r d)

/-- A block `p` of four heads, each head's lanes turned by the tables' rows. -/
def turnBlock (p : FVec Ideal S1024x512 .f32) (x2 x3 x4 : FVec Ideal S1024x128 .f32) : FVec Ideal S1024x512 .bf16 := fun y =>
  turnAt p x2 x3 x4 (y 0) ⟨(y 1).val / 128, by have : (y 1).val < 512 := (y 1).isLt; omega⟩ ⟨(y 1).val % 128, by omega⟩

variable (p : FVec Ideal S1024x512 .f32) (x2 x3 x4 : FVec Ideal S1024x128 .f32)

/-- The turned block read at a stored rectangle. -/
theorem turnBlock_emb (n : Fin 8) (g : Fin 4) (lo q : Nat) (hlo : lo = n.val * 128) (hq : q = g.val * 128)
    (inb : ∀ a, (![lo, q] : Fin 2 → Nat) a + (![128, 128] : Fin 2 → Nat) a ≤ S1024x512.size a)
    (x : (Rect.unit (s := S1024x512) ![lo, q] ![128, 128] inb).shape.Idx) :
    turnBlock p x2 x3 x4 ((Rect.unit (s := S1024x512) ![lo, q] ![128, 128] inb).emb x) =
      turnAt p x2 x3 x4 ⟨n.val * 128 + (x 0).val, by have : (x 0).val < 128 := (x 0).isLt; omega⟩ g (x 1) := by
  subst hlo hq
  have h0 : (x 0).val < 128 := (x 0).isLt
  have h1 : (x 1).val < 128 := (x 1).isLt
  have e0 : (((Rect.unit (s := S1024x512) ![n.val * 128, g.val * 128] ![128, 128] inb).emb x) 0).val = n.val * 128 + 1 * (x 0).val := rfl
  have e1 : (((Rect.unit (s := S1024x512) ![n.val * 128, g.val * 128] ![128, 128] inb).emb x) 1).val = g.val * 128 + 1 * (x 1).val := rfl
  unfold turnBlock
  congr 1 <;> refine Fin.ext ?_ <;> simp only [e0, e1] <;> omega

/-- A load of 128 rows of a staged table. -/
theorem load_table (a : Memref sig .tc .vmem S1024x128 .f32) (h : a.IsWhole) (x : FVec Ideal S1024x128 .f32) (n : Fin 8)
    (lo : Nat) (hlo : lo = n.val * 128) (inb : ∀ a, (![lo, 0] : Fin 2 → Nat) a + S128x128.size a ≤ S1024x128.size a) (r e : Fin 128) :
    View.readAt (Elt Ideal) a.view (Rect.unit (s := S1024x128) ![lo, 0] S128x128.size inb).toLoadRect (h.unread x) (ix2 r e) =
      x (ix2 ⟨n.val * 128 + r.val, by omega⟩ e) := by
  subst hlo
  refine Eq.trans (Memref.IsWhole.readAt_unread (Val := Elt Ideal) h x (Rect.unit (s := S1024x128) ![n.val * 128, 0] S128x128.size inb).toLoadRect (ix2 r e)) ?_
  refine congrArg x ?_
  refine funext fun a => Fin.ext ?_
  match a with
  | 0 => show n.val * 128 + 1 * r.val = _; rw [Nat.one_mul]; rfl
  | 1 => show 0 + 1 * e.val = e.val; omega

/-- A load of one head's 128 rows of the kept product. -/
theorem load_kept (a : Memref sig .tc .vmem S1024x512 .f32) (L : List (View.Piece (Elt Ideal) S1024x512 .f32))
    (hL : L = [⟨Rect.unit (s := S1024x512) ![0, 0] S1024x512.size inb_S1024x512_S1024x512_0_0, p⟩]) (n : Fin 8) (g : Fin 4)
    (lo q : Nat) (hlo : lo = n.val * 128) (hq : q = g.val * 128)
    (inb : ∀ a, (![lo, q] : Fin 2 → Nat) a + S128x128.size a ≤ S1024x512.size a) (r e : Fin 128) :
    a.view.readCov L (Rect.unit (s := S1024x512) ![lo, q] S128x128.size inb).toLoadRect (ix2 r e) =
      p (ix2 ⟨n.val * 128 + r.val, by omega⟩ ⟨g.val * 128 + e.val, by omega⟩) := by
  subst hlo hq hL
  rw [View.readCov_fill _ _ _ _ _ (by intro a; fin_cases a <;> rfl)]
  refine congrArg p ?_
  refine funext fun a => Fin.ext ?_
  match a with
  | 0 => show n.val * 128 + 1 * r.val = _; rw [Nat.one_mul]; rfl
  | 1 => show g.val * 128 + 1 * e.val = _; rw [Nat.one_mul]; rfl

/-- A turned head's entry, when its operands are the staged blocks' rows. -/
theorem stored_at (n : Fin 8) (g : Fin 4) {C S S' Z : FVec Ideal S128x128 .f32}
    (hC : ∀ r e : Fin 128, C (ix2 r e) = x2 (ix2 ⟨n.val * 128 + r.val, by omega⟩ e))
    (hS : ∀ r e : Fin 128, S (ix2 r e) = x3 (ix2 ⟨n.val * 128 + r.val, by omega⟩ e))
    (hS' : ∀ r e : Fin 128, S' (ix2 r e) = x4 (ix2 ⟨n.val * 128 + r.val, by omega⟩ e))
    (hZ : ∀ r e : Fin 128, Z (ix2 r e) = p (ix2 ⟨n.val * 128 + r.val, by omega⟩ ⟨g.val * 128 + e.val, by omega⟩)) (a q : Fin 128) :
    turned C S S' Z (ix2 a q) = turnAt p x2 x3 x4 ⟨n.val * 128 + a.val, by omega⟩ g q := by
  refine (turned_apply C S S' Z a q).trans ?_
  rw [hC, hS, hS', hZ, hZ, hZ]
  rfl

/-- A store, when its operands are the staged blocks' rows. -/
theorem stored (n : Fin 8) (g : Fin 4) (lo q : Nat) (hlo : lo = n.val * 128) (hq : q = g.val * 128) {C S S' Z : FVec Ideal S128x128 .f32}
    (hC : ∀ r e : Fin 128, C (ix2 r e) = x2 (ix2 ⟨n.val * 128 + r.val, by omega⟩ e))
    (hS : ∀ r e : Fin 128, S (ix2 r e) = x3 (ix2 ⟨n.val * 128 + r.val, by omega⟩ e))
    (hS' : ∀ r e : Fin 128, S' (ix2 r e) = x4 (ix2 ⟨n.val * 128 + r.val, by omega⟩ e))
    (hZ : ∀ r e : Fin 128, Z (ix2 r e) = p (ix2 ⟨n.val * 128 + r.val, by omega⟩ ⟨g.val * 128 + e.val, by omega⟩))
    {inb : ∀ a, (![lo, q] : Fin 2 → Nat) a + (![128, 128] : Fin 2 → Nat) a ≤ S1024x512.size a}
    (x : (Rect.unit (s := S1024x512) ![lo, q] ![128, 128] inb).shape.Idx) :
    turned C S S' Z x = turnBlock p x2 x3 x4 ((Rect.unit (s := S1024x512) ![lo, q] ![128, 128] inb).emb x) := by
  rw [turnBlock_emb p x2 x3 x4 n g lo q hlo hq inb x]
  have e : x = (ix2 (x 0) (x 1) : S128x128.Idx) := eq_ix2 (n0 := 128) (n1 := 128) x
  refine Eq.trans (congrArg (turned C S S' Z) e) ?_
  exact stored_at p x2 x3 x4 n g hC hS hS' hZ (x 0) (x 1)

section Body

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S32x4096 .f32) (harg7 : arg7.IsWhole) (arg8 : Memref sig .tc .vmem S32x4096 .f32) (harg8 : arg8.IsWhole) (arg9 : Memref sig .tc .vmem S64x4096 .f32) (harg9 : arg9.IsWhole) (arg10 : Memref sig .tc .vmem S1024x512 .bf16) (harg10 : arg10.IsWhole) (arg11 : Memref sig .tc .vmem S32x4096 .bf16) (harg11 : arg11.IsWhole) (arg12 : Memref sig .tc .vmem S32x4096 .bf16) (harg12 : arg12.IsWhole) (arg13 : Memref sig .tc .vmem S64x4096 .bf16) (harg13 : arg13.IsWhole) (arg14 : Memref sig .tc .vmem S4096x512 .bf16) (harg14 : arg14.IsWhole) (arg15 : Memref sig .tc .vmem S1024x512 .f32) (harg15 : arg15.IsWhole)
    (x0 : Vec Ideal S1024x4096 .bf16) (x1 : Vec Ideal S4096x512 .f32) (x5 : Vec Ideal S32x4096 .f32) (x6 : Vec Ideal S32x4096 .f32) (x7 : Vec Ideal S64x4096 .f32)
    (w : Vec Ideal S4096x512 .bf16)

/-- The product the body keeps at a column block's first point: with the weight block it has just kept. -/
theorem keptA : kernelRun0_A.sl.HS1_1 (F := Ideal) c arg2 harg2 arg3 harg3 arg14 x0 x1 =
    [⟨Rect.unit (s := S1024x512) ![0, 0] S1024x512.size inb_S1024x512_S1024x512_0_0, k0_pay94 (F := Ideal) x0 (k0_pay90 (F := Ideal) x1)⟩] := by
  unfold kernelRun0_A.sl.HS1_1 kernelRun0_A.sl.v16
  try unfold kernelRun0_A.sl.HS0_1
  frame_out

/-- The product the body keeps at a later point: with the weight block kept before. -/
theorem keptB : kernelRun0_B.sl.HS1_1 (F := Ideal) c arg2 harg2 arg14 harg14 x0 w =
    [⟨Rect.unit (s := S1024x512) ![0, 0] S1024x512.size inb_S1024x512_S1024x512_0_0, k0_pay94 (F := Ideal) x0 w⟩] := by
  unfold kernelRun0_B.sl.HS1_1
  frame_out

set_option maxHeartbeats 3200000 in
/-- Every store at a column block's first point writes the turned block's entries at its own places. -/
theorem storesA (hc0 : cond0_0 i) (hc1 : cond0_1 i) (hc2 : ¬cond0_2 i) :
    ∀ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7).1,
      ∀ x, pc.2 x = turnBlock (k0_pay94 (F := Ideal) x0 (k0_pay90 (F := Ideal) x1)) x2 x3 x4 (pc.1.emb x) := by
  unfold kernelRun0_A
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact stored (k0_pay94 (F := Ideal) x0 (k0_pay90 (F := Ideal) x1)) x2 x3 x4 7 3 896 384 rfl rfl (load_table arg4 harg4 x2 7 896 rfl _) (load_table arg5 harg5 x3 7 896 rfl _)
      (load_table arg6 harg6 x4 7 896 rfl _) (load_kept _ arg15 _ (keptA c arg2 harg2 arg3 harg3 arg14 x0 x1) 7 3 896 384 rfl rfl _)
  · exact stored (k0_pay94 (F := Ideal) x0 (k0_pay90 (F := Ideal) x1)) x2 x3 x4 7 2 896 256 rfl rfl (load_table arg4 harg4 x2 7 896 rfl _) (load_table arg5 harg5 x3 7 896 rfl _)
      (load_table arg6 harg6 x4 7 896 rfl _) (load_kept _ arg15 _ (keptA c arg2 harg2 arg3 harg3 arg14 x0 x1) 7 2 896 256 rfl rfl _)
  · exact stored (k0_pay94 (F := Ideal) x0 (k0_pay90 (F := Ideal) x1)) x2 x3 x4 7 1 896 128 rfl rfl (load_table arg4 harg4 x2 7 896 rfl _) (load_table arg5 harg5 x3 7 896 rfl _)
      (load_table arg6 harg6 x4 7 896 rfl _) (load_kept _ arg15 _ (keptA c arg2 harg2 arg3 harg3 arg14 x0 x1) 7 1 896 128 rfl rfl _)
  · exact stored (k0_pay94 (F := Ideal) x0 (k0_pay90 (F := Ideal) x1)) x2 x3 x4 7 0 896 0 rfl rfl (load_table arg4 harg4 x2 7 896 rfl _) (load_table arg5 harg5 x3 7 896 rfl _)
      (load_table arg6 harg6 x4 7 896 rfl _) (load_kept _ arg15 _ (keptA c arg2 harg2 arg3 harg3 arg14 x0 x1) 7 0 896 0 rfl rfl _)
  · exact stored (k0_pay94 (F := Ideal) x0 (k0_pay90 (F := Ideal) x1)) x2 x3 x4 6 3 768 384 rfl rfl (load_table arg4 harg4 x2 6 768 rfl _) (load_table arg5 harg5 x3 6 768 rfl _)
      (load_table arg6 harg6 x4 6 768 rfl _) (load_kept _ arg15 _ (keptA c arg2 harg2 arg3 harg3 arg14 x0 x1) 6 3 768 384 rfl rfl _)
  · exact stored (k0_pay94 (F := Ideal) x0 (k0_pay90 (F := Ideal) x1)) x2 x3 x4 6 2 768 256 rfl rfl (load_table arg4 harg4 x2 6 768 rfl _) (load_table arg5 harg5 x3 6 768 rfl _)
      (load_table arg6 harg6 x4 6 768 rfl _) (load_kept _ arg15 _ (keptA c arg2 harg2 arg3 harg3 arg14 x0 x1) 6 2 768 256 rfl rfl _)
  · exact stored (k0_pay94 (F := Ideal) x0 (k0_pay90 (F := Ideal) x1)) x2 x3 x4 6 1 768 128 rfl rfl (load_table arg4 harg4 x2 6 768 rfl _) (load_table arg5 harg5 x3 6 768 rfl _)
      (load_table arg6 harg6 x4 6 768 rfl _) (load_kept _ arg15 _ (keptA c arg2 harg2 arg3 harg3 arg14 x0 x1) 6 1 768 128 rfl rfl _)
  · exact stored (k0_pay94 (F := Ideal) x0 (k0_pay90 (F := Ideal) x1)) x2 x3 x4 6 0 768 0 rfl rfl (load_table arg4 harg4 x2 6 768 rfl _) (load_table arg5 harg5 x3 6 768 rfl _)
      (load_table arg6 harg6 x4 6 768 rfl _) (load_kept _ arg15 _ (keptA c arg2 harg2 arg3 harg3 arg14 x0 x1) 6 0 768 0 rfl rfl _)
  · exact stored (k0_pay94 (F := Ideal) x0 (k0_pay90 (F := Ideal) x1)) x2 x3 x4 5 3 640 384 rfl rfl (load_table arg4 harg4 x2 5 640 rfl _) (load_table arg5 harg5 x3 5 640 rfl _)
      (load_table arg6 harg6 x4 5 640 rfl _) (load_kept _ arg15 _ (keptA c arg2 harg2 arg3 harg3 arg14 x0 x1) 5 3 640 384 rfl rfl _)
  · exact stored (k0_pay94 (F := Ideal) x0 (k0_pay90 (F := Ideal) x1)) x2 x3 x4 5 2 640 256 rfl rfl (load_table arg4 harg4 x2 5 640 rfl _) (load_table arg5 harg5 x3 5 640 rfl _)
      (load_table arg6 harg6 x4 5 640 rfl _) (load_kept _ arg15 _ (keptA c arg2 harg2 arg3 harg3 arg14 x0 x1) 5 2 640 256 rfl rfl _)
  · exact stored (k0_pay94 (F := Ideal) x0 (k0_pay90 (F := Ideal) x1)) x2 x3 x4 5 1 640 128 rfl rfl (load_table arg4 harg4 x2 5 640 rfl _) (load_table arg5 harg5 x3 5 640 rfl _)
      (load_table arg6 harg6 x4 5 640 rfl _) (load_kept _ arg15 _ (keptA c arg2 harg2 arg3 harg3 arg14 x0 x1) 5 1 640 128 rfl rfl _)
  · exact stored (k0_pay94 (F := Ideal) x0 (k0_pay90 (F := Ideal) x1)) x2 x3 x4 5 0 640 0 rfl rfl (load_table arg4 harg4 x2 5 640 rfl _) (load_table arg5 harg5 x3 5 640 rfl _)
      (load_table arg6 harg6 x4 5 640 rfl _) (load_kept _ arg15 _ (keptA c arg2 harg2 arg3 harg3 arg14 x0 x1) 5 0 640 0 rfl rfl _)
  · exact stored (k0_pay94 (F := Ideal) x0 (k0_pay90 (F := Ideal) x1)) x2 x3 x4 4 3 512 384 rfl rfl (load_table arg4 harg4 x2 4 512 rfl _) (load_table arg5 harg5 x3 4 512 rfl _)
      (load_table arg6 harg6 x4 4 512 rfl _) (load_kept _ arg15 _ (keptA c arg2 harg2 arg3 harg3 arg14 x0 x1) 4 3 512 384 rfl rfl _)
  · exact stored (k0_pay94 (F := Ideal) x0 (k0_pay90 (F := Ideal) x1)) x2 x3 x4 4 2 512 256 rfl rfl (load_table arg4 harg4 x2 4 512 rfl _) (load_table arg5 harg5 x3 4 512 rfl _)
      (load_table arg6 harg6 x4 4 512 rfl _) (load_kept _ arg15 _ (keptA c arg2 harg2 arg3 harg3 arg14 x0 x1) 4 2 512 256 rfl rfl _)
  · exact stored (k0_pay94 (F := Ideal) x0 (k0_pay90 (F := Ideal) x1)) x2 x3 x4 4 1 512 128 rfl rfl (load_table arg4 harg4 x2 4 512 rfl _) (load_table arg5 harg5 x3 4 512 rfl _)
      (load_table arg6 harg6 x4 4 512 rfl _) (load_kept _ arg15 _ (keptA c arg2 harg2 arg3 harg3 arg14 x0 x1) 4 1 512 128 rfl rfl _)
  · exact stored (k0_pay94 (F := Ideal) x0 (k0_pay90 (F := Ideal) x1)) x2 x3 x4 4 0 512 0 rfl rfl (load_table arg4 harg4 x2 4 512 rfl _) (load_table arg5 harg5 x3 4 512 rfl _)
      (load_table arg6 harg6 x4 4 512 rfl _) (load_kept _ arg15 _ (keptA c arg2 harg2 arg3 harg3 arg14 x0 x1) 4 0 512 0 rfl rfl _)
  · exact stored (k0_pay94 (F := Ideal) x0 (k0_pay90 (F := Ideal) x1)) x2 x3 x4 3 3 384 384 rfl rfl (load_table arg4 harg4 x2 3 384 rfl _) (load_table arg5 harg5 x3 3 384 rfl _)
      (load_table arg6 harg6 x4 3 384 rfl _) (load_kept _ arg15 _ (keptA c arg2 harg2 arg3 harg3 arg14 x0 x1) 3 3 384 384 rfl rfl _)
  · exact stored (k0_pay94 (F := Ideal) x0 (k0_pay90 (F := Ideal) x1)) x2 x3 x4 3 2 384 256 rfl rfl (load_table arg4 harg4 x2 3 384 rfl _) (load_table arg5 harg5 x3 3 384 rfl _)
      (load_table arg6 harg6 x4 3 384 rfl _) (load_kept _ arg15 _ (keptA c arg2 harg2 arg3 harg3 arg14 x0 x1) 3 2 384 256 rfl rfl _)
  · exact stored (k0_pay94 (F := Ideal) x0 (k0_pay90 (F := Ideal) x1)) x2 x3 x4 3 1 384 128 rfl rfl (load_table arg4 harg4 x2 3 384 rfl _) (load_table arg5 harg5 x3 3 384 rfl _)
      (load_table arg6 harg6 x4 3 384 rfl _) (load_kept _ arg15 _ (keptA c arg2 harg2 arg3 harg3 arg14 x0 x1) 3 1 384 128 rfl rfl _)
  · exact stored (k0_pay94 (F := Ideal) x0 (k0_pay90 (F := Ideal) x1)) x2 x3 x4 3 0 384 0 rfl rfl (load_table arg4 harg4 x2 3 384 rfl _) (load_table arg5 harg5 x3 3 384 rfl _)
      (load_table arg6 harg6 x4 3 384 rfl _) (load_kept _ arg15 _ (keptA c arg2 harg2 arg3 harg3 arg14 x0 x1) 3 0 384 0 rfl rfl _)
  · exact stored (k0_pay94 (F := Ideal) x0 (k0_pay90 (F := Ideal) x1)) x2 x3 x4 2 3 256 384 rfl rfl (load_table arg4 harg4 x2 2 256 rfl _) (load_table arg5 harg5 x3 2 256 rfl _)
      (load_table arg6 harg6 x4 2 256 rfl _) (load_kept _ arg15 _ (keptA c arg2 harg2 arg3 harg3 arg14 x0 x1) 2 3 256 384 rfl rfl _)
  · exact stored (k0_pay94 (F := Ideal) x0 (k0_pay90 (F := Ideal) x1)) x2 x3 x4 2 2 256 256 rfl rfl (load_table arg4 harg4 x2 2 256 rfl _) (load_table arg5 harg5 x3 2 256 rfl _)
      (load_table arg6 harg6 x4 2 256 rfl _) (load_kept _ arg15 _ (keptA c arg2 harg2 arg3 harg3 arg14 x0 x1) 2 2 256 256 rfl rfl _)
  · exact stored (k0_pay94 (F := Ideal) x0 (k0_pay90 (F := Ideal) x1)) x2 x3 x4 2 1 256 128 rfl rfl (load_table arg4 harg4 x2 2 256 rfl _) (load_table arg5 harg5 x3 2 256 rfl _)
      (load_table arg6 harg6 x4 2 256 rfl _) (load_kept _ arg15 _ (keptA c arg2 harg2 arg3 harg3 arg14 x0 x1) 2 1 256 128 rfl rfl _)
  · exact stored (k0_pay94 (F := Ideal) x0 (k0_pay90 (F := Ideal) x1)) x2 x3 x4 2 0 256 0 rfl rfl (load_table arg4 harg4 x2 2 256 rfl _) (load_table arg5 harg5 x3 2 256 rfl _)
      (load_table arg6 harg6 x4 2 256 rfl _) (load_kept _ arg15 _ (keptA c arg2 harg2 arg3 harg3 arg14 x0 x1) 2 0 256 0 rfl rfl _)
  · exact stored (k0_pay94 (F := Ideal) x0 (k0_pay90 (F := Ideal) x1)) x2 x3 x4 1 3 128 384 rfl rfl (load_table arg4 harg4 x2 1 128 rfl _) (load_table arg5 harg5 x3 1 128 rfl _)
      (load_table arg6 harg6 x4 1 128 rfl _) (load_kept _ arg15 _ (keptA c arg2 harg2 arg3 harg3 arg14 x0 x1) 1 3 128 384 rfl rfl _)
  · exact stored (k0_pay94 (F := Ideal) x0 (k0_pay90 (F := Ideal) x1)) x2 x3 x4 1 2 128 256 rfl rfl (load_table arg4 harg4 x2 1 128 rfl _) (load_table arg5 harg5 x3 1 128 rfl _)
      (load_table arg6 harg6 x4 1 128 rfl _) (load_kept _ arg15 _ (keptA c arg2 harg2 arg3 harg3 arg14 x0 x1) 1 2 128 256 rfl rfl _)
  · exact stored (k0_pay94 (F := Ideal) x0 (k0_pay90 (F := Ideal) x1)) x2 x3 x4 1 1 128 128 rfl rfl (load_table arg4 harg4 x2 1 128 rfl _) (load_table arg5 harg5 x3 1 128 rfl _)
      (load_table arg6 harg6 x4 1 128 rfl _) (load_kept _ arg15 _ (keptA c arg2 harg2 arg3 harg3 arg14 x0 x1) 1 1 128 128 rfl rfl _)
  · exact stored (k0_pay94 (F := Ideal) x0 (k0_pay90 (F := Ideal) x1)) x2 x3 x4 1 0 128 0 rfl rfl (load_table arg4 harg4 x2 1 128 rfl _) (load_table arg5 harg5 x3 1 128 rfl _)
      (load_table arg6 harg6 x4 1 128 rfl _) (load_kept _ arg15 _ (keptA c arg2 harg2 arg3 harg3 arg14 x0 x1) 1 0 128 0 rfl rfl _)
  · exact stored (k0_pay94 (F := Ideal) x0 (k0_pay90 (F := Ideal) x1)) x2 x3 x4 0 3 0 384 rfl rfl (load_table arg4 harg4 x2 0 0 rfl _) (load_table arg5 harg5 x3 0 0 rfl _)
      (load_table arg6 harg6 x4 0 0 rfl _) (load_kept _ arg15 _ (keptA c arg2 harg2 arg3 harg3 arg14 x0 x1) 0 3 0 384 rfl rfl _)
  · exact stored (k0_pay94 (F := Ideal) x0 (k0_pay90 (F := Ideal) x1)) x2 x3 x4 0 2 0 256 rfl rfl (load_table arg4 harg4 x2 0 0 rfl _) (load_table arg5 harg5 x3 0 0 rfl _)
      (load_table arg6 harg6 x4 0 0 rfl _) (load_kept _ arg15 _ (keptA c arg2 harg2 arg3 harg3 arg14 x0 x1) 0 2 0 256 rfl rfl _)
  · exact stored (k0_pay94 (F := Ideal) x0 (k0_pay90 (F := Ideal) x1)) x2 x3 x4 0 1 0 128 rfl rfl (load_table arg4 harg4 x2 0 0 rfl _) (load_table arg5 harg5 x3 0 0 rfl _)
      (load_table arg6 harg6 x4 0 0 rfl _) (load_kept _ arg15 _ (keptA c arg2 harg2 arg3 harg3 arg14 x0 x1) 0 1 0 128 rfl rfl _)
  · exact stored (k0_pay94 (F := Ideal) x0 (k0_pay90 (F := Ideal) x1)) x2 x3 x4 0 0 0 0 rfl rfl (load_table arg4 harg4 x2 0 0 rfl _) (load_table arg5 harg5 x3 0 0 rfl _)
      (load_table arg6 harg6 x4 0 0 rfl _) (load_kept _ arg15 _ (keptA c arg2 harg2 arg3 harg3 arg14 x0 x1) 0 0 0 0 rfl rfl _)

set_option maxHeartbeats 3200000 in
/-- The block left at a column block's first point: the product, turned. -/
theorem outA (hc0 : cond0_0 i) (hc1 : cond0_1 i) (hc2 : ¬cond0_2 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 =
      turnBlock (k0_pay94 (F := Ideal) x0 (k0_pay90 (F := Ideal) x1)) x2 x3 x4 := by
  unfold out0_A_8
  refine funext fun y => ?_
  rw [View.read_writes_junk_eq_canon]
  exact View.canon_apply_of_pieces (G := turnBlock (k0_pay94 (F := Ideal) x0 (k0_pay90 (F := Ideal) x1)) x2 x3 x4) _
    (storesA x2 x3 x4 c i arg2 harg2 arg3 harg3 arg4 harg4 arg5 harg5 arg6 harg6 arg7 harg7 arg8 harg8 arg9 harg9 arg10 harg10 arg11 harg11 arg12 harg12 arg13 harg13 arg14 harg14 arg15 harg15 x0 x1 x5 x6 x7 hc0 hc1 hc2) y
    (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 y)

set_option maxHeartbeats 3200000 in
/-- Every store at a later point of a column block writes the turned block's entries at its own places. -/
theorem storesB (hc0 : ¬cond0_0 i) (hc1 : cond0_1 i) (hc2 : ¬cond0_2 i) :
    ∀ pc ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 w).1,
      ∀ x, pc.2 x = turnBlock (k0_pay94 (F := Ideal) x0 w) x2 x3 x4 (pc.1.emb x) := by
  unfold kernelRun0_B
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact stored (k0_pay94 (F := Ideal) x0 w) x2 x3 x4 7 3 896 384 rfl rfl (load_table arg4 harg4 x2 7 896 rfl _) (load_table arg5 harg5 x3 7 896 rfl _)
      (load_table arg6 harg6 x4 7 896 rfl _) (load_kept _ arg15 _ (keptB c arg2 harg2 arg14 harg14 x0 w) 7 3 896 384 rfl rfl _)
  · exact stored (k0_pay94 (F := Ideal) x0 w) x2 x3 x4 7 2 896 256 rfl rfl (load_table arg4 harg4 x2 7 896 rfl _) (load_table arg5 harg5 x3 7 896 rfl _)
      (load_table arg6 harg6 x4 7 896 rfl _) (load_kept _ arg15 _ (keptB c arg2 harg2 arg14 harg14 x0 w) 7 2 896 256 rfl rfl _)
  · exact stored (k0_pay94 (F := Ideal) x0 w) x2 x3 x4 7 1 896 128 rfl rfl (load_table arg4 harg4 x2 7 896 rfl _) (load_table arg5 harg5 x3 7 896 rfl _)
      (load_table arg6 harg6 x4 7 896 rfl _) (load_kept _ arg15 _ (keptB c arg2 harg2 arg14 harg14 x0 w) 7 1 896 128 rfl rfl _)
  · exact stored (k0_pay94 (F := Ideal) x0 w) x2 x3 x4 7 0 896 0 rfl rfl (load_table arg4 harg4 x2 7 896 rfl _) (load_table arg5 harg5 x3 7 896 rfl _)
      (load_table arg6 harg6 x4 7 896 rfl _) (load_kept _ arg15 _ (keptB c arg2 harg2 arg14 harg14 x0 w) 7 0 896 0 rfl rfl _)
  · exact stored (k0_pay94 (F := Ideal) x0 w) x2 x3 x4 6 3 768 384 rfl rfl (load_table arg4 harg4 x2 6 768 rfl _) (load_table arg5 harg5 x3 6 768 rfl _)
      (load_table arg6 harg6 x4 6 768 rfl _) (load_kept _ arg15 _ (keptB c arg2 harg2 arg14 harg14 x0 w) 6 3 768 384 rfl rfl _)
  · exact stored (k0_pay94 (F := Ideal) x0 w) x2 x3 x4 6 2 768 256 rfl rfl (load_table arg4 harg4 x2 6 768 rfl _) (load_table arg5 harg5 x3 6 768 rfl _)
      (load_table arg6 harg6 x4 6 768 rfl _) (load_kept _ arg15 _ (keptB c arg2 harg2 arg14 harg14 x0 w) 6 2 768 256 rfl rfl _)
  · exact stored (k0_pay94 (F := Ideal) x0 w) x2 x3 x4 6 1 768 128 rfl rfl (load_table arg4 harg4 x2 6 768 rfl _) (load_table arg5 harg5 x3 6 768 rfl _)
      (load_table arg6 harg6 x4 6 768 rfl _) (load_kept _ arg15 _ (keptB c arg2 harg2 arg14 harg14 x0 w) 6 1 768 128 rfl rfl _)
  · exact stored (k0_pay94 (F := Ideal) x0 w) x2 x3 x4 6 0 768 0 rfl rfl (load_table arg4 harg4 x2 6 768 rfl _) (load_table arg5 harg5 x3 6 768 rfl _)
      (load_table arg6 harg6 x4 6 768 rfl _) (load_kept _ arg15 _ (keptB c arg2 harg2 arg14 harg14 x0 w) 6 0 768 0 rfl rfl _)
  · exact stored (k0_pay94 (F := Ideal) x0 w) x2 x3 x4 5 3 640 384 rfl rfl (load_table arg4 harg4 x2 5 640 rfl _) (load_table arg5 harg5 x3 5 640 rfl _)
      (load_table arg6 harg6 x4 5 640 rfl _) (load_kept _ arg15 _ (keptB c arg2 harg2 arg14 harg14 x0 w) 5 3 640 384 rfl rfl _)
  · exact stored (k0_pay94 (F := Ideal) x0 w) x2 x3 x4 5 2 640 256 rfl rfl (load_table arg4 harg4 x2 5 640 rfl _) (load_table arg5 harg5 x3 5 640 rfl _)
      (load_table arg6 harg6 x4 5 640 rfl _) (load_kept _ arg15 _ (keptB c arg2 harg2 arg14 harg14 x0 w) 5 2 640 256 rfl rfl _)
  · exact stored (k0_pay94 (F := Ideal) x0 w) x2 x3 x4 5 1 640 128 rfl rfl (load_table arg4 harg4 x2 5 640 rfl _) (load_table arg5 harg5 x3 5 640 rfl _)
      (load_table arg6 harg6 x4 5 640 rfl _) (load_kept _ arg15 _ (keptB c arg2 harg2 arg14 harg14 x0 w) 5 1 640 128 rfl rfl _)
  · exact stored (k0_pay94 (F := Ideal) x0 w) x2 x3 x4 5 0 640 0 rfl rfl (load_table arg4 harg4 x2 5 640 rfl _) (load_table arg5 harg5 x3 5 640 rfl _)
      (load_table arg6 harg6 x4 5 640 rfl _) (load_kept _ arg15 _ (keptB c arg2 harg2 arg14 harg14 x0 w) 5 0 640 0 rfl rfl _)
  · exact stored (k0_pay94 (F := Ideal) x0 w) x2 x3 x4 4 3 512 384 rfl rfl (load_table arg4 harg4 x2 4 512 rfl _) (load_table arg5 harg5 x3 4 512 rfl _)
      (load_table arg6 harg6 x4 4 512 rfl _) (load_kept _ arg15 _ (keptB c arg2 harg2 arg14 harg14 x0 w) 4 3 512 384 rfl rfl _)
  · exact stored (k0_pay94 (F := Ideal) x0 w) x2 x3 x4 4 2 512 256 rfl rfl (load_table arg4 harg4 x2 4 512 rfl _) (load_table arg5 harg5 x3 4 512 rfl _)
      (load_table arg6 harg6 x4 4 512 rfl _) (load_kept _ arg15 _ (keptB c arg2 harg2 arg14 harg14 x0 w) 4 2 512 256 rfl rfl _)
  · exact stored (k0_pay94 (F := Ideal) x0 w) x2 x3 x4 4 1 512 128 rfl rfl (load_table arg4 harg4 x2 4 512 rfl _) (load_table arg5 harg5 x3 4 512 rfl _)
      (load_table arg6 harg6 x4 4 512 rfl _) (load_kept _ arg15 _ (keptB c arg2 harg2 arg14 harg14 x0 w) 4 1 512 128 rfl rfl _)
  · exact stored (k0_pay94 (F := Ideal) x0 w) x2 x3 x4 4 0 512 0 rfl rfl (load_table arg4 harg4 x2 4 512 rfl _) (load_table arg5 harg5 x3 4 512 rfl _)
      (load_table arg6 harg6 x4 4 512 rfl _) (load_kept _ arg15 _ (keptB c arg2 harg2 arg14 harg14 x0 w) 4 0 512 0 rfl rfl _)
  · exact stored (k0_pay94 (F := Ideal) x0 w) x2 x3 x4 3 3 384 384 rfl rfl (load_table arg4 harg4 x2 3 384 rfl _) (load_table arg5 harg5 x3 3 384 rfl _)
      (load_table arg6 harg6 x4 3 384 rfl _) (load_kept _ arg15 _ (keptB c arg2 harg2 arg14 harg14 x0 w) 3 3 384 384 rfl rfl _)
  · exact stored (k0_pay94 (F := Ideal) x0 w) x2 x3 x4 3 2 384 256 rfl rfl (load_table arg4 harg4 x2 3 384 rfl _) (load_table arg5 harg5 x3 3 384 rfl _)
      (load_table arg6 harg6 x4 3 384 rfl _) (load_kept _ arg15 _ (keptB c arg2 harg2 arg14 harg14 x0 w) 3 2 384 256 rfl rfl _)
  · exact stored (k0_pay94 (F := Ideal) x0 w) x2 x3 x4 3 1 384 128 rfl rfl (load_table arg4 harg4 x2 3 384 rfl _) (load_table arg5 harg5 x3 3 384 rfl _)
      (load_table arg6 harg6 x4 3 384 rfl _) (load_kept _ arg15 _ (keptB c arg2 harg2 arg14 harg14 x0 w) 3 1 384 128 rfl rfl _)
  · exact stored (k0_pay94 (F := Ideal) x0 w) x2 x3 x4 3 0 384 0 rfl rfl (load_table arg4 harg4 x2 3 384 rfl _) (load_table arg5 harg5 x3 3 384 rfl _)
      (load_table arg6 harg6 x4 3 384 rfl _) (load_kept _ arg15 _ (keptB c arg2 harg2 arg14 harg14 x0 w) 3 0 384 0 rfl rfl _)
  · exact stored (k0_pay94 (F := Ideal) x0 w) x2 x3 x4 2 3 256 384 rfl rfl (load_table arg4 harg4 x2 2 256 rfl _) (load_table arg5 harg5 x3 2 256 rfl _)
      (load_table arg6 harg6 x4 2 256 rfl _) (load_kept _ arg15 _ (keptB c arg2 harg2 arg14 harg14 x0 w) 2 3 256 384 rfl rfl _)
  · exact stored (k0_pay94 (F := Ideal) x0 w) x2 x3 x4 2 2 256 256 rfl rfl (load_table arg4 harg4 x2 2 256 rfl _) (load_table arg5 harg5 x3 2 256 rfl _)
      (load_table arg6 harg6 x4 2 256 rfl _) (load_kept _ arg15 _ (keptB c arg2 harg2 arg14 harg14 x0 w) 2 2 256 256 rfl rfl _)
  · exact stored (k0_pay94 (F := Ideal) x0 w) x2 x3 x4 2 1 256 128 rfl rfl (load_table arg4 harg4 x2 2 256 rfl _) (load_table arg5 harg5 x3 2 256 rfl _)
      (load_table arg6 harg6 x4 2 256 rfl _) (load_kept _ arg15 _ (keptB c arg2 harg2 arg14 harg14 x0 w) 2 1 256 128 rfl rfl _)
  · exact stored (k0_pay94 (F := Ideal) x0 w) x2 x3 x4 2 0 256 0 rfl rfl (load_table arg4 harg4 x2 2 256 rfl _) (load_table arg5 harg5 x3 2 256 rfl _)
      (load_table arg6 harg6 x4 2 256 rfl _) (load_kept _ arg15 _ (keptB c arg2 harg2 arg14 harg14 x0 w) 2 0 256 0 rfl rfl _)
  · exact stored (k0_pay94 (F := Ideal) x0 w) x2 x3 x4 1 3 128 384 rfl rfl (load_table arg4 harg4 x2 1 128 rfl _) (load_table arg5 harg5 x3 1 128 rfl _)
      (load_table arg6 harg6 x4 1 128 rfl _) (load_kept _ arg15 _ (keptB c arg2 harg2 arg14 harg14 x0 w) 1 3 128 384 rfl rfl _)
  · exact stored (k0_pay94 (F := Ideal) x0 w) x2 x3 x4 1 2 128 256 rfl rfl (load_table arg4 harg4 x2 1 128 rfl _) (load_table arg5 harg5 x3 1 128 rfl _)
      (load_table arg6 harg6 x4 1 128 rfl _) (load_kept _ arg15 _ (keptB c arg2 harg2 arg14 harg14 x0 w) 1 2 128 256 rfl rfl _)
  · exact stored (k0_pay94 (F := Ideal) x0 w) x2 x3 x4 1 1 128 128 rfl rfl (load_table arg4 harg4 x2 1 128 rfl _) (load_table arg5 harg5 x3 1 128 rfl _)
      (load_table arg6 harg6 x4 1 128 rfl _) (load_kept _ arg15 _ (keptB c arg2 harg2 arg14 harg14 x0 w) 1 1 128 128 rfl rfl _)
  · exact stored (k0_pay94 (F := Ideal) x0 w) x2 x3 x4 1 0 128 0 rfl rfl (load_table arg4 harg4 x2 1 128 rfl _) (load_table arg5 harg5 x3 1 128 rfl _)
      (load_table arg6 harg6 x4 1 128 rfl _) (load_kept _ arg15 _ (keptB c arg2 harg2 arg14 harg14 x0 w) 1 0 128 0 rfl rfl _)
  · exact stored (k0_pay94 (F := Ideal) x0 w) x2 x3 x4 0 3 0 384 rfl rfl (load_table arg4 harg4 x2 0 0 rfl _) (load_table arg5 harg5 x3 0 0 rfl _)
      (load_table arg6 harg6 x4 0 0 rfl _) (load_kept _ arg15 _ (keptB c arg2 harg2 arg14 harg14 x0 w) 0 3 0 384 rfl rfl _)
  · exact stored (k0_pay94 (F := Ideal) x0 w) x2 x3 x4 0 2 0 256 rfl rfl (load_table arg4 harg4 x2 0 0 rfl _) (load_table arg5 harg5 x3 0 0 rfl _)
      (load_table arg6 harg6 x4 0 0 rfl _) (load_kept _ arg15 _ (keptB c arg2 harg2 arg14 harg14 x0 w) 0 2 0 256 rfl rfl _)
  · exact stored (k0_pay94 (F := Ideal) x0 w) x2 x3 x4 0 1 0 128 rfl rfl (load_table arg4 harg4 x2 0 0 rfl _) (load_table arg5 harg5 x3 0 0 rfl _)
      (load_table arg6 harg6 x4 0 0 rfl _) (load_kept _ arg15 _ (keptB c arg2 harg2 arg14 harg14 x0 w) 0 1 0 128 rfl rfl _)
  · exact stored (k0_pay94 (F := Ideal) x0 w) x2 x3 x4 0 0 0 0 rfl rfl (load_table arg4 harg4 x2 0 0 rfl _) (load_table arg5 harg5 x3 0 0 rfl _)
      (load_table arg6 harg6 x4 0 0 rfl _) (load_kept _ arg15 _ (keptB c arg2 harg2 arg14 harg14 x0 w) 0 0 0 0 rfl rfl _)

set_option maxHeartbeats 3200000 in
/-- The block left at a later point of a column block: the product, turned. -/
theorem outB (hc0 : ¬cond0_0 i) (hc1 : cond0_1 i) (hc2 : ¬cond0_2 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 w =
      turnBlock (k0_pay94 (F := Ideal) x0 w) x2 x3 x4 := by
  unfold out0_B_8
  refine funext fun y => ?_
  rw [View.read_writes_junk_eq_canon]
  exact View.canon_apply_of_pieces (G := turnBlock (k0_pay94 (F := Ideal) x0 w) x2 x3 x4) _
    (storesB x2 x3 x4 c i arg2 harg2 arg3 harg3 arg4 harg4 arg5 harg5 arg6 harg6 arg7 harg7 arg8 harg8 arg9 harg9 arg10 harg10 arg11 harg11 arg12 harg12 arg13 harg13 arg14 harg14 arg15 harg15 x0 x1 x5 x6 x7 w hc0 hc1 hc2) y
    (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 w y)

end Body

end Cert.QkvIdeal.Hand

end
-- ==== Proof.Qkv.Value.lean ====
/-
  The query, key and value projection's results over the extended reals, each as one function of the arguments, and the run
  with the result arrays at them.
-/
module

public import proofs.«01_k».proof.Proof.Qkv.Stored
public import proofs.«01_k».proof.Proof.Gen.QkvIdeal.Points
public import Idealize.ShloMosaic.Lib.Pipeline.Value
public import Idealize.ShloMosaic.Lib.Pipeline.ValueKit.Held
public import Idealize.ShloMosaic.Lib.Pointwise

@[expose] public section

set_option maxRecDepth 16384

noncomputable section

namespace Cert.QkvIdeal.Hand

open Idealize.ShloMosaic Idealize.ShloMosaic.TcCoe Idealize.ShloMosaic.Tactic Idealize.SL.Sem
open Cert.QkvIdeal Cert.QkvIdeal.Gen

/-! ## The vectors at an index -/

/-- The weight block as it is kept: unchanged. -/
theorem pay90_apply (w : Vec Ideal S4096x512 .f32) (x : Fin 4096) (q : Fin 512) :
    (k0_pay90 (F := Ideal) w : FVec Ideal S4096x512 .bf16) (ix2 x q) = (w : FVec Ideal S4096x512 .f32) (ix2 x q) := by
  unfold k0_pay90
  pointwise []

theorem pay91_apply (w : Vec Ideal S32x4096 .f32) (a : Fin 32) (b : Fin 4096) :
    (k0_pay91 (F := Ideal) w : FVec Ideal S32x4096 .bf16) (ix2 a b) = (w : FVec Ideal S32x4096 .f32) (ix2 a b) := by
  unfold k0_pay91
  pointwise []

theorem pay92_apply (w : Vec Ideal S32x4096 .f32) (a : Fin 32) (b : Fin 4096) :
    (k0_pay92 (F := Ideal) w : FVec Ideal S32x4096 .bf16) (ix2 a b) = (w : FVec Ideal S32x4096 .f32) (ix2 a b) := by
  unfold k0_pay92
  pointwise []

theorem pay93_apply (w : Vec Ideal S64x4096 .f32) (a : Fin 64) (b : Fin 4096) :
    (k0_pay93 (F := Ideal) w : FVec Ideal S64x4096 .bf16) (ix2 a b) = (w : FVec Ideal S64x4096 .f32) (ix2 a b) := by
  unfold k0_pay93
  pointwise []

/-- The product of a row block and a weight block. -/
theorem pay94_apply (h : Vec Ideal S1024x4096 .bf16) (w : Vec Ideal S4096x512 .bf16) (a : Fin 1024) (q : Fin 512) :
    (k0_pay94 (F := Ideal) h w : FVec Ideal S1024x512 .f32) (ix2 a q) =
      ∑ x : Fin 4096, (h : FVec Ideal S1024x4096 .bf16) (ix2 a x) * (w : FVec Ideal S4096x512 .bf16) (ix2 x q) := by
  unfold k0_pay94
  pointwise []

/-- The product as it is stored where no head turns: unchanged. -/
theorem pay1_apply (z : Vec Ideal S1024x512 .f32) (a : Fin 1024) (q : Fin 512) :
    (k0_pay1 (F := Ideal) z : FVec Ideal S1024x512 .bf16) (ix2 a q) = (z : FVec Ideal S1024x512 .f32) (ix2 a q) := by
  unfold k0_pay1
  pointwise []

/-! ## The results -/

/-- The projection at a row and a column. -/
def proj (H : FVec Ideal S16384x4096 .bf16) (W : FVec Ideal S1x4096x15360 .f32) (r : Fin 16384) (k : Fin 15360) : EReal :=
  ∑ x : Fin 4096, H (ix2 r x) * W (ix3 0 x k)

/-- The table a lane itself is scaled by: the cosines twice, then ones. -/
def tabC (C : FVec Ideal S16384x16 .f32) : FVec Ideal S16384x128 .f32 :=
  concatenate S16384x128 1 [⟨S16384x16, C⟩, ⟨S16384x16, C⟩,
    ⟨S16384x96, broadcastInDim S16384x96 ![] bcast_S_S16384x96 (constant (F := Ideal) S_ .f32 0x3F800000#32)⟩] concatenates_S16384x16_S16384x16_S16384x96_S16384x128_d1

/-- The table the lane 16 further is scaled by: the sines negated, then zeros. -/
def tabS (S : FVec Ideal S16384x16 .f32) : FVec Ideal S16384x128 .f32 :=
  concatenate S16384x128 1 [⟨S16384x16, Host.negf (F := Ideal) (S : FVec Ideal S16384x16 .f32)⟩,
    ⟨S16384x112, broadcastInDim S16384x112 ![] bcast_S_S16384x112 (constant (F := Ideal) S_ .f32 0x00000000#32)⟩] concatenates_S16384x16_S16384x112_S16384x128_d1

/-- The table the lane 16 before is scaled by: zeros, the sines, then zeros. -/
def tabS' (S : FVec Ideal S16384x16 .f32) : FVec Ideal S16384x128 .f32 :=
  concatenate S16384x128 1 [⟨S16384x16, broadcastInDim S16384x16 ![] bcast_S_S16384x16 (constant (F := Ideal) S_ .f32 0x00000000#32)⟩, ⟨S16384x16, S⟩,
    ⟨S16384x96, broadcastInDim S16384x96 ![] bcast_S_S16384x96 (constant (F := Ideal) S_ .f32 0x00000000#32)⟩] concatenates_S16384x16_S16384x16_S16384x96_S16384x128_d1

/-- A turned entry of the projection: lane `d` of head `g`. -/
def turnedAt (H : FVec Ideal S16384x4096 .bf16) (W : FVec Ideal S1x4096x15360 .f32) (C S : FVec Ideal S16384x16 .f32)
    (r : Fin 16384) (g : Fin 24) (d : Fin 128) : EReal :=
  proj H W r ⟨g.val * 128 + d.val, by omega⟩ * tabC C (ix2 r d)
    + proj H W r ⟨g.val * 128 + (d.val + 16) % 128, by omega⟩ * tabS S (ix2 r d)
    + proj H W r ⟨g.val * 128 + (d.val + 112) % 128, by omega⟩ * tabS' S (ix2 r d)

/-- The queries, keys and values: the first twenty heads turned, the values plain. -/
def qkv (H : FVec Ideal S16384x4096 .bf16) (W : FVec Ideal S1x4096x15360 .f32) (C S : FVec Ideal S16384x16 .f32) :
    FVec Ideal S16384x3072 .bf16 := fun y =>
  if (y 1).val < 2560 then
    turnedAt H W C S (y 0) ⟨(y 1).val / 128, by have : (y 1).val < 3072 := (y 1).isLt; omega⟩ ⟨(y 1).val % 128, by omega⟩
  else proj H W (y 0) ⟨(y 1).val, by have : (y 1).val < 3072 := (y 1).isLt; omega⟩

/-- The first layer of a stack of weights, 2048 rows; -/
def first2 (W : FVec Ideal S1x2048x4096 .f32) : FVec Ideal S2048x4096 .bf16 := fun y =>
  W (ix3 (n0 := 1) (n1 := 2048) (n2 := 4096) 0 (y 0) (y 1))

/-- and 4096 rows. -/
def first4 (W : FVec Ideal S1x4096x4096 .f32) : FVec Ideal S4096x4096 .bf16 := fun y =>
  W (ix3 (n0 := 1) (n1 := 4096) (n2 := 4096) 0 (y 0) (y 1))

variable (m : (ℓ : Loc nD τ sig) → Buf (Elt Ideal) ℓ) (ρ : Dev nD → PrngReg) (c : Dev nD)

/-- The arguments. -/
abbrev aH : FVec Ideal S16384x4096 .bf16 := m ((c : Thread nD τ).loc main_arg0)
abbrev aW : FVec Ideal S1x4096x15360 .f32 := m ((c : Thread nD τ).loc main_arg1)
abbrev aC : FVec Ideal S16384x16 .f32 := m ((c : Thread nD τ).loc main_arg2)
abbrev aS : FVec Ideal S16384x16 .f32 := m ((c : Thread nD τ).loc main_arg3)
abbrev aP : FVec Ideal S1x2048x4096 .f32 := m ((c : Thread nD τ).loc main_arg4)
abbrev aA : FVec Ideal S1x2048x4096 .f32 := m ((c : Thread nD τ).loc main_arg5)
abbrev aO : FVec Ideal S1x4096x4096 .f32 := m ((c : Thread nD τ).loc main_arg6)

/-! ## The windows' blocks -/

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 16 :=
  (by decide +kernel : ∀ t : Fin grid0.N, _)
theorem idx2 : ∀ t : Fin cfg0.N, win0_2.index t (0 : Fin 2) = t.val % 16 ∧ win0_2.index t (1 : Fin 2) = 0 :=
  (by decide +kernel : ∀ t : Fin grid0.N, _)
theorem idx3 : ∀ t : Fin cfg0.N, win0_3.index t (0 : Fin 2) = t.val % 16 ∧ win0_3.index t (1 : Fin 2) = 0 :=
  (by decide +kernel : ∀ t : Fin grid0.N, _)
theorem idx4 : ∀ t : Fin cfg0.N, win0_4.index t (0 : Fin 2) = t.val % 16 ∧ win0_4.index t (1 : Fin 2) = 0 :=
  (by decide +kernel : ∀ t : Fin grid0.N, _)
theorem idx5 : ∀ t : Fin cfg0.N, win0_5.index t (0 : Fin 2) = min t.val 63 ∧ win0_5.index t (1 : Fin 2) = 0 :=
  (by decide +kernel : ∀ t : Fin grid0.N, _)
theorem idx6 : ∀ t : Fin cfg0.N, win0_6.index t (0 : Fin 2) = min t.val 63 ∧ win0_6.index t (1 : Fin 2) = 0 :=
  (by decide +kernel : ∀ t : Fin grid0.N, _)
theorem idx7 : ∀ t : Fin cfg0.N, win0_7.index t (0 : Fin 2) = min t.val 63 ∧ win0_7.index t (1 : Fin 2) = 0 :=
  (by decide +kernel : ∀ t : Fin grid0.N, _)
theorem idx8 : ∀ t : Fin cfg0.N, win0_8.index t (0 : Fin 2) = t.val % 16 ∧ win0_8.index t (1 : Fin 2) = t.val / 16 :=
  (by decide +kernel : ∀ t : Fin grid0.N, _)
theorem idx9 : ∀ t : Fin cfg0.N, win0_9.index t (0 : Fin 2) = min t.val 63 ∧ win0_9.index t (1 : Fin 2) = 0 :=
  (by decide +kernel : ∀ t : Fin grid0.N, _)
theorem idx10 : ∀ t : Fin cfg0.N, win0_10.index t (0 : Fin 2) = min t.val 63 ∧ win0_10.index t (1 : Fin 2) = 0 :=
  (by decide +kernel : ∀ t : Fin grid0.N, _)
theorem idx11 : ∀ t : Fin cfg0.N, win0_11.index t (0 : Fin 2) = min t.val 63 ∧ win0_11.index t (1 : Fin 2) = 0 :=
  (by decide +kernel : ∀ t : Fin grid0.N, _)

theorem t_lt (t : Fin cfg0.N) : t.val < 96 := lt_of_lt_of_eq t.isLt N_0

/-- The weights as the region finds them. -/
theorem V_main_v0 (x : Fin 4096) (k : Fin 15360) : (V (F := Ideal) m c main_v0 : FVec Ideal S4096x15360 .f32) (ix2 x k) = aW m c (ix3 0 x k) := by
  have e : (V (F := Ideal) m c main_v0 : FVec Ideal S4096x15360 .f32) = shapeCast S4096x15360 (aW m c) shapeCasts_S1x4096x15360_S4096x15360 := by
    show StableHlo.after hostOps0 (fun b => m (c, b)) main_v0 = _
    after_results
    rfl
  rw [e]
  pointwise []

theorem V_main_v9 (x : Fin 2048) (k : Fin 4096) : (V (F := Ideal) m c main_v9 : FVec Ideal S2048x4096 .f32) (ix2 x k) = aP m c (ix3 0 x k) := by
  have e : (V (F := Ideal) m c main_v9 : FVec Ideal S2048x4096 .f32) = shapeCast S2048x4096 (aP m c) shapeCasts_S1x2048x4096_S2048x4096 := by
    show StableHlo.after hostOps0 (fun b => m (c, b)) main_v9 = _
    after_results
    rfl
  rw [e]
  pointwise []

theorem V_main_v10 (x : Fin 2048) (k : Fin 4096) : (V (F := Ideal) m c main_v10 : FVec Ideal S2048x4096 .f32) (ix2 x k) = aA m c (ix3 0 x k) := by
  have e : (V (F := Ideal) m c main_v10 : FVec Ideal S2048x4096 .f32) = shapeCast S2048x4096 (aA m c) shapeCasts_S1x2048x4096_S2048x4096 := by
    show StableHlo.after hostOps0 (fun b => m (c, b)) main_v10 = _
    after_results
    rfl
  rw [e]
  pointwise []

theorem V_main_v11 (x : Fin 4096) (k : Fin 4096) : (V (F := Ideal) m c main_v11 : FVec Ideal S4096x4096 .f32) (ix2 x k) = aO m c (ix3 0 x k) := by
  have e : (V (F := Ideal) m c main_v11 : FVec Ideal S4096x4096 .f32) = shapeCast S4096x4096 (aO m c) shapeCasts_S1x4096x4096_S4096x4096 := by
    show StableHlo.after hostOps0 (fun b => m (c, b)) main_v11 = _
    after_results
    rfl
  rw [e]
  pointwise []

/-- The tables as the region finds them. -/
theorem V_main_v2 : (V (F := Ideal) m c main_v2 : FVec Ideal S16384x128 .f32) = tabC (aC m c) := by
  show StableHlo.after hostOps0 (fun b => m (c, b)) main_v2 = _
  after_results
  rfl

/-- And so for the other tables. -/
theorem V_main_v5 : (V (F := Ideal) m c main_v5 : FVec Ideal S16384x128 .f32) = tabS (aS m c) := by
  show StableHlo.after hostOps0 (fun b => m (c, b)) main_v5 = _
  after_results
  rfl

/-- And so for the other tables. -/
theorem V_main_v8 : (V (F := Ideal) m c main_v8 : FVec Ideal S16384x128 .f32) = tabS' (aS m c) := by
  show StableHlo.after hostOps0 (fun b => m (c, b)) main_v8 = _
  after_results
  rfl

section Blocks

variable (t : Fin cfg0.N)

theorem iblk0_apply (a : Fin 1024) (x : Fin 4096) (r : Fin 16384) (hr : r.val = t.val % 16 * 1024 + a.val) :
    (iblk (F := Ideal) m c 0 t : FVec Ideal S1024x4096 .bf16) (ix2 a x) = aH m c (ix2 r x) := by
  refine Eq.trans (b := (V (F := Ideal) m c main_arg0 : FVec Ideal S16384x4096 .bf16) (ix2 r x)) ?_ (by rw [V_main_arg0])
  refine congrArg (V (F := Ideal) m c main_arg0 : FVec Ideal S16384x4096 .bf16) (funext fun y => Fin.ext ?_)
  match y with
  | ⟨0, _⟩ => show win0_0.index t (0 : Fin 2) * 1024 + 1 * a.val = r.val; rw [(idx0 t).1]; omega
  | ⟨1, _⟩ => show win0_0.index t (1 : Fin 2) * 4096 + 1 * x.val = x.val; rw [(idx0 t).2]; omega

theorem iblk1_apply (x : Fin 4096) (q : Fin 512) (k : Fin 15360) (hk : k.val = t.val / 16 * 512 + q.val) :
    (iblk (F := Ideal) m c 1 t : FVec Ideal S4096x512 .f32) (ix2 x q) = aW m c (ix3 0 x k) := by
  refine Eq.trans ?_ (V_main_v0 m c x k)
  refine congrArg (V (F := Ideal) m c main_v0 : FVec Ideal S4096x15360 .f32) (funext fun y => Fin.ext ?_)
  match y with
  | ⟨0, _⟩ => show win0_1.index t (0 : Fin 2) * 4096 + 1 * x.val = x.val; rw [(idx1 t).1]; omega
  | ⟨1, _⟩ => show win0_1.index t (1 : Fin 2) * 512 + 1 * q.val = k.val; rw [(idx1 t).2]; omega

theorem iblk2_apply (a : Fin 1024) (d : Fin 128) (r : Fin 16384) (hr : r.val = t.val % 16 * 1024 + a.val) :
    (iblk (F := Ideal) m c 2 t : FVec Ideal S1024x128 .f32) (ix2 a d) = tabC (aC m c) (ix2 r d) := by
  refine Eq.trans (b := (V (F := Ideal) m c main_v2 : FVec Ideal S16384x128 .f32) (ix2 r d)) ?_ (by rw [V_main_v2])
  refine congrArg (V (F := Ideal) m c main_v2 : FVec Ideal S16384x128 .f32) (funext fun y => Fin.ext ?_)
  match y with
  | ⟨0, _⟩ => show win0_2.index t (0 : Fin 2) * 1024 + 1 * a.val = r.val; rw [(idx2 t).1]; omega
  | ⟨1, _⟩ => show win0_2.index t (1 : Fin 2) * 128 + 1 * d.val = d.val; rw [(idx2 t).2]; omega

theorem iblk3_apply (a : Fin 1024) (d : Fin 128) (r : Fin 16384) (hr : r.val = t.val % 16 * 1024 + a.val) :
    (iblk (F := Ideal) m c 3 t : FVec Ideal S1024x128 .f32) (ix2 a d) = tabS (aS m c) (ix2 r d) := by
  refine Eq.trans (b := (V (F := Ideal) m c main_v5 : FVec Ideal S16384x128 .f32) (ix2 r d)) ?_ (by rw [V_main_v5])
  refine congrArg (V (F := Ideal) m c main_v5 : FVec Ideal S16384x128 .f32) (funext fun y => Fin.ext ?_)
  match y with
  | ⟨0, _⟩ => show win0_3.index t (0 : Fin 2) * 1024 + 1 * a.val = r.val; rw [(idx3 t).1]; omega
  | ⟨1, _⟩ => show win0_3.index t (1 : Fin 2) * 128 + 1 * d.val = d.val; rw [(idx3 t).2]; omega

theorem iblk4_apply (a : Fin 1024) (d : Fin 128) (r : Fin 16384) (hr : r.val = t.val % 16 * 1024 + a.val) :
    (iblk (F := Ideal) m c 4 t : FVec Ideal S1024x128 .f32) (ix2 a d) = tabS' (aS m c) (ix2 r d) := by
  refine Eq.trans (b := (V (F := Ideal) m c main_v8 : FVec Ideal S16384x128 .f32) (ix2 r d)) ?_ (by rw [V_main_v8])
  refine congrArg (V (F := Ideal) m c main_v8 : FVec Ideal S16384x128 .f32) (funext fun y => Fin.ext ?_)
  match y with
  | ⟨0, _⟩ => show win0_4.index t (0 : Fin 2) * 1024 + 1 * a.val = r.val; rw [(idx4 t).1]; omega
  | ⟨1, _⟩ => show win0_4.index t (1 : Fin 2) * 128 + 1 * d.val = d.val; rw [(idx4 t).2]; omega

theorem iblk5_apply (a : Fin 32) (b : Fin 4096) (x : Fin 2048) (hx : x.val = min t.val 63 * 32 + a.val) :
    (iblk (F := Ideal) m c 5 t : FVec Ideal S32x4096 .f32) (ix2 a b) = aP m c (ix3 0 x b) := by
  refine Eq.trans ?_ (V_main_v9 m c x b)
  refine congrArg (V (F := Ideal) m c main_v9 : FVec Ideal S2048x4096 .f32) (funext fun y => Fin.ext ?_)
  match y with
  | ⟨0, _⟩ => show win0_5.index t (0 : Fin 2) * 32 + 1 * a.val = x.val; rw [(idx5 t).1]; omega
  | ⟨1, _⟩ => show win0_5.index t (1 : Fin 2) * 4096 + 1 * b.val = b.val; rw [(idx5 t).2]; omega

theorem iblk6_apply (a : Fin 32) (b : Fin 4096) (x : Fin 2048) (hx : x.val = min t.val 63 * 32 + a.val) :
    (iblk (F := Ideal) m c 6 t : FVec Ideal S32x4096 .f32) (ix2 a b) = aA m c (ix3 0 x b) := by
  refine Eq.trans ?_ (V_main_v10 m c x b)
  refine congrArg (V (F := Ideal) m c main_v10 : FVec Ideal S2048x4096 .f32) (funext fun y => Fin.ext ?_)
  match y with
  | ⟨0, _⟩ => show win0_6.index t (0 : Fin 2) * 32 + 1 * a.val = x.val; rw [(idx6 t).1]; omega
  | ⟨1, _⟩ => show win0_6.index t (1 : Fin 2) * 4096 + 1 * b.val = b.val; rw [(idx6 t).2]; omega

theorem iblk7_apply (a : Fin 64) (b : Fin 4096) (x : Fin 4096) (hx : x.val = min t.val 63 * 64 + a.val) :
    (iblk (F := Ideal) m c 7 t : FVec Ideal S64x4096 .f32) (ix2 a b) = aO m c (ix3 0 x b) := by
  refine Eq.trans ?_ (V_main_v11 m c x b)
  refine congrArg (V (F := Ideal) m c main_v11 : FVec Ideal S4096x4096 .f32) (funext fun y => Fin.ext ?_)
  match y with
  | ⟨0, _⟩ => show win0_7.index t (0 : Fin 2) * 64 + 1 * a.val = x.val; rw [(idx7 t).1]; omega
  | ⟨1, _⟩ => show win0_7.index t (1 : Fin 2) * 4096 + 1 * b.val = b.val; rw [(idx7 t).2]; omega

/-- The kept weight block at a point is the one its column block's first point stored. -/
theorem kept_apply (x : Fin 4096) (q : Fin 512) (k : Fin 15360) (hk : k.val = t.val / 16 * 512 + q.val) :
    ((outsAt0 (F := Ideal) m c t.val t.isLt).2.2.2.2 : FVec Ideal S4096x512 .bf16) (ix2 x q) = aW m c (ix3 0 x k) := by
  refine (Pipeline.eq_of_write_hold_apply (N := cfg0.N) (fun n h => ((outsAt0 (F := Ideal) m c n h).2.2.2.2 : FVec Ideal S4096x512 .bf16)) 16
    (fun t => (k0_pay90 (F := Ideal) (iblk (F := Ideal) m c 1 t) : FVec Ideal S4096x512 .bf16)) (fun t h i => ?_) (fun t h i => ?_) t (ix2 x q)).trans ?_
  · beta_reduce
    by_cases h1 : t.val < 80
    · rw [outsAt0_A m c t h h1 (by omega)]; frame_out
    · rw [outsAt0_C m c t h h1 (by omega)]; frame_out
  · beta_reduce
    by_cases h1 : t.val < 80
    · rw [outsAt0_B m c t h h1 (by omega)]
      rfl
    · rw [outsAt0_D m c t h h1 (by omega)]
      rfl
  · rw [pay90_apply]
    exact iblk1_apply m c _ x q k (by show k.val = 16 * (t.val / 16) / 16 * 512 + q.val; omega)

/-- The weight block kept before a point that is not its column block's first. -/
theorem kept_before (h : ¬t.val % 16 = 0) (x : Fin 4096) (q : Fin 512) (k : Fin 15360) (hk : k.val = t.val / 16 * 512 + q.val) :
    ((outsAt0 (F := Ideal) m c (t.val - 1) (Nat.lt_of_le_of_lt (Nat.sub_le _ _) t.isLt)).2.2.2.2 : FVec Ideal S4096x512 .bf16) (ix2 x q) = aW m c (ix3 0 x k) := by
  refine kept_apply m c ⟨t.val - 1, Nat.lt_of_le_of_lt (Nat.sub_le _ _) t.isLt⟩ x q k ?_
  show k.val = (t.val - 1) / 16 * 512 + q.val
  omega

/-- A product of the point's row block and a weight block that is its columns. -/
theorem prod_apply (w : FVec Ideal S4096x512 .bf16)
    (hw : ∀ (x : Fin 4096) (q : Fin 512) (k : Fin 15360), k.val = t.val / 16 * 512 + q.val → w (ix2 x q) = aW m c (ix3 0 x k))
    (a : Fin 1024) (q : Fin 512) (r : Fin 16384) (k : Fin 15360) (hr : r.val = t.val % 16 * 1024 + a.val) (hk : k.val = t.val / 16 * 512 + q.val) :
    (k0_pay94 (F := Ideal) (iblk (F := Ideal) m c 0 t) w : FVec Ideal S1024x512 .f32) (ix2 a q) = proj (aH m c) (aW m c) r k := by
  rw [pay94_apply]
  refine Finset.sum_congr rfl fun x _ => ?_
  rw [iblk0_apply m c t a x r hr, hw x q k hk]

/-- That product turned by the point's tables. -/
theorem turn_apply (w : FVec Ideal S4096x512 .bf16)
    (hw : ∀ (x : Fin 4096) (q : Fin 512) (k : Fin 15360), k.val = t.val / 16 * 512 + q.val → w (ix2 x q) = aW m c (ix3 0 x k))
    (a : Fin 1024) (q : Fin 512) (r : Fin 16384) (g : Fin 24) (d : Fin 128) (hr : r.val = t.val % 16 * 1024 + a.val)
    (hk : g.val * 128 + d.val = t.val / 16 * 512 + q.val) :
    turnBlock (k0_pay94 (F := Ideal) (iblk (F := Ideal) m c 0 t) w) (iblk (F := Ideal) m c 2 t) (iblk (F := Ideal) m c 3 t) (iblk (F := Ideal) m c 4 t)
        (ix2 a q) = turnedAt (aH m c) (aW m c) (aC m c) (aS m c) r g d := by
  have hd : d = ⟨q.val % 128, Nat.mod_lt _ (by decide)⟩ := Fin.ext (by show d.val = q.val % 128; omega)
  subst hd
  show turnAt _ _ _ _ a ⟨q.val / 128, by omega⟩ ⟨q.val % 128, by omega⟩ = _
  unfold turnAt turnedAt
  rw [iblk2_apply m c t a _ r hr, iblk3_apply m c t a _ r hr, iblk4_apply m c t a _ r hr,
    prod_apply m c t w hw a _ r ⟨g.val * 128 + q.val % 128, by omega⟩ hr (by show g.val * 128 + q.val % 128 = t.val / 16 * 512 + (q.val / 128 * 128 + q.val % 128); dsimp only at hk; omega),
    prod_apply m c t w hw a _ r ⟨g.val * 128 + (q.val % 128 + 16) % 128, by omega⟩ hr (by show g.val * 128 + (q.val % 128 + 16) % 128 = t.val / 16 * 512 + (q.val / 128 * 128 + (q.val % 128 + 16) % 128); dsimp only at hk; omega),
    prod_apply m c t w hw a _ r ⟨g.val * 128 + (q.val % 128 + 112) % 128, by omega⟩ hr (by show g.val * 128 + (q.val % 128 + 112) % 128 = t.val / 16 * 512 + (q.val / 128 * 128 + (q.val % 128 + 112) % 128); dsimp only at hk; omega)]

/-- A point's block of queries or keys. -/
theorem out8_turned (h1 : t.val < 80) (a : Fin 1024) (q : Fin 512) (r : Fin 16384) (g : Fin 24) (d : Fin 128)
    (hr : r.val = t.val % 16 * 1024 + a.val) (hk : g.val * 128 + d.val = t.val / 16 * 512 + q.val) :
    ((outsAt0 (F := Ideal) m c t.val t.isLt).1 : FVec Ideal S1024x512 .bf16) (ix2 a q) =
      turnedAt (aH m c) (aW m c) (aC m c) (aS m c) r g d := by
  by_cases h : t.val % 16 = 0
  · rw [outsAt0_A m c t h h1 (by omega)]
    dsimp only
    rw [outA]
    exact turn_apply m c t _ (fun x q k hk => by rw [pay90_apply, iblk1_apply m c t x q k hk]) a q r g d hr hk
  · rw [outsAt0_B m c t h h1 (by omega)]
    dsimp only
    rw [outB]
    exact turn_apply m c t _ (fun x q k hk => kept_before m c t h x q k hk) a q r g d hr hk

/-- A point's block of values. -/
theorem out8_plain (h1 : ¬t.val < 80) (a : Fin 1024) (q : Fin 512) (r : Fin 16384) (k : Fin 15360)
    (hr : r.val = t.val % 16 * 1024 + a.val) (hk : k.val = t.val / 16 * 512 + q.val) :
    ((outsAt0 (F := Ideal) m c t.val t.isLt).1 : FVec Ideal S1024x512 .bf16) (ix2 a q) = proj (aH m c) (aW m c) r k := by
  by_cases h : t.val % 16 = 0
  · rw [outsAt0_C m c t h h1 (by omega)]; frame_out
    rw [pay1_apply]
    exact prod_apply m c t _ (fun x q k hk => by rw [pay90_apply, iblk1_apply m c t x q k hk]) a q r k hr hk
  · rw [outsAt0_D m c t h h1 (by omega)]; frame_out
    simp only [read_unread_whole]
    rw [pay1_apply]
    exact prod_apply m c t _ (fun x q k hk => kept_before m c t h x q k hk) a q r k hr hk

end Blocks

/-! ## The result arrays -/

theorem final8 : (dats (F := Ideal) m 0 c).arrAt 8 cfg0.N = qkv (aH m c) (aW m c) (aC m c) (aS m c) := by
  refine (dats m 0 c).arrAt_eq_of_covers 8 _ (by decide +kernel) fun t hf (y : S1024x512.Idx) => ?_
  blk_simp
  rw [after0_8]
  have h0 : (y 0).val < 1024 := (y 0).isLt
  have h1 : (y 1).val < 512 := (y 1).isLt
  have ht := t_lt t
  have e0 : ((((View.whole main_v12_0).slice (win0_8.rect t)).emb y) 0).val = t.val % 16 * 1024 + (y 0).val := by
    show win0_8.index t (0 : Fin 2) * 1024 + 1 * (y 0).val = _; rw [(idx8 t).1]; omega
  have e1 : ((((View.whole main_v12_0).slice (win0_8.rect t)).emb y) 1).val = t.val / 16 * 512 + (y 1).val := by
    show win0_8.index t (1 : Fin 2) * 512 + 1 * (y 1).val = _; rw [(idx8 t).2]; omega
  refine Eq.trans (congrArg ((outsAt0 (F := Ideal) m c t.val t.isLt).1 : FVec Ideal S1024x512 .bf16) (eq_ix2 (n0 := 1024) (n1 := 512) y)) ?_
  unfold qkv
  by_cases h : t.val < 80
  · rw [if_pos (by rw [e1]; omega)]
    exact out8_turned m c t h (y 0) (y 1) _ _ _ e0 (by simp only [e1]; omega)
  · rw [if_neg (by rw [e1]; omega)]
    exact out8_plain m c t h (y 0) (y 1) _ _ e0 (by simp only [e1])

theorem final9 : (dats (F := Ideal) m 0 c).arrAt 9 cfg0.N = first2 (aP m c) := by
  refine (dats m 0 c).arrAt_eq_of_covers 9 _ (by decide +kernel) fun t hf (y : S32x4096.Idx) => ?_
  blk_simp
  rw [after0_9]
  have e : ((outsAt0 (F := Ideal) m c t.val t.isLt).2.1 : FVec Ideal S32x4096 .bf16) = k0_pay91 (F := Ideal) (iblk (F := Ideal) m c 5 t) := by
    by_cases h : t.val % 16 = 0 <;> by_cases h1 : t.val < 80
    · rw [outsAt0_A m c t h h1 (by omega)]; frame_out
    · rw [outsAt0_C m c t h h1 (by omega)]; frame_out
    · rw [outsAt0_B m c t h h1 (by omega)]; frame_out
    · rw [outsAt0_D m c t h h1 (by omega)]; frame_out
  have e0 : ((((View.whole main_v12_1).slice (win0_9.rect t)).emb y) 0).val = min t.val 63 * 32 + (y 0).val := by
    show win0_9.index t (0 : Fin 2) * 32 + 1 * (y 0).val = _; rw [(idx9 t).1]; omega
  have e1 : ((((View.whole main_v12_1).slice (win0_9.rect t)).emb y) 1) = (y 1 : Fin 4096) := Fin.ext (by
    show win0_9.index t (1 : Fin 2) * 4096 + 1 * (y 1).val = _; rw [(idx9 t).2]; omega)
  unfold first2
  rw [e, e1]
  refine Eq.trans ?_ ((pay91_apply (iblk (F := Ideal) m c 5 t) (y 0) (y 1)).trans (iblk5_apply m c t (y 0) (y 1) _ e0))
  exact congrArg (k0_pay91 (F := Ideal) (iblk (F := Ideal) m c 5 t)) (eq_ix2 (n0 := 32) (n1 := 4096) y)

theorem final10 : (dats (F := Ideal) m 0 c).arrAt 10 cfg0.N = first2 (aA m c) := by
  refine (dats m 0 c).arrAt_eq_of_covers 10 _ (by decide +kernel) fun t hf (y : S32x4096.Idx) => ?_
  blk_simp
  rw [after0_10]
  have e : ((outsAt0 (F := Ideal) m c t.val t.isLt).2.2.1 : FVec Ideal S32x4096 .bf16) = k0_pay92 (F := Ideal) (iblk (F := Ideal) m c 6 t) := by
    by_cases h : t.val % 16 = 0 <;> by_cases h1 : t.val < 80
    · rw [outsAt0_A m c t h h1 (by omega)]; frame_out
    · rw [outsAt0_C m c t h h1 (by omega)]; frame_out
    · rw [outsAt0_B m c t h h1 (by omega)]; frame_out
    · rw [outsAt0_D m c t h h1 (by omega)]; frame_out
  have e0 : ((((View.whole main_v12_2).slice (win0_10.rect t)).emb y) 0).val = min t.val 63 * 32 + (y 0).val := by
    show win0_10.index t (0 : Fin 2) * 32 + 1 * (y 0).val = _; rw [(idx10 t).1]; omega
  have e1 : ((((View.whole main_v12_2).slice (win0_10.rect t)).emb y) 1) = (y 1 : Fin 4096) := Fin.ext (by
    show win0_10.index t (1 : Fin 2) * 4096 + 1 * (y 1).val = _; rw [(idx10 t).2]; omega)
  unfold first2
  rw [e, e1]
  refine Eq.trans ?_ ((pay92_apply (iblk (F := Ideal) m c 6 t) (y 0) (y 1)).trans (iblk6_apply m c t (y 0) (y 1) _ e0))
  exact congrArg (k0_pay92 (F := Ideal) (iblk (F := Ideal) m c 6 t)) (eq_ix2 (n0 := 32) (n1 := 4096) y)

theorem final11 : (dats (F := Ideal) m 0 c).arrAt 11 cfg0.N = first4 (aO m c) := by
  refine (dats m 0 c).arrAt_eq_of_covers 11 _ (by decide +kernel) fun t hf (y : S64x4096.Idx) => ?_
  blk_simp
  rw [after0_11]
  have e : ((outsAt0 (F := Ideal) m c t.val t.isLt).2.2.2.1 : FVec Ideal S64x4096 .bf16) = k0_pay93 (F := Ideal) (iblk (F := Ideal) m c 7 t) := by
    by_cases h : t.val % 16 = 0 <;> by_cases h1 : t.val < 80
    · rw [outsAt0_A m c t h h1 (by omega)]; frame_out
    · rw [outsAt0_C m c t h h1 (by omega)]; frame_out
    · rw [outsAt0_B m c t h h1 (by omega)]; frame_out
    · rw [outsAt0_D m c t h h1 (by omega)]; frame_out
  have e0 : ((((View.whole main_v12_3).slice (win0_11.rect t)).emb y) 0).val = min t.val 63 * 64 + (y 0).val := by
    show win0_11.index t (0 : Fin 2) * 64 + 1 * (y 0).val = _; rw [(idx11 t).1]; omega
  have e1 : ((((View.whole main_v12_3).slice (win0_11.rect t)).emb y) 1) = (y 1 : Fin 4096) := Fin.ext (by
    show win0_11.index t (1 : Fin 2) * 4096 + 1 * (y 1).val = _; rw [(idx11 t).2]; omega)
  unfold first4
  rw [e, e1]
  refine Eq.trans ?_ ((pay93_apply (iblk (F := Ideal) m c 7 t) (y 0) (y 1)).trans (iblk7_apply m c t (y 0) (y 1) _ e0))
  exact congrArg (k0_pay93 (F := Ideal) (iblk (F := Ideal) m c 7 t)) (eq_ix2 (n0 := 64) (n1 := 4096) y)

/-- The run: it ends with the result arrays at those functions of the arguments, and these as they were. -/
theorem run : θ_run defs (onTc (τ := τ) (main (F := Ideal))) ⟨m, fun _ => 0, ρ⟩ fun r => ∀ c : Dev nD,
      r.2.mem ((c.tc : Thread nD τ).loc main_v12_0) = qkv (aH m c) (aW m c) (aC m c) (aS m c)
      ∧ r.2.mem ((c.tc : Thread nD τ).loc main_v12_1) = first2 (aP m c)
      ∧ r.2.mem ((c.tc : Thread nD τ).loc main_v12_2) = first2 (aA m c)
      ∧ r.2.mem ((c.tc : Thread nD τ).loc main_v12_3) = first4 (aO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 8).trans (final8 m c), ((h.1 c).1 9).trans (final9 m c), ((h.1 c).1 10).trans (final10 m c),
      ((h.1 c).1 11).trans (final11 m c), h.2 c⟩)
    (θ_run_and (run_main (F := Ideal) m ρ) (unchanged (F := Ideal) m ρ))

end Cert.QkvIdeal.Hand

end
-- ==== Proof.Qkv.Equal.lean ====
/-
  The query, key and value projection's result arrays are the reference's, for any arguments.
-/
module

public import proofs.«01_k».proof.Proof.Qkv.Value
public import proofs.«01_k».proof.Proof.Gen.QkvRefIdeal.Read
public import Idealize.ShloMosaic.PureOps.Ideal.Laws

@[expose] public section

set_option maxRecDepth 16384

noncomputable section

namespace Cert.QkvEqual

open Idealize.ShloMosaic Idealize.ShloMosaic.TcCoe Idealize.ShloMosaic.Tactic
open Cert.QkvIdeal (S16384x4096 S1x4096x15360 S16384x16 S1x2048x4096 S1x4096x4096 S16384x3072 S2048x4096 S4096x4096)
open Cert.QkvIdeal.Hand (tabC tabS tabS' proj turnedAt qkv first2 first4)
open Cert.QkvRefIdeal.Read

variable (H : FVec Ideal S16384x4096 .bf16) (W : FVec Ideal S1x4096x15360 .f32) (C S : FVec Ideal S16384x16 .f32)

/-! ## The tables at an index -/

theorem tabC_apply (r : Fin 16384) (d : Fin 128) : tabC C (ix2 r d) =
    if h : d.val < 16 then C (ix2 r ⟨d.val, h⟩) else if h : d.val - 16 < 16 then C (ix2 r ⟨d.val - 16, h⟩) else 1 := by
  pointwise [tabC]

theorem tabS_apply (r : Fin 16384) (d : Fin 128) : tabS S (ix2 r d) =
    if h : d.val < 16 then -S (ix2 r ⟨d.val, h⟩) else 0 := by
  pointwise [tabS]

theorem tabS'_apply (r : Fin 16384) (d : Fin 128) : tabS' S (ix2 r d) =
    if _h : d.val < 16 then 0 else if h : d.val - 16 < 16 then S (ix2 r ⟨d.val - 16, h⟩) else 0 := by
  pointwise [tabS']

/-! ## A turned entry, lane by lane -/

/-- The projection at equal columns. -/
theorem proj_congr (r : Fin 16384) {k k' : Fin 15360} (h : k.val = k'.val) : proj H W r k = proj H W r k' :=
  congrArg (proj H W r) (Fin.ext h)

variable (r : Fin 16384)

/-- The first sixteen lanes: the lane times the cosine less the lane 16 further times the sine; -/
theorem turned_first (g : Fin 24) (d : Fin 128) (b : Nat) (hb : b = g.val * 128) (h : d.val < 16) : turnedAt H W C S r g d =
    proj H W r ⟨b + d.val, by omega⟩ * C (ix2 r ⟨d.val, h⟩) - proj H W r ⟨b + (16 + d.val), by omega⟩ * S (ix2 r ⟨d.val, h⟩) := by
  subst hb
  unfold turnedAt
  rw [tabC_apply, tabS_apply, tabS'_apply, dif_pos h, dif_pos h, dif_pos h, mul_zero, add_zero, mul_neg, ← sub_eq_add_neg,
    proj_congr H W r (k := ⟨g.val * 128 + (d.val + 16) % 128, _⟩) (k' := ⟨g.val * 128 + (16 + d.val), by omega⟩) (by show _ + _ = _ + _; omega)]

/-- the next sixteen: the lane times the cosine and the lane 16 before times the sine; -/
theorem turned_second (g : Fin 24) (d : Fin 128) (b : Nat) (hb : b = g.val * 128) (h : ¬d.val < 16) (h' : d.val - 16 < 16) : turnedAt H W C S r g d =
    proj H W r ⟨b + (16 + (d.val - 16)), by omega⟩ * C (ix2 r ⟨d.val - 16, h'⟩) + proj H W r ⟨b + (d.val - 16), by omega⟩ * S (ix2 r ⟨d.val - 16, h'⟩) := by
  subst hb
  unfold turnedAt
  rw [tabC_apply, tabS_apply, tabS'_apply, dif_neg h, dif_neg h, dif_neg h, dif_pos h', dif_pos h', mul_zero, add_zero,
    proj_congr H W r (k := ⟨g.val * 128 + d.val, _⟩) (k' := ⟨g.val * 128 + (16 + (d.val - 16)), by omega⟩) (by show _ + _ = _ + _; omega),
    proj_congr H W r (k := ⟨g.val * 128 + (d.val + 112) % 128, _⟩) (k' := ⟨g.val * 128 + (d.val - 16), by omega⟩) (by show _ + _ = _ + _; omega)]

/-- the others: the lane itself. -/
theorem turned_rest (g : Fin 24) (d : Fin 128) (b : Nat) (hb : b = g.val * 128) (h : ¬d.val < 16) (h' : ¬d.val - 16 < 16) : turnedAt H W C S r g d =
    proj H W r ⟨b + (32 + (d.val - 16 - 16)), by omega⟩ := by
  subst hb
  unfold turnedAt
  rw [tabC_apply, tabS_apply, tabS'_apply, dif_neg h, dif_neg h, dif_neg h, dif_neg h', dif_neg h', mul_zero, add_zero, mul_zero, add_zero, mul_one]
  exact proj_congr H W r (by show _ + _ = _ + _; omega)

/-! ## The reference at an index -/

/-- The projection. -/
theorem proj_apply (k : Fin 15360) : (val_main_v2 (F := Ideal) H W) (ix2 r k) = proj H W r k := by
  unfold proj
  pointwise [val_main_v2, val_main_v1, val_main_v0]

/-- The queries' first sixteen lanes; -/
theorem v14_apply (g : Fin 16) (e : Fin 16) : (val_main_v14 (F := Ideal) H W C S) (ix3 r g e) =
    proj H W r ⟨g.val * 128 + e.val, by omega⟩ * C (ix2 r e) - proj H W r ⟨g.val * 128 + (16 + e.val), by omega⟩ * S (ix2 r e) := by
  rw [← proj_apply, ← proj_apply]
  pointwise [val_main_v14, val_main_v13, val_main_v12, val_main_v11, val_main_v10, val_main_v8, val_main_v7, val_main_v6, val_main_v5, val_main_v4, val_main_v3]

/-- the next sixteen; -/
theorem v19_apply (g : Fin 16) (e : Fin 16) : (val_main_v19 (F := Ideal) H W C S) (ix3 r g e) =
    proj H W r ⟨g.val * 128 + (16 + e.val), by omega⟩ * C (ix2 r e) + proj H W r ⟨g.val * 128 + e.val, by omega⟩ * S (ix2 r e) := by
  rw [← proj_apply, ← proj_apply]
  pointwise [val_main_v19, val_main_v18, val_main_v17, val_main_v16, val_main_v15, val_main_v8, val_main_v7, val_main_v6, val_main_v5, val_main_v4, val_main_v3]

/-- the others; -/
theorem v9_apply (g : Fin 16) (e : Fin 96) : (val_main_v9 (F := Ideal) H W) (ix3 r g e) =
    proj H W r ⟨g.val * 128 + (32 + e.val), by omega⟩ := by
  rw [← proj_apply]
  pointwise [val_main_v9, val_main_v8, val_main_v7, val_main_v6, val_main_v5, val_main_v4, val_main_v3]

/-- and every lane. -/
theorem v20_apply (g : Fin 16) (d : Fin 128) : (val_main_v20 (F := Ideal) H W C S) (ix3 r g d) =
    turnedAt H W C S r ⟨g.val, by omega⟩ d := by
  have e : (val_main_v20 (F := Ideal) H W C S) (ix3 r g d) =
      if h : d.val < 16 then (val_main_v14 (F := Ideal) H W C S) (ix3 r g ⟨d.val, h⟩)
      else if h : d.val - 16 < 16 then (val_main_v19 (F := Ideal) H W C S) (ix3 r g ⟨d.val - 16, h⟩)
      else (val_main_v9 (F := Ideal) H W) (ix3 r g ⟨d.val - 16 - 16, by omega⟩) := by
    pointwise [val_main_v20]
  rw [e]
  by_cases h : d.val < 16
  · rw [dif_pos h, v14_apply, turned_first H W C S r ⟨g.val, by omega⟩ d ((g.val) * 128) rfl h]
  by_cases h' : d.val - 16 < 16
  · rw [dif_neg h, dif_pos h', v19_apply, turned_second H W C S r ⟨g.val, by omega⟩ d ((g.val) * 128) rfl h h']
  · rw [dif_neg h, dif_neg h', v9_apply, turned_rest H W C S r ⟨g.val, by omega⟩ d ((g.val) * 128) rfl h h']

/-- The keys' first sixteen lanes; -/
theorem v31_apply (g : Fin 4) (e : Fin 16) : (val_main_v31 (F := Ideal) H W C S) (ix3 r g e) =
    proj H W r ⟨2048 + (g.val * 128 + e.val), by omega⟩ * C (ix2 r e) - proj H W r ⟨2048 + (g.val * 128 + (16 + e.val)), by omega⟩ * S (ix2 r e) := by
  rw [← proj_apply, ← proj_apply]
  pointwise [val_main_v31, val_main_v30, val_main_v29, val_main_v28, val_main_v27, val_main_v25, val_main_v24, val_main_v23, val_main_v22, val_main_v4, val_main_v3]

/-- the next sixteen; -/
theorem v36_apply (g : Fin 4) (e : Fin 16) : (val_main_v36 (F := Ideal) H W C S) (ix3 r g e) =
    proj H W r ⟨2048 + (g.val * 128 + (16 + e.val)), by omega⟩ * C (ix2 r e) + proj H W r ⟨2048 + (g.val * 128 + e.val), by omega⟩ * S (ix2 r e) := by
  rw [← proj_apply, ← proj_apply]
  pointwise [val_main_v36, val_main_v35, val_main_v34, val_main_v33, val_main_v32, val_main_v25, val_main_v24, val_main_v23, val_main_v22, val_main_v4, val_main_v3]

/-- the others; -/
theorem v26_apply (g : Fin 4) (e : Fin 96) : (val_main_v26 (F := Ideal) H W) (ix3 r g e) =
    proj H W r ⟨2048 + (g.val * 128 + (32 + e.val)), by omega⟩ := by
  rw [← proj_apply]
  pointwise [val_main_v26, val_main_v25, val_main_v24, val_main_v23, val_main_v22, val_main_v4, val_main_v3]

/-- and every lane. -/
theorem v37_apply (g : Fin 4) (d : Fin 128) : (val_main_v37 (F := Ideal) H W C S) (ix3 r g d) =
    turnedAt H W C S r ⟨16 + g.val, by omega⟩ d := by
  have e : (val_main_v37 (F := Ideal) H W C S) (ix3 r g d) =
      if h : d.val < 16 then (val_main_v31 (F := Ideal) H W C S) (ix3 r g ⟨d.val, h⟩)
      else if h : d.val - 16 < 16 then (val_main_v36 (F := Ideal) H W C S) (ix3 r g ⟨d.val - 16, h⟩)
      else (val_main_v26 (F := Ideal) H W) (ix3 r g ⟨d.val - 16 - 16, by omega⟩) := by
    pointwise [val_main_v37]
  rw [e]
  by_cases h : d.val < 16
  · rw [dif_pos h, v31_apply, turned_first H W C S r ⟨16 + g.val, by omega⟩ d ((16 + g.val) * 128) rfl h]
    exact congrArg₂ (fun a b => a * C (ix2 r ⟨d.val, h⟩) - b * S (ix2 r ⟨d.val, h⟩)) (proj_congr H W r (by dsimp only; omega)) (proj_congr H W r (by dsimp only; omega))
  by_cases h' : d.val - 16 < 16
  · rw [dif_neg h, dif_pos h', v36_apply, turned_second H W C S r ⟨16 + g.val, by omega⟩ d ((16 + g.val) * 128) rfl h h']
    exact congrArg₂ (fun a b => a * C (ix2 r ⟨d.val - 16, h'⟩) + b * S (ix2 r ⟨d.val - 16, h'⟩)) (proj_congr H W r (by dsimp only; omega)) (proj_congr H W r (by dsimp only; omega))
  · rw [dif_neg h, dif_neg h', v26_apply, turned_rest H W C S r ⟨16 + g.val, by omega⟩ d ((16 + g.val) * 128) rfl h h']
    exact proj_congr H W r (by dsimp only; omega)

/-- The values. -/
theorem v39_apply (k : Fin 512) : (val_main_v39 (F := Ideal) H W) (ix2 r k) = proj H W r ⟨2560 + k.val, by omega⟩ := by
  rw [← proj_apply]
  pointwise [val_main_v39]

/-- Every column of the reference's result. -/
theorem v41_apply (k : Fin 3072) : (val_main_v41 (F := Ideal) H W C S) (ix2 r k) =
    if h : k.val < 2048 then (val_main_v20 (F := Ideal) H W C S) (ix3 r ⟨k.val / 128, by omega⟩ ⟨k.val % 128, Nat.mod_lt _ (by decide)⟩)
    else if h : k.val - 2048 < 512 then (val_main_v37 (F := Ideal) H W C S) (ix3 r ⟨(k.val - 2048) / 128, by omega⟩ ⟨(k.val - 2048) % 128, Nat.mod_lt _ (by decide)⟩)
    else (val_main_v39 (F := Ideal) H W) (ix2 r ⟨k.val - 2048 - 512, by omega⟩) := by
  pointwise [val_main_v41, val_main_v40, val_main_v38, val_main_v21]

/-! ## The results agree -/

/-- The queries, keys and values agree at an index; -/
theorem qkv_at (k : Fin 3072) : qkv H W C S (ix2 r k) = (val_main_v41 (F := Ideal) H W C S) (ix2 r k) := by
  rw [v41_apply]
  show (if k.val < 2560 then turnedAt H W C S r ⟨k.val / 128, by omega⟩ ⟨k.val % 128, Nat.mod_lt _ (by decide)⟩ else proj H W r ⟨k.val, by omega⟩) = _
  by_cases h : k.val < 2048
  · rw [dif_pos h, if_pos (by omega), v20_apply]
  by_cases h' : k.val - 2048 < 512
  · rw [dif_neg h, dif_pos h', if_pos (by omega), v37_apply]
    exact congrArg₂ (turnedAt H W C S r) (Fin.ext (by dsimp only; omega)) (Fin.ext (by dsimp only; omega))
  · rw [dif_neg h, dif_neg h', if_neg (by omega), v39_apply]
    exact proj_congr H W r (by dsimp only; omega)

/-- so the arrays agree; -/
theorem heads : qkv H W C S = val_main_v41 (F := Ideal) H W C S := by
  refine funext fun (y : S16384x3072.Idx) => ?_
  rw [eq_ix2 (n0 := 16384) (n1 := 3072) y]
  exact qkv_at H W C S (y 0) (y 1)

/-- and so do the weights, of the spatial unit; -/
theorem weights_proj (U : FVec Ideal S1x2048x4096 .f32) : first2 U = val_main_v43 (F := Ideal) U := by
  refine funext fun (y : S2048x4096.Idx) => ?_
  rw [eq_ix2 (n0 := 2048) (n1 := 4096) y]
  refine Eq.symm (Eq.trans (b := U (ix3 (n0 := 1) (n1 := 2048) (n2 := 4096) 0 (y 0) (y 1))) ?_ rfl)
  pointwise [val_main_v43, val_main_v42]

/-- and so do the weights, of the attention; -/
theorem weights_attn (U : FVec Ideal S1x2048x4096 .f32) : first2 U = val_main_v45 (F := Ideal) U := by
  refine funext fun (y : S2048x4096.Idx) => ?_
  rw [eq_ix2 (n0 := 2048) (n1 := 4096) y]
  refine Eq.symm (Eq.trans (b := U (ix3 (n0 := 1) (n1 := 2048) (n2 := 4096) 0 (y 0) (y 1))) ?_ rfl)
  pointwise [val_main_v45, val_main_v44]

/-- and so do the weights, of the output. -/
theorem weights_out (U : FVec Ideal S1x4096x4096 .f32) : first4 U = val_main_v47 (F := Ideal) U := by
  refine funext fun (y : S4096x4096.Idx) => ?_
  rw [eq_ix2 (n0 := 4096) (n1 := 4096) y]
  refine Eq.symm (Eq.trans (b := U (ix3 (n0 := 1) (n1 := 4096) (n2 := 4096) 0 (y 0) (y 1))) ?_ rfl)
  pointwise [val_main_v47, val_main_v46]

end Cert.QkvEqual

end
-- ==== Proof.Ada.Value.lean ====
/-
  The modulation's result over the extended reals, as one function of the arguments, and the run with the result array at it.
-/
module

public import proofs.«01_k».proof.Proof.Gen.AdaIdeal.Frame
public import proofs.«01_k».proof.Proof.Gen.AdaIdeal.Points
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdaIdeal.Hand

open Idealize.ShloMosaic Idealize.ShloMosaic.TcCoe Idealize.ShloMosaic.Tactic Idealize.SL.Sem
open Cert.AdaIdeal Cert.AdaIdeal.Gen

/-- The block's product with the rectified conditioning rows, and the bias. -/
theorem pay1_apply (v : Vec Ideal S8x4096 .f32) (w : Vec Ideal S4096x1024 .f32) (b : Vec Ideal S1x1024 .f32) (a : Fin 8) (q : Fin 1024) :
    (k0_pay1 (F := Ideal) v w b : FVec Ideal S8x1024 .f32) (ix2 a q) =
      (∑ x : Fin 4096, (v : FVec Ideal S8x4096 .f32) (ix2 a x) * Ideal.logistic ((v : FVec Ideal S8x4096 .f32) (ix2 a x))
          * (w : FVec Ideal S4096x1024 .f32) (ix2 x q)) + (b : FVec Ideal S1x1024 .f32) (ix2 0 q) := by
  unfold k0_pay1
  pointwise []

/-- The same of the padded rows. -/
def modAll (P : FVec Ideal S8x4096 .f32) (W : FVec Ideal S1x4096x24576 .f32) (B : FVec Ideal S1x24576 .f32) : FVec Ideal S8x24576 .f32 := fun y =>
  (∑ x : Fin 4096, P (ix2 (n0 := 8) (y 0) x) * Ideal.logistic (P (ix2 (n0 := 8) (y 0) x)) * W (ix3 (n0 := 1) (n2 := 24576) 0 x (y 1)))
    + B (ix2 (n0 := 1) (n1 := 24576) 0 (y 1))

/-- The modulation: the rectified conditioning rows by the weights, and the bias. -/
def mod (C : FVec Ideal S4x4096 .f32) (W : FVec Ideal S1x4096x24576 .f32) (B : FVec Ideal S1x24576 .f32) : FVec Ideal S4x24576 .f32 := fun y =>
  (∑ x : Fin 4096, C (ix2 (n0 := 4) (y 0) x) * Ideal.logistic (C (ix2 (n0 := 4) (y 0) x)) * W (ix3 (n0 := 1) (n2 := 24576) 0 x (y 1)))
    + B (ix2 (n0 := 1) (n1 := 24576) 0 (y 1))

variable (m : (ℓ : Loc nD τ sig) → Buf (Elt Ideal) ℓ) (ρ : Dev nD → PrngReg) (c : Dev nD)

/-- The arguments. -/
abbrev aC : FVec Ideal S4x4096 .f32 := m ((c : Thread nD τ).loc main_arg0)
abbrev aW : FVec Ideal S1x4096x24576 .f32 := m ((c : Thread nD τ).loc main_arg1)
abbrev aB : FVec Ideal S1x24576 .f32 := m ((c : Thread nD τ).loc main_arg2)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-! ## The arrays as the region finds them -/

/-- The padded conditioning rows: below the fourth row the argument. -/
theorem V_main_v0 (a : Fin 8) (h : a.val < 4) (x : Fin 4096) :
    (V (F := Ideal) m c main_v0 : FVec Ideal S8x4096 .f32) (ix2 a x) = aC m c (ix2 ⟨a.val, h⟩ x) := by
  have e : (V (F := Ideal) m c main_v0 : FVec Ideal S8x4096 .f32) =
      pad S8x4096 ![0, 0] ![4, 0] ![0, 0] (aC m c) (sitofp (F := Ideal) .f32 (constantI S_ 32 0#32)) pads_S4x4096_S8x4096_040_000 h_S_ := by
    show StableHlo.after (hostOps0 ++ (hostOps0_1 ++ (hostOps0_2 ++ []))) (fun b => m (c, b)) main_v0 = _
    simp only [hostOps0, hostOps0_1, hostOps0_2, List.cons_append, List.nil_append]
    after_results
    rfl
  rw [e]
  pointwise []
  rw [dif_pos h]

theorem V_main_v1 (x : Fin 4096) (k : Fin 24576) : (V (F := Ideal) m c main_v1 : FVec Ideal S4096x24576 .f32) (ix2 x k) = aW m c (ix3 0 x k) := by
  have e : (V (F := Ideal) m c main_v1 : FVec Ideal S4096x24576 .f32) = shapeCast S4096x24576 (aW m c) shapeCasts_S1x4096x24576_S4096x24576 := by
    show StableHlo.after (hostOps0 ++ (hostOps0_1 ++ (hostOps0_2 ++ []))) (fun b => m (c, b)) main_v1 = _
    simp only [hostOps0, hostOps0_1, hostOps0_2, List.cons_append, List.nil_append]
    after_results
    rfl
  rw [e]
  pointwise []

theorem V_main_v3 (k : Fin 24576) : (V (F := Ideal) m c main_v3 : FVec Ideal S1x24576 .f32) (ix2 0 k) = aB m c (ix2 0 k) := by
  have e : (V (F := Ideal) m c main_v3 : FVec Ideal S1x24576 .f32) =
      shapeCast S1x24576 (shapeCast S24576 (aB m c) shapeCasts_S1x24576_S24576) shapeCasts_S24576_S1x24576 := by
    show StableHlo.after (hostOps0 ++ (hostOps0_1 ++ (hostOps0_2 ++ []))) (fun b => m (c, b)) main_v3 = _
    simp only [hostOps0, hostOps0_1, hostOps0_2, List.cons_append, List.nil_append]
    after_results
    rfl
  rw [e]
  pointwise []

section Blocks

variable (t : Fin cfg0.N)

theorem iblk0_apply (a : Fin 8) (x : Fin 4096) :
    (iblk (F := Ideal) m c 0 t : FVec Ideal S8x4096 .f32) (ix2 a x) = (V (F := Ideal) m c main_v0 : FVec Ideal S8x4096 .f32) (ix2 a x) := by
  refine congrArg (V (F := Ideal) m c main_v0 : FVec Ideal S8x4096 .f32) (funext fun y => Fin.ext ?_)
  match y with
  | ⟨0, _⟩ => show win0_0.index t (0 : Fin 2) * 8 + 1 * a.val = a.val; rw [(idx0 t).1]; omega
  | ⟨1, _⟩ => show win0_0.index t (1 : Fin 2) * 4096 + 1 * x.val = x.val; rw [(idx0 t).2]; omega

theorem iblk1_apply (x : Fin 4096) (q : Fin 1024) (k : Fin 24576) (hk : k.val = t.val * 1024 + q.val) :
    (iblk (F := Ideal) m c 1 t : FVec Ideal S4096x1024 .f32) (ix2 x q) = aW m c (ix3 0 x k) := by
  refine Eq.trans ?_ (V_main_v1 m c x k)
  refine congrArg (V (F := Ideal) m c main_v1 : FVec Ideal S4096x24576 .f32) (funext fun y => Fin.ext ?_)
  match y with
  | ⟨0, _⟩ => show win0_1.index t (0 : Fin 2) * 4096 + 1 * x.val = x.val; rw [(idx1 t).1]; omega
  | ⟨1, _⟩ => show win0_1.index t (1 : Fin 2) * 1024 + 1 * q.val = k.val; rw [(idx1 t).2]; omega

theorem iblk2_apply (q : Fin 1024) (k : Fin 24576) (hk : k.val = t.val * 1024 + q.val) :
    (iblk (F := Ideal) m c 2 t : FVec Ideal S1x1024 .f32) (ix2 0 q) = aB m c (ix2 0 k) := by
  refine Eq.trans ?_ (V_main_v3 m c k)
  refine congrArg (V (F := Ideal) m c main_v3 : FVec Ideal S1x24576 .f32) (funext fun y => Fin.ext ?_)
  match y with
  | ⟨0, _⟩ => show win0_2.index t (0 : Fin 2) * 1 + 1 * 0 = 0; rw [(idx2 t).1]
  | ⟨1, _⟩ => show win0_2.index t (1 : Fin 2) * 1024 + 1 * q.val = k.val; rw [(idx2 t).2]; omega

/-- A point's block. -/
theorem out3_apply (a : Fin 8) (q : Fin 1024) (k : Fin 24576) (hk : k.val = t.val * 1024 + q.val) :
    (out0_3 (F := Ideal) (iblk m c 0 t) (iblk m c 1 t) (iblk m c 2 t) : FVec Ideal S8x1024 .f32) (ix2 a q) =
      modAll (V (F := Ideal) m c main_v0) (aW m c) (aB m c) (ix2 a k) := by
  have e : (out0_3 (F := Ideal) (iblk m c 0 t) (iblk m c 1 t) (iblk m c 2 t) : FVec Ideal S8x1024 .f32) =
      k0_pay1 (F := Ideal) (iblk m c 0 t) (iblk m c 1 t) (iblk m c 2 t) := by
    unfold out0_3; frame_out
  rw [e, pay1_apply]
  refine congrArg₂ (· + ·) (Finset.sum_congr rfl fun x _ => ?_) (iblk2_apply m c t q k hk)
  rw [iblk0_apply m c t a x, iblk1_apply m c t x q k hk]
  rfl

end Blocks

/-! ## The result array -/

/-- The region's array. -/
theorem final3 : (dats (F := Ideal) m 0 c).arrAt 3 cfg0.N = modAll (V (F := Ideal) m c main_v0) (aW m c) (aB m c) := by
  refine (dats m 0 c).arrAt_eq_of_covers 3 _ (by decide +kernel) fun t hf (y : S8x1024.Idx) => ?_
  blk_simp
  rw [after0_3]
  have e0 : ((((View.whole main_v4).slice (win0_3.rect t)).emb y) 0) = (y 0 : Fin 8) := Fin.ext (by
    show win0_3.index t (0 : Fin 2) * 8 + 1 * (y 0).val = _; rw [(idx3 t).1]; omega)
  have e1 : ((((View.whole main_v4).slice (win0_3.rect t)).emb y) 1).val = t.val * 1024 + (y 1).val := by
    show win0_3.index t (1 : Fin 2) * 1024 + 1 * (y 1).val = _; rw [(idx3 t).2]; omega
  refine Eq.trans ?_ ((out3_apply m c t (y 0) (y 1) _ e1).trans ?_)
  · exact congrArg (out0_3 (F := Ideal) (iblk m c 0 t) (iblk m c 1 t) (iblk m c 2 t) : FVec Ideal S8x1024 .f32) (eq_ix2 (n0 := 8) (n1 := 1024) y)
  · exact congrArg (modAll (V (F := Ideal) m c main_v0) (aW m c) (aB m c))
      ((congrArg (fun a : Fin 8 => ix2 a _) e0.symm).trans (eq_ix2 (n0 := 8) (n1 := 24576) (((View.whole main_v4).slice (win0_3.rect t)).emb y)).symm)

/-- The sliced rows of the region's array are the modulation. -/
theorem tail_eq : Pipeline.afterTail₀ cfgs (dats (F := Ideal) m) 0 (V0 m) [hostOps1] c main_v5 = mod (aC m c) (aW m c) (aB m c) := by
  have e : Pipeline.afterTail₀ cfgs (dats (F := Ideal) m) 0 (V0 m) [hostOps1] c main_v5 =
      extractStridedSlice S4x24576 ![0, 0] ((dats (F := Ideal) m 0 c).arrAt 3 cfg0.N : FVec Ideal S8x24576 .f32) slices_S8x24576_S4x24576_0_0 := by
    unfold Pipeline.afterTail₀
    show StableHlo.after hostOps1 _ (Proc.devRef .tc main_v5) = _
    after_results
    refine congrArg (fun x : FVec Ideal S8x24576 .f32 => extractStridedSlice S4x24576 ![0, 0] x slices_S8x24576_S4x24576_0_0) ?_
    exact Pipeline.withArrays_arr spec0 (by decide) c _ (fun w => (dats (F := Ideal) m 0 c).arrAt w cfg0.N) 3
  rw [e, final3]
  refine funext fun (y : S4x24576.Idx) => ?_
  rw [eq_ix2 (n0 := 4) (n1 := 24576) y]
  have h0 : (y 0).val < 4 := (y 0).isLt
  refine Eq.trans (b := modAll (V (F := Ideal) m c main_v0) (aW m c) (aB m c) (ix2 (n0 := 8) (n1 := 24576) ⟨(y 0).val, by omega⟩ (y 1))) ?_ ?_
  · generalize modAll (V (F := Ideal) m c main_v0) (aW m c) (aB m c) = A
    pointwise []
  · refine congrArg₂ (· + ·) (Finset.sum_congr rfl fun x _ => ?_) rfl
    have e := V_main_v0 m c ⟨(y 0).val, by omega⟩ h0 x
    exact congrArg₂ (· * ·) (congrArg₂ (· * ·) e (congrArg Ideal.logistic e)) rfl

/-- The run: it ends with the result array at that function of the arguments, and these as they were. -/
theorem run : θ_run defs (onTc (τ := τ) (main (F := Ideal))) ⟨m, fun _ => 0, ρ⟩ fun r => ∀ c : Dev nD,
      r.2.mem ((c.tc : Thread nD τ).loc main_v5) = mod (aC m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).2 main_v5 (by decide)).trans (tail_eq m c), h.2 c⟩)
    (θ_run_and (run_main (F := Ideal) m ρ) (unchanged (F := Ideal) m ρ))

end Cert.AdaIdeal.Hand

end
-- ==== Proof.Ada.Equal.lean ====
/-
  The modulation's result array is the reference's, for any arguments.
-/
module

public import proofs.«01_k».proof.Proof.Ada.Value
public import proofs.«01_k».proof.Proof.Gen.AdaRefIdeal.Read
public import Idealize.ShloMosaic.PureOps.Ideal.Laws

@[expose] public section

set_option maxRecDepth 16384

noncomputable section

namespace Cert.AdaEqual

open Idealize.ShloMosaic Idealize.ShloMosaic.TcCoe Idealize.ShloMosaic.Tactic
open Cert.AdaIdeal (S4x4096 S1x4096x24576 S1x24576 S4x24576)
open Cert.AdaRefIdeal.Read

variable (C : FVec Ideal S4x4096 .f32) (W : FVec Ideal S1x4096x24576 .f32) (B : FVec Ideal S1x24576 .f32)

/-- The reference's rectifier at an index. -/
theorem silu_apply (r : Fin 4) (x : Fin 4096) : (val_main_v0 (F := Ideal) C) (ix2 r x) = C (ix2 r x) * Ideal.logistic (C (ix2 r x)) := by
  unfold Ideal.logistic
  pointwise [val_main_v0, val_main_call0_v0, val_main_call0_v1, val_main_call0_v2, val_main_call0_v3, val_main_call0_v4, val_main_call0_v5, val_main_call0_cst, val_main_call0_cst_0]

/-- The reference's result at an index. -/
theorem mod_apply (r : Fin 4) (k : Fin 24576) : (val_main_v6 (F := Ideal) C W B) (ix2 r k) =
    (∑ x : Fin 4096, C (ix2 r x) * Ideal.logistic (C (ix2 r x)) * W (ix3 0 x k)) + B (ix2 0 k) := by
  pointwise [val_main_v6, val_main_v5, val_main_v4, val_main_v3, val_main_v2, val_main_v1]
  refine congrArg (· + B (ix2 0 k)) (Finset.sum_congr rfl fun x _ => ?_)
  rw [silu_apply]

/-- The modulations agree. -/
theorem mod : AdaIdeal.Hand.mod C W B = val_main_v6 (F := Ideal) C W B := by
  refine funext fun (y : S4x24576.Idx) => ?_
  rw [eq_ix2 (n0 := 4) (n1 := 24576) y]
  exact Eq.symm ((mod_apply C W B (y 0) (y 1)).trans rfl)

end Cert.AdaEqual

end
-- ==== Proof.Prenorm.Stored.lean ====
/-
  The prenorm's stores, each read as one function of the block's coordinates, and with them the four blocks the body leaves:
  the rows normalised and modulated, and the three rotary tables.
-/
module

public import proofs.«01_k».proof.Proof.Gen.PrenormIdeal.Frame
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.PrenormIdeal.Hand

open Idealize.ShloMosaic Idealize.ShloMosaic.TcCoe Idealize.ShloMosaic.Tactic
open Cert.PrenormIdeal Cert.PrenormIdeal.Gen

/-! ## The vectors at an index -/

/-- A row's entries over the root of their mean square, by a gain and a shift. -/
def scaled (f : Fin 4096 → EReal) (g b : EReal) (k : Fin 4096) : EReal :=
  f k * Ideal.rsqrt (Ideal.div (∑ k : Fin 4096, f k * f k) (Ideal.ofBits .f32 0x45800000#32) + Ideal.ofBits .f32 0x358637BD#32) * g + b

/-- The normalised rows of a store. -/
theorem rows_apply (g b : FVec Ideal S1x4096 .f32) (v : Vec Ideal S8x4096 .f32) (r : Fin 8) (k : Fin 4096) :
    (k0_pay83 (F := Ideal) g b v : FVec Ideal S8x4096 .bf16) (ix2 r k) =
      scaled (fun k => (v : FVec Ideal S8x4096 .f32) (ix2 r k)) (g (ix2 0 k)) (b (ix2 0 k)) k := by
  unfold k0_pay83 scaled
  pointwise []

/-- The gain. -/
theorem gain_apply (v : Vec Ideal S1x4096 .f32) (s : Vec Ideal S1x1x4096 .f32) (k : Fin 4096) :
    (k0_pay2 (F := Ideal) v s : FVec Ideal S1x4096 .f32) (ix2 0 k) =
      (v : FVec Ideal S1x4096 .f32) (ix2 0 k) * (Ideal.ofBits .f32 0x3F800000#32 + (s : FVec Ideal S1x1x4096 .f32) (ix3 0 0 k)) := by
  unfold k0_pay2
  pointwise []

/-- The shift. -/
theorem shift_apply (s : Vec Ideal S1x1x4096 .f32) (k : Fin 4096) :
    (k0_pay3 (F := Ideal) s : FVec Ideal S1x4096 .f32) (ix2 0 k) = (s : FVec Ideal S1x1x4096 .f32) (ix3 0 0 k) := by
  unfold k0_pay3
  pointwise []

/-- The lanes' numbers. -/
abbrev lanes : IVec S64x128 32 := iota .tc S64x128 32 [1] iota_S64x128_d1_w32

/-- The first table's entry at a lane, from a position and a frequency. -/
def cosAt (p f : EReal) (l : Fin 128) : EReal := if l.val < 32 then Ideal.cos (p * f) else Ideal.ofBits .f32 0x3F800000#32
/-- The second table's. -/
def sinAt (p f : EReal) (l : Fin 128) : EReal :=
  if l.val < 16 then Ideal.ofBits .f32 0x00000000#32 - Ideal.sin (p * f) else Ideal.ofBits .f32 0x00000000#32
/-- The third table's. -/
def sinAt' (p f : EReal) (l : Fin 128) : EReal :=
  if 16 ≤ l.val ∧ l.val < 32 then Ideal.sin (p * f) else Ideal.ofBits .f32 0x00000000#32

/-- The first table's rows. -/
theorem cos_apply (p : Vec Ideal S64x1 .f32) (f : Vec Ideal S1x128 .f32) (r : Fin 64) (l : Fin 128) :
    (k0_pay86 (F := Ideal) lanes p f : FVec Ideal S64x128 .f32) (ix2 r l) =
      cosAt ((p : FVec Ideal S64x1 .f32) (ix2 r 0)) ((f : FVec Ideal S1x128 .f32) (ix2 0 l)) l := by
  unfold k0_pay86 k0_pay84 cosAt
  pointwise [lanes]
  rw [WordCmp.cmpi_slt_ofNat (by omega) (by omega)]
  by_cases h : l.val < 32
  · rw [if_pos h, decide_eq_true h]; rfl
  · rw [if_neg h, decide_eq_false h]; rfl

/-- The second table's rows. -/
theorem sin_apply (p : Vec Ideal S64x1 .f32) (f : Vec Ideal S1x128 .f32) (r : Fin 64) (l : Fin 128) :
    (k0_pay87 (F := Ideal) lanes p f : FVec Ideal S64x128 .f32) (ix2 r l) =
      sinAt ((p : FVec Ideal S64x1 .f32) (ix2 r 0)) ((f : FVec Ideal S1x128 .f32) (ix2 0 l)) l := by
  unfold k0_pay87 k0_pay85 k0_pay84 sinAt
  pointwise [lanes]
  rw [WordCmp.cmpi_slt_ofNat (by omega) (by omega)]
  by_cases h : l.val < 16
  · rw [if_pos h, decide_eq_true h]; rfl
  · rw [if_neg h, decide_eq_false h]; rfl

/-- The third table's rows. -/
theorem sin'_apply (p : Vec Ideal S64x1 .f32) (f : Vec Ideal S1x128 .f32) (r : Fin 64) (l : Fin 128) :
    (k0_pay88 (F := Ideal) lanes p f : FVec Ideal S64x128 .f32) (ix2 r l) =
      sinAt' ((p : FVec Ideal S64x1 .f32) (ix2 r 0)) ((f : FVec Ideal S1x128 .f32) (ix2 0 l)) l := by
  unfold k0_pay88 k0_pay85 k0_pay84 sinAt'
  pointwise [lanes]
  rw [WordCmp.cmpi_slt_ofNat (by omega) (by omega), WordCmp.cmpi_sge_ofNat (by omega) (by omega), WordCmp.andi_ofBool]
  by_cases h : 16 ≤ l.val ∧ l.val < 32
  · rw [if_pos h, decide_eq_true h.1, decide_eq_true h.2]; rfl
  · rw [if_neg h]
    rcases not_and_or.1 h with h | h
    · rw [decide_eq_false h]; rfl
    · rw [decide_eq_false h, Bool.and_false]; rfl

/-! ## The blocks -/

/-- An entry of the normalised block. -/
def normAt (x0 : FVec Ideal S512x4096 .f32) (x1 : FVec Ideal S1x4096 .f32) (x2 x3 : FVec Ideal S1x1x4096 .f32) (q : Fin 512) (k : Fin 4096) : EReal :=
  scaled (fun k => x0 (ix2 q k)) (x1 (ix2 0 k) * (Ideal.ofBits .f32 0x3F800000#32 + x3 (ix3 0 0 k))) (x2 (ix3 0 0 k)) k

/-- The normalised block. -/
def normBlock (x0 : FVec Ideal S512x4096 .f32) (x1 : FVec Ideal S1x4096 .f32) (x2 x3 : FVec Ideal S1x1x4096 .f32) : FVec Ideal S512x4096 .bf16 :=
  fun y => normAt x0 x1 x2 x3 (y 0) (y 1)

/-- An entry of a table's block. -/
def tableAt (T : EReal → EReal → Fin 128 → EReal) (x4 : FVec Ideal S512x1 .f32) (x5 : FVec Ideal S1x128 .f32) (q : Fin 512) (l : Fin 128) : EReal :=
  T (x4 (ix2 q 0)) (x5 (ix2 0 l)) l

/-- A table's block, of the positions, the frequencies and an entry's function of them. -/
def tableBlock (T : EReal → EReal → Fin 128 → EReal) (x4 : FVec Ideal S512x1 .f32) (x5 : FVec Ideal S1x128 .f32) : FVec Ideal S512x128 .f32 :=
  fun y => tableAt T x4 x5 (y 0) (y 1)

variable (x0 : FVec Ideal S512x4096 .f32) (x1 : FVec Ideal S1x4096 .f32) (x2 x3 : FVec Ideal S1x1x4096 .f32) (x4 : FVec Ideal S512x1 .f32)
  (x5 : FVec Ideal S1x128 .f32)

/-! ## The loads -/

/-- Eight rows. -/
theorem load_rows (lo : Nat) (inb : ∀ a, (![lo, 0] : Fin 2 → Nat) a + S8x4096.size a ≤ S512x4096.size a) (r : Fin 8) (k : Fin 4096) (q : Fin 512)
    (hq : q.val = lo + r.val) :
    (View.ld (Val := Elt Ideal) (e' := .f32) x0 (Rect.unit (s := S512x4096) ![lo, 0] S8x4096.size inb) : FVec Ideal S8x4096 .f32) (ix2 r k) = x0 (ix2 q k) := by
  refine View.ld_unit_apply_of (S := S512x4096) (Val := Elt Ideal) (e := .f32) x0 _ S8x4096.size inb (ix2 r k) _ fun a => ?_
  match a with
  | 0 => exact hq
  | 1 => show k.val = 0 + k.val; omega

/-- The norm's gain. -/
theorem load_gain (inb : ∀ a, (![0, 0] : Fin 2 → Nat) a + S1x4096.size a ≤ S1x4096.size a) (k : Fin 4096) :
    (View.ld (Val := Elt Ideal) (e' := .f32) x1 (Rect.unit (s := S1x4096) ![0, 0] S1x4096.size inb) : FVec Ideal S1x4096 .f32) (ix2 0 k) = x1 (ix2 0 k) := by
  refine View.ld_unit_apply_of (S := S1x4096) (Val := Elt Ideal) (e := .f32) x1 _ S1x4096.size inb (ix2 0 k) _ fun a => ?_
  match a with
  | 0 => rfl
  | 1 => show k.val = 0 + k.val; omega

/-- A modulation's row. -/
theorem load_mod (x : FVec Ideal S1x1x4096 .f32) (inb : ∀ a, (![0, 0, 0] : Fin 3 → Nat) a + S1x1x4096.size a ≤ S1x1x4096.size a) (k : Fin 4096) :
    (View.ld (Val := Elt Ideal) (e' := .f32) x (Rect.unit (s := S1x1x4096) ![0, 0, 0] S1x1x4096.size inb) : FVec Ideal S1x1x4096 .f32) (ix3 0 0 k) = x (ix3 0 0 k) := by
  refine View.ld_unit_apply_of (S := S1x1x4096) (Val := Elt Ideal) (e := .f32) x _ S1x1x4096.size inb (ix3 0 0 k) _ fun a => ?_
  match a with
  | 0 => rfl
  | 1 => rfl
  | 2 => show k.val = 0 + k.val; omega

/-- Sixty-four positions. -/
theorem load_pos (lo : Nat) (inb : ∀ a, (![lo, 0] : Fin 2 → Nat) a + S64x1.size a ≤ S512x1.size a) (r : Fin 64) (q : Fin 512) (hq : q.val = lo + r.val) :
    (View.ld (Val := Elt Ideal) (e' := .f32) x4 (Rect.unit (s := S512x1) ![lo, 0] S64x1.size inb) : FVec Ideal S64x1 .f32) (ix2 r 0) = x4 (ix2 q 0) := by
  refine View.ld_unit_apply_of (S := S512x1) (Val := Elt Ideal) (e := .f32) x4 _ S64x1.size inb (ix2 r 0) _ fun a => ?_
  match a with
  | 0 => exact hq
  | 1 => rfl

/-- The frequencies. -/
theorem load_freq (inb : ∀ a, (![0, 0] : Fin 2 → Nat) a + S1x128.size a ≤ S1x128.size a) (l : Fin 128) :
    (View.ld (Val := Elt Ideal) (e' := .f32) x5 (Rect.unit (s := S1x128) ![0, 0] S1x128.size inb) : FVec Ideal S1x128 .f32) (ix2 0 l) = x5 (ix2 0 l) := by
  refine View.ld_unit_apply_of (S := S1x128) (Val := Elt Ideal) (e := .f32) x5 _ S1x128.size inb (ix2 0 l) _ fun a => ?_
  match a with
  | 0 => rfl
  | 1 => show l.val = 0 + l.val; omega

/-! ## The stores -/

/-- An entry of the normalised rows, its operands the staged blocks' parts. -/
theorem stored_at (lo : Nat) (ir : ∀ a, (![lo, 0] : Fin 2 → Nat) a + S8x4096.size a ≤ S512x4096.size a)
    (ig : ∀ a, (![0, 0] : Fin 2 → Nat) a + S1x4096.size a ≤ S1x4096.size a) (im : ∀ a, (![0, 0, 0] : Fin 3 → Nat) a + S1x1x4096.size a ≤ S1x1x4096.size a)
    (r : Fin 8) (k : Fin 4096) (q : Fin 512) (hq : q.val = lo + r.val) :
    k0_pay83 (F := Ideal)
        (k0_pay2 (F := Ideal) (View.ld (Val := Elt Ideal) (e' := .f32) x1 (Rect.unit (s := S1x4096) ![0, 0] S1x4096.size ig))
          (View.ld (Val := Elt Ideal) (e' := .f32) x3 (Rect.unit (s := S1x1x4096) ![0, 0, 0] S1x1x4096.size im)))
        (k0_pay3 (F := Ideal) (View.ld (Val := Elt Ideal) (e' := .f32) x2 (Rect.unit (s := S1x1x4096) ![0, 0, 0] S1x1x4096.size im)))
        (View.ld (Val := Elt Ideal) (e' := .f32) x0 (Rect.unit (s := S512x4096) ![lo, 0] S8x4096.size ir)) (ix2 r k) =
      normAt x0 x1 x2 x3 q k := by
  refine (rows_apply _ _ _ r k).trans ?_
  unfold normAt
  rw [gain_apply, shift_apply, load_gain, load_mod, load_mod]
  exact congrArg (fun f => scaled f _ _ _) (funext fun k => load_rows x0 lo ir r k q hq)

/-- A store of normalised rows. -/
theorem stored (lo : Nat) (ir : ∀ a, (![lo, 0] : Fin 2 → Nat) a + S8x4096.size a ≤ S512x4096.size a)
    (ig : ∀ a, (![0, 0] : Fin 2 → Nat) a + S1x4096.size a ≤ S1x4096.size a) (im : ∀ a, (![0, 0, 0] : Fin 3 → Nat) a + S1x1x4096.size a ≤ S1x1x4096.size a)
    (x : (Rect.unit (s := S512x4096) ![lo, 0] S8x4096.size ir).shape.Idx) :
    k0_pay83 (F := Ideal)
        (k0_pay2 (F := Ideal) (View.ld (Val := Elt Ideal) (e' := .f32) x1 (Rect.unit (s := S1x4096) ![0, 0] S1x4096.size ig))
          (View.ld (Val := Elt Ideal) (e' := .f32) x3 (Rect.unit (s := S1x1x4096) ![0, 0, 0] S1x1x4096.size im)))
        (k0_pay3 (F := Ideal) (View.ld (Val := Elt Ideal) (e' := .f32) x2 (Rect.unit (s := S1x1x4096) ![0, 0, 0] S1x1x4096.size im)))
        (View.ld (Val := Elt Ideal) (e' := .f32) x0 (Rect.unit (s := S512x4096) ![lo, 0] S8x4096.size ir)) x =
      normBlock x0 x1 x2 x3 ((Rect.unit (s := S512x4096) ![lo, 0] S8x4096.size ir).emb x) := by
  have e : x = (ix2 (x 0) (x 1) : S8x4096.Idx) := eq_ix2 (n0 := 8) (n1 := 4096) x
  refine Eq.trans (congrArg (k0_pay83 (F := Ideal) _ _ _) e) ?_
  refine (stored_at x0 x1 x2 x3 lo ir ig im (x 0) (x 1) (((Rect.unit (s := S512x4096) ![lo, 0] S8x4096.size ir).emb x) 0) ?_).trans ?_
  · show lo + 1 * (x 0).val = lo + (x 0).val
    omega
  · refine congrArg (normAt x0 x1 x2 x3 _) (Fin.ext ?_)
    show (x 1).val = 0 + 1 * (x 1).val
    omega

/-- An entry of a table's rows. -/
theorem table_at (T : EReal → EReal → Fin 128 → EReal) (pay : Vec Ideal S64x1 .f32 → Vec Ideal S1x128 .f32 → FVec Ideal S64x128 .f32)
    (hT : ∀ p f r l, pay p f (ix2 r l) = T ((p : FVec Ideal S64x1 .f32) (ix2 r 0)) ((f : FVec Ideal S1x128 .f32) (ix2 0 l)) l)
    (lo : Nat) (ip : ∀ a, (![lo, 0] : Fin 2 → Nat) a + S64x1.size a ≤ S512x1.size a) (jf : ∀ a, (![0, 0] : Fin 2 → Nat) a + S1x128.size a ≤ S1x128.size a)
    (r : Fin 64) (l : Fin 128) (q : Fin 512) (hq : q.val = lo + r.val) :
    pay (View.ld (Val := Elt Ideal) (e' := .f32) x4 (Rect.unit (s := S512x1) ![lo, 0] S64x1.size ip))
        (View.ld (Val := Elt Ideal) (e' := .f32) x5 (Rect.unit (s := S1x128) ![0, 0] S1x128.size jf)) (ix2 r l) = tableAt T x4 x5 q l := by
  refine (hT _ _ r l).trans ?_
  unfold tableAt
  rw [load_freq, load_pos x4 lo ip r q hq]

/-- A table's store. -/
theorem stored_table (T : EReal → EReal → Fin 128 → EReal) (pay : Vec Ideal S64x1 .f32 → Vec Ideal S1x128 .f32 → FVec Ideal S64x128 .f32)
    (hT : ∀ p f r l, pay p f (ix2 r l) = T ((p : FVec Ideal S64x1 .f32) (ix2 r 0)) ((f : FVec Ideal S1x128 .f32) (ix2 0 l)) l)
    (lo : Nat) (it : ∀ a, (![lo, 0] : Fin 2 → Nat) a + S64x128.size a ≤ S512x128.size a)
    (ip : ∀ a, (![lo, 0] : Fin 2 → Nat) a + S64x1.size a ≤ S512x1.size a) (jf : ∀ a, (![0, 0] : Fin 2 → Nat) a + S1x128.size a ≤ S1x128.size a)
    (x : (Rect.unit (s := S512x128) ![lo, 0] S64x128.size it).shape.Idx) :
    pay (View.ld (Val := Elt Ideal) (e' := .f32) x4 (Rect.unit (s := S512x1) ![lo, 0] S64x1.size ip))
        (View.ld (Val := Elt Ideal) (e' := .f32) x5 (Rect.unit (s := S1x128) ![0, 0] S1x128.size jf)) x =
      tableBlock T x4 x5 ((Rect.unit (s := S512x128) ![lo, 0] S64x128.size it).emb x) := by
  have e : x = (ix2 (x 0) (x 1) : S64x128.Idx) := eq_ix2 (n0 := 64) (n1 := 128) x
  refine Eq.trans (congrArg (pay _ _) e) ?_
  refine (table_at x4 x5 T pay hT lo ip jf (x 0) (x 1) (((Rect.unit (s := S512x128) ![lo, 0] S64x128.size it).emb x) 0) ?_).trans ?_
  · show lo + 1 * (x 0).val = lo + (x 0).val
    omega
  · refine congrArg (tableAt T x4 x5 _) (Fin.ext ?_)
    show (x 1).val = 0 + 1 * (x 1).val
    omega

set_option maxHeartbeats 3200000 in
/-- The normalised block the body leaves. -/
theorem out6_eq : out0_6 (F := Ideal) x0 x1 x2 x3 x4 x5 = normBlock x0 x1 x2 x3 := by
  unfold out0_6
  refine funext fun y => ?_
  refine View.canon_apply_of_pieces (G := normBlock x0 x1 x2 x3) _ ?_ y (cover0_6 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact stored x0 x1 x2 x3 504 _ _ _
  · exact stored x0 x1 x2 x3 496 _ _ _
  · exact stored x0 x1 x2 x3 488 _ _ _
  · exact stored x0 x1 x2 x3 480 _ _ _
  · exact stored x0 x1 x2 x3 472 _ _ _
  · exact stored x0 x1 x2 x3 464 _ _ _
  · exact stored x0 x1 x2 x3 456 _ _ _
  · exact stored x0 x1 x2 x3 448 _ _ _
  · exact stored x0 x1 x2 x3 440 _ _ _
  · exact stored x0 x1 x2 x3 432 _ _ _
  · exact stored x0 x1 x2 x3 424 _ _ _
  · exact stored x0 x1 x2 x3 416 _ _ _
  · exact stored x0 x1 x2 x3 408 _ _ _
  · exact stored x0 x1 x2 x3 400 _ _ _
  · exact stored x0 x1 x2 x3 392 _ _ _
  · exact stored x0 x1 x2 x3 384 _ _ _
  · exact stored x0 x1 x2 x3 376 _ _ _
  · exact stored x0 x1 x2 x3 368 _ _ _
  · exact stored x0 x1 x2 x3 360 _ _ _
  · exact stored x0 x1 x2 x3 352 _ _ _
  · exact stored x0 x1 x2 x3 344 _ _ _
  · exact stored x0 x1 x2 x3 336 _ _ _
  · exact stored x0 x1 x2 x3 328 _ _ _
  · exact stored x0 x1 x2 x3 320 _ _ _
  · exact stored x0 x1 x2 x3 312 _ _ _
  · exact stored x0 x1 x2 x3 304 _ _ _
  · exact stored x0 x1 x2 x3 296 _ _ _
  · exact stored x0 x1 x2 x3 288 _ _ _
  · exact stored x0 x1 x2 x3 280 _ _ _
  · exact stored x0 x1 x2 x3 272 _ _ _
  · exact stored x0 x1 x2 x3 264 _ _ _
  · exact stored x0 x1 x2 x3 256 _ _ _
  · exact stored x0 x1 x2 x3 248 _ _ _
  · exact stored x0 x1 x2 x3 240 _ _ _
  · exact stored x0 x1 x2 x3 232 _ _ _
  · exact stored x0 x1 x2 x3 224 _ _ _
  · exact stored x0 x1 x2 x3 216 _ _ _
  · exact stored x0 x1 x2 x3 208 _ _ _
  · exact stored x0 x1 x2 x3 200 _ _ _
  · exact stored x0 x1 x2 x3 192 _ _ _
  · exact stored x0 x1 x2 x3 184 _ _ _
  · exact stored x0 x1 x2 x3 176 _ _ _
  · exact stored x0 x1 x2 x3 168 _ _ _
  · exact stored x0 x1 x2 x3 160 _ _ _
  · exact stored x0 x1 x2 x3 152 _ _ _
  · exact stored x0 x1 x2 x3 144 _ _ _
  · exact stored x0 x1 x2 x3 136 _ _ _
  · exact stored x0 x1 x2 x3 128 _ _ _
  · exact stored x0 x1 x2 x3 120 _ _ _
  · exact stored x0 x1 x2 x3 112 _ _ _
  · exact stored x0 x1 x2 x3 104 _ _ _
  · exact stored x0 x1 x2 x3 96 _ _ _
  · exact stored x0 x1 x2 x3 88 _ _ _
  · exact stored x0 x1 x2 x3 80 _ _ _
  · exact stored x0 x1 x2 x3 72 _ _ _
  · exact stored x0 x1 x2 x3 64 _ _ _
  · exact stored x0 x1 x2 x3 56 _ _ _
  · exact stored x0 x1 x2 x3 48 _ _ _
  · exact stored x0 x1 x2 x3 40 _ _ _
  · exact stored x0 x1 x2 x3 32 _ _ _
  · exact stored x0 x1 x2 x3 24 _ _ _
  · exact stored x0 x1 x2 x3 16 _ _ _
  · exact stored x0 x1 x2 x3 8 _ _ _
  · exact stored x0 x1 x2 x3 0 _ _ _

set_option maxHeartbeats 3200000 in
/-- The first table's block the body leaves. -/
theorem out7_eq : out0_7 (F := Ideal) x0 x1 x2 x3 x4 x5 = tableBlock cosAt x4 x5 := by
  unfold out0_7
  refine funext fun y => ?_
  refine View.canon_apply_of_pieces (G := tableBlock cosAt x4 x5) _ ?_ y (cover0_7 (F := Ideal) _ _ _ _ _ _ _ _ y)
  simp only [List.forall_mem_cons]
  refine ⟨?_, ?_, ?_, ?_, ?_, ?_, ?_, ?_, fun _ h => absurd h List.not_mem_nil⟩
  · exact stored_table x4 x5 cosAt (k0_pay86 (F := Ideal) lanes) cos_apply 448 inb_S512x128_S64x128_448_0 inb_S512x1_S64x1_448_0 inb_S1x128_S1x128_0_0
  · exact stored_table x4 x5 cosAt (k0_pay86 (F := Ideal) lanes) cos_apply 384 inb_S512x128_S64x128_384_0 inb_S512x1_S64x1_384_0 inb_S1x128_S1x128_0_0
  · exact stored_table x4 x5 cosAt (k0_pay86 (F := Ideal) lanes) cos_apply 320 inb_S512x128_S64x128_320_0 inb_S512x1_S64x1_320_0 inb_S1x128_S1x128_0_0
  · exact stored_table x4 x5 cosAt (k0_pay86 (F := Ideal) lanes) cos_apply 256 inb_S512x128_S64x128_256_0 inb_S512x1_S64x1_256_0 inb_S1x128_S1x128_0_0
  · exact stored_table x4 x5 cosAt (k0_pay86 (F := Ideal) lanes) cos_apply 192 inb_S512x128_S64x128_192_0 inb_S512x1_S64x1_192_0 inb_S1x128_S1x128_0_0
  · exact stored_table x4 x5 cosAt (k0_pay86 (F := Ideal) lanes) cos_apply 128 inb_S512x128_S64x128_128_0 inb_S512x1_S64x1_128_0 inb_S1x128_S1x128_0_0
  · exact stored_table x4 x5 cosAt (k0_pay86 (F := Ideal) lanes) cos_apply 64 inb_S512x128_S64x128_64_0 inb_S512x1_S64x1_64_0 inb_S1x128_S1x128_0_0
  · exact stored_table x4 x5 cosAt (k0_pay86 (F := Ideal) lanes) cos_apply 0 inb_S512x128_S64x128_0_0 inb_S512x1_S64x1_0_0 inb_S1x128_S1x128_0_0

set_option maxHeartbeats 3200000 in
/-- The second table's block the body leaves. -/
theorem out8_eq : out0_8 (F := Ideal) x0 x1 x2 x3 x4 x5 = tableBlock sinAt x4 x5 := by
  unfold out0_8
  refine funext fun y => ?_
  refine View.canon_apply_of_pieces (G := tableBlock sinAt x4 x5) _ ?_ y (cover0_8 (F := Ideal) _ _ _ _ _ _ _ _ y)
  simp only [List.forall_mem_cons]
  refine ⟨?_, ?_, ?_, ?_, ?_, ?_, ?_, ?_, fun _ h => absurd h List.not_mem_nil⟩
  · exact stored_table x4 x5 sinAt (k0_pay87 (F := Ideal) lanes) sin_apply 448 inb_S512x128_S64x128_448_0 inb_S512x1_S64x1_448_0 inb_S1x128_S1x128_0_0
  · exact stored_table x4 x5 sinAt (k0_pay87 (F := Ideal) lanes) sin_apply 384 inb_S512x128_S64x128_384_0 inb_S512x1_S64x1_384_0 inb_S1x128_S1x128_0_0
  · exact stored_table x4 x5 sinAt (k0_pay87 (F := Ideal) lanes) sin_apply 320 inb_S512x128_S64x128_320_0 inb_S512x1_S64x1_320_0 inb_S1x128_S1x128_0_0
  · exact stored_table x4 x5 sinAt (k0_pay87 (F := Ideal) lanes) sin_apply 256 inb_S512x128_S64x128_256_0 inb_S512x1_S64x1_256_0 inb_S1x128_S1x128_0_0
  · exact stored_table x4 x5 sinAt (k0_pay87 (F := Ideal) lanes) sin_apply 192 inb_S512x128_S64x128_192_0 inb_S512x1_S64x1_192_0 inb_S1x128_S1x128_0_0
  · exact stored_table x4 x5 sinAt (k0_pay87 (F := Ideal) lanes) sin_apply 128 inb_S512x128_S64x128_128_0 inb_S512x1_S64x1_128_0 inb_S1x128_S1x128_0_0
  · exact stored_table x4 x5 sinAt (k0_pay87 (F := Ideal) lanes) sin_apply 64 inb_S512x128_S64x128_64_0 inb_S512x1_S64x1_64_0 inb_S1x128_S1x128_0_0
  · exact stored_table x4 x5 sinAt (k0_pay87 (F := Ideal) lanes) sin_apply 0 inb_S512x128_S64x128_0_0 inb_S512x1_S64x1_0_0 inb_S1x128_S1x128_0_0

set_option maxHeartbeats 3200000 in
/-- The third table's block the body leaves. -/
theorem out9_eq : out0_9 (F := Ideal) x0 x1 x2 x3 x4 x5 = tableBlock sinAt' x4 x5 := by
  unfold out0_9
  refine funext fun y => ?_
  refine View.canon_apply_of_pieces (G := tableBlock sinAt' x4 x5) _ ?_ y (cover0_9 (F := Ideal) _ _ _ _ _ _ _ _ y)
  simp only [List.forall_mem_cons]
  refine ⟨?_, ?_, ?_, ?_, ?_, ?_, ?_, ?_, fun _ h => absurd h List.not_mem_nil⟩
  · exact stored_table x4 x5 sinAt' (k0_pay88 (F := Ideal) lanes) sin'_apply 448 inb_S512x128_S64x128_448_0 inb_S512x1_S64x1_448_0 inb_S1x128_S1x128_0_0
  · exact stored_table x4 x5 sinAt' (k0_pay88 (F := Ideal) lanes) sin'_apply 384 inb_S512x128_S64x128_384_0 inb_S512x1_S64x1_384_0 inb_S1x128_S1x128_0_0
  · exact stored_table x4 x5 sinAt' (k0_pay88 (F := Ideal) lanes) sin'_apply 320 inb_S512x128_S64x128_320_0 inb_S512x1_S64x1_320_0 inb_S1x128_S1x128_0_0
  · exact stored_table x4 x5 sinAt' (k0_pay88 (F := Ideal) lanes) sin'_apply 256 inb_S512x128_S64x128_256_0 inb_S512x1_S64x1_256_0 inb_S1x128_S1x128_0_0
  · exact stored_table x4 x5 sinAt' (k0_pay88 (F := Ideal) lanes) sin'_apply 192 inb_S512x128_S64x128_192_0 inb_S512x1_S64x1_192_0 inb_S1x128_S1x128_0_0
  · exact stored_table x4 x5 sinAt' (k0_pay88 (F := Ideal) lanes) sin'_apply 128 inb_S512x128_S64x128_128_0 inb_S512x1_S64x1_128_0 inb_S1x128_S1x128_0_0
  · exact stored_table x4 x5 sinAt' (k0_pay88 (F := Ideal) lanes) sin'_apply 64 inb_S512x128_S64x128_64_0 inb_S512x1_S64x1_64_0 inb_S1x128_S1x128_0_0
  · exact stored_table x4 x5 sinAt' (k0_pay88 (F := Ideal) lanes) sin'_apply 0 inb_S512x128_S64x128_0_0 inb_S512x1_S64x1_0_0 inb_S1x128_S1x128_0_0

end Cert.PrenormIdeal.Hand

end
-- ==== Proof.Prenorm.Value.lean ====
/-
  The prenorm's four results over the extended reals, each as one function of the arguments, and the run with the result arrays at
  them.
-/
module

public import proofs.«01_k».proof.Proof.Prenorm.Stored
public import proofs.«01_k».proof.Proof.Gen.PrenormIdeal.Points

@[expose] public section

set_option maxRecDepth 16384

noncomputable section

namespace Cert.PrenormIdeal.Hand

open Idealize.ShloMosaic Idealize.ShloMosaic.TcCoe Idealize.ShloMosaic.Tactic Idealize.SL.Sem
open Cert.PrenormIdeal Cert.PrenormIdeal.Gen

/-- The sixteen frequencies: powers of the base at the even lanes' negated shares. -/
def freqs : FVec Ideal S16 .f32 :=
  Host.powf (F := Ideal) (broadcastInDim S16 ![] bcast_S_S16 (constant (F := Ideal) S_ .f32 0x48F42400#32) : FVec Ideal S16 .f32)
    (Host.divf (F := Ideal) (Host.negf (F := Ideal) (addf (F := Ideal) (broadcastInDim S16 ![] bcast_S_S16 (constant (F := Ideal) S_ .f32 0x00000000#32) : FVec Ideal S16 .f32)
      (mulf (F := Ideal) (broadcastInDim S16 ![] bcast_S_S16 (constant (F := Ideal) S_ .f32 0x40000000#32) : FVec Ideal S16 .f32)
        (sitofp (F := Ideal) .f32 (iotaInDim S16 32 0)))))
      (broadcastInDim S16 ![] bcast_S_S16 (constant (F := Ideal) S_ .f32 0x42000000#32) : FVec Ideal S16 .f32))

/-- The frequencies lane by lane: twice the sixteen, then zeros. -/
def freqLanes : FVec Ideal S128 .f32 :=
  concatenate S128 0 [⟨S16, freqs⟩, ⟨S16, freqs⟩, ⟨S96, broadcastInDim S96 ![] bcast_S_S96 (constant (F := Ideal) S_ .f32 0x00000000#32)⟩]
    concatenates_S16_S16_S96_S128_d0

/-- The positions as numbers. -/
def places (P : IVec S4x4096 32) : FVec Ideal S4x4096 .f32 := sitofp (F := Ideal) .f32 P

/-- An entry of the normalised rows, of row `r` of the sequence `s`. -/
def outAt (X : FVec Ideal S16384x4096 .f32) (G : FVec Ideal S1x4096 .f32) (M : FVec Ideal S4x24576 .f32) (s : Fin 4) (r : Fin 16384) (k : Fin 4096) : EReal :=
  scaled (fun k => X (ix2 r k)) (G (ix2 0 k) * (Ideal.ofBits .f32 0x3F800000#32 + M (ix2 s ⟨4096 + k.val, by omega⟩))) (M (ix2 s ⟨k.val, by omega⟩)) k

/-- The normalised rows. -/
def out (X : FVec Ideal S16384x4096 .f32) (G : FVec Ideal S1x4096 .f32) (M : FVec Ideal S4x24576 .f32) : FVec Ideal S16384x4096 .bf16 :=
  fun y => outAt X G M ⟨(y 0).val / 4096, by have : (y 0).val < 16384 := (y 0).isLt; omega⟩ (y 0) (y 1)

theorem out_apply (X : FVec Ideal S16384x4096 .f32) (G : FVec Ideal S1x4096 .f32) (M : FVec Ideal S4x24576 .f32) (y : S16384x4096.Idx)
    (s : Fin 4) (r : Fin 16384) (k : Fin 4096) (hs : s.val = (y 0).val / 4096) (hr : r.val = (y 0).val) (hk : k.val = (y 1).val) :
    outAt X G M s r k = out X G M y := by
  unfold out
  exact congr (congr (congrArg (outAt X G M) (Fin.ext hs)) (Fin.ext hr)) (Fin.ext hk)

/-- A table's entry at a lane of a sequence's token. -/
def rotAt (T : EReal → EReal → Fin 128 → EReal) (P : IVec S4x4096 32) (s : Fin 4) (r : Fin 4096) (l : Fin 128) : EReal :=
  T (places P (ix2 s r)) (freqLanes (ix1 l)) l

/-- A table. -/
def rot (T : EReal → EReal → Fin 128 → EReal) (P : IVec S4x4096 32) : FVec Ideal S16384x128 .f32 :=
  fun y => rotAt T P ⟨(y 0).val / 4096, by have : (y 0).val < 16384 := (y 0).isLt; omega⟩ ⟨(y 0).val % 4096, by omega⟩ (y 1)

theorem rot_apply (T : EReal → EReal → Fin 128 → EReal) (P : IVec S4x4096 32) (y : S16384x128.Idx) (s : Fin 4) (r : Fin 4096) (l : Fin 128)
    (hs : s.val = (y 0).val / 4096) (hr : r.val = (y 0).val % 4096) (hl : l.val = (y 1).val) : rotAt T P s r l = rot T P y := by
  unfold rot
  exact congr (congr (congrArg (rotAt T P) (Fin.ext hs)) (Fin.ext hr)) (Fin.ext hl)

variable (m : (ℓ : Loc nD τ sig) → Buf (Elt Ideal) ℓ) (ρ : Dev nD → PrngReg) (c : Dev nD)

/-- The arguments. -/
abbrev aX : FVec Ideal S16384x4096 .f32 := m ((c : Thread nD τ).loc main_arg0)
abbrev aG : FVec Ideal S1x4096 .f32 := m ((c : Thread nD τ).loc main_arg1)
abbrev aM : FVec Ideal S4x24576 .f32 := m ((c : Thread nD τ).loc main_arg2)
abbrev aP : IVec S4x4096 32 := m ((c : Thread nD τ).loc main_arg3)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 8 * 6 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 8 * 6 + 1 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

theorem t_lt (t : Fin cfg0.N) : t.val < 32 := lt_of_lt_of_eq t.isLt N_0

/-! ## The arrays as the region finds them -/

theorem V_main_v2 (k : Fin 4096) : (V (F := Ideal) m c main_v2 : FVec Ideal S1x4096 .f32) (ix2 0 k) = aG m c (ix2 0 k) := by
  have e : (V (F := Ideal) m c main_v2 : FVec Ideal S1x4096 .f32) =
      shapeCast S1x4096 (shapeCast S4096 (aG m c) shapeCasts_S1x4096_S4096) shapeCasts_S4096_S1x4096 := by
    show StableHlo.after hostOps0 (fun b => m (c, b)) main_v2 = _
    after_results
    rfl
  rw [e]
  pointwise []

theorem V_main_v1 (j : Fin 24) (k : Fin 4096) (s : Fin 4) (q : Fin 24576) (h : j.val * 4096 + k.val = s.val * 24576 + q.val) :
    (V (F := Ideal) m c main_v1 : FVec Ideal S24x1x4096 .f32) (ix3 j 0 k) = aM m c (ix2 s q) := by
  have e : (V (F := Ideal) m c main_v1 : FVec Ideal S24x1x4096 .f32) = shapeCast S24x1x4096 (aM m c) shapeCasts_S4x24576_S24x1x4096 := by
    show StableHlo.after hostOps0 (fun b => m (c, b)) main_v1 = _
    after_results
    rfl
  rw [e]
  pointwise []
  refine congrArg (aM m c) (congrArg₂ ix2 (Fin.ext ?_) (Fin.ext ?_))
  · simp only; omega
  · simp only; omega

theorem V_main_v16 (r : Fin 16384) (s : Fin 4) (q : Fin 4096) (h : r.val = s.val * 4096 + q.val) :
    (V (F := Ideal) m c main_v16 : FVec Ideal S16384x1 .f32) (ix2 r 0) = places (aP m c) (ix2 s q) := by
  have e : (V (F := Ideal) m c main_v16 : FVec Ideal S16384x1 .f32) = sitofp (F := Ideal) .f32 (shapeCast S16384x1 (aP m c) shapeCasts_S4x4096_S16384x1) := by
    show StableHlo.after hostOps0 (fun b => m (c, b)) main_v16 = _
    after_results
    rfl
  rw [e]
  unfold places
  pointwise []
  refine congrArg _ (congrArg (aP m c) (congrArg₂ ix2 (Fin.ext ?_) (Fin.ext ?_)))
  · simp only; omega
  · simp only; omega

theorem V_main_v17 (l : Fin 128) : (V (F := Ideal) m c main_v17 : FVec Ideal S1x128 .f32) (ix2 0 l) = freqLanes (ix1 l) := by
  have e : (V (F := Ideal) m c main_v17 : FVec Ideal S1x128 .f32) = shapeCast S1x128 freqLanes shapeCasts_S128_S1x128 := by
    show StableHlo.after hostOps0 (fun b => m (c, b)) main_v17 = _
    after_results
    rfl
  rw [e]
  generalize freqLanes = f
  pointwise []

section Blocks

variable (t : Fin cfg0.N)

theorem iblk0_apply (a : Fin 512) (k : Fin 4096) (r : Fin 16384) (hr : r.val = t.val * 512 + a.val) :
    (iblk (F := Ideal) m c 0 t : FVec Ideal S512x4096 .f32) (ix2 a k) = aX m c (ix2 r k) := by
  refine Eq.trans (b := (V (F := Ideal) m c main_arg0 : FVec Ideal S16384x4096 .f32) (ix2 r k)) ?_ (by rw [V_main_arg0])
  refine congrArg (V (F := Ideal) m c main_arg0 : FVec Ideal S16384x4096 .f32) (funext fun y => Fin.ext ?_)
  match y with
  | ⟨0, _⟩ => show win0_0.index t (0 : Fin 2) * 512 + 1 * a.val = r.val; rw [(idx0 t).1]; omega
  | ⟨1, _⟩ => show win0_0.index t (1 : Fin 2) * 4096 + 1 * k.val = k.val; rw [(idx0 t).2]; omega

theorem iblk1_apply (k : Fin 4096) : (iblk (F := Ideal) m c 1 t : FVec Ideal S1x4096 .f32) (ix2 0 k) = aG m c (ix2 0 k) := by
  refine Eq.trans ?_ (V_main_v2 m c k)
  refine congrArg (V (F := Ideal) m c main_v2 : FVec Ideal S1x4096 .f32) (funext fun y => Fin.ext ?_)
  match y with
  | ⟨0, _⟩ => show win0_1.index t (0 : Fin 2) * 1 + 1 * 0 = 0; rw [(idx1 t).1]
  | ⟨1, _⟩ => show win0_1.index t (1 : Fin 2) * 4096 + 1 * k.val = k.val; rw [(idx1 t).2]; omega

theorem iblk2_apply (k : Fin 4096) (s : Fin 4) (hs : s.val = t.val / 8) :
    (iblk (F := Ideal) m c 2 t : FVec Ideal S1x1x4096 .f32) (ix3 0 0 k) = aM m c (ix2 s ⟨k.val, by omega⟩) := by
  refine Eq.trans ?_ (V_main_v1 m c ⟨s.val * 6, by omega⟩ k s ⟨k.val, by omega⟩ (by simp only; omega))
  refine congrArg (V (F := Ideal) m c main_v1 : FVec Ideal S24x1x4096 .f32) (funext fun y => Fin.ext ?_)
  match y with
  | ⟨0, _⟩ => show win0_2.index t (0 : Fin 3) * 1 + 1 * 0 = s.val * 6; rw [(idx2 t).1]; omega
  | ⟨1, _⟩ => show win0_2.index t (1 : Fin 3) * 1 + 1 * 0 = 0; rw [(idx2 t).2.1]
  | ⟨2, _⟩ => show win0_2.index t (2 : Fin 3) * 4096 + 1 * k.val = k.val; rw [(idx2 t).2.2]; omega

theorem iblk3_apply (k : Fin 4096) (s : Fin 4) (hs : s.val = t.val / 8) :
    (iblk (F := Ideal) m c 3 t : FVec Ideal S1x1x4096 .f32) (ix3 0 0 k) = aM m c (ix2 s ⟨4096 + k.val, by omega⟩) := by
  refine Eq.trans ?_ (V_main_v1 m c ⟨s.val * 6 + 1, by omega⟩ k s ⟨4096 + k.val, by omega⟩ (by simp only; omega))
  refine congrArg (V (F := Ideal) m c main_v1 : FVec Ideal S24x1x4096 .f32) (funext fun y => Fin.ext ?_)
  match y with
  | ⟨0, _⟩ => show win0_3.index t (0 : Fin 3) * 1 + 1 * 0 = s.val * 6 + 1; rw [(idx3 t).1]; omega
  | ⟨1, _⟩ => show win0_3.index t (1 : Fin 3) * 1 + 1 * 0 = 0; rw [(idx3 t).2.1]
  | ⟨2, _⟩ => show win0_3.index t (2 : Fin 3) * 4096 + 1 * k.val = k.val; rw [(idx3 t).2.2]; omega

theorem iblk4_apply (a : Fin 512) (s : Fin 4) (q : Fin 4096) (h : s.val * 4096 + q.val = t.val * 512 + a.val) :
    (iblk (F := Ideal) m c 4 t : FVec Ideal S512x1 .f32) (ix2 a 0) = places (aP m c) (ix2 s q) := by
  refine Eq.trans ?_ (V_main_v16 m c ⟨s.val * 4096 + q.val, by omega⟩ s q rfl)
  refine congrArg (V (F := Ideal) m c main_v16 : FVec Ideal S16384x1 .f32) (funext fun y => Fin.ext ?_)
  match y with
  | ⟨0, _⟩ => show win0_4.index t (0 : Fin 2) * 512 + 1 * a.val = s.val * 4096 + q.val; rw [(idx4 t).1]; omega
  | ⟨1, _⟩ => show win0_4.index t (1 : Fin 2) * 1 + 1 * 0 = 0; rw [(idx4 t).2]

theorem iblk5_apply (l : Fin 128) : (iblk (F := Ideal) m c 5 t : FVec Ideal S1x128 .f32) (ix2 0 l) = freqLanes (ix1 l) := by
  refine Eq.trans ?_ (V_main_v17 m c l)
  refine congrArg (V (F := Ideal) m c main_v17 : FVec Ideal S1x128 .f32) (funext fun y => Fin.ext ?_)
  match y with
  | ⟨0, _⟩ => show win0_5.index t (0 : Fin 2) * 1 + 1 * 0 = 0; rw [(idx5 t).1]
  | ⟨1, _⟩ => show win0_5.index t (1 : Fin 2) * 128 + 1 * l.val = l.val; rw [(idx5 t).2]; omega

/-- An entry of a point's normalised block. -/
theorem normAt_eq (a : Fin 512) (k : Fin 4096) (s : Fin 4) (hs : s.val = t.val / 8) (r : Fin 16384) (hr : r.val = t.val * 512 + a.val) :
    normAt (iblk (F := Ideal) m c 0 t) (iblk (F := Ideal) m c 1 t) (iblk (F := Ideal) m c 2 t) (iblk (F := Ideal) m c 3 t) a k =
      outAt (aX m c) (aG m c) (aM m c) s r k := by
  unfold normAt outAt
  rw [iblk1_apply m c t k, iblk2_apply m c t k s hs, iblk3_apply m c t k s hs]
  exact congrArg (fun f => scaled f _ _ _) (funext fun k => iblk0_apply m c t a k r hr)

/-- An entry of a point's block of a table. -/
theorem tableAt_eq (T : EReal → EReal → Fin 128 → EReal) (a : Fin 512) (l : Fin 128) (s : Fin 4) (q : Fin 4096) (h : s.val * 4096 + q.val = t.val * 512 + a.val) :
    tableAt T (iblk (F := Ideal) m c 4 t) (iblk (F := Ideal) m c 5 t) a l = rotAt T (aP m c) s q l := by
  unfold tableAt rotAt
  rw [iblk4_apply m c t a s q h, iblk5_apply m c t l]

end Blocks

/-! ## The result arrays -/

theorem final6 : (dats (F := Ideal) m 0 c).arrAt 6 cfg0.N = out (aX m c) (aG m c) (aM m c) := by
  refine (dats m 0 c).arrAt_eq_of_covers 6 _ (by decide +kernel) fun t hf (y : S512x4096.Idx) => ?_
  blk_simp
  rw [after0_6]
  have h0 : (y 0).val < 512 := (y 0).isLt
  have ht := t_lt t
  have e0 : ((((View.whole main_v18_0).slice (win0_6.rect t)).emb y) 0).val = t.val * 512 + (y 0).val := by
    show win0_6.index t (0 : Fin 2) * 512 + 1 * (y 0).val = _; rw [(idx6 t).1]; omega
  have e1 : ((((View.whole main_v18_0).slice (win0_6.rect t)).emb y) 1).val = (y 1).val := by
    show win0_6.index t (1 : Fin 2) * 4096 + 1 * (y 1).val = _; rw [(idx6 t).2]; omega
  refine (congrFun (out6_eq (iblk (F := Ideal) m c 0 t) (iblk (F := Ideal) m c 1 t) (iblk (F := Ideal) m c 2 t) (iblk (F := Ideal) m c 3 t)
    (iblk (F := Ideal) m c 4 t) (iblk (F := Ideal) m c 5 t)) y).trans ?_
  refine (normAt_eq m c t (y 0) (y 1) ⟨t.val / 8, by omega⟩ rfl ⟨t.val * 512 + (y 0).val, by omega⟩ rfl).trans ?_
  exact out_apply _ _ _ _ _ _ _ (by rw [e0]; show t.val / 8 = _; omega) e0.symm e1.symm

theorem final7 : (dats (F := Ideal) m 0 c).arrAt 7 cfg0.N = rot cosAt (aP m c) := by
  refine (dats m 0 c).arrAt_eq_of_covers 7 _ (by decide +kernel) fun t hf (y : S512x128.Idx) => ?_
  blk_simp
  rw [after0_7]
  have h0 : (y 0).val < 512 := (y 0).isLt
  have ht := t_lt t
  have e0 : ((((View.whole main_v18_1).slice (win0_7.rect t)).emb y) 0).val = t.val * 512 + (y 0).val := by
    show win0_7.index t (0 : Fin 2) * 512 + 1 * (y 0).val = _; rw [(idx7 t).1]; omega
  have e1 : ((((View.whole main_v18_1).slice (win0_7.rect t)).emb y) 1).val = (y 1).val := by
    show win0_7.index t (1 : Fin 2) * 128 + 1 * (y 1).val = _; rw [(idx7 t).2]; omega
  refine (congrFun (out7_eq (iblk (F := Ideal) m c 0 t) (iblk (F := Ideal) m c 1 t) (iblk (F := Ideal) m c 2 t) (iblk (F := Ideal) m c 3 t)
    (iblk (F := Ideal) m c 4 t) (iblk (F := Ideal) m c 5 t)) y).trans ?_
  refine (tableAt_eq m c t cosAt (y 0) (y 1) ⟨(t.val * 512 + (y 0).val) / 4096, by omega⟩ ⟨(t.val * 512 + (y 0).val) % 4096, by omega⟩
    (by simp only; omega)).trans ?_
  exact rot_apply _ _ _ _ _ _ (by rw [e0]) (by rw [e0]) e1.symm

theorem final8 : (dats (F := Ideal) m 0 c).arrAt 8 cfg0.N = rot sinAt (aP m c) := by
  refine (dats m 0 c).arrAt_eq_of_covers 8 _ (by decide +kernel) fun t hf (y : S512x128.Idx) => ?_
  blk_simp
  rw [after0_8]
  have h0 : (y 0).val < 512 := (y 0).isLt
  have ht := t_lt t
  have e0 : ((((View.whole main_v18_2).slice (win0_8.rect t)).emb y) 0).val = t.val * 512 + (y 0).val := by
    show win0_8.index t (0 : Fin 2) * 512 + 1 * (y 0).val = _; rw [(idx8 t).1]; omega
  have e1 : ((((View.whole main_v18_2).slice (win0_8.rect t)).emb y) 1).val = (y 1).val := by
    show win0_8.index t (1 : Fin 2) * 128 + 1 * (y 1).val = _; rw [(idx8 t).2]; omega
  refine (congrFun (out8_eq (iblk (F := Ideal) m c 0 t) (iblk (F := Ideal) m c 1 t) (iblk (F := Ideal) m c 2 t) (iblk (F := Ideal) m c 3 t)
    (iblk (F := Ideal) m c 4 t) (iblk (F := Ideal) m c 5 t)) y).trans ?_
  refine (tableAt_eq m c t sinAt (y 0) (y 1) ⟨(t.val * 512 + (y 0).val) / 4096, by omega⟩ ⟨(t.val * 512 + (y 0).val) % 4096, by omega⟩
    (by simp only; omega)).trans ?_
  exact rot_apply _ _ _ _ _ _ (by rw [e0]) (by rw [e0]) e1.symm

theorem final9 : (dats (F := Ideal) m 0 c).arrAt 9 cfg0.N = rot sinAt' (aP m c) := by
  refine (dats m 0 c).arrAt_eq_of_covers 9 _ (by decide +kernel) fun t hf (y : S512x128.Idx) => ?_
  blk_simp
  rw [after0_9]
  have h0 : (y 0).val < 512 := (y 0).isLt
  have ht := t_lt t
  have e0 : ((((View.whole main_v18_3).slice (win0_9.rect t)).emb y) 0).val = t.val * 512 + (y 0).val := by
    show win0_9.index t (0 : Fin 2) * 512 + 1 * (y 0).val = _; rw [(idx9 t).1]; omega
  have e1 : ((((View.whole main_v18_3).slice (win0_9.rect t)).emb y) 1).val = (y 1).val := by
    show win0_9.index t (1 : Fin 2) * 128 + 1 * (y 1).val = _; rw [(idx9 t).2]; omega
  refine (congrFun (out9_eq (iblk (F := Ideal) m c 0 t) (iblk (F := Ideal) m c 1 t) (iblk (F := Ideal) m c 2 t) (iblk (F := Ideal) m c 3 t)
    (iblk (F := Ideal) m c 4 t) (iblk (F := Ideal) m c 5 t)) y).trans ?_
  refine (tableAt_eq m c t sinAt' (y 0) (y 1) ⟨(t.val * 512 + (y 0).val) / 4096, by omega⟩ ⟨(t.val * 512 + (y 0).val) % 4096, by omega⟩
    (by simp only; omega)).trans ?_
  exact rot_apply _ _ _ _ _ _ (by rw [e0]) (by rw [e0]) e1.symm

/-- The run: it ends with the result arrays at those functions of the arguments, and these as they were. -/
theorem run : θ_run defs (onTc (τ := τ) (main (F := Ideal))) ⟨m, fun _ => 0, ρ⟩ fun r => ∀ c : Dev nD,
      r.2.mem ((c.tc : Thread nD τ).loc main_v18_0) = out (aX m c) (aG m c) (aM m c)
      ∧ r.2.mem ((c.tc : Thread nD τ).loc main_v18_1) = rot cosAt (aP m c)
      ∧ r.2.mem ((c.tc : Thread nD τ).loc main_v18_2) = rot sinAt (aP m c)
      ∧ r.2.mem ((c.tc : Thread nD τ).loc main_v18_3) = rot sinAt' (aP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 6).trans (final6 m c), ((h.1 c).1 7).trans (final7 m c), ((h.1 c).1 8).trans (final8 m c),
    ((h.1 c).1 9).trans (final9 m c), h.2 c⟩)
    (θ_run_and (run_main (F := Ideal) m ρ) (unchanged (F := Ideal) m ρ))

end Cert.PrenormIdeal.Hand

end
-- ==== Proof.Prenorm.Equal.lean ====
/-
  The prenorm's result arrays are the reference's, for any arguments.
-/
module

public import proofs.«01_k».proof.Proof.Prenorm.Value
public import proofs.«01_k».proof.Proof.Gen.PrenormRefIdeal.Read
public import Idealize.ShloMosaic.PureOps.Ideal.Laws

@[expose] public section

set_option maxRecDepth 16384

noncomputable section

namespace Cert.PrenormEqual

open Idealize.ShloMosaic Idealize.ShloMosaic.TcCoe Idealize.ShloMosaic.Tactic
open Cert.PrenormIdeal (S16 S128 S4x4096 S16384x4096 S1x4096 S4x24576 S16384x128)
open Cert.PrenormIdeal.Hand (scaled outAt out out_apply rotAt rot rot_apply places freqs freqLanes cosAt sinAt sinAt')
open Cert.PrenormRefIdeal.Read

variable (X : FVec Ideal S16384x4096 .f32) (G : FVec Ideal S1x4096 .f32) (M : FVec Ideal S4x24576 .f32) (P : IVec S4x4096 32)

/-- Row `r` of the sequence `s`, in the rows of all sequences. -/
def row (s : Fin 4) (r : Fin 4096) : Fin 16384 := ⟨s.val * 4096 + r.val, by omega⟩

/-! ## The normalised rows -/

/-- The mean square of a row. -/
theorem square_apply (s : Fin 4) (r : Fin 4096) : (val_main_v8 (F := Ideal) X) (ix2 s r) =
    ∑ k : Fin 4096, X (ix2 (row s r) k) * X (ix2 (row s r) k) := by
  have z : val_main_cst (F := Ideal) (Shape.Idx.first PrenormRefIdeal.Gen.h_S_) = 0 := by pointwise [val_main_cst]
  pointwise [val_main_v8, val_main_v7, val_main_v6, row]
  rw [z, zero_add]

/-- The reference's rows before they are flattened. -/
theorem norm_apply (s : Fin 4) (r k : Fin 4096) : (val_main_v49 (F := Ideal) X G M) (ix3 s r k) = outAt X G M s (row s r) k := by
  unfold outAt scaled
  rw [← square_apply X s r]
  pointwise [val_main_v49, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v6, val_main_v1, val_main_v0, val_main_cst_0, val_main_cst_1, val_main_cst_2, row]
  rw [mul_assoc (_ * _ : EReal)]

/-! ## The tables -/

/-- The frequencies are the reference's. -/
theorem freq_eq : val_main_v38 (F := Ideal) = freqs := rfl

/-- A lane's frequency: the sixteen twice over, then zero. -/
theorem lanes_apply (l : Fin 128) : freqLanes (ix1 l) =
    if h : l.val < 16 then freqs (ix1 ⟨l.val, h⟩) else if h : l.val - 16 < 16 then freqs (ix1 ⟨l.val - 16, h⟩) else 0 := by
  unfold freqLanes
  generalize freqs = f
  pointwise []

/-- An angle. -/
theorem angle_apply (s : Fin 4) (r : Fin 4096) (e : Fin 16) : (val_main_v44 (F := Ideal) P) (ix3 s r e) = places P (ix2 s r) * freqs (ix1 e) := by
  rw [← freq_eq]
  generalize h : val_main_v38 (F := Ideal) = f
  unfold val_main_v44 val_main_v43 val_main_v41
  rw [h]
  pointwise [val_main_v42, val_main_v40, val_main_v39, places]

/-- A cosine of the reference, in the rows of all sequences. -/
theorem cos_apply (s : Fin 4) (r : Fin 4096) (e : Fin 16) : (val_main_v46 (F := Ideal) P) (ix2 (row s r) e) = Ideal.cos (places P (ix2 s r) * freqs (ix1 e)) := by
  rw [← angle_apply, val_main_v46_apply]
  refine congrArg (fun v : EReal => Ideal.cos v) (congrArg (val_main_v44 (F := Ideal) P) (funext fun a => Fin.ext ?_))
  match a with
  | ⟨0, _⟩ => show ((s.val * 4096 + r.val) * 16 + e.val) / 65536 = s.val; omega
  | ⟨1, _⟩ => show ((s.val * 4096 + r.val) * 16 + e.val) / 16 % 4096 = r.val; omega
  | ⟨2, _⟩ => show ((s.val * 4096 + r.val) * 16 + e.val) % 16 = e.val; omega

/-- A sine of the reference, in the rows of all sequences. -/
theorem sin_apply (s : Fin 4) (r : Fin 4096) (e : Fin 16) : (val_main_v48 (F := Ideal) P) (ix2 (row s r) e) = Ideal.sin (places P (ix2 s r) * freqs (ix1 e)) := by
  rw [← angle_apply, val_main_v48_apply]
  refine congrArg (fun v : EReal => Ideal.sin v) (congrArg (val_main_v44 (F := Ideal) P) (funext fun a => Fin.ext ?_))
  match a with
  | ⟨0, _⟩ => show ((s.val * 4096 + r.val) * 16 + e.val) / 65536 = s.val; omega
  | ⟨1, _⟩ => show ((s.val * 4096 + r.val) * 16 + e.val) / 16 % 4096 = r.val; omega
  | ⟨2, _⟩ => show ((s.val * 4096 + r.val) * 16 + e.val) % 16 = e.val; omega

/-- The reference's first table at a row and a lane. -/
theorem table1_apply (r : Fin 16384) (l : Fin 128) : (val_main_v52 (F := Ideal) P) (ix2 r l) =
    if h : l.val < 16 then (val_main_v46 (F := Ideal) P) (ix2 r ⟨l.val, h⟩)
    else if h : l.val - 16 < 16 then (val_main_v46 (F := Ideal) P) (ix2 r ⟨l.val - 16, h⟩) else Ideal.ofBits .f32 0x3F800000#32 := by
  pointwise [val_main_v52, val_main_v51, val_main_cst_7]

/-- The reference's second table at a row and a lane. -/
theorem table2_apply (r : Fin 16384) (l : Fin 128) : (val_main_v55 (F := Ideal) P) (ix2 r l) =
    if h : l.val < 16 then -(val_main_v48 (F := Ideal) P) (ix2 r ⟨l.val, h⟩) else 0 := by
  pointwise [val_main_v55, val_main_v54, val_main_v53, val_main_cst_8]

/-- The reference's third table at a row and a lane. -/
theorem table3_apply (r : Fin 16384) (l : Fin 128) : (val_main_v58 (F := Ideal) P) (ix2 r l) =
    if _h : l.val < 16 then 0 else if h : l.val - 16 < 16 then (val_main_v48 (F := Ideal) P) (ix2 r ⟨l.val - 16, h⟩) else 0 := by
  pointwise [val_main_v58, val_main_v57, val_main_v56, val_main_cst_9, val_main_cst_10]

/-- The first table agrees at a row and a lane. -/
theorem first_at (s : Fin 4) (r : Fin 4096) (l : Fin 128) : rotAt cosAt P s r l = (val_main_v52 (F := Ideal) P) (ix2 (row s r) l) := by
  rw [table1_apply]
  unfold rotAt cosAt
  rw [lanes_apply]
  by_cases h : l.val < 16
  · rw [if_pos (by omega), dif_pos h, dif_pos h, cos_apply]
  by_cases h' : l.val - 16 < 16
  · rw [if_pos (by omega), dif_neg h, dif_pos h', dif_neg h, dif_pos h', cos_apply]
  · rw [if_neg (by omega), dif_neg h, dif_neg h']

/-- The second table agrees at a row and a lane. -/
theorem second_at (s : Fin 4) (r : Fin 4096) (l : Fin 128) : rotAt sinAt P s r l = (val_main_v55 (F := Ideal) P) (ix2 (row s r) l) := by
  rw [table2_apply]
  unfold rotAt sinAt
  rw [lanes_apply, Ideal.ofBits_zero_f32]
  by_cases h : l.val < 16
  · rw [if_pos h, dif_pos h, dif_pos h, sin_apply, zero_sub]
  · rw [if_neg h, dif_neg h]

/-- The third table agrees at a row and a lane. -/
theorem third_at (s : Fin 4) (r : Fin 4096) (l : Fin 128) : rotAt sinAt' P s r l = (val_main_v58 (F := Ideal) P) (ix2 (row s r) l) := by
  rw [table3_apply]
  unfold rotAt sinAt'
  rw [lanes_apply, Ideal.ofBits_zero_f32]
  by_cases h : l.val < 16
  · rw [if_neg (by omega), dif_pos h]
  by_cases h' : l.val - 16 < 16
  · rw [if_pos (by omega), dif_neg h, dif_pos h', dif_neg h, dif_pos h', sin_apply]
  · rw [if_neg (by omega), dif_neg h, dif_neg h']

/-! ## The results -/

/-- The normalised rows agree. -/
theorem norm : out X G M = val_main_v50 (F := Ideal) X G M := by
  refine funext fun (y : S16384x4096.Idx) => ?_
  have h0 : (y 0).val < 16384 := (y 0).isLt
  have h1 : (y 1).val < 4096 := (y 1).isLt
  refine (out_apply X G M y ⟨(y 0).val / 4096, by omega⟩ (row ⟨(y 0).val / 4096, by omega⟩ ⟨(y 0).val % 4096, by omega⟩) ⟨(y 1).val, h1⟩ rfl
    (by show (y 0).val / 4096 * 4096 + (y 0).val % 4096 = (y 0).val; omega) rfl).symm.trans ?_
  rw [← norm_apply, val_main_v50_apply]
  refine congrArg (val_main_v49 (F := Ideal) X G M) (funext fun a => Fin.ext ?_)
  match a with
  | ⟨0, _⟩ => show (y 0).val / 4096 = ((y 0).val * 4096 + (y 1).val) / 16777216; omega
  | ⟨1, _⟩ => show (y 0).val % 4096 = ((y 0).val * 4096 + (y 1).val) / 4096 % 4096; omega
  | ⟨2, _⟩ => show (y 1).val = ((y 0).val * 4096 + (y 1).val) % 4096; omega

/-- A table read at its row and lane. -/
theorem of_at (T : EReal → EReal → Fin 128 → EReal) (V : FVec Ideal S16384x128 .f32)
    (h : ∀ (s : Fin 4) (r : Fin 4096) (l : Fin 128), rotAt T P s r l = V (ix2 (row s r) l)) : rot T P = V := by
  refine funext fun (y : S16384x128.Idx) => ?_
  have h0 : (y 0).val < 16384 := (y 0).isLt
  have h1 : (y 1).val < 128 := (y 1).isLt
  refine (rot_apply T P y ⟨(y 0).val / 4096, by omega⟩ ⟨(y 0).val % 4096, by omega⟩ ⟨(y 1).val, h1⟩ rfl rfl rfl).symm.trans ((h _ _ _).trans ?_)
  refine congrArg V (Eq.trans (congrArg₂ ix2 (Fin.ext ?_) rfl) (eq_ix2 (n0 := 16384) (n1 := 128) y).symm)
  show (y 0).val / 4096 * 4096 + (y 0).val % 4096 = (y 0).val
  omega

/-- The first tables agree; -/
theorem first : rot cosAt P = val_main_v52 (F := Ideal) P := of_at P cosAt _ (first_at P)

/-- the second; -/
theorem second : rot sinAt P = val_main_v55 (F := Ideal) P := of_at P sinAt _ (second_at P)

/-- the third. -/
theorem third : rot sinAt' P = val_main_v58 (F := Ideal) P := of_at P sinAt' _ (third_at P)

end Cert.PrenormEqual

end
-- ==== Proof.Sgu.Stored.lean ====
/-
  The spatial unit's 64 stores, each read as one function of the block's coordinates, and with them the block the body leaves:
  every chunk of rows mixed by its group's lower triangle, biased and gated.
-/
module

public import proofs.«01_k».proof.Proof.Gen.SguIdeal.Frame
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.SguIdeal.Hand

open Idealize.ShloMosaic Idealize.ShloMosaic.TcCoe Idealize.ShloMosaic.Tactic
open Cert.SguIdeal Cert.SguIdeal.Gen

/-! ## The vectors at an index -/

/-- The mean of a row's entries. -/
def mean (f : Fin 2048 → EReal) : EReal := Ideal.div (∑ k : Fin 2048, f k) (Ideal.ofBits .f32 0x45000000#32)

/-- A row's entries, centred and scaled by the inverse deviation, then by a gain and a shift. -/
def normed (f : Fin 2048 → EReal) (g b : EReal) (k : Fin 2048) : EReal :=
  (f k - mean f) * Ideal.rsqrt (mean (fun k => (f k - mean f) * (f k - mean f)) + Ideal.ofBits .f32 0x3727C5AC#32) * g + b

/-- The normalised rows of a chunk. -/
theorem pay2_apply (v : Vec Ideal S128x2048 .bf16) (g b : Vec Ideal S1x2048 .f32) (r : Fin 128) (k : Fin 2048) :
    (k0_pay2 (F := Ideal) v g b : FVec Ideal S128x2048 .bf16) (ix2 r k) =
      normed (fun k => (v : FVec Ideal S128x2048 .bf16) (ix2 r k)) ((g : FVec Ideal S1x2048 .f32) (ix2 0 k)) ((b : FVec Ideal S1x2048 .f32) (ix2 0 k)) k := by
  unfold k0_pay2 normed mean
  pointwise []

/-- The lower triangle. -/
theorem mask_apply (t s : Fin 128) : k0_pay1 (ix2 t s) = if s.val ≤ t.val then 1#1 else 0#1 := by
  unfold k0_pay1
  pointwise []
  rw [WordCmp.cmpi_sle_ofNat (by omega) (by omega)]
  by_cases h : s.val ≤ t.val
  · rw [if_pos h, decide_eq_true h]; rfl
  · rw [if_neg h, decide_eq_false h]; rfl

/-- One group of a chunk: the weights' lower triangle by the normalised rows, the bias added, times the gate. -/
def group (q : Nat) (h : S128x2048.Slices ![0, q] S128x128) (z : FVec Ideal S128x2048 .bf16) (w b : FVec Ideal S1x128x128 .f32)
    (u : FVec Ideal S128x128 .bf16) : FVec Ideal S128x128 .bf16 :=
  truncf .bf16 (mulf (extf .f32 u bitsLt_bf16_f32)
    (addf (matmul dot_S128x128_S128x128_S128x128_1_0_0_1_n_n none
        (truncf .bf16 (select k0_pay1 (shapeCast S128x128 w shapeCasts_S1x128x128_S128x128) (broadcast S128x128 (Scalar.ofBits (F := Ideal) .f32 0x00000000#32)))
          bitsLt_bf16_f32)
        (extractStridedSlice S128x128 ![0, q] z h) (constant (F := Ideal) S128x128 .f32 0x00000000#32))
      (shapeCast S128x128 b shapeCasts_S1x128x128_S128x128))) bitsLt_bf16_f32

/-- A group at an index. -/
theorem group_apply (g : Fin 16) (q : Nat) (hq : q = g.val * 128) (h : S128x2048.Slices ![0, q] S128x128) (z : FVec Ideal S128x2048 .bf16)
    (w b : FVec Ideal S1x128x128 .f32) (u : FVec Ideal S128x128 .bf16) (t c : Fin 128) :
    group q h z w b u (ix2 t c) = u (ix2 t c) *
      ((∑ s : Fin 128, (if s.val ≤ t.val then w (ix3 0 t s) else 0) * z (ix2 s ⟨g.val * 128 + c.val, by omega⟩)) + b (ix3 0 t c)) := by
  subst hq
  unfold group
  pointwise [mask_apply]
  refine congrArg _ (congrArg (· + b (ix3 0 t c)) (Finset.sum_congr rfl fun s _ => ?_))
  by_cases h : s.val ≤ t.val
  · rw [if_pos h, if_pos h]; rfl
  · rw [if_neg h, if_neg h, zero_mul]; rfl

/-! ## The stores -/

/-- An entry of the block: row `t` of chunk `n`, lane `c` of group `g`. -/
def mixedAt (x0 x1 : FVec Ideal S512x2048 .bf16) (x2 x3 : FVec Ideal S1x2048 .f32) (x4 x5 : FVec Ideal S16x128x128 .f32)
    (n : Fin 4) (t : Fin 128) (g : Fin 16) (c : Fin 128) : EReal :=
  x0 (ix2 ⟨n.val * 128 + t.val, by omega⟩ ⟨g.val * 128 + c.val, by omega⟩) *
    ((∑ s : Fin 128, (if s.val ≤ t.val then x4 (ix3 g t s) else 0) *
        normed (fun k => x1 (ix2 ⟨n.val * 128 + s.val, by omega⟩ k)) (x2 (ix2 0 ⟨g.val * 128 + c.val, by omega⟩))
          (x3 (ix2 0 ⟨g.val * 128 + c.val, by omega⟩)) ⟨g.val * 128 + c.val, by omega⟩)
      + x5 (ix3 g t c))

/-- The block. -/
def mixedBlock (x0 x1 : FVec Ideal S512x2048 .bf16) (x2 x3 : FVec Ideal S1x2048 .f32) (x4 x5 : FVec Ideal S16x128x128 .f32) :
    FVec Ideal S512x2048 .bf16 := fun y =>
  mixedAt x0 x1 x2 x3 x4 x5 ⟨(y 0).val / 128, by have : (y 0).val < 512 := (y 0).isLt; omega⟩ ⟨(y 0).val % 128, by omega⟩
    ⟨(y 1).val / 128, by have : (y 1).val < 2048 := (y 1).isLt; omega⟩ ⟨(y 1).val % 128, by omega⟩

variable (x0 x1 : FVec Ideal S512x2048 .bf16) (x2 x3 : FVec Ideal S1x2048 .f32) (x4 x5 : FVec Ideal S16x128x128 .f32)

/-- The block read at a stored rectangle. -/
theorem mixedBlock_emb (n : Fin 4) (g : Fin 16) (lo q : Nat) (hlo : lo = n.val * 128) (hq : q = g.val * 128)
    (inb : ∀ a, (![lo, q] : Fin 2 → Nat) a + (![128, 128] : Fin 2 → Nat) a ≤ S512x2048.size a)
    (x : (Rect.unit (s := S512x2048) ![lo, q] ![128, 128] inb).shape.Idx) :
    mixedBlock x0 x1 x2 x3 x4 x5 ((Rect.unit (s := S512x2048) ![lo, q] ![128, 128] inb).emb x) = mixedAt x0 x1 x2 x3 x4 x5 n (x 0) g (x 1) := by
  subst hlo hq
  have h0 : (x 0).val < 128 := (x 0).isLt
  have h1 : (x 1).val < 128 := (x 1).isLt
  have e0 : (((Rect.unit (s := S512x2048) ![n.val * 128, g.val * 128] ![128, 128] inb).emb x) 0).val = n.val * 128 + 1 * (x 0).val := rfl
  have e1 : (((Rect.unit (s := S512x2048) ![n.val * 128, g.val * 128] ![128, 128] inb).emb x) 1).val = g.val * 128 + 1 * (x 1).val := rfl
  unfold mixedBlock
  congr 1 <;> refine Fin.ext ?_ <;> simp only [e0, e1] <;> omega

/-- A chunk's rows. -/
theorem load_rows (n : Fin 4) (lo : Nat) (hlo : lo = n.val * 128) (inb : ∀ a, (![lo, 0] : Fin 2 → Nat) a + S128x2048.size a ≤ S512x2048.size a)
    (r : Fin 128) (k : Fin 2048) :
    (View.ld (Val := Elt Ideal) (e' := .bf16) x1 (Rect.unit (s := S512x2048) ![lo, 0] S128x2048.size inb) : FVec Ideal S128x2048 .bf16) (ix2 r k) =
      x1 (ix2 ⟨n.val * 128 + r.val, by omega⟩ k) := by
  subst hlo
  refine View.ld_unit_apply_of (S := S512x2048) (Val := Elt Ideal) (e := .bf16) x1 _ S128x2048.size inb (ix2 r k) _ fun a => ?_
  match a with
  | 0 => rfl
  | 1 => show k.val = 0 + k.val; omega

/-- A group's rows and columns of the gate. -/
theorem load_gate (n : Fin 4) (g : Fin 16) (lo q : Nat) (hlo : lo = n.val * 128) (hq : q = g.val * 128)
    (inb : ∀ a, (![lo, q] : Fin 2 → Nat) a + S128x128.size a ≤ S512x2048.size a) (r c : Fin 128) :
    (View.ld (Val := Elt Ideal) (e' := .bf16) x0 (Rect.unit (s := S512x2048) ![lo, q] S128x128.size inb) : FVec Ideal S128x128 .bf16) (ix2 r c) =
      x0 (ix2 ⟨n.val * 128 + r.val, by omega⟩ ⟨g.val * 128 + c.val, by omega⟩) := by
  subst hlo hq
  refine View.ld_unit_apply_of (S := S512x2048) (Val := Elt Ideal) (e := .bf16) x0 _ S128x128.size inb (ix2 r c) _ fun a => ?_
  match a with
  | 0 => rfl
  | 1 => rfl

/-- A group's matrix. -/
theorem load_group (y : FVec Ideal S16x128x128 .f32) (g : Fin 16) (o : Nat) (ho : o = g.val)
    (inb : ∀ a, (![o, 0, 0] : Fin 3 → Nat) a + S1x128x128.size a ≤ S16x128x128.size a) (r c : Fin 128) :
    (View.ld (Val := Elt Ideal) (e' := .f32) y (Rect.unit (s := S16x128x128) ![o, 0, 0] S1x128x128.size inb) : FVec Ideal S1x128x128 .f32) (ix3 0 r c) =
      y (ix3 g r c) := by
  subst ho
  refine View.ld_unit_apply_of (S := S16x128x128) (Val := Elt Ideal) (e := .f32) y _ S1x128x128.size inb (ix3 0 r c) _ fun a => ?_
  match a with
  | 0 => rfl
  | 1 => show r.val = 0 + r.val; omega
  | 2 => show c.val = 0 + c.val; omega

/-- The gain and the shift. -/
theorem load_line (y : FVec Ideal S1x2048 .f32) (inb : ∀ a, (![0, 0] : Fin 2 → Nat) a + S1x2048.size a ≤ S1x2048.size a) (k : Fin 2048) :
    (View.ld (Val := Elt Ideal) (e' := .f32) y (Rect.unit (s := S1x2048) ![0, 0] S1x2048.size inb) : FVec Ideal S1x2048 .f32) (ix2 0 k) = y (ix2 0 k) := by
  refine View.ld_unit_apply_of (S := S1x2048) (Val := Elt Ideal) (e := .f32) y _ S1x2048.size inb (ix2 0 k) _ fun a => ?_
  match a with
  | 0 => rfl
  | 1 => show k.val = 0 + k.val; omega

/-- A group's entry, its operands the staged blocks' parts. -/
theorem stored_at (n : Fin 4) (g : Fin 16) (lo q : Nat) (hlo : lo = n.val * 128) (hq : q = g.val * 128) (o : Nat) (ho : o = g.val)
    (h : S128x2048.Slices ![0, q] S128x128)
    (ir : ∀ a, (![lo, 0] : Fin 2 → Nat) a + S128x2048.size a ≤ S512x2048.size a)
    (il : ∀ a, (![0, 0] : Fin 2 → Nat) a + S1x2048.size a ≤ S1x2048.size a)
    (ig : ∀ a, (![o, 0, 0] : Fin 3 → Nat) a + S1x128x128.size a ≤ S16x128x128.size a)
    (iu : ∀ a, (![lo, q] : Fin 2 → Nat) a + S128x128.size a ≤ S512x2048.size a) (t c : Fin 128) :
    group q h (k0_pay2 (F := Ideal) (View.ld (Val := Elt Ideal) (e' := .bf16) x1 (Rect.unit (s := S512x2048) ![lo, 0] S128x2048.size ir))
        (View.ld (Val := Elt Ideal) (e' := .f32) x2 (Rect.unit (s := S1x2048) ![0, 0] S1x2048.size il)) (View.ld (Val := Elt Ideal) (e' := .f32) x3 (Rect.unit (s := S1x2048) ![0, 0] S1x2048.size il)))
      (View.ld (Val := Elt Ideal) (e' := .f32) x4 (Rect.unit (s := S16x128x128) ![o, 0, 0] S1x128x128.size ig)) (View.ld (Val := Elt Ideal) (e' := .f32) x5 (Rect.unit (s := S16x128x128) ![o, 0, 0] S1x128x128.size ig))
      (View.ld (Val := Elt Ideal) (e' := .bf16) x0 (Rect.unit (s := S512x2048) ![lo, q] S128x128.size iu)) (ix2 t c) = mixedAt x0 x1 x2 x3 x4 x5 n t g c := by
  refine (group_apply g q hq h _ _ _ _ t c).trans ?_
  unfold mixedAt
  rw [load_gate x0 n g lo q hlo hq iu, load_group x5 g o ho ig]
  refine congrArg _ (congrArg (· + x5 (ix3 g t c)) (Finset.sum_congr rfl fun s _ => ?_))
  rw [load_group x4 g o ho ig, pay2_apply, load_line, load_line]
  simp only [load_rows x1 n lo hlo ir]

/-- A store. -/
theorem stored (n : Fin 4) (g : Fin 16) (lo q : Nat) (hlo : lo = n.val * 128) (hq : q = g.val * 128) (o : Nat) (ho : o = g.val)
    (h : S128x2048.Slices ![0, q] S128x128)
    (ir : ∀ a, (![lo, 0] : Fin 2 → Nat) a + S128x2048.size a ≤ S512x2048.size a)
    (il : ∀ a, (![0, 0] : Fin 2 → Nat) a + S1x2048.size a ≤ S1x2048.size a)
    (ig : ∀ a, (![o, 0, 0] : Fin 3 → Nat) a + S1x128x128.size a ≤ S16x128x128.size a)
    (iu : ∀ a, (![lo, q] : Fin 2 → Nat) a + S128x128.size a ≤ S512x2048.size a)
    (x : (Rect.unit (s := S512x2048) ![lo, q] S128x128.size iu).shape.Idx) :
    group q h (k0_pay2 (F := Ideal) (View.ld (Val := Elt Ideal) (e' := .bf16) x1 (Rect.unit (s := S512x2048) ![lo, 0] S128x2048.size ir))
        (View.ld (Val := Elt Ideal) (e' := .f32) x2 (Rect.unit (s := S1x2048) ![0, 0] S1x2048.size il)) (View.ld (Val := Elt Ideal) (e' := .f32) x3 (Rect.unit (s := S1x2048) ![0, 0] S1x2048.size il)))
      (View.ld (Val := Elt Ideal) (e' := .f32) x4 (Rect.unit (s := S16x128x128) ![o, 0, 0] S1x128x128.size ig)) (View.ld (Val := Elt Ideal) (e' := .f32) x5 (Rect.unit (s := S16x128x128) ![o, 0, 0] S1x128x128.size ig))
      (View.ld (Val := Elt Ideal) (e' := .bf16) x0 (Rect.unit (s := S512x2048) ![lo, q] S128x128.size iu)) x =
      mixedBlock x0 x1 x2 x3 x4 x5 ((Rect.unit (s := S512x2048) ![lo, q] S128x128.size iu).emb x) := by
  refine Eq.trans ?_ (mixedBlock_emb x0 x1 x2 x3 x4 x5 n g lo q hlo hq iu x).symm
  have e : x = (ix2 (x 0) (x 1) : S128x128.Idx) := eq_ix2 (n0 := 128) (n1 := 128) x
  refine Eq.trans (congrArg (group q h _ _ _ _) e) ?_
  exact stored_at x0 x1 x2 x3 x4 x5 n g lo q hlo hq o ho h ir il ig iu (x 0) (x 1)

set_option maxHeartbeats 3200000 in
/-- The block the body leaves. -/
theorem out_eq : out0_6 (F := Ideal) x0 x1 x2 x3 x4 x5 = mixedBlock x0 x1 x2 x3 x4 x5 := by
  unfold out0_6
  refine funext fun y => ?_
  refine View.canon_apply_of_pieces (G := mixedBlock x0 x1 x2 x3 x4 x5) _ ?_ y (cover0_6 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact stored x0 x1 x2 x3 x4 x5 3 15 384 1920 rfl rfl 15 rfl slices_S128x2048_o0_1920_S128x128 _ _ _ _
  · exact stored x0 x1 x2 x3 x4 x5 3 14 384 1792 rfl rfl 14 rfl slices_S128x2048_o0_1792_S128x128 _ _ _ _
  · exact stored x0 x1 x2 x3 x4 x5 3 13 384 1664 rfl rfl 13 rfl slices_S128x2048_o0_1664_S128x128 _ _ _ _
  · exact stored x0 x1 x2 x3 x4 x5 3 12 384 1536 rfl rfl 12 rfl slices_S128x2048_o0_1536_S128x128 _ _ _ _
  · exact stored x0 x1 x2 x3 x4 x5 3 11 384 1408 rfl rfl 11 rfl slices_S128x2048_o0_1408_S128x128 _ _ _ _
  · exact stored x0 x1 x2 x3 x4 x5 3 10 384 1280 rfl rfl 10 rfl slices_S128x2048_o0_1280_S128x128 _ _ _ _
  · exact stored x0 x1 x2 x3 x4 x5 3 9 384 1152 rfl rfl 9 rfl slices_S128x2048_o0_1152_S128x128 _ _ _ _
  · exact stored x0 x1 x2 x3 x4 x5 3 8 384 1024 rfl rfl 8 rfl slices_S128x2048_o0_1024_S128x128 _ _ _ _
  · exact stored x0 x1 x2 x3 x4 x5 3 7 384 896 rfl rfl 7 rfl slices_S128x2048_o0_896_S128x128 _ _ _ _
  · exact stored x0 x1 x2 x3 x4 x5 3 6 384 768 rfl rfl 6 rfl slices_S128x2048_o0_768_S128x128 _ _ _ _
  · exact stored x0 x1 x2 x3 x4 x5 3 5 384 640 rfl rfl 5 rfl slices_S128x2048_o0_640_S128x128 _ _ _ _
  · exact stored x0 x1 x2 x3 x4 x5 3 4 384 512 rfl rfl 4 rfl slices_S128x2048_o0_512_S128x128 _ _ _ _
  · exact stored x0 x1 x2 x3 x4 x5 3 3 384 384 rfl rfl 3 rfl slices_S128x2048_o0_384_S128x128 _ _ _ _
  · exact stored x0 x1 x2 x3 x4 x5 3 2 384 256 rfl rfl 2 rfl slices_S128x2048_o0_256_S128x128 _ _ _ _
  · exact stored x0 x1 x2 x3 x4 x5 3 1 384 128 rfl rfl 1 rfl slices_S128x2048_o0_128_S128x128 _ _ _ _
  · exact stored x0 x1 x2 x3 x4 x5 3 0 384 0 rfl rfl 0 rfl slices_S128x2048_o0_0_S128x128 _ _ _ _
  · exact stored x0 x1 x2 x3 x4 x5 2 15 256 1920 rfl rfl 15 rfl slices_S128x2048_o0_1920_S128x128 _ _ _ _
  · exact stored x0 x1 x2 x3 x4 x5 2 14 256 1792 rfl rfl 14 rfl slices_S128x2048_o0_1792_S128x128 _ _ _ _
  · exact stored x0 x1 x2 x3 x4 x5 2 13 256 1664 rfl rfl 13 rfl slices_S128x2048_o0_1664_S128x128 _ _ _ _
  · exact stored x0 x1 x2 x3 x4 x5 2 12 256 1536 rfl rfl 12 rfl slices_S128x2048_o0_1536_S128x128 _ _ _ _
  · exact stored x0 x1 x2 x3 x4 x5 2 11 256 1408 rfl rfl 11 rfl slices_S128x2048_o0_1408_S128x128 _ _ _ _
  · exact stored x0 x1 x2 x3 x4 x5 2 10 256 1280 rfl rfl 10 rfl slices_S128x2048_o0_1280_S128x128 _ _ _ _
  · exact stored x0 x1 x2 x3 x4 x5 2 9 256 1152 rfl rfl 9 rfl slices_S128x2048_o0_1152_S128x128 _ _ _ _
  · exact stored x0 x1 x2 x3 x4 x5 2 8 256 1024 rfl rfl 8 rfl slices_S128x2048_o0_1024_S128x128 _ _ _ _
  · exact stored x0 x1 x2 x3 x4 x5 2 7 256 896 rfl rfl 7 rfl slices_S128x2048_o0_896_S128x128 _ _ _ _
  · exact stored x0 x1 x2 x3 x4 x5 2 6 256 768 rfl rfl 6 rfl slices_S128x2048_o0_768_S128x128 _ _ _ _
  · exact stored x0 x1 x2 x3 x4 x5 2 5 256 640 rfl rfl 5 rfl slices_S128x2048_o0_640_S128x128 _ _ _ _
  · exact stored x0 x1 x2 x3 x4 x5 2 4 256 512 rfl rfl 4 rfl slices_S128x2048_o0_512_S128x128 _ _ _ _
  · exact stored x0 x1 x2 x3 x4 x5 2 3 256 384 rfl rfl 3 rfl slices_S128x2048_o0_384_S128x128 _ _ _ _
  · exact stored x0 x1 x2 x3 x4 x5 2 2 256 256 rfl rfl 2 rfl slices_S128x2048_o0_256_S128x128 _ _ _ _
  · exact stored x0 x1 x2 x3 x4 x5 2 1 256 128 rfl rfl 1 rfl slices_S128x2048_o0_128_S128x128 _ _ _ _
  · exact stored x0 x1 x2 x3 x4 x5 2 0 256 0 rfl rfl 0 rfl slices_S128x2048_o0_0_S128x128 _ _ _ _
  · exact stored x0 x1 x2 x3 x4 x5 1 15 128 1920 rfl rfl 15 rfl slices_S128x2048_o0_1920_S128x128 _ _ _ _
  · exact stored x0 x1 x2 x3 x4 x5 1 14 128 1792 rfl rfl 14 rfl slices_S128x2048_o0_1792_S128x128 _ _ _ _
  · exact stored x0 x1 x2 x3 x4 x5 1 13 128 1664 rfl rfl 13 rfl slices_S128x2048_o0_1664_S128x128 _ _ _ _
  · exact stored x0 x1 x2 x3 x4 x5 1 12 128 1536 rfl rfl 12 rfl slices_S128x2048_o0_1536_S128x128 _ _ _ _
  · exact stored x0 x1 x2 x3 x4 x5 1 11 128 1408 rfl rfl 11 rfl slices_S128x2048_o0_1408_S128x128 _ _ _ _
  · exact stored x0 x1 x2 x3 x4 x5 1 10 128 1280 rfl rfl 10 rfl slices_S128x2048_o0_1280_S128x128 _ _ _ _
  · exact stored x0 x1 x2 x3 x4 x5 1 9 128 1152 rfl rfl 9 rfl slices_S128x2048_o0_1152_S128x128 _ _ _ _
  · exact stored x0 x1 x2 x3 x4 x5 1 8 128 1024 rfl rfl 8 rfl slices_S128x2048_o0_1024_S128x128 _ _ _ _
  · exact stored x0 x1 x2 x3 x4 x5 1 7 128 896 rfl rfl 7 rfl slices_S128x2048_o0_896_S128x128 _ _ _ _
  · exact stored x0 x1 x2 x3 x4 x5 1 6 128 768 rfl rfl 6 rfl slices_S128x2048_o0_768_S128x128 _ _ _ _
  · exact stored x0 x1 x2 x3 x4 x5 1 5 128 640 rfl rfl 5 rfl slices_S128x2048_o0_640_S128x128 _ _ _ _
  · exact stored x0 x1 x2 x3 x4 x5 1 4 128 512 rfl rfl 4 rfl slices_S128x2048_o0_512_S128x128 _ _ _ _
  · exact stored x0 x1 x2 x3 x4 x5 1 3 128 384 rfl rfl 3 rfl slices_S128x2048_o0_384_S128x128 _ _ _ _
  · exact stored x0 x1 x2 x3 x4 x5 1 2 128 256 rfl rfl 2 rfl slices_S128x2048_o0_256_S128x128 _ _ _ _
  · exact stored x0 x1 x2 x3 x4 x5 1 1 128 128 rfl rfl 1 rfl slices_S128x2048_o0_128_S128x128 _ _ _ _
  · exact stored x0 x1 x2 x3 x4 x5 1 0 128 0 rfl rfl 0 rfl slices_S128x2048_o0_0_S128x128 _ _ _ _
  · exact stored x0 x1 x2 x3 x4 x5 0 15 0 1920 rfl rfl 15 rfl slices_S128x2048_o0_1920_S128x128 _ _ _ _
  · exact stored x0 x1 x2 x3 x4 x5 0 14 0 1792 rfl rfl 14 rfl slices_S128x2048_o0_1792_S128x128 _ _ _ _
  · exact stored x0 x1 x2 x3 x4 x5 0 13 0 1664 rfl rfl 13 rfl slices_S128x2048_o0_1664_S128x128 _ _ _ _
  · exact stored x0 x1 x2 x3 x4 x5 0 12 0 1536 rfl rfl 12 rfl slices_S128x2048_o0_1536_S128x128 _ _ _ _
  · exact stored x0 x1 x2 x3 x4 x5 0 11 0 1408 rfl rfl 11 rfl slices_S128x2048_o0_1408_S128x128 _ _ _ _
  · exact stored x0 x1 x2 x3 x4 x5 0 10 0 1280 rfl rfl 10 rfl slices_S128x2048_o0_1280_S128x128 _ _ _ _
  · exact stored x0 x1 x2 x3 x4 x5 0 9 0 1152 rfl rfl 9 rfl slices_S128x2048_o0_1152_S128x128 _ _ _ _
  · exact stored x0 x1 x2 x3 x4 x5 0 8 0 1024 rfl rfl 8 rfl slices_S128x2048_o0_1024_S128x128 _ _ _ _
  · exact stored x0 x1 x2 x3 x4 x5 0 7 0 896 rfl rfl 7 rfl slices_S128x2048_o0_896_S128x128 _ _ _ _
  · exact stored x0 x1 x2 x3 x4 x5 0 6 0 768 rfl rfl 6 rfl slices_S128x2048_o0_768_S128x128 _ _ _ _
  · exact stored x0 x1 x2 x3 x4 x5 0 5 0 640 rfl rfl 5 rfl slices_S128x2048_o0_640_S128x128 _ _ _ _
  · exact stored x0 x1 x2 x3 x4 x5 0 4 0 512 rfl rfl 4 rfl slices_S128x2048_o0_512_S128x128 _ _ _ _
  · exact stored x0 x1 x2 x3 x4 x5 0 3 0 384 rfl rfl 3 rfl slices_S128x2048_o0_384_S128x128 _ _ _ _
  · exact stored x0 x1 x2 x3 x4 x5 0 2 0 256 rfl rfl 2 rfl slices_S128x2048_o0_256_S128x128 _ _ _ _
  · exact stored x0 x1 x2 x3 x4 x5 0 1 0 128 rfl rfl 1 rfl slices_S128x2048_o0_128_S128x128 _ _ _ _
  · exact stored x0 x1 x2 x3 x4 x5 0 0 0 0 rfl rfl 0 rfl slices_S128x2048_o0_0_S128x128 _ _ _ _

end Cert.SguIdeal.Hand

end
-- ==== Proof.Sgu.Value.lean ====
/-
  The spatial unit's result over the extended reals, as one function of the arguments, and the run with the result array at it.
-/
module

public import proofs.«01_k».proof.Proof.Sgu.Stored
public import proofs.«01_k».proof.Proof.Gen.SguIdeal.Points

@[expose] public section

set_option maxRecDepth 16384

noncomputable section

namespace Cert.SguIdeal.Hand

open Idealize.ShloMosaic Idealize.ShloMosaic.TcCoe Idealize.ShloMosaic.Tactic Idealize.SL.Sem
open Cert.SguIdeal Cert.SguIdeal.Gen

/-- An entry of the result: token `t` of chunk `n`, lane `c` of group `g`. -/
def unitAt (X : FVec Ideal S16384x4096 .bf16) (G B : FVec Ideal S1x2048 .f32) (W : FVec Ideal S1x16x128x128 .f32) (b : FVec Ideal S1x16x128 .f32)
    (n t : Fin 128) (g : Fin 16) (c : Fin 128) : EReal :=
  X (ix2 ⟨n.val * 128 + t.val, by omega⟩ ⟨g.val * 128 + c.val, by omega⟩) *
    ((∑ s : Fin 128, (if s.val ≤ t.val then W (ix4 0 g t s) else 0) *
        normed (fun k => X (ix2 ⟨n.val * 128 + s.val, by omega⟩ ⟨2048 + k.val, by omega⟩)) (G (ix2 0 ⟨g.val * 128 + c.val, by omega⟩))
          (B (ix2 0 ⟨g.val * 128 + c.val, by omega⟩)) ⟨g.val * 128 + c.val, by omega⟩)
      + b (ix3 0 g t))

/-- The result. -/
def unit (X : FVec Ideal S16384x4096 .bf16) (G B : FVec Ideal S1x2048 .f32) (W : FVec Ideal S1x16x128x128 .f32) (b : FVec Ideal S1x16x128 .f32) :
    FVec Ideal S16384x2048 .bf16 := fun y =>
  unitAt X G B W b ⟨(y 0).val / 128, by have : (y 0).val < 16384 := (y 0).isLt; omega⟩ ⟨(y 0).val % 128, by omega⟩
    ⟨(y 1).val / 128, by have : (y 1).val < 2048 := (y 1).isLt; omega⟩ ⟨(y 1).val % 128, by omega⟩

variable (m : (ℓ : Loc nD τ sig) → Buf (Elt Ideal) ℓ) (ρ : Dev nD → PrngReg) (c : Dev nD)

/-- The arguments. -/
abbrev aX : FVec Ideal S16384x4096 .bf16 := m ((c : Thread nD τ).loc main_arg0)
abbrev aG : FVec Ideal S1x2048 .f32 := m ((c : Thread nD τ).loc main_arg1)
abbrev aB : FVec Ideal S1x2048 .f32 := m ((c : Thread nD τ).loc main_arg2)
abbrev aW : FVec Ideal S1x16x128x128 .f32 := m ((c : Thread nD τ).loc main_arg3)
abbrev ab : FVec Ideal S1x16x128 .f32 := m ((c : Thread nD τ).loc main_arg4)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

theorem t_lt (t : Fin cfg0.N) : t.val < 32 := lt_of_lt_of_eq t.isLt N_0

/-! ## The arrays as the region finds them -/

theorem V_main_v6 (k : Fin 2048) : (V (F := Ideal) m c main_v6 : FVec Ideal S1x2048 .f32) (ix2 0 k) = aG m c (ix2 0 k) := by
  have e : (V (F := Ideal) m c main_v6 : FVec Ideal S1x2048 .f32) =
      shapeCast S1x2048 (shapeCast S2048 (aG m c) shapeCasts_S1x2048_S2048) shapeCasts_S2048_S1x2048 := by
    show StableHlo.after hostOps0 (fun b => m (c, b)) main_v6 = _
    after_results
    rfl
  rw [e]
  pointwise []

theorem V_main_v7 (k : Fin 2048) : (V (F := Ideal) m c main_v7 : FVec Ideal S1x2048 .f32) (ix2 0 k) = aB m c (ix2 0 k) := by
  have e : (V (F := Ideal) m c main_v7 : FVec Ideal S1x2048 .f32) =
      shapeCast S1x2048 (shapeCast S2048 (aB m c) shapeCasts_S1x2048_S2048) shapeCasts_S2048_S1x2048 := by
    show StableHlo.after hostOps0 (fun b => m (c, b)) main_v7 = _
    after_results
    rfl
  rw [e]
  pointwise []

theorem V_main_v2 (g : Fin 16) (t s : Fin 128) : (V (F := Ideal) m c main_v2 : FVec Ideal S16x128x128 .f32) (ix3 g t s) = aW m c (ix4 0 g t s) := by
  have e : (V (F := Ideal) m c main_v2 : FVec Ideal S16x128x128 .f32) = shapeCast S16x128x128 (aW m c) shapeCasts_S1x16x128x128_S16x128x128 := by
    show StableHlo.after hostOps0 (fun b => m (c, b)) main_v2 = _
    after_results
    rfl
  rw [e]
  pointwise []

theorem V_main_v5 (g : Fin 16) (t s : Fin 128) : (V (F := Ideal) m c main_v5 : FVec Ideal S16x128x128 .f32) (ix3 g t s) = ab m c (ix3 0 g t) := by
  have e : (V (F := Ideal) m c main_v5 : FVec Ideal S16x128x128 .f32) =
      broadcastInDim S16x128x128 ![0, 1, 2] bcast_S16x128x1_S16x128x128_0_1_2
        (broadcastInDim S16x128x1 ![0, 1] bcast_S16x128_S16x128x1_0_1 (shapeCast S16x128 (ab m c) shapeCasts_S1x16x128_S16x128)) := by
    show StableHlo.after hostOps0 (fun b => m (c, b)) main_v5 = _
    after_results
    rfl
  rw [e]
  pointwise []

section Blocks

variable (t : Fin cfg0.N)

theorem iblk0_apply (a : Fin 512) (x : Fin 2048) (r : Fin 16384) (hr : r.val = t.val * 512 + a.val) (k : Fin 4096) (hk : k.val = x.val) :
    (iblk (F := Ideal) m c 0 t : FVec Ideal S512x2048 .bf16) (ix2 a x) = aX m c (ix2 r k) := by
  refine Eq.trans (b := (V (F := Ideal) m c main_arg0 : FVec Ideal S16384x4096 .bf16) (ix2 r k)) ?_ (by rw [V_main_arg0])
  refine congrArg (V (F := Ideal) m c main_arg0 : FVec Ideal S16384x4096 .bf16) (funext fun y => Fin.ext ?_)
  match y with
  | ⟨0, _⟩ => show win0_0.index t (0 : Fin 2) * 512 + 1 * a.val = r.val; rw [(idx0 t).1]; omega
  | ⟨1, _⟩ => show win0_0.index t (1 : Fin 2) * 2048 + 1 * x.val = k.val; rw [(idx0 t).2]; omega

theorem iblk1_apply (a : Fin 512) (x : Fin 2048) (r : Fin 16384) (hr : r.val = t.val * 512 + a.val) (k : Fin 4096) (hk : k.val = 2048 + x.val) :
    (iblk (F := Ideal) m c 1 t : FVec Ideal S512x2048 .bf16) (ix2 a x) = aX m c (ix2 r k) := by
  refine Eq.trans (b := (V (F := Ideal) m c main_arg0 : FVec Ideal S16384x4096 .bf16) (ix2 r k)) ?_ (by rw [V_main_arg0])
  refine congrArg (V (F := Ideal) m c main_arg0 : FVec Ideal S16384x4096 .bf16) (funext fun y => Fin.ext ?_)
  match y with
  | ⟨0, _⟩ => show win0_1.index t (0 : Fin 2) * 512 + 1 * a.val = r.val; rw [(idx1 t).1]; omega
  | ⟨1, _⟩ => show win0_1.index t (1 : Fin 2) * 2048 + 1 * x.val = k.val; rw [(idx1 t).2]; omega

theorem iblk2_apply (k : Fin 2048) : (iblk (F := Ideal) m c 2 t : FVec Ideal S1x2048 .f32) (ix2 0 k) = aG m c (ix2 0 k) := by
  refine Eq.trans ?_ (V_main_v6 m c k)
  refine congrArg (V (F := Ideal) m c main_v6 : FVec Ideal S1x2048 .f32) (funext fun y => Fin.ext ?_)
  match y with
  | ⟨0, _⟩ => show win0_2.index t (0 : Fin 2) * 1 + 1 * 0 = 0; rw [(idx2 t).1]
  | ⟨1, _⟩ => show win0_2.index t (1 : Fin 2) * 2048 + 1 * k.val = k.val; rw [(idx2 t).2]; omega

theorem iblk3_apply (k : Fin 2048) : (iblk (F := Ideal) m c 3 t : FVec Ideal S1x2048 .f32) (ix2 0 k) = aB m c (ix2 0 k) := by
  refine Eq.trans ?_ (V_main_v7 m c k)
  refine congrArg (V (F := Ideal) m c main_v7 : FVec Ideal S1x2048 .f32) (funext fun y => Fin.ext ?_)
  match y with
  | ⟨0, _⟩ => show win0_3.index t (0 : Fin 2) * 1 + 1 * 0 = 0; rw [(idx3 t).1]
  | ⟨1, _⟩ => show win0_3.index t (1 : Fin 2) * 2048 + 1 * k.val = k.val; rw [(idx3 t).2]; omega

theorem iblk4_apply (g : Fin 16) (a b : Fin 128) : (iblk (F := Ideal) m c 4 t : FVec Ideal S16x128x128 .f32) (ix3 g a b) = aW m c (ix4 0 g a b) := by
  refine Eq.trans ?_ (V_main_v2 m c g a b)
  refine congrArg (V (F := Ideal) m c main_v2 : FVec Ideal S16x128x128 .f32) (funext fun y => Fin.ext ?_)
  match y with
  | ⟨0, _⟩ => show win0_4.index t (0 : Fin 3) * 16 + 1 * g.val = g.val; rw [(idx4 t).1]; omega
  | ⟨1, _⟩ => show win0_4.index t (1 : Fin 3) * 128 + 1 * a.val = a.val; rw [(idx4 t).2.1]; omega
  | ⟨2, _⟩ => show win0_4.index t (2 : Fin 3) * 128 + 1 * b.val = b.val; rw [(idx4 t).2.2]; omega

theorem iblk5_apply (g : Fin 16) (a b : Fin 128) : (iblk (F := Ideal) m c 5 t : FVec Ideal S16x128x128 .f32) (ix3 g a b) = ab m c (ix3 0 g a) := by
  refine Eq.trans ?_ (V_main_v5 m c g a b)
  refine congrArg (V (F := Ideal) m c main_v5 : FVec Ideal S16x128x128 .f32) (funext fun y => Fin.ext ?_)
  match y with
  | ⟨0, _⟩ => show win0_5.index t (0 : Fin 3) * 16 + 1 * g.val = g.val; rw [(idx5 t).1]; omega
  | ⟨1, _⟩ => show win0_5.index t (1 : Fin 3) * 128 + 1 * a.val = a.val; rw [(idx5 t).2.1]; omega
  | ⟨2, _⟩ => show win0_5.index t (2 : Fin 3) * 128 + 1 * b.val = b.val; rw [(idx5 t).2.2]; omega

/-- An entry of a point's block. -/
theorem mixedAt_eq (n : Fin 4) (n' : Fin 128) (hn : n'.val = t.val * 4 + n.val) (r : Fin 128) (g : Fin 16) (q : Fin 128) :
    mixedAt (iblk (F := Ideal) m c 0 t) (iblk (F := Ideal) m c 1 t) (iblk (F := Ideal) m c 2 t) (iblk (F := Ideal) m c 3 t)
      (iblk (F := Ideal) m c 4 t) (iblk (F := Ideal) m c 5 t) n r g q = unitAt (aX m c) (aG m c) (aB m c) (aW m c) (ab m c) n' r g q := by
  unfold mixedAt unitAt
  refine congrArg₂ (· * ·) (iblk0_apply m c t _ _ _ (by simp only [hn]; omega) _ rfl)
    (congrArg₂ (· + ·) (Finset.sum_congr rfl fun s _ => ?_) (iblk5_apply m c t g r q))
  refine congrArg₂ (· * ·) ?_ ?_
  · rw [iblk4_apply m c t g r s]
  · rw [iblk2_apply m c t, iblk3_apply m c t]
    exact congrArg (fun f => normed f _ _ _) (funext fun k => iblk1_apply m c t _ _ _ (by simp only [hn]; omega) _ rfl)

end Blocks

/-! ## The result array -/

theorem final6 : (dats (F := Ideal) m 0 c).arrAt 6 cfg0.N = unit (aX m c) (aG m c) (aB m c) (aW m c) (ab m c) := by
  refine (dats m 0 c).arrAt_eq_of_covers 6 _ (by decide +kernel) fun t hf (y : S512x2048.Idx) => ?_
  blk_simp
  rw [after0_6]
  have h0 : (y 0).val < 512 := (y 0).isLt
  have h1 : (y 1).val < 2048 := (y 1).isLt
  have ht := t_lt t
  have e0 : ((((View.whole main_v8).slice (win0_6.rect t)).emb y) 0).val = t.val * 512 + (y 0).val := by
    show win0_6.index t (0 : Fin 2) * 512 + 1 * (y 0).val = _; rw [(idx6 t).1]; omega
  have e1 : ((((View.whole main_v8).slice (win0_6.rect t)).emb y) 1).val = (y 1).val := by
    show win0_6.index t (1 : Fin 2) * 2048 + 1 * (y 1).val = _; rw [(idx6 t).2]; omega
  refine (congrFun (out_eq (iblk (F := Ideal) m c 0 t) (iblk (F := Ideal) m c 1 t) (iblk (F := Ideal) m c 2 t) (iblk (F := Ideal) m c 3 t)
    (iblk (F := Ideal) m c 4 t) (iblk (F := Ideal) m c 5 t)) y).trans ?_
  refine (mixedAt_eq m c t _ ⟨t.val * 4 + (y 0).val / 128, by omega⟩ rfl _ _ _).trans ?_
  unfold unit
  congr 1 <;> refine Fin.ext ?_ <;> simp only [e0, e1] <;> omega

/-- The run: it ends with the result array at that function of the arguments, and these as they were. -/
theorem run : θ_run defs (onTc (τ := τ) (main (F := Ideal))) ⟨m, fun _ => 0, ρ⟩ fun r => ∀ c : Dev nD,
      r.2.mem ((c.tc : Thread nD τ).loc main_v8) = unit (aX m c) (aG m c) (aB m c) (aW m c) (ab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 6).trans (final6 m c), h.2 c⟩)
    (θ_run_and (run_main (F := Ideal) m ρ) (unchanged (F := Ideal) m ρ))

end Cert.SguIdeal.Hand

end
-- ==== Proof.Sgu.Equal.lean ====
/-
  The spatial unit's result array is the reference's, for any arguments.
-/
module

public import proofs.«01_k».proof.Proof.Sgu.Value
public import proofs.«01_k».proof.Proof.Gen.SguRefIdeal.Read
public import Idealize.ShloMosaic.PureOps.Ideal.Laws

@[expose] public section

set_option maxRecDepth 16384

noncomputable section

namespace Cert.SguEqual

open Idealize.ShloMosaic Idealize.ShloMosaic.TcCoe Idealize.ShloMosaic.Tactic
open Cert.SguIdeal (S16384x4096 S1x2048 S1x16x128x128 S1x16x128 S16384x2048)
open Cert.SguIdeal.Hand (mean normed unitAt)
open Cert.SguRefIdeal.Read

variable (X : FVec Ideal S16384x4096 .bf16) (G B : FVec Ideal S1x2048 .f32) (W : FVec Ideal S1x16x128x128 .f32) (b : FVec Ideal S1x16x128 .f32)

/-- Row `r` of sequence `s`. -/
abbrev row (s : Fin 4) (r : Fin 4096) : Fin 16384 := ⟨s.val * 4096 + r.val, by omega⟩

/-- The gated half and the normalised half of a row. -/
theorem gate_apply (s : Fin 4) (r : Fin 4096) (k : Fin 2048) : (val_main_v2 (F := Ideal) X) (ix3 s r k) = X (ix2 (row s r) ⟨k.val, by omega⟩) := by
  pointwise [val_main_v2, val_main_v1, val_main_v0]
theorem half_apply (s : Fin 4) (r : Fin 4096) (k : Fin 2048) : (val_main_v3 (F := Ideal) X) (ix3 s r k) = X (ix2 (row s r) ⟨2048 + k.val, by omega⟩) := by
  pointwise [val_main_v3, val_main_v1, val_main_v0]

/-- A row centred. -/
theorem centred_apply (s : Fin 4) (r : Fin 4096) (k : Fin 2048) : (val_main_v9 (F := Ideal) X) (ix3 s r k) =
    X (ix2 (row s r) ⟨2048 + k.val, by omega⟩) - mean fun k => X (ix2 (row s r) ⟨2048 + k.val, by omega⟩) := by
  have z : val_main_cst (F := Ideal) (Shape.Idx.first SguRefIdeal.Gen.h_S_) = 0 := by pointwise [val_main_cst]
  have w : val_main_cst_0 (F := Ideal) ix0 = Ideal.ofBits .f32 0x45000000#32 := by pointwise [val_main_cst_0]
  unfold mean
  pointwise [val_main_v9, val_main_v8, val_main_v7, val_main_v6, val_main_v5, val_main_v4]
  rw [z, w, zero_add]
  simp only [half_apply]

/-- A row normalised, scaled and shifted. -/
theorem normed_apply (s : Fin 4) (r : Fin 4096) (k : Fin 2048) : (val_main_v27 (F := Ideal) X G B) (ix3 s r k) =
    normed (fun k => X (ix2 (row s r) ⟨2048 + k.val, by omega⟩)) (G (ix2 0 k)) (B (ix2 0 k)) k := by
  have z : val_main_cst_1 (F := Ideal) (Shape.Idx.first SguRefIdeal.Gen.h_S_) = 0 := by pointwise [val_main_cst_1]
  have w : val_main_cst_2 (F := Ideal) ix0 = Ideal.ofBits .f32 0x45000000#32 := by pointwise [val_main_cst_2]
  have e : val_main_cst_3 (F := Ideal) ix0 = Ideal.ofBits .f32 0x3727C5AC#32 := by pointwise [val_main_cst_3]
  unfold normed
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10]
  rw [z, w, e, zero_add]
  simp only [centred_apply]
  rfl

/-- The masked weights. -/
theorem weight_apply (g : Fin 16) (t s : Fin 128) : (val_main_v33 (F := Ideal) W) (ix3 g t s) = if s.val ≤ t.val then W (ix4 0 g t s) else 0 := by
  pointwise [val_main_v33, val_main_v32, val_main_v31, val_main_v30, val_main_v29, val_main_call1_v0, val_main_call1_v1, val_main_call1_v2,
    val_main_call0_v0, val_main_call0_v1, val_main_call0_v2, val_main_call0_v3, val_main_call0_v4, val_main_call0_v5, val_main_call0_c,
    val_main_call0_c_0, val_main_c, val_main_cst_4]
  have a : IntOp.addi (BitVec.ofNat 32 t.val) 0#32 = BitVec.ofNat 32 t.val := by unfold IntOp.addi; exact BitVec.add_zero _
  have z : id (constant (F := Ideal) SguRefIdeal.S_ FTy.f32 0#32) ix0 = 0 := Ideal.ofBits_zero_f32
  rw [a, z, WordCmp.cmpi_sge_ofNat (by omega) (by omega)]
  by_cases h : s.val ≤ t.val
  · rw [if_pos h, decide_eq_true h]; rfl
  · rw [if_neg h, decide_eq_false h]; rfl

/-- The mixed rows by sequence, chunk, token, group and lane. -/
theorem mixed_apply (s : Fin 4) (n : Fin 32) (t : Fin 128) (g : Fin 16) (c : Fin 128) :
    (val_main_v41 (F := Ideal) X G B W b) (ix5 s n t g c) =
      (∑ q : Fin 128, (val_main_v27 (F := Ideal) X G B) (ix3 s ⟨n.val * 128 + q.val, by omega⟩ ⟨g.val * 128 + c.val, by omega⟩)
          * (val_main_v33 (F := Ideal) W) (ix3 g t q)) + b (ix3 0 g t) := by
  pointwise [val_main_v41, val_main_v40, val_main_v39, val_main_v38, val_main_v37, val_main_v36, val_main_v35, val_main_v34, val_main_v28]

/-- The result at a token and a lane. -/
theorem unit_apply (s : Fin 4) (n : Fin 32) (t : Fin 128) (g : Fin 16) (c : Fin 128) :
    (val_main_v45 (F := Ideal) X G B W b) (ix2 (row s ⟨n.val * 128 + t.val, by omega⟩) ⟨g.val * 128 + c.val, by omega⟩) =
      (val_main_v2 (F := Ideal) X) (ix3 s ⟨n.val * 128 + t.val, by omega⟩ ⟨g.val * 128 + c.val, by omega⟩)
        * (val_main_v41 (F := Ideal) X G B W b) (ix5 s n t g c) := by
  have hs := s.isLt
  have hn := n.isLt
  have ht := t.isLt
  have hg := g.isLt
  have hc := c.isLt
  rw [val_main_v45_apply]
  refine Eq.trans (b := (val_main_v44 (F := Ideal) X G B W b) (ix3 s ⟨n.val * 128 + t.val, by omega⟩ ⟨g.val * 128 + c.val, by omega⟩))
    (congrArg _ (funext fun a => Fin.ext ?_)) ?_
  · match a with
    | ⟨0, _⟩ => show ((s.val * 4096 + (n.val * 128 + t.val)) * 2048 + (g.val * 128 + c.val)) / 8388608 = s.val; omega
    | ⟨1, _⟩ => show ((s.val * 4096 + (n.val * 128 + t.val)) * 2048 + (g.val * 128 + c.val)) / 2048 % 4096 = n.val * 128 + t.val; omega
    | ⟨2, _⟩ => show ((s.val * 4096 + (n.val * 128 + t.val)) * 2048 + (g.val * 128 + c.val)) % 2048 = g.val * 128 + c.val; omega
  · pointwise [val_main_v44, val_main_v43]
    rw [val_main_v42_apply]
    refine congrArg₂ (fun u v : EReal => u * v) rfl (congrArg (val_main_v41 (F := Ideal) X G B W b) (funext fun a => Fin.ext ?_))
    match a with
    | ⟨0, _⟩ => show ((s.val * 4096 + (n.val * 128 + t.val)) * 2048 + (g.val * 128 + c.val)) / 8388608 = s.val; omega
    | ⟨1, _⟩ => show ((s.val * 4096 + (n.val * 128 + t.val)) * 2048 + (g.val * 128 + c.val)) / 262144 % 32 = n.val; omega
    | ⟨2, _⟩ => show ((s.val * 4096 + (n.val * 128 + t.val)) * 2048 + (g.val * 128 + c.val)) / 2048 % 128 = t.val; omega
    | ⟨3, _⟩ => show ((s.val * 4096 + (n.val * 128 + t.val)) * 2048 + (g.val * 128 + c.val)) / 128 % 16 = g.val; omega
    | ⟨4, _⟩ => show ((s.val * 4096 + (n.val * 128 + t.val)) * 2048 + (g.val * 128 + c.val)) % 128 = c.val; omega

/-- The results agree at a token and a lane. -/
theorem unit_at (s : Fin 4) (n : Fin 32) (t : Fin 128) (g : Fin 16) (c : Fin 128) :
    unitAt X G B W b ⟨s.val * 32 + n.val, by omega⟩ t g c =
      (val_main_v45 (F := Ideal) X G B W b) (ix2 (row s ⟨n.val * 128 + t.val, by omega⟩) ⟨g.val * 128 + c.val, by omega⟩) := by
  have r (q : Fin 128) : (⟨(s.val * 32 + n.val) * 128 + q.val, by omega⟩ : Fin 16384) = row s ⟨n.val * 128 + q.val, by omega⟩ :=
    Fin.ext (by simp only; omega)
  rw [unit_apply, mixed_apply, gate_apply]
  unfold unitAt
  simp only [r, normed_apply, weight_apply]
  refine congrArg (fun v : EReal => _ * v) (congrArg (fun v : EReal => v + _) (Finset.sum_congr rfl fun q _ => mul_comm _ _))

/-- The results agree. -/
theorem unit : SguIdeal.Hand.unit X G B W b = val_main_v45 (F := Ideal) X G B W b := by
  refine funext fun (y : S16384x2048.Idx) => ?_
  have h0 : (y 0).val < 16384 := (y 0).isLt
  have h1 : (y 1).val < 2048 := (y 1).isLt
  have e : y = ix2 (n0 := 16384) (n1 := 2048) (row ⟨(y 0).val / 4096, by omega⟩ ⟨(y 0).val / 128 % 32 * 128 + (y 0).val % 128, by omega⟩)
      ⟨(y 1).val / 128 * 128 + (y 1).val % 128, by omega⟩ := by
    refine (eq_ix2 (n0 := 16384) (n1 := 2048) y).trans (congrArg₂ ix2 (Fin.ext ?_) (Fin.ext ?_))
    · show (y 0).val = (y 0).val / 4096 * 4096 + ((y 0).val / 128 % 32 * 128 + (y 0).val % 128); omega
    · show (y 1).val = (y 1).val / 128 * 128 + (y 1).val % 128; omega
  refine Eq.trans ?_ ((unit_at X G B W b ⟨(y 0).val / 4096, by omega⟩ ⟨(y 0).val / 128 % 32, by omega⟩ ⟨(y 0).val % 128, by omega⟩
    ⟨(y 1).val / 128, by omega⟩ ⟨(y 1).val % 128, by omega⟩).trans (congrArg (val_main_v45 (F := Ideal) X G B W b) e.symm))
  show unitAt X G B W b _ _ _ _ = _
  refine congrArg (fun n => unitAt X G B W b n _ _ _) (Fin.ext ?_)
  show (y 0).val / 128 = (y 0).val / 4096 * 32 + (y 0).val / 128 % 32
  omega

end Cert.SguEqual

end
-- ==== Proof.lean ====
/-
  The proof of the certificate's claims about the layer's nine calls: the attention, the feed-forward, the projections into
  the gates, the spatial unit and the queries, keys and values, the mixing, the modulation, the norm before the projections,
  and the spatial unit. For each: that the kernel, the idealized kernel and the reference run and keep their arguments, that
  the idealized kernel is the kernel's own text (in the projection into queries, keys and values with its pairs of halves in
  words read as rows), and that the idealized kernel and the idealized reference end with equal results.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Att.Equal
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Ffn.Equal
public import proofs.«01_k».proof.Proof.Gen.Gates.Frame
public import proofs.«01_k».proof.Proof.Gen.GatesIdeal.Frame
public import proofs.«01_k».proof.Proof.Gen.GatesRefIdeal.Run
public import proofs.«01_k».proof.Proof.Gen.GatesRefIdeal.Read
public import proofs.«01_k».proof.Proof.Gates.Equal
public import proofs.«01_k».proof.Proof.Gen.Uv.Frame
public import proofs.«01_k».proof.Proof.Gen.UvIdeal.Frame
public import proofs.«01_k».proof.Proof.Gen.UvRefIdeal.Run
public import proofs.«01_k».proof.Proof.Gen.UvRefIdeal.Read
public import proofs.«01_k».proof.Proof.Uv.Equal
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.Mix.Equal
public import proofs.«01_k».proof.Proof.Gen.Qkv.Frame
public import proofs.«01_k».proof.Proof.Gen.QkvIdeal.Frame
public import proofs.«01_k».proof.Proof.Gen.QkvRefIdeal.Run
public import proofs.«01_k».proof.Proof.Gen.QkvRefIdeal.Read
public import proofs.«01_k».proof.Proof.Qkv.Equal
public import proofs.«01_k».proof.Proof.Gen.Ada.Frame
public import proofs.«01_k».proof.Proof.Gen.AdaIdeal.Frame
public import proofs.«01_k».proof.Proof.Gen.AdaRefIdeal.Run
public import proofs.«01_k».proof.Proof.Gen.AdaRefIdeal.Read
public import proofs.«01_k».proof.Proof.Ada.Equal
public import proofs.«01_k».proof.Proof.Gen.Prenorm.Frame
public import proofs.«01_k».proof.Proof.Gen.PrenormIdeal.Frame
public import proofs.«01_k».proof.Proof.Gen.PrenormRefIdeal.Run
public import proofs.«01_k».proof.Proof.Gen.PrenormRefIdeal.Read
public import proofs.«01_k».proof.Proof.Prenorm.Equal
public import proofs.«01_k».proof.Proof.Gen.Sgu.Frame
public import proofs.«01_k».proof.Proof.Gen.SguIdeal.Frame
public import proofs.«01_k».proof.Proof.Gen.SguRefIdeal.Run
public import proofs.«01_k».proof.Proof.Gen.SguRefIdeal.Read
public import proofs.«01_k».proof.Proof.Sgu.Equal
public import Idealize.ShloMosaic.Lib.Bf16Pair

@[expose] public section

noncomputable section

namespace Cert.Proof

open Idealize.ShloMosaic Idealize.SL.Sem

/-- The reference runs, keeps its arguments, and has no semaphore. -/
theorem frame_attnRef : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The idealized kernel and the idealized reference end with equal results, when the queries, the keys and the sinks are
    finite. -/
theorem algebraic_attn : Cert.algebraic_AttnIdeal_AttnRefIdeal_pre_finite_scores := by
  intro m ρ m' ρ' hpre hagree
  refine ⟨fun c => Cert.AttnIdeal.Att.G (m ((c.tc : Thread Cert.AttnIdeal.nD Cert.AttnIdeal.τ).loc Cert.AttnIdeal.main_arg0))
    (m ((c.tc : Thread Cert.AttnIdeal.nD Cert.AttnIdeal.τ).loc Cert.AttnIdeal.main_arg1)), Cert.AttnIdeal.Att.run m ρ, ?_⟩
  refine (θ_run Cert.AttnRefIdeal.defs _ _).mono (fun r h c => ⟨(h c).1.trans ?_, (h c).2⟩)
    (Cert.AttnRefIdeal.Value.run (F := Ideal) m' ρ')
  rw [Cert.AttnRefIdeal.Read.val_main_v77_eq, (hagree c).1, (hagree c).2]
  exact (Cert.AttEqual.equal _ _ (Cert.AttEqual.real_arg0 _ _ (hpre c).1) (Cert.AttEqual.real_arg1 _ _ (hpre c).2)).symm

/-- The two feed-forward programs have the same bodies, … -/
theorem ffn_defs₀ : Cert.Ffn.defs₀ (F := Bits) = Cert.FfnIdeal.defs₀ (F := Bits) := by
  unfold Cert.Ffn.defs₀ Cert.FfnIdeal.defs₀
  refine congrArg _ (funext fun l => funext fun x => ?_)
  match l, x with
  | 0, (t, s) => rfl

/-- … so the same tables. -/
theorem ffn_defs : Cert.Ffn.defs (F := Bits) = Cert.FfnIdeal.defs (F := Bits) := congrArg (Pipeline.defs Cert.FfnIdeal.pcfgs) ffn_defs₀

/-- The feed-forward kernel in bit arithmetic runs and keeps its arguments: its text is the idealized kernel's, whose run is
    for any values. -/
theorem frame_ffn : Cert.quiescent_Ffn := fun m ρ _ => by
  have h := Cert.FfnIdeal.Hand.frame (F := Bits) m ρ
  rw [← ffn_defs] at h
  exact h

/-- The feed-forward's reference runs, keeps its arguments, and has no semaphore. -/
theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The idealized feed-forward kernel and its idealized reference end with equal results. -/
theorem algebraic_ffn : Cert.algebraic_FfnIdeal_FfnRefIdeal := by
  intro m ρ m' ρ' _ hagree
  refine ⟨fun c => Cert.FfnIdeal.Hand.G (Cert.FfnIdeal.Hand.aH m c) (Cert.FfnIdeal.Hand.aG m c) (Cert.FfnIdeal.Hand.aU m c)
    (Cert.FfnIdeal.Hand.aD m c) (Cert.FfnIdeal.Hand.aX m c) (Cert.FfnIdeal.Hand.aP m c) (Cert.FfnIdeal.Hand.aM m c),
    Cert.FfnIdeal.Hand.run m ρ, ?_⟩
  refine (θ_run Cert.FfnRefIdeal.defs _ _).mono (fun r h c => ⟨(h c).1.trans ?_, (h c).2⟩)
    (Cert.FfnRefIdeal.Value.run (F := Ideal) m' ρ')
  obtain ⟨e0, e1, e2, e3, e4, e5, e6⟩ := hagree c
  rw [Cert.FfnRefIdeal.Read.val_main_v35_eq, e0, e1, e2, e3, e4, e5, e6]
  exact (Cert.FfnEqual.equal _ _ _ _ _ _ _).symm

/-- The gate projection's reference runs, keeps its arguments, and has no semaphore. -/
theorem frame_gatesRef : Cert.quiescent_GatesRefIdeal := fun m ρ _ =>
  (θ_run Cert.GatesRefIdeal.defs _ _).mono (fun r h => ⟨fun c => (h c).2.2.2, sem_eq_zero_of_no_sems (by decide) r.2⟩)
    (Cert.GatesRefIdeal.Value.run (F := Ideal) m ρ)

/-- The idealized gate projection and its idealized reference end with equal results: the gates, and the feed-forward's two
    first weights. -/
theorem algebraic_gates : Cert.algebraic_GatesIdeal_GatesRefIdeal := by
  intro m ρ m' ρ' _ hagree
  refine ⟨fun c => Cert.GatesIdeal.Hand.prod (Cert.GatesIdeal.Hand.aH m c) (Cert.GatesIdeal.Hand.aW m c),
    fun c => Cert.GatesIdeal.Hand.first (Cert.GatesIdeal.Hand.aG m c), fun c => Cert.GatesIdeal.Hand.first (Cert.GatesIdeal.Hand.aU m c),
    Cert.GatesIdeal.Hand.run m ρ, ?_⟩
  refine (θ_run Cert.GatesRefIdeal.defs _ _).mono
    (fun r h c => ⟨(h c).1.trans ?_, (h c).2.1.trans ?_, (h c).2.2.1.trans ?_, (h c).2.2.2⟩)
    (Cert.GatesRefIdeal.Value.run (F := Ideal) m' ρ')
  · rw [Cert.GatesRefIdeal.Read.val_main_v4_eq, (hagree c).1, (hagree c).2.1]
    exact (Cert.GatesEqual.gates _ _).symm
  · rw [Cert.GatesRefIdeal.Read.val_main_v6_eq, (hagree c).2.2.1]
    exact (Cert.GatesEqual.weights _).symm
  · rw [Cert.GatesRefIdeal.Read.val_main_v8_eq, (hagree c).2.2.2]
    exact (Cert.GatesEqual.weights' _).symm

/-- The spatial unit's projection's reference runs, keeps its arguments, and has no semaphore. -/
theorem frame_uvRef : Cert.quiescent_UvRefIdeal := fun m ρ _ =>
  (θ_run Cert.UvRefIdeal.defs _ _).mono (fun r h => ⟨fun c => (h c).2.2, sem_eq_zero_of_no_sems (by decide) r.2⟩)
    (Cert.UvRefIdeal.Value.run (F := Ideal) m ρ)

/-- The idealized spatial unit's projection and its idealized reference end with equal results: the rectified columns, and
    the feed-forward's last weights. -/
theorem algebraic_uv : Cert.algebraic_UvIdeal_UvRefIdeal := by
  intro m ρ m' ρ' _ hagree
  refine ⟨fun c => Cert.UvIdeal.Hand.act (Cert.UvIdeal.Hand.aH m c) (Cert.UvIdeal.Hand.aW m c),
    fun c => Cert.UvIdeal.Hand.first (Cert.UvIdeal.Hand.aD m c), Cert.UvIdeal.Hand.run m ρ, ?_⟩
  refine (θ_run Cert.UvRefIdeal.defs _ _).mono (fun r h c => ⟨(h c).1.trans ?_, (h c).2.1.trans ?_, (h c).2.2⟩)
    (Cert.UvRefIdeal.Value.run (F := Ideal) m' ρ')
  · rw [Cert.UvRefIdeal.Read.val_main_v11_eq, (hagree c).1, (hagree c).2.1]
    exact (Cert.UvEqual.act _ _).symm
  · rw [Cert.UvRefIdeal.Read.val_main_v13_eq, (hagree c).2.2]
    exact (Cert.UvEqual.weights _).symm

/-- The two mixing programs have the same bodies, … -/
theorem mix_defs₀ : Cert.Mix.defs₀ (F := Bits) = Cert.MixIdeal.defs₀ (F := Bits) := by
  unfold Cert.Mix.defs₀ Cert.MixIdeal.defs₀
  refine congrArg _ (funext fun l => funext fun x => ?_)
  match l, x with
  | 0, (t, s) => rfl

/-- … so the same tables. -/
theorem mix_defs : Cert.Mix.defs (F := Bits) = Cert.MixIdeal.defs (F := Bits) := congrArg (Pipeline.defs Cert.MixIdeal.pcfgs) mix_defs₀

/-- The mixing kernel in bit arithmetic runs and keeps its arguments: its text is the idealized kernel's, whose run is for
    any values. -/
theorem frame_mix : Cert.quiescent_Mix := fun m ρ _ => by
  have h := Cert.MixIdeal.Hand.frame (F := Bits) m ρ
  rw [← mix_defs] at h
  exact h

/-- The mixing's reference runs, keeps its arguments, and has no semaphore. -/
theorem frame_mixRef : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The idealized mixing kernel and its idealized reference end with equal results: the residual stream, and the
    feed-forward's input. -/
theorem algebraic_mix : Cert.algebraic_MixIdeal_MixRefIdeal := by
  intro m ρ m' ρ' _ hagree
  refine ⟨fun c => Cert.MixIdeal.Hand.G (Cert.MixIdeal.Hand.aS m c) (Cert.MixIdeal.Hand.aA m c) (Cert.MixIdeal.Hand.aG m c)
      (Cert.MixIdeal.Hand.aWS m c) (Cert.MixIdeal.Hand.aWA m c) (Cert.MixIdeal.Hand.aWO m c) (Cert.MixIdeal.Hand.aX m c)
      (Cert.MixIdeal.Hand.aP m c) (Cert.MixIdeal.Hand.aM m c),
    fun c => Cert.MixIdeal.Hand.GH (Cert.MixIdeal.Hand.aS m c) (Cert.MixIdeal.Hand.aA m c) (Cert.MixIdeal.Hand.aG m c)
      (Cert.MixIdeal.Hand.aWS m c) (Cert.MixIdeal.Hand.aWA m c) (Cert.MixIdeal.Hand.aWO m c) (Cert.MixIdeal.Hand.aX m c)
      (Cert.MixIdeal.Hand.aP m c) (Cert.MixIdeal.Hand.aF m c) (Cert.MixIdeal.Hand.aM m c),
    Cert.MixIdeal.Hand.run m ρ, ?_⟩
  refine (θ_run Cert.MixRefIdeal.defs _ _).mono (fun r h c => ⟨(h c).1.trans ?_, (h c).2.1.trans ?_, (h c).2.2⟩)
    (Cert.MixRefIdeal.Value.run (F := Ideal) m' ρ')
  · obtain ⟨e0, e1, e2, e3, e4, e5, e6, e7, e8, e9⟩ := hagree c
    rw [Cert.MixRefIdeal.Read.val_main_v76_eq, e0, e1, e2, e3, e4, e5, e6, e7, e9]
    exact (Cert.MixEqual.equal _ _ _ _ _ _ _ _ _).symm
  · obtain ⟨e0, e1, e2, e3, e4, e5, e6, e7, e8, e9⟩ := hagree c
    rw [Cert.MixRefIdeal.Read.val_main_v78_eq, e0, e1, e2, e3, e4, e5, e6, e7, e8, e9]
    exact (Cert.MixEqual.equal' _ _ _ _ _ _ _ _ _ _).symm

/-- The query, key and value projection's reference runs, keeps its arguments, and has no semaphore. -/
theorem frame_qkvRef : Cert.quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run (F := Ideal) m ρ)

/-- Words holding two halves, read as the rows they came from: what the idealized projection says for the kernel's word
    arithmetic. -/
theorem preserves_qkv : Cert.preserves_Qkv_QkvIdeal :=
  IdealRules.bf16_pair.statement Cert.QkvIdeal.S128x128 Cert.QkvIdeal.S64x128

/-- The idealized query, key and value projection and its idealized reference end with equal results: the turned queries and
    keys with the values, and the weights of the spatial unit, the attention and the output. -/
theorem algebraic_qkv : Cert.algebraic_QkvIdeal_QkvRefIdeal := by
  intro m ρ m' ρ' _ hagree
  refine ⟨fun c => Cert.QkvIdeal.Hand.qkv (Cert.QkvIdeal.Hand.aH m c) (Cert.QkvIdeal.Hand.aW m c) (Cert.QkvIdeal.Hand.aC m c) (Cert.QkvIdeal.Hand.aS m c),
    fun c => Cert.QkvIdeal.Hand.first2 (Cert.QkvIdeal.Hand.aP m c), fun c => Cert.QkvIdeal.Hand.first2 (Cert.QkvIdeal.Hand.aA m c),
    fun c => Cert.QkvIdeal.Hand.first4 (Cert.QkvIdeal.Hand.aO m c), Cert.QkvIdeal.Hand.run m ρ, ?_⟩
  refine (θ_run Cert.QkvRefIdeal.defs _ _).mono
    (fun r h c => ⟨(h c).1.trans ?_, (h c).2.1.trans ?_, (h c).2.2.1.trans ?_, (h c).2.2.2.1.trans ?_, (h c).2.2.2.2⟩)
    (Cert.QkvRefIdeal.Value.run (F := Ideal) m' ρ')
  all_goals obtain ⟨e0, e1, e2, e3, e4, e5, e6⟩ := hagree c
  · rw [Cert.QkvRefIdeal.Read.val_main_v41_eq, e0, e1, e2, e3]
    exact (Cert.QkvEqual.heads _ _ _ _).symm
  · rw [Cert.QkvRefIdeal.Read.val_main_v43_eq, e4]
    exact (Cert.QkvEqual.weights_proj _).symm
  · rw [Cert.QkvRefIdeal.Read.val_main_v45_eq, e5]
    exact (Cert.QkvEqual.weights_attn _).symm
  · rw [Cert.QkvRefIdeal.Read.val_main_v47_eq, e6]
    exact (Cert.QkvEqual.weights_out _).symm

/-- The modulation's reference runs, keeps its arguments, and has no semaphore. -/
theorem frame_adaRef : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The idealized modulation and its idealized reference end with equal results. -/
theorem algebraic_ada : Cert.algebraic_AdaIdeal_AdaRefIdeal := by
  intro m ρ m' ρ' _ hagree
  refine ⟨fun c => Cert.AdaIdeal.Hand.mod (Cert.AdaIdeal.Hand.aC m c) (Cert.AdaIdeal.Hand.aW m c) (Cert.AdaIdeal.Hand.aB m c),
    Cert.AdaIdeal.Hand.run m ρ, ?_⟩
  refine (θ_run Cert.AdaRefIdeal.defs _ _).mono (fun r h c => ⟨(h c).1.trans ?_, (h c).2⟩)
    (Cert.AdaRefIdeal.Value.run (F := Ideal) m' ρ')
  obtain ⟨e0, e1, e2⟩ := hagree c
  rw [Cert.AdaRefIdeal.Read.val_main_v6_eq, e0, e1, e2]
  exact (Cert.AdaEqual.mod _ _ _).symm

/-- The reference of the norm before the projections runs, keeps its arguments, and has no semaphore. -/
theorem frame_prenormRef : Cert.quiescent_PrenormRefIdeal := fun m ρ _ =>
  (θ_run Cert.PrenormRefIdeal.defs _ _).mono (fun r h => ⟨fun c => (h c).2.2.2.2, sem_eq_zero_of_no_sems (by decide) r.2⟩)
    (Cert.PrenormRefIdeal.Value.run (F := Ideal) m ρ)

/-- The idealized norm before the projections and its idealized reference end with equal results: the normalised, scaled and
    shifted rows, and the rotation's three tables. -/
theorem algebraic_prenorm : Cert.algebraic_PrenormIdeal_PrenormRefIdeal := by
  intro m ρ m' ρ' _ hagree
  refine ⟨fun c => Cert.PrenormIdeal.Hand.out (Cert.PrenormIdeal.Hand.aX m c) (Cert.PrenormIdeal.Hand.aG m c) (Cert.PrenormIdeal.Hand.aM m c),
    fun c => Cert.PrenormIdeal.Hand.rot Cert.PrenormIdeal.Hand.cosAt (Cert.PrenormIdeal.Hand.aP m c),
    fun c => Cert.PrenormIdeal.Hand.rot Cert.PrenormIdeal.Hand.sinAt (Cert.PrenormIdeal.Hand.aP m c),
    fun c => Cert.PrenormIdeal.Hand.rot Cert.PrenormIdeal.Hand.sinAt' (Cert.PrenormIdeal.Hand.aP m c),
    Cert.PrenormIdeal.Hand.run m ρ, ?_⟩
  refine (θ_run Cert.PrenormRefIdeal.defs _ _).mono
    (fun r h c => ⟨(h c).1.trans ?_, (h c).2.1.trans ?_, (h c).2.2.1.trans ?_, (h c).2.2.2.1.trans ?_, (h c).2.2.2.2⟩)
    (Cert.PrenormRefIdeal.Value.run (F := Ideal) m' ρ')
  all_goals obtain ⟨e0, e1, e2, e3⟩ := hagree c
  · rw [Cert.PrenormRefIdeal.Read.val_main_v50_eq, e0, e1, e2]
    exact (Cert.PrenormEqual.norm _ _ _).symm
  · rw [Cert.PrenormRefIdeal.Read.val_main_v52_eq, e3]
    exact (Cert.PrenormEqual.first _).symm
  · rw [Cert.PrenormRefIdeal.Read.val_main_v55_eq, e3]
    exact (Cert.PrenormEqual.second _).symm
  · rw [Cert.PrenormRefIdeal.Read.val_main_v58_eq, e3]
    exact (Cert.PrenormEqual.third _).symm

/-- The spatial unit's reference runs, keeps its arguments, and has no semaphore. -/
theorem frame_sguRef : Cert.quiescent_SguRefIdeal := fun m ρ _ =>
  (θ_run Cert.SguRefIdeal.defs _ _).mono (fun r h => ⟨fun c => (h c).2, sem_eq_zero_of_no_sems (by decide) r.2⟩)
    (Cert.SguRefIdeal.Value.run (F := Ideal) m ρ)

/-- The idealized spatial unit and its idealized reference end with equal results. -/
theorem algebraic_sgu : Cert.algebraic_SguIdeal_SguRefIdeal := by
  intro m ρ m' ρ' _ hagree
  refine ⟨fun c => Cert.SguIdeal.Hand.unit (Cert.SguIdeal.Hand.aX m c) (Cert.SguIdeal.Hand.aG m c) (Cert.SguIdeal.Hand.aB m c)
    (Cert.SguIdeal.Hand.aW m c) (Cert.SguIdeal.Hand.ab m c), Cert.SguIdeal.Hand.run m ρ, ?_⟩
  refine (θ_run Cert.SguRefIdeal.defs _ _).mono (fun r h c => ⟨(h c).1.trans ?_, (h c).2⟩)
    (Cert.SguRefIdeal.Value.run (F := Ideal) m' ρ')
  obtain ⟨e0, e1, e2, e3, e4⟩ := hagree c
  rw [Cert.SguRefIdeal.Read.val_main_v45_eq, e0, e1, e2, e3, e4]
  exact (Cert.SguEqual.unit _ _ _ _ _).symm

/-- Every claim of the certificate. -/
theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts,
    Cert.Gates.Gen.facts, Cert.GatesIdeal.Gen.facts, Cert.GatesRefIdeal.Gen.facts,
    Cert.Uv.Gen.facts, Cert.UvIdeal.Gen.facts, Cert.UvRefIdeal.Gen.facts,
    Cert.Mix.Gen.facts, Cert.MixIdeal.Gen.facts, Cert.MixRefIdeal.Gen.facts,
    Cert.Qkv.Gen.facts, Cert.QkvIdeal.Gen.facts, Cert.QkvRefIdeal.Gen.facts,
    Cert.Ada.Gen.facts, Cert.AdaIdeal.Gen.facts, Cert.AdaRefIdeal.Gen.facts,
    Cert.Prenorm.Gen.facts, Cert.PrenormIdeal.Gen.facts, Cert.PrenormRefIdeal.Gen.facts,
    Cert.Sgu.Gen.facts, Cert.SguIdeal.Gen.facts, Cert.SguRefIdeal.Gen.facts,
    Cert.AttEqual.pre_facts,
    fun m ρ _ => Cert.Attn.Gen.frame m ρ, fun m ρ _ => Cert.AttnIdeal.Gen.frame m ρ, fun m ρ _ => Cert.AttnIdeal.Gen.frame m ρ,
    frame_attnRef, fun m ρ _ => frame_attnRef m ρ trivial,
    frame_ffn, fun m ρ _ => Cert.FfnIdeal.Hand.frame m ρ, frame_ffnRef,
    fun m ρ _ => Cert.Gates.Gen.frame m ρ, fun m ρ _ => Cert.GatesIdeal.Gen.frame m ρ, frame_gatesRef,
    fun m ρ _ => Cert.Uv.Gen.frame m ρ, fun m ρ _ => Cert.UvIdeal.Gen.frame m ρ, frame_uvRef,
    frame_mix, fun m ρ _ => Cert.MixIdeal.Hand.frame m ρ, frame_mixRef,
    fun m ρ _ => Cert.Qkv.Gen.frame m ρ, fun m ρ _ => Cert.QkvIdeal.Gen.frame m ρ, frame_qkvRef,
    fun m ρ _ => Cert.Ada.Gen.frame m ρ, fun m ρ _ => Cert.AdaIdeal.Gen.frame m ρ, frame_adaRef,
    fun m ρ _ => Cert.Prenorm.Gen.frame m ρ, fun m ρ _ => Cert.PrenormIdeal.Gen.frame m ρ, frame_prenormRef,
    fun m ρ _ => Cert.Sgu.Gen.frame m ρ, fun m ρ _ => Cert.SguIdeal.Gen.frame m ρ, frame_sguRef,
    trivial, algebraic_attn, trivial, algebraic_ffn, trivial, algebraic_gates, trivial, algebraic_uv, trivial, algebraic_mix,
    preserves_qkv, algebraic_qkv, trivial, algebraic_ada, trivial, algebraic_prenorm, trivial, algebraic_sgu⟩

end Cert.Proof

end
